-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dq (m : (ℓ : Loc Cert.Dq.nD Cert.Dq.τ Cert.Dq.sig) → Buf (Elt Bits) ℓ) : Prop :=
  True

def Pre_DqIdeal (m : (ℓ : Loc Cert.DqIdeal.nD Cert.DqIdeal.τ Cert.DqIdeal.sig) → Buf (Elt Ideal) ℓ) : Prop :=
  True

def Pre_DqIdeal_finite_arguments [hPre_finite_arguments : Cert.Pre_finite_arguments.Facts] (m : (ℓ : Loc Cert.DqIdeal.nD Cert.DqIdeal.τ Cert.DqIdeal.sig) → Buf (Elt Ideal) ℓ) : Prop :=
  ∀ c : Dev Cert.DqIdeal.nD,
    (Cert.Pre_finite_arguments.fn (F := Ideal) (m ((c.tc : Thread Cert.DqIdeal.nD Cert.DqIdeal.τ).loc Cert.DqIdeal.main_arg0)) (m ((c.tc : Thread Cert.DqIdeal.nD Cert.DqIdeal.τ).loc Cert.DqIdeal.main_arg1)) (m ((c.tc : Thread Cert.DqIdeal.nD Cert.DqIdeal.τ).loc Cert.DqIdeal.main_arg2)) (m ((c.tc : Thread Cert.DqIdeal.nD Cert.DqIdeal.τ).loc Cert.DqIdeal.main_arg3)) (m ((c.tc : Thread Cert.DqIdeal.nD Cert.DqIdeal.τ).loc Cert.DqIdeal.main_arg4))) = (fun _ => 1#1)

def Pre_DqRefIdeal (m : (ℓ : Loc Cert.DqRefIdeal.nD Cert.DqRefIdeal.τ Cert.DqRefIdeal.sig) → Buf (Elt Ideal) ℓ) : Prop :=
  True

def Pre_DqRefIdeal_finite_arguments [hPre_finite_arguments : Cert.Pre_finite_arguments.Facts] (m : (ℓ : Loc Cert.DqRefIdeal.nD Cert.DqRefIdeal.τ Cert.DqRefIdeal.sig) → Buf (Elt Ideal) ℓ) : Prop :=
  ∀ c : Dev Cert.DqRefIdeal.nD,
    (Cert.Pre_finite_arguments.fn (F := Ideal) (m ((c.tc : Thread Cert.DqRefIdeal.nD Cert.DqRefIdeal.τ).loc Cert.DqRefIdeal.main_arg0)) (m ((c.tc : Thread Cert.DqRefIdeal.nD Cert.DqRefIdeal.τ).loc Cert.DqRefIdeal.main_arg1)) (m ((c.tc : Thread Cert.DqRefIdeal.nD Cert.DqRefIdeal.τ).loc Cert.DqRefIdeal.main_arg2)) (m ((c.tc : Thread Cert.DqRefIdeal.nD Cert.DqRefIdeal.τ).loc Cert.DqRefIdeal.main_arg3)) (m ((c.tc : Thread Cert.DqRefIdeal.nD Cert.DqRefIdeal.τ).loc Cert.DqRefIdeal.main_arg4))) = (fun _ => 1#1)

def Pre_Dkv (m : (ℓ : Loc Cert.Dkv.nD Cert.Dkv.τ Cert.Dkv.sig) → Buf (Elt Bits) ℓ) : Prop :=
  True

def Pre_DkvIdeal (m : (ℓ : Loc Cert.DkvIdeal.nD Cert.DkvIdeal.τ Cert.DkvIdeal.sig) → Buf (Elt Ideal) ℓ) : Prop :=
  True

def Pre_DkvIdeal_finite_arguments [hPre_finite_arguments : Cert.Pre_finite_arguments.Facts] (m : (ℓ : Loc Cert.DkvIdeal.nD Cert.DkvIdeal.τ Cert.DkvIdeal.sig) → Buf (Elt Ideal) ℓ) : Prop :=
  ∀ c : Dev Cert.DkvIdeal.nD,
    (Cert.Pre_finite_arguments.fn (F := Ideal) (m ((c.tc : Thread Cert.DkvIdeal.nD Cert.DkvIdeal.τ).loc Cert.DkvIdeal.main_arg0)) (m ((c.tc : Thread Cert.DkvIdeal.nD Cert.DkvIdeal.τ).loc Cert.DkvIdeal.main_arg1)) (m ((c.tc : Thread Cert.DkvIdeal.nD Cert.DkvIdeal.τ).loc Cert.DkvIdeal.main_arg2)) (m ((c.tc : Thread Cert.DkvIdeal.nD Cert.DkvIdeal.τ).loc Cert.DkvIdeal.main_arg3)) (m ((c.tc : Thread Cert.DkvIdeal.nD Cert.DkvIdeal.τ).loc Cert.DkvIdeal.main_arg4))) = (fun _ => 1#1)

def Pre_DkvRefIdeal (m : (ℓ : Loc Cert.DkvRefIdeal.nD Cert.DkvRefIdeal.τ Cert.DkvRefIdeal.sig) → Buf (Elt Ideal) ℓ) : Prop :=
  True

def Pre_DkvRefIdeal_finite_arguments [hPre_finite_arguments : Cert.Pre_finite_arguments.Facts] (m : (ℓ : Loc Cert.DkvRefIdeal.nD Cert.DkvRefIdeal.τ Cert.DkvRefIdeal.sig) → Buf (Elt Ideal) ℓ) : Prop :=
  ∀ c : Dev Cert.DkvRefIdeal.nD,
    (Cert.Pre_finite_arguments.fn (F := Ideal) (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1)) (m ((c.tc : Thread Cert.DkvRefIdeal.nD Cert.DkvRefIdeal.τ).loc Cert.DkvRefIdeal.main_arg2)) (m ((c.tc : Thread Cert.DkvRefIdeal.nD Cert.DkvRefIdeal.τ).loc Cert.DkvRefIdeal.main_arg3)) (m ((c.tc : Thread Cert.DkvRefIdeal.nD Cert.DkvRefIdeal.τ).loc Cert.DkvRefIdeal.main_arg4))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_conv [hPre_finite_conv : Cert.Pre_finite_conv.Facts] (m : (ℓ : Loc Cert.ConvIdeal.nD Cert.ConvIdeal.τ Cert.ConvIdeal.sig) → Buf (Elt Ideal) ℓ) : Prop :=
  ∀ c : Dev Cert.ConvIdeal.nD,
    (Cert.Pre_finite_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_conv [hPre_finite_conv : Cert.Pre_finite_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4))) = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsIdeal_finite_norm [hPre_finite_norm : Cert.Pre_finite_norm.Facts] (m : (ℓ : Loc Cert.RmsIdeal.nD Cert.RmsIdeal.τ Cert.RmsIdeal.sig) → Buf (Elt Ideal) ℓ) : Prop :=
  ∀ c : Dev Cert.RmsIdeal.nD,
    (Cert.Pre_finite_norm.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3)) (m ((c.tc : Thread Cert.RmsIdeal.nD Cert.RmsIdeal.τ).loc Cert.RmsIdeal.main_arg4))) = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_finite_norm [hPre_finite_norm : Cert.Pre_finite_norm.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_finite_norm.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3)) (m ((c.tc : Thread Cert.RmsRefIdeal.nD Cert.RmsRefIdeal.τ).loc Cert.RmsRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))) = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Dq [hDq : Cert.Dq.Facts] : Prop :=
  ∀ (m : (ℓ : Loc Cert.Dq.nD Cert.Dq.τ Cert.Dq.sig) → Buf (Elt Bits) ℓ) (g : Dev Cert.Dq.nD → PrngReg), Pre_Dq m →
    θ_run (Cert.Dq.defs (F := Bits)) (onTc (τ := Cert.Dq.τ) (Cert.Dq.main (F := Bits))) ⟨m, fun _ => 0, g⟩ (fun r => (∀ c : Dev Cert.Dq.nD,
      r.2.mem ((c.tc : Thread Cert.Dq.nD Cert.Dq.τ).loc Cert.Dq.main_arg0) = m ((c.tc : Thread Cert.Dq.nD Cert.Dq.τ).loc Cert.Dq.main_arg0)
      ∧ r.2.mem ((c.tc : Thread Cert.Dq.nD Cert.Dq.τ).loc Cert.Dq.main_arg1) = m ((c.tc : Thread Cert.Dq.nD Cert.Dq.τ).loc Cert.Dq.main_arg1)
      ∧ r.2.mem ((c.tc : Thread Cert.Dq.nD Cert.Dq.τ).loc Cert.Dq.main_arg2) = m ((c.tc : Thread Cert.Dq.nD Cert.Dq.τ).loc Cert.Dq.main_arg2)
      ∧ r.2.mem ((c.tc : Thread Cert.Dq.nD Cert.Dq.τ).loc Cert.Dq.main_arg3) = m ((c.tc : Thread Cert.Dq.nD Cert.Dq.τ).loc Cert.Dq.main_arg3)
      ∧ r.2.mem ((c.tc : Thread Cert.Dq.nD Cert.Dq.τ).loc Cert.Dq.main_arg4) = m ((c.tc : Thread Cert.Dq.nD Cert.Dq.τ).loc Cert.Dq.main_arg4))
      ∧ r.2.sem = fun _ => 0)

def quiescent_DqIdeal [hDqIdeal : Cert.DqIdeal.Facts] : Prop :=
  ∀ (m : (ℓ : Loc Cert.DqIdeal.nD Cert.DqIdeal.τ Cert.DqIdeal.sig) → Buf (Elt Ideal) ℓ) (g : Dev Cert.DqIdeal.nD → PrngReg), Pre_DqIdeal m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
      ∧ r.2.mem ((c.tc : Thread Cert.DqIdeal.nD Cert.DqIdeal.τ).loc Cert.DqIdeal.main_arg2) = m ((c.tc : Thread Cert.DqIdeal.nD Cert.DqIdeal.τ).loc Cert.DqIdeal.main_arg2)
      ∧ r.2.mem ((c.tc : Thread Cert.DqIdeal.nD Cert.DqIdeal.τ).loc Cert.DqIdeal.main_arg3) = m ((c.tc : Thread Cert.DqIdeal.nD Cert.DqIdeal.τ).loc Cert.DqIdeal.main_arg3)
      ∧ r.2.mem ((c.tc : Thread Cert.DqIdeal.nD Cert.DqIdeal.τ).loc Cert.DqIdeal.main_arg4) = m ((c.tc : Thread Cert.DqIdeal.nD Cert.DqIdeal.τ).loc Cert.DqIdeal.main_arg4))
      ∧ r.2.sem = fun _ => 0)

def quiescent_DqIdeal_pre_finite_arguments [hDqIdeal : Cert.DqIdeal.Facts] [hPre_finite_arguments : Cert.Pre_finite_arguments.Facts] : Prop :=
  ∀ (m : (ℓ : Loc Cert.DqIdeal.nD Cert.DqIdeal.τ Cert.DqIdeal.sig) → Buf (Elt Ideal) ℓ) (g : Dev Cert.DqIdeal.nD → PrngReg), Pre_DqIdeal_finite_arguments m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
      ∧ r.2.mem ((c.tc : Thread Cert.DqIdeal.nD Cert.DqIdeal.τ).loc Cert.DqIdeal.main_arg2) = m ((c.tc : Thread Cert.DqIdeal.nD Cert.DqIdeal.τ).loc Cert.DqIdeal.main_arg2)
      ∧ r.2.mem ((c.tc : Thread Cert.DqIdeal.nD Cert.DqIdeal.τ).loc Cert.DqIdeal.main_arg3) = m ((c.tc : Thread Cert.DqIdeal.nD Cert.DqIdeal.τ).loc Cert.DqIdeal.main_arg3)
      ∧ r.2.mem ((c.tc : Thread Cert.DqIdeal.nD Cert.DqIdeal.τ).loc Cert.DqIdeal.main_arg4) = m ((c.tc : Thread Cert.DqIdeal.nD Cert.DqIdeal.τ).loc Cert.DqIdeal.main_arg4))
      ∧ r.2.sem = fun _ => 0)

def quiescent_DqRefIdeal [hDqRefIdeal : Cert.DqRefIdeal.Facts] : Prop :=
  ∀ (m : (ℓ : Loc Cert.DqRefIdeal.nD Cert.DqRefIdeal.τ Cert.DqRefIdeal.sig) → Buf (Elt Ideal) ℓ) (g : Dev Cert.DqRefIdeal.nD → PrngReg), Pre_DqRefIdeal m →
    θ_run (Cert.DqRefIdeal.defs (F := Ideal)) (onTc (τ := Cert.DqRefIdeal.τ) (Cert.DqRefIdeal.main (F := Ideal))) ⟨m, fun _ => 0, g⟩ (fun r => (∀ c : Dev Cert.DqRefIdeal.nD,
      r.2.mem ((c.tc : Thread Cert.DqRefIdeal.nD Cert.DqRefIdeal.τ).loc Cert.DqRefIdeal.main_arg0) = m ((c.tc : Thread Cert.DqRefIdeal.nD Cert.DqRefIdeal.τ).loc Cert.DqRefIdeal.main_arg0)
      ∧ r.2.mem ((c.tc : Thread Cert.DqRefIdeal.nD Cert.DqRefIdeal.τ).loc Cert.DqRefIdeal.main_arg1) = m ((c.tc : Thread Cert.DqRefIdeal.nD Cert.DqRefIdeal.τ).loc Cert.DqRefIdeal.main_arg1)
      ∧ r.2.mem ((c.tc : Thread Cert.DqRefIdeal.nD Cert.DqRefIdeal.τ).loc Cert.DqRefIdeal.main_arg2) = m ((c.tc : Thread Cert.DqRefIdeal.nD Cert.DqRefIdeal.τ).loc Cert.DqRefIdeal.main_arg2)
      ∧ r.2.mem ((c.tc : Thread Cert.DqRefIdeal.nD Cert.DqRefIdeal.τ).loc Cert.DqRefIdeal.main_arg3) = m ((c.tc : Thread Cert.DqRefIdeal.nD Cert.DqRefIdeal.τ).loc Cert.DqRefIdeal.main_arg3)
      ∧ r.2.mem ((c.tc : Thread Cert.DqRefIdeal.nD Cert.DqRefIdeal.τ).loc Cert.DqRefIdeal.main_arg4) = m ((c.tc : Thread Cert.DqRefIdeal.nD Cert.DqRefIdeal.τ).loc Cert.DqRefIdeal.main_arg4))
      ∧ r.2.sem = fun _ => 0)

def quiescent_DqRefIdeal_pre_finite_arguments [hDqRefIdeal : Cert.DqRefIdeal.Facts] [hPre_finite_arguments : Cert.Pre_finite_arguments.Facts] : Prop :=
  ∀ (m : (ℓ : Loc Cert.DqRefIdeal.nD Cert.DqRefIdeal.τ Cert.DqRefIdeal.sig) → Buf (Elt Ideal) ℓ) (g : Dev Cert.DqRefIdeal.nD → PrngReg), Pre_DqRefIdeal_finite_arguments m →
    θ_run (Cert.DqRefIdeal.defs (F := Ideal)) (onTc (τ := Cert.DqRefIdeal.τ) (Cert.DqRefIdeal.main (F := Ideal))) ⟨m, fun _ => 0, g⟩ (fun r => (∀ c : Dev Cert.DqRefIdeal.nD,
      r.2.mem ((c.tc : Thread Cert.DqRefIdeal.nD Cert.DqRefIdeal.τ).loc Cert.DqRefIdeal.main_arg0) = m ((c.tc : Thread Cert.DqRefIdeal.nD Cert.DqRefIdeal.τ).loc Cert.DqRefIdeal.main_arg0)
      ∧ r.2.mem ((c.tc : Thread Cert.DqRefIdeal.nD Cert.DqRefIdeal.τ).loc Cert.DqRefIdeal.main_arg1) = m ((c.tc : Thread Cert.DqRefIdeal.nD Cert.DqRefIdeal.τ).loc Cert.DqRefIdeal.main_arg1)
      ∧ r.2.mem ((c.tc : Thread Cert.DqRefIdeal.nD Cert.DqRefIdeal.τ).loc Cert.DqRefIdeal.main_arg2) = m ((c.tc : Thread Cert.DqRefIdeal.nD Cert.DqRefIdeal.τ).loc Cert.DqRefIdeal.main_arg2)
      ∧ r.2.mem ((c.tc : Thread Cert.DqRefIdeal.nD Cert.DqRefIdeal.τ).loc Cert.DqRefIdeal.main_arg3) = m ((c.tc : Thread Cert.DqRefIdeal.nD Cert.DqRefIdeal.τ).loc Cert.DqRefIdeal.main_arg3)
      ∧ r.2.mem ((c.tc : Thread Cert.DqRefIdeal.nD Cert.DqRefIdeal.τ).loc Cert.DqRefIdeal.main_arg4) = m ((c.tc : Thread Cert.DqRefIdeal.nD Cert.DqRefIdeal.τ).loc Cert.DqRefIdeal.main_arg4))
      ∧ r.2.sem = fun _ => 0)

def quiescent_Dkv [hDkv : Cert.Dkv.Facts] : Prop :=
  ∀ (m : (ℓ : Loc Cert.Dkv.nD Cert.Dkv.τ Cert.Dkv.sig) → Buf (Elt Bits) ℓ) (g : Dev Cert.Dkv.nD → PrngReg), Pre_Dkv m →
    θ_run (Cert.Dkv.defs (F := Bits)) (onTc (τ := Cert.Dkv.τ) (Cert.Dkv.main (F := Bits))) ⟨m, fun _ => 0, g⟩ (fun r => (∀ c : Dev Cert.Dkv.nD,
      r.2.mem ((c.tc : Thread Cert.Dkv.nD Cert.Dkv.τ).loc Cert.Dkv.main_arg0) = m ((c.tc : Thread Cert.Dkv.nD Cert.Dkv.τ).loc Cert.Dkv.main_arg0)
      ∧ r.2.mem ((c.tc : Thread Cert.Dkv.nD Cert.Dkv.τ).loc Cert.Dkv.main_arg1) = m ((c.tc : Thread Cert.Dkv.nD Cert.Dkv.τ).loc Cert.Dkv.main_arg1)
      ∧ r.2.mem ((c.tc : Thread Cert.Dkv.nD Cert.Dkv.τ).loc Cert.Dkv.main_arg2) = m ((c.tc : Thread Cert.Dkv.nD Cert.Dkv.τ).loc Cert.Dkv.main_arg2)
      ∧ r.2.mem ((c.tc : Thread Cert.Dkv.nD Cert.Dkv.τ).loc Cert.Dkv.main_arg3) = m ((c.tc : Thread Cert.Dkv.nD Cert.Dkv.τ).loc Cert.Dkv.main_arg3)
      ∧ r.2.mem ((c.tc : Thread Cert.Dkv.nD Cert.Dkv.τ).loc Cert.Dkv.main_arg4) = m ((c.tc : Thread Cert.Dkv.nD Cert.Dkv.τ).loc Cert.Dkv.main_arg4))
      ∧ r.2.sem = fun _ => 0)

def quiescent_DkvIdeal [hDkvIdeal : Cert.DkvIdeal.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
      ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3)
      ∧ r.2.mem ((c.tc : Thread Cert.DkvIdeal.nD Cert.DkvIdeal.τ).loc Cert.DkvIdeal.main_arg4) = m ((c.tc : Thread Cert.DkvIdeal.nD Cert.DkvIdeal.τ).loc Cert.DkvIdeal.main_arg4))
      ∧ r.2.sem = fun _ => 0)

def quiescent_DkvIdeal_pre_finite_arguments [hDkvIdeal : Cert.DkvIdeal.Facts] [hPre_finite_arguments : Cert.Pre_finite_arguments.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal_finite_arguments m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
      ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3)
      ∧ r.2.mem ((c.tc : Thread Cert.DkvIdeal.nD Cert.DkvIdeal.τ).loc Cert.DkvIdeal.main_arg4) = m ((c.tc : Thread Cert.DkvIdeal.nD Cert.DkvIdeal.τ).loc Cert.DkvIdeal.main_arg4))
      ∧ r.2.sem = fun _ => 0)

def quiescent_DkvRefIdeal [hDkvRefIdeal : Cert.DkvRefIdeal.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1)
      ∧ r.2.mem ((c.tc : Thread Cert.DkvRefIdeal.nD Cert.DkvRefIdeal.τ).loc Cert.DkvRefIdeal.main_arg2) = m ((c.tc : Thread Cert.DkvRefIdeal.nD Cert.DkvRefIdeal.τ).loc Cert.DkvRefIdeal.main_arg2)
      ∧ r.2.mem ((c.tc : Thread Cert.DkvRefIdeal.nD Cert.DkvRefIdeal.τ).loc Cert.DkvRefIdeal.main_arg3) = m ((c.tc : Thread Cert.DkvRefIdeal.nD Cert.DkvRefIdeal.τ).loc Cert.DkvRefIdeal.main_arg3)
      ∧ r.2.mem ((c.tc : Thread Cert.DkvRefIdeal.nD Cert.DkvRefIdeal.τ).loc Cert.DkvRefIdeal.main_arg4) = m ((c.tc : Thread Cert.DkvRefIdeal.nD Cert.DkvRefIdeal.τ).loc Cert.DkvRefIdeal.main_arg4))
      ∧ r.2.sem = fun _ => 0)

def quiescent_DkvRefIdeal_pre_finite_arguments [hDkvRefIdeal : Cert.DkvRefIdeal.Facts] [hPre_finite_arguments : Cert.Pre_finite_arguments.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal_finite_arguments m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1)
      ∧ r.2.mem ((c.tc : Thread Cert.DkvRefIdeal.nD Cert.DkvRefIdeal.τ).loc Cert.DkvRefIdeal.main_arg2) = m ((c.tc : Thread Cert.DkvRefIdeal.nD Cert.DkvRefIdeal.τ).loc Cert.DkvRefIdeal.main_arg2)
      ∧ r.2.mem ((c.tc : Thread Cert.DkvRefIdeal.nD Cert.DkvRefIdeal.τ).loc Cert.DkvRefIdeal.main_arg3) = m ((c.tc : Thread Cert.DkvRefIdeal.nD Cert.DkvRefIdeal.τ).loc Cert.DkvRefIdeal.main_arg3)
      ∧ r.2.mem ((c.tc : Thread Cert.DkvRefIdeal.nD Cert.DkvRefIdeal.τ).loc Cert.DkvRefIdeal.main_arg4) = m ((c.tc : Thread Cert.DkvRefIdeal.nD Cert.DkvRefIdeal.τ).loc Cert.DkvRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvIdeal_pre_finite_conv [hConvIdeal : Cert.ConvIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_conv m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_ConvRefIdeal_pre_finite_conv [hConvRefIdeal : Cert.ConvRefIdeal.Facts] [hPre_finite_conv : Cert.Pre_finite_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3)
      ∧ r.2.mem ((c.tc : Thread Cert.Rms.nD Cert.Rms.τ).loc Cert.Rms.main_arg4) = m ((c.tc : Thread Cert.Rms.nD Cert.Rms.τ).loc Cert.Rms.main_arg4))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3)
      ∧ r.2.mem ((c.tc : Thread Cert.RmsIdeal.nD Cert.RmsIdeal.τ).loc Cert.RmsIdeal.main_arg4) = m ((c.tc : Thread Cert.RmsIdeal.nD Cert.RmsIdeal.τ).loc Cert.RmsIdeal.main_arg4))
      ∧ r.2.sem = fun _ => 0)

def quiescent_RmsIdeal_pre_finite_norm [hRmsIdeal : Cert.RmsIdeal.Facts] [hPre_finite_norm : Cert.Pre_finite_norm.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal_finite_norm m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3)
      ∧ r.2.mem ((c.tc : Thread Cert.RmsIdeal.nD Cert.RmsIdeal.τ).loc Cert.RmsIdeal.main_arg4) = m ((c.tc : Thread Cert.RmsIdeal.nD Cert.RmsIdeal.τ).loc Cert.RmsIdeal.main_arg4))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3)
      ∧ r.2.mem ((c.tc : Thread Cert.RmsRefIdeal.nD Cert.RmsRefIdeal.τ).loc Cert.RmsRefIdeal.main_arg4) = m ((c.tc : Thread Cert.RmsRefIdeal.nD Cert.RmsRefIdeal.τ).loc Cert.RmsRefIdeal.main_arg4))
      ∧ r.2.sem = fun _ => 0)

def quiescent_RmsRefIdeal_pre_finite_norm [hRmsRefIdeal : Cert.RmsRefIdeal.Facts] [hPre_finite_norm : Cert.Pre_finite_norm.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_finite_norm m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3)
      ∧ r.2.mem ((c.tc : Thread Cert.RmsRefIdeal.nD Cert.RmsRefIdeal.τ).loc Cert.RmsRefIdeal.main_arg4) = m ((c.tc : Thread Cert.RmsRefIdeal.nD Cert.RmsRefIdeal.τ).loc Cert.RmsRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def preserves_Merge_MergeIdeal : Prop :=
  True

def algebraic_MergeIdeal_MergeRefIdeal_on_gate_columns [hMergeIdeal : Cert.MergeIdeal.Facts] [hMergeRefIdeal : Cert.MergeRefIdeal.Facts] [hOn_gate_columns : Cert.On_gate_columns.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v17_0)) (v1 : (c : Dev Cert.MergeIdeal.nD) → Buf (Elt Ideal) ((c.tc : Thread Cert.MergeIdeal.nD Cert.MergeIdeal.τ).loc Cert.MergeIdeal.main_v17_1)) (v2 : (c : Dev Cert.MergeIdeal.nD) → Buf (Elt Ideal) ((c.tc : Thread Cert.MergeIdeal.nD Cert.MergeIdeal.τ).loc Cert.MergeIdeal.main_v17_2)) (v3 : (c : Dev Cert.MergeIdeal.nD) → Buf (Elt Ideal) ((c.tc : Thread Cert.MergeIdeal.nD Cert.MergeIdeal.τ).loc Cert.MergeIdeal.main_v17_3)) (v4 : (c : Dev Cert.MergeIdeal.nD) → Buf (Elt Ideal) ((c.tc : Thread Cert.MergeIdeal.nD Cert.MergeIdeal.τ).loc Cert.MergeIdeal.main_v17_4)) (v5 : (c : Dev Cert.MergeIdeal.nD) → Buf (Elt Ideal) ((c.tc : Thread Cert.MergeIdeal.nD Cert.MergeIdeal.τ).loc Cert.MergeIdeal.main_v17_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![16384, 5760]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).1 i = 1#1 → r.2.mem ((c.tc : Thread Cert.MergeIdeal.nD Cert.MergeIdeal.τ).loc Cert.MergeIdeal.main_v17_0) i = v0 c i)
          ∧ (∀ i : (⟨2, ![16384, 512]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.1 i = 1#1 → r.2.mem ((c.tc : Thread Cert.MergeIdeal.nD Cert.MergeIdeal.τ).loc Cert.MergeIdeal.main_v17_1) i = v1 c i)
          ∧ (∀ i : (⟨2, ![16384, 512]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.1 i = 1#1 → r.2.mem ((c.tc : Thread Cert.MergeIdeal.nD Cert.MergeIdeal.τ).loc Cert.MergeIdeal.main_v17_2) i = v2 c i)
          ∧ (∀ i : (⟨2, ![1024, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.1 i = 1#1 → r.2.mem ((c.tc : Thread Cert.MergeIdeal.nD Cert.MergeIdeal.τ).loc Cert.MergeIdeal.main_v17_3) i = v3 c i)
          ∧ (∀ i : (⟨2, ![512, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.2.1 i = 1#1 → r.2.mem ((c.tc : Thread Cert.MergeIdeal.nD Cert.MergeIdeal.τ).loc Cert.MergeIdeal.main_v17_4) i = v4 c i)
          ∧ (∀ i : (⟨2, ![512, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.2.2 i = 1#1 → r.2.mem ((c.tc : Thread Cert.MergeIdeal.nD Cert.MergeIdeal.τ).loc Cert.MergeIdeal.main_v17_5) i = v5 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          (∀ i : (⟨2, ![16384, 5760]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).1 i = 1#1 → r.2.mem ((c.tc : Thread Cert.MergeRefIdeal.nD Cert.MergeRefIdeal.τ).loc Cert.MergeRefIdeal.main_v46) i = v0 c i)
          ∧ (∀ i : (⟨2, ![16384, 512]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.1 i = 1#1 → r.2.mem ((c.tc : Thread Cert.MergeRefIdeal.nD Cert.MergeRefIdeal.τ).loc Cert.MergeRefIdeal.main_v40) i = v1 c i)
          ∧ (∀ i : (⟨2, ![16384, 512]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.1 i = 1#1 → r.2.mem ((c.tc : Thread Cert.MergeRefIdeal.nD Cert.MergeRefIdeal.τ).loc Cert.MergeRefIdeal.main_v34) i = v2 c i)
          ∧ (∀ i : (⟨2, ![1024, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.1 i = 1#1 → r.2.mem ((c.tc : Thread Cert.MergeRefIdeal.nD Cert.MergeRefIdeal.τ).loc Cert.MergeRefIdeal.main_v28) i = v3 c i)
          ∧ (∀ i : (⟨2, ![512, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.2.1 i = 1#1 → r.2.mem ((c.tc : Thread Cert.MergeRefIdeal.nD Cert.MergeRefIdeal.τ).loc Cert.MergeRefIdeal.main_v39) i = v4 c i)
          ∧ (∀ i : (⟨2, ![512, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.2.2 i = 1#1 → r.2.mem ((c.tc : Thread Cert.MergeRefIdeal.nD Cert.MergeRefIdeal.τ).loc Cert.MergeRefIdeal.main_v33) i = v5 c i)
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Dq_DqIdeal : Prop :=
  True

def algebraic_DqIdeal_DqRefIdeal_pre_finite_arguments [hDqIdeal : Cert.DqIdeal.Facts] [hDqRefIdeal : Cert.DqRefIdeal.Facts] [hPre_finite_arguments : Cert.Pre_finite_arguments.Facts] : Prop :=
  ∀ (m : (ℓ : Loc Cert.DqIdeal.nD Cert.DqIdeal.τ Cert.DqIdeal.sig) → Buf (Elt Ideal) ℓ) (g : Dev Cert.DqIdeal.nD → PrngReg)
    (m' : (ℓ : Loc Cert.DqRefIdeal.nD Cert.DqRefIdeal.τ Cert.DqRefIdeal.sig) → Buf (Elt Ideal) ℓ) (g' : Dev Cert.DqRefIdeal.nD → PrngReg), Pre_DqIdeal_finite_arguments m →
    (∀ c : Dev Cert.DqIdeal.nD,
      m' ((c.tc : Thread Cert.DqRefIdeal.nD Cert.DqRefIdeal.τ).loc Cert.DqRefIdeal.main_arg0) = m ((c.tc : Thread Cert.DqIdeal.nD Cert.DqIdeal.τ).loc Cert.DqIdeal.main_arg0)
      ∧ m' ((c.tc : Thread Cert.DqRefIdeal.nD Cert.DqRefIdeal.τ).loc Cert.DqRefIdeal.main_arg1) = m ((c.tc : Thread Cert.DqIdeal.nD Cert.DqIdeal.τ).loc Cert.DqIdeal.main_arg1)
      ∧ m' ((c.tc : Thread Cert.DqRefIdeal.nD Cert.DqRefIdeal.τ).loc Cert.DqRefIdeal.main_arg2) = m ((c.tc : Thread Cert.DqIdeal.nD Cert.DqIdeal.τ).loc Cert.DqIdeal.main_arg2)
      ∧ m' ((c.tc : Thread Cert.DqRefIdeal.nD Cert.DqRefIdeal.τ).loc Cert.DqRefIdeal.main_arg3) = m ((c.tc : Thread Cert.DqIdeal.nD Cert.DqIdeal.τ).loc Cert.DqIdeal.main_arg3)
      ∧ m' ((c.tc : Thread Cert.DqRefIdeal.nD Cert.DqRefIdeal.τ).loc Cert.DqRefIdeal.main_arg4) = m ((c.tc : Thread Cert.DqIdeal.nD Cert.DqIdeal.τ).loc Cert.DqIdeal.main_arg4)) →
    ∃ (v0 : (c : Dev Cert.DqIdeal.nD) → Buf (Elt Ideal) ((c.tc : Thread Cert.DqIdeal.nD Cert.DqIdeal.τ).loc Cert.DqIdeal.main_v105_0)),
      θ_run (Cert.DqIdeal.defs (F := Ideal)) (onTc (τ := Cert.DqIdeal.τ) (Cert.DqIdeal.main (F := Ideal))) ⟨m, fun _ => 0, g⟩ (fun r => ∀ c : Dev Cert.DqIdeal.nD,
          r.2.mem ((c.tc : Thread Cert.DqIdeal.nD Cert.DqIdeal.τ).loc Cert.DqIdeal.main_v105_0) = v0 c
          ∧ r.2.mem ((c.tc : Thread Cert.DqIdeal.nD Cert.DqIdeal.τ).loc Cert.DqIdeal.main_arg0) = m ((c.tc : Thread Cert.DqIdeal.nD Cert.DqIdeal.τ).loc Cert.DqIdeal.main_arg0)
          ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
          ∧ r.2.mem ((c.tc : Thread Cert.DqIdeal.nD Cert.DqIdeal.τ).loc Cert.DqIdeal.main_arg2) = m ((c.tc : Thread Cert.DqIdeal.nD Cert.DqIdeal.τ).loc Cert.DqIdeal.main_arg2)
          ∧ r.2.mem ((c.tc : Thread Cert.DqIdeal.nD Cert.DqIdeal.τ).loc Cert.DqIdeal.main_arg3) = m ((c.tc : Thread Cert.DqIdeal.nD Cert.DqIdeal.τ).loc Cert.DqIdeal.main_arg3)
          ∧ r.2.mem ((c.tc : Thread Cert.DqIdeal.nD Cert.DqIdeal.τ).loc Cert.DqIdeal.main_arg4) = m ((c.tc : Thread Cert.DqIdeal.nD Cert.DqIdeal.τ).loc Cert.DqIdeal.main_arg4))
      ∧ θ_run (Cert.DqRefIdeal.defs (F := Ideal)) (onTc (τ := Cert.DqRefIdeal.τ) (Cert.DqRefIdeal.main (F := Ideal))) ⟨m', fun _ => 0, g'⟩ (fun r => ∀ c : Dev Cert.DqRefIdeal.nD,
          r.2.mem ((c.tc : Thread Cert.DqRefIdeal.nD Cert.DqRefIdeal.τ).loc Cert.DqRefIdeal.main_v91) = v0 c
          ∧ r.2.mem ((c.tc : Thread Cert.DqRefIdeal.nD Cert.DqRefIdeal.τ).loc Cert.DqRefIdeal.main_arg0) = m' ((c.tc : Thread Cert.DqRefIdeal.nD Cert.DqRefIdeal.τ).loc Cert.DqRefIdeal.main_arg0)
          ∧ r.2.mem ((c.tc : Thread Cert.DqRefIdeal.nD Cert.DqRefIdeal.τ).loc Cert.DqRefIdeal.main_arg1) = m' ((c.tc : Thread Cert.DqRefIdeal.nD Cert.DqRefIdeal.τ).loc Cert.DqRefIdeal.main_arg1)
          ∧ r.2.mem ((c.tc : Thread Cert.DqRefIdeal.nD Cert.DqRefIdeal.τ).loc Cert.DqRefIdeal.main_arg2) = m' ((c.tc : Thread Cert.DqRefIdeal.nD Cert.DqRefIdeal.τ).loc Cert.DqRefIdeal.main_arg2)
          ∧ r.2.mem ((c.tc : Thread Cert.DqRefIdeal.nD Cert.DqRefIdeal.τ).loc Cert.DqRefIdeal.main_arg3) = m' ((c.tc : Thread Cert.DqRefIdeal.nD Cert.DqRefIdeal.τ).loc Cert.DqRefIdeal.main_arg3)
          ∧ r.2.mem ((c.tc : Thread Cert.DqRefIdeal.nD Cert.DqRefIdeal.τ).loc Cert.DqRefIdeal.main_arg4) = m' ((c.tc : Thread Cert.DqRefIdeal.nD Cert.DqRefIdeal.τ).loc Cert.DqRefIdeal.main_arg4))

def preserves_Dkv_DkvIdeal : Prop :=
  True

def algebraic_DkvIdeal_DkvRefIdeal_pre_finite_arguments [hDkvIdeal : Cert.DkvIdeal.Facts] [hDkvRefIdeal : Cert.DkvRefIdeal.Facts] [hPre_finite_arguments : Cert.Pre_finite_arguments.Facts] : Prop :=
  ∀ (m : (ℓ : Loc Cert.DkvIdeal.nD Cert.DkvIdeal.τ Cert.DkvIdeal.sig) → Buf (Elt Ideal) ℓ) (g : Dev Cert.DkvIdeal.nD → PrngReg)
    (m' : (ℓ : Loc Cert.DkvRefIdeal.nD Cert.DkvRefIdeal.τ Cert.DkvRefIdeal.sig) → Buf (Elt Ideal) ℓ) (g' : Dev Cert.DkvRefIdeal.nD → PrngReg), Pre_DkvIdeal_finite_arguments m →
    (∀ c : Dev Cert.DkvIdeal.nD,
      m' ((c.tc : Thread Cert.DkvRefIdeal.nD Cert.DkvRefIdeal.τ).loc Cert.DkvRefIdeal.main_arg0) = m ((c.tc : Thread Cert.DkvIdeal.nD Cert.DkvIdeal.τ).loc Cert.DkvIdeal.main_arg0)
      ∧ m' ((c.tc : Thread Cert.DkvRefIdeal.nD Cert.DkvRefIdeal.τ).loc Cert.DkvRefIdeal.main_arg1) = m ((c.tc : Thread Cert.DkvIdeal.nD Cert.DkvIdeal.τ).loc Cert.DkvIdeal.main_arg1)
      ∧ m' ((c.tc : Thread Cert.DkvRefIdeal.nD Cert.DkvRefIdeal.τ).loc Cert.DkvRefIdeal.main_arg2) = m ((c.tc : Thread Cert.DkvIdeal.nD Cert.DkvIdeal.τ).loc Cert.DkvIdeal.main_arg2)
      ∧ m' ((c.tc : Thread Cert.DkvRefIdeal.nD Cert.DkvRefIdeal.τ).loc Cert.DkvRefIdeal.main_arg3) = m ((c.tc : Thread Cert.DkvIdeal.nD Cert.DkvIdeal.τ).loc Cert.DkvIdeal.main_arg3)
      ∧ m' ((c.tc : Thread Cert.DkvRefIdeal.nD Cert.DkvRefIdeal.τ).loc Cert.DkvRefIdeal.main_arg4) = m ((c.tc : Thread Cert.DkvIdeal.nD Cert.DkvIdeal.τ).loc Cert.DkvIdeal.main_arg4)) →
    ∃ (v0 : (c : Dev Cert.DkvIdeal.nD) → Buf (Elt Ideal) ((c.tc : Thread Cert.DkvIdeal.nD Cert.DkvIdeal.τ).loc Cert.DkvIdeal.main_v103)),
      θ_run (Cert.DkvIdeal.defs (F := Ideal)) (onTc (τ := Cert.DkvIdeal.τ) (Cert.DkvIdeal.main (F := Ideal))) ⟨m, fun _ => 0, g⟩ (fun r => ∀ c : Dev Cert.DkvIdeal.nD,
          r.2.mem ((c.tc : Thread Cert.DkvIdeal.nD Cert.DkvIdeal.τ).loc Cert.DkvIdeal.main_v103) = v0 c
          ∧ r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
          ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
          ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
          ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3)
          ∧ r.2.mem ((c.tc : Thread Cert.DkvIdeal.nD Cert.DkvIdeal.τ).loc Cert.DkvIdeal.main_arg4) = m ((c.tc : Thread Cert.DkvIdeal.nD Cert.DkvIdeal.τ).loc Cert.DkvIdeal.main_arg4))
      ∧ θ_run (Cert.DkvRefIdeal.defs (F := Ideal)) (onTc (τ := Cert.DkvRefIdeal.τ) (Cert.DkvRefIdeal.main (F := Ideal))) ⟨m', fun _ => 0, g'⟩ (fun r => ∀ c : Dev Cert.DkvRefIdeal.nD,
          r.2.mem ((c.tc : Thread Cert.DkvRefIdeal.nD Cert.DkvRefIdeal.τ).loc Cert.DkvRefIdeal.main_v95) = v0 c
          ∧ r.2.mem ((c.tc : Thread Cert.DkvRefIdeal.nD Cert.DkvRefIdeal.τ).loc Cert.DkvRefIdeal.main_arg0) = m' ((c.tc : Thread Cert.DkvRefIdeal.nD Cert.DkvRefIdeal.τ).loc Cert.DkvRefIdeal.main_arg0)
          ∧ r.2.mem ((c.tc : Thread Cert.DkvRefIdeal.nD Cert.DkvRefIdeal.τ).loc Cert.DkvRefIdeal.main_arg1) = m' ((c.tc : Thread Cert.DkvRefIdeal.nD Cert.DkvRefIdeal.τ).loc Cert.DkvRefIdeal.main_arg1)
          ∧ r.2.mem ((c.tc : Thread Cert.DkvRefIdeal.nD Cert.DkvRefIdeal.τ).loc Cert.DkvRefIdeal.main_arg2) = m' ((c.tc : Thread Cert.DkvRefIdeal.nD Cert.DkvRefIdeal.τ).loc Cert.DkvRefIdeal.main_arg2)
          ∧ r.2.mem ((c.tc : Thread Cert.DkvRefIdeal.nD Cert.DkvRefIdeal.τ).loc Cert.DkvRefIdeal.main_arg3) = m' ((c.tc : Thread Cert.DkvRefIdeal.nD Cert.DkvRefIdeal.τ).loc Cert.DkvRefIdeal.main_arg3)
          ∧ r.2.mem ((c.tc : Thread Cert.DkvRefIdeal.nD Cert.DkvRefIdeal.τ).loc Cert.DkvRefIdeal.main_arg4) = m' ((c.tc : Thread Cert.DkvRefIdeal.nD Cert.DkvRefIdeal.τ).loc Cert.DkvRefIdeal.main_arg4))

def preserves_Conv_ConvIdeal : Prop :=
  True

def algebraic_ConvIdeal_ConvRefIdeal_pre_finite_conv [hConvIdeal : Cert.ConvIdeal.Facts] [hConvRefIdeal : Cert.ConvRefIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite_conv m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v33_0)) (v1 : (c : Dev Cert.ConvIdeal.nD) → Buf (Elt Ideal) ((c.tc : Thread Cert.ConvIdeal.nD Cert.ConvIdeal.τ).loc Cert.ConvIdeal.main_v33_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v33_0) = v0 c
          ∧ r.2.mem ((c.tc : Thread Cert.ConvIdeal.nD Cert.ConvIdeal.τ).loc Cert.ConvIdeal.main_v33_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v140) = v0 c
          ∧ r.2.mem ((c.tc : Thread Cert.ConvRefIdeal.nD Cert.ConvRefIdeal.τ).loc Cert.ConvRefIdeal.main_v141) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Rms_RmsIdeal : Prop :=
  True

def algebraic_RmsIdeal_RmsRefIdeal_pre_finite_norm [hRmsIdeal : Cert.RmsIdeal.Facts] [hRmsRefIdeal : Cert.RmsRefIdeal.Facts] [hPre_finite_norm : Cert.Pre_finite_norm.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal_finite_norm m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)
      ∧ m' ((c.tc : Thread Cert.RmsRefIdeal.nD Cert.RmsRefIdeal.τ).loc Cert.RmsRefIdeal.main_arg4) = m ((c.tc : Thread Cert.RmsIdeal.nD Cert.RmsIdeal.τ).loc Cert.RmsIdeal.main_arg4)) →
    ∃ (v0 : (c : Dev Cert.RmsIdeal.nD) → Buf (Elt Ideal) ((c.tc : Thread Cert.RmsIdeal.nD Cert.RmsIdeal.τ).loc Cert.RmsIdeal.main_v19_0)) (v1 : (c : Dev Cert.RmsIdeal.nD) → Buf (Elt Ideal) ((c.tc : Thread Cert.RmsIdeal.nD Cert.RmsIdeal.τ).loc Cert.RmsIdeal.main_v19_1)) (v2 : (c : Dev Cert.RmsIdeal.nD) → Buf (Elt Ideal) ((c.tc : Thread Cert.RmsIdeal.nD Cert.RmsIdeal.τ).loc Cert.RmsIdeal.main_v19_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v19_0) = v0 c
          ∧ r.2.mem ((c.tc : Thread Cert.RmsIdeal.nD Cert.RmsIdeal.τ).loc Cert.RmsIdeal.main_v19_1) = v1 c
          ∧ r.2.mem ((c.tc : Thread Cert.RmsIdeal.nD Cert.RmsIdeal.τ).loc Cert.RmsIdeal.main_v19_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3)
          ∧ r.2.mem ((c.tc : Thread Cert.RmsIdeal.nD Cert.RmsIdeal.τ).loc Cert.RmsIdeal.main_arg4) = m ((c.tc : Thread Cert.RmsIdeal.nD Cert.RmsIdeal.τ).loc Cert.RmsIdeal.main_arg4))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v36) = v0 c
          ∧ r.2.mem ((c.tc : Thread Cert.RmsRefIdeal.nD Cert.RmsRefIdeal.τ).loc Cert.RmsRefIdeal.main_v37) = v1 c
          ∧ r.2.mem ((c.tc : Thread Cert.RmsRefIdeal.nD Cert.RmsRefIdeal.τ).loc Cert.RmsRefIdeal.main_v39) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3)
          ∧ r.2.mem ((c.tc : Thread Cert.RmsRefIdeal.nD Cert.RmsRefIdeal.τ).loc Cert.RmsRefIdeal.main_arg4) = m' ((c.tc : Thread Cert.RmsRefIdeal.nD Cert.RmsRefIdeal.τ).loc Cert.RmsRefIdeal.main_arg4))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v44_0)) (v1 : (c : Dev Cert.FfnIdeal.nD) → Buf (Elt Ideal) ((c.tc : Thread Cert.FfnIdeal.nD Cert.FfnIdeal.τ).loc Cert.FfnIdeal.main_v44_1)) (v2 : (c : Dev Cert.FfnIdeal.nD) → Buf (Elt Ideal) ((c.tc : Thread Cert.FfnIdeal.nD Cert.FfnIdeal.τ).loc Cert.FfnIdeal.main_v44_2)) (v3 : (c : Dev Cert.FfnIdeal.nD) → Buf (Elt Ideal) ((c.tc : Thread Cert.FfnIdeal.nD Cert.FfnIdeal.τ).loc Cert.FfnIdeal.main_v44_3)) (v4 : (c : Dev Cert.FfnIdeal.nD) → Buf (Elt Ideal) ((c.tc : Thread Cert.FfnIdeal.nD Cert.FfnIdeal.τ).loc Cert.FfnIdeal.main_v44_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v44_0) = v0 c
          ∧ r.2.mem ((c.tc : Thread Cert.FfnIdeal.nD Cert.FfnIdeal.τ).loc Cert.FfnIdeal.main_v44_1) = v1 c
          ∧ r.2.mem ((c.tc : Thread Cert.FfnIdeal.nD Cert.FfnIdeal.τ).loc Cert.FfnIdeal.main_v44_2) = v2 c
          ∧ r.2.mem ((c.tc : Thread Cert.FfnIdeal.nD Cert.FfnIdeal.τ).loc Cert.FfnIdeal.main_v44_3) = v3 c
          ∧ r.2.mem ((c.tc : Thread Cert.FfnIdeal.nD Cert.FfnIdeal.τ).loc Cert.FfnIdeal.main_v44_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v109) = v0 c
          ∧ r.2.mem ((c.tc : Thread Cert.FfnRefIdeal.nD Cert.FfnRefIdeal.τ).loc Cert.FfnRefIdeal.main_v112) = v1 c
          ∧ r.2.mem ((c.tc : Thread Cert.FfnRefIdeal.nD Cert.FfnRefIdeal.τ).loc Cert.FfnRefIdeal.main_v108) = v2 c
          ∧ r.2.mem ((c.tc : Thread Cert.FfnRefIdeal.nD Cert.FfnRefIdeal.τ).loc Cert.FfnRefIdeal.main_v113) = v3 c
          ∧ r.2.mem ((c.tc : Thread Cert.FfnRefIdeal.nD Cert.FfnRefIdeal.τ).loc Cert.FfnRefIdeal.main_v115) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)) →
    ∃ (v0 : (c : Dev Cert.LossIdeal.nD) → Buf (Elt Ideal) ((c.tc : Thread Cert.LossIdeal.nD Cert.LossIdeal.τ).loc Cert.LossIdeal.main_v17_2)) (v1 : (c : Dev Cert.LossIdeal.nD) → Buf (Elt Ideal) ((c.tc : Thread Cert.LossIdeal.nD Cert.LossIdeal.τ).loc Cert.LossIdeal.main_v17_3)) (v2 : (c : Dev Cert.LossIdeal.nD) → Buf (Elt Ideal) ((c.tc : Thread Cert.LossIdeal.nD Cert.LossIdeal.τ).loc Cert.LossIdeal.main_v17_5)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v17_2) = v0 c
          ∧ r.2.mem ((c.tc : Thread Cert.LossIdeal.nD Cert.LossIdeal.τ).loc Cert.LossIdeal.main_v17_3) = v1 c
          ∧ r.2.mem ((c.tc : Thread Cert.LossIdeal.nD Cert.LossIdeal.τ).loc Cert.LossIdeal.main_v17_5) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v91) = v0 c
          ∧ r.2.mem ((c.tc : Thread Cert.LossRefIdeal.nD Cert.LossRefIdeal.τ).loc Cert.LossRefIdeal.main_v92) = v1 c
          ∧ r.2.mem ((c.tc : Thread Cert.LossRefIdeal.nD Cert.LossRefIdeal.τ).loc Cert.LossRefIdeal.main_v96) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7))

def Claim : Prop :=
  ∃ (hMerge : Cert.Merge.Facts) (hMergeIdeal : Cert.MergeIdeal.Facts) (hMergeRefIdeal : Cert.MergeRefIdeal.Facts) (hDq : Cert.Dq.Facts) (hDqIdeal : Cert.DqIdeal.Facts) (hDqRefIdeal : Cert.DqRefIdeal.Facts) (hDkv : Cert.Dkv.Facts) (hDkvIdeal : Cert.DkvIdeal.Facts) (hDkvRefIdeal : Cert.DkvRefIdeal.Facts) (hConv : Cert.Conv.Facts) (hConvIdeal : Cert.ConvIdeal.Facts) (hConvRefIdeal : Cert.ConvRefIdeal.Facts) (hRms : Cert.Rms.Facts) (hRmsIdeal : Cert.RmsIdeal.Facts) (hRmsRefIdeal : Cert.RmsRefIdeal.Facts) (hFfn : Cert.Ffn.Facts) (hFfnIdeal : Cert.FfnIdeal.Facts) (hFfnRefIdeal : Cert.FfnRefIdeal.Facts) (hLoss : Cert.Loss.Facts) (hLossIdeal : Cert.LossIdeal.Facts) (hLossRefIdeal : Cert.LossRefIdeal.Facts) (hPre_finite_arguments : Cert.Pre_finite_arguments.Facts) (hPre_finite_conv : Cert.Pre_finite_conv.Facts) (hPre_finite_norm : Cert.Pre_finite_norm.Facts) (hPre_finite_ffn : Cert.Pre_finite_ffn.Facts) (hPre_finite_loss : Cert.Pre_finite_loss.Facts) (hOn_gate_columns : Cert.On_gate_columns.Facts),
    quiescent_Merge (hMerge := hMerge)
    ∧ quiescent_MergeIdeal (hMergeIdeal := hMergeIdeal)
    ∧ quiescent_MergeRefIdeal (hMergeRefIdeal := hMergeRefIdeal)
    ∧ quiescent_Dq (hDq := hDq)
    ∧ quiescent_DqIdeal (hDqIdeal := hDqIdeal)
    ∧ quiescent_DqIdeal_pre_finite_arguments (hDqIdeal := hDqIdeal) (hPre_finite_arguments := hPre_finite_arguments)
    ∧ quiescent_DqRefIdeal (hDqRefIdeal := hDqRefIdeal)
    ∧ quiescent_DqRefIdeal_pre_finite_arguments (hDqRefIdeal := hDqRefIdeal) (hPre_finite_arguments := hPre_finite_arguments)
    ∧ quiescent_Dkv (hDkv := hDkv)
    ∧ quiescent_DkvIdeal (hDkvIdeal := hDkvIdeal)
    ∧ quiescent_DkvIdeal_pre_finite_arguments (hDkvIdeal := hDkvIdeal) (hPre_finite_arguments := hPre_finite_arguments)
    ∧ quiescent_DkvRefIdeal (hDkvRefIdeal := hDkvRefIdeal)
    ∧ quiescent_DkvRefIdeal_pre_finite_arguments (hDkvRefIdeal := hDkvRefIdeal) (hPre_finite_arguments := hPre_finite_arguments)
    ∧ quiescent_Conv (hConv := hConv)
    ∧ quiescent_ConvIdeal (hConvIdeal := hConvIdeal)
    ∧ quiescent_ConvIdeal_pre_finite_conv (hConvIdeal := hConvIdeal) (hPre_finite_conv := hPre_finite_conv)
    ∧ quiescent_ConvRefIdeal (hConvRefIdeal := hConvRefIdeal)
    ∧ quiescent_ConvRefIdeal_pre_finite_conv (hConvRefIdeal := hConvRefIdeal) (hPre_finite_conv := hPre_finite_conv)
    ∧ quiescent_Rms (hRms := hRms)
    ∧ quiescent_RmsIdeal (hRmsIdeal := hRmsIdeal)
    ∧ quiescent_RmsIdeal_pre_finite_norm (hRmsIdeal := hRmsIdeal) (hPre_finite_norm := hPre_finite_norm)
    ∧ quiescent_RmsRefIdeal (hRmsRefIdeal := hRmsRefIdeal)
    ∧ quiescent_RmsRefIdeal_pre_finite_norm (hRmsRefIdeal := hRmsRefIdeal) (hPre_finite_norm := hPre_finite_norm)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ preserves_Merge_MergeIdeal
    ∧ algebraic_MergeIdeal_MergeRefIdeal_on_gate_columns (hMergeIdeal := hMergeIdeal) (hMergeRefIdeal := hMergeRefIdeal) (hOn_gate_columns := hOn_gate_columns)
    ∧ preserves_Dq_DqIdeal
    ∧ algebraic_DqIdeal_DqRefIdeal_pre_finite_arguments (hDqIdeal := hDqIdeal) (hDqRefIdeal := hDqRefIdeal) (hPre_finite_arguments := hPre_finite_arguments)
    ∧ preserves_Dkv_DkvIdeal
    ∧ algebraic_DkvIdeal_DkvRefIdeal_pre_finite_arguments (hDkvIdeal := hDkvIdeal) (hDkvRefIdeal := hDkvRefIdeal) (hPre_finite_arguments := hPre_finite_arguments)
    ∧ preserves_Conv_ConvIdeal
    ∧ algebraic_ConvIdeal_ConvRefIdeal_pre_finite_conv (hConvIdeal := hConvIdeal) (hConvRefIdeal := hConvRefIdeal) (hPre_finite_conv := hPre_finite_conv)
    ∧ preserves_Rms_RmsIdeal
    ∧ algebraic_RmsIdeal_RmsRefIdeal_pre_finite_norm (hRmsIdeal := hRmsIdeal) (hRmsRefIdeal := hRmsRefIdeal) (hPre_finite_norm := hPre_finite_norm)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Loss_LossIdeal
    ∧ algebraic_LossIdeal_LossRefIdeal_pre_finite_loss (hLossIdeal := hLossIdeal) (hLossRefIdeal := hLossRefIdeal) (hPre_finite_loss := hPre_finite_loss)
-- ==== On_gate_columns.lean ====
abbrev S16384x1024 : Shape := ⟨2, ![16384, 1024]⟩
abbrev S16384x512 : Shape := ⟨2, ![16384, 512]⟩
abbrev S16384x5640 : Shape := ⟨2, ![16384, 5640]⟩
abbrev S512x1024 : Shape := ⟨2, ![512, 1024]⟩
abbrev S1024x1024 : Shape := ⟨2, ![1024, 1024]⟩
abbrev S16384x5760 : Shape := ⟨2, ![16384, 5760]⟩
abbrev S_ : Shape := ⟨0, ![]⟩

class Facts : Prop where
  bcast_S_S16384x5760 : S_.BroadcastsInDim S16384x5760 (![] : Fin 0 → Fin S16384x5760.rank)
  bcast_S_S16384x512 : S_.BroadcastsInDim S16384x512 (![] : Fin 0 → Fin S16384x512.rank)
  bcast_S_S1024x1024 : S_.BroadcastsInDim S1024x1024 (![] : Fin 0 → Fin S1024x1024.rank)
  bcast_S_S512x1024 : S_.BroadcastsInDim S512x1024 (![] : Fin 0 → Fin S512x1024.rank)

variable [Facts]

def fn {F : FTy → Type} [FloatOps F] (main_arg0 : FVec F S16384x1024 .f32) (main_arg1 : FVec F S16384x512 .f32) (main_arg2 : FVec F S16384x512 .f32) (main_arg3 : FVec F S16384x5640 .f32) (main_arg4 : FVec F S512x1024 .f32) (main_arg5 : FVec F S512x1024 .f32) (main_arg6 : FVec F S1024x1024 .f32) : IVec S16384x5760 1 × IVec S16384x512 1 × IVec S16384x512 1 × IVec S1024x1024 1 × IVec S512x1024 1 × IVec S512x1024 1 :=
  let main_v0 : IVec S16384x5760 32 := iotaInDim S16384x5760 32 1
  let main_c : IVec S_ 32 := constantI S_ 32 2048#32
  let main_v1 : IVec S16384x5760 32 := broadcastInDim S16384x5760 ![] bcast_S_S16384x5760 main_c
  let main_v2 : IVec S16384x5760 1 := cmpi .slt main_v0 main_v1
  let main_c_0 : IVec S_ 1 := constantI S_ 1 1#1
  let main_v3 : IVec S16384x512 1 := broadcastInDim S16384x512 ![] bcast_S_S16384x512 main_c_0
  let main_c_1 : IVec S_ 1 := constantI S_ 1 1#1
  let main_v4 : IVec S16384x512 1 := broadcastInDim S16384x512 ![] bcast_S_S16384x512 main_c_1
  let main_c_2 : IVec S_ 1 := constantI S_ 1 1#1
  let main_v5 : IVec S1024x1024 1 := broadcastInDim S1024x1024 ![] bcast_S_S1024x1024 main_c_2
  let main_c_3 : IVec S_ 1 := constantI S_ 1 1#1
  let main_v6 : IVec S512x1024 1 := broadcastInDim S512x1024 ![] bcast_S_S512x1024 main_c_3
  let main_c_4 : IVec S_ 1 := constantI S_ 1 1#1
  let main_v7 : IVec S512x1024 1 := broadcastInDim S512x1024 ![] bcast_S_S512x1024 main_c_4
  (main_v2, main_v3, main_v4, main_v5, main_v6, main_v7)
-- ==== Pre_finite_arguments.lean ====
abbrev S16384x512 : Shape := ⟨2, ![16384, 512]⟩
abbrev S8x257 : Shape := ⟨2, ![8, 257]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn_part1 {F : FTy → Type} [FloatOps F] (main_arg4 : FVec F S16384x512 .f32) (main_v13 : IVec S_ 1) (main_v16 : IVec S8x257 1) : IVec S_ 1 :=
  let main_c_5 : IVec S_ 1 := constantI S_ 1 1#1
  let main_v17 : IVec S_ 1 := (fun x v => Host.reduce IntOp.andi x v reducesTo_S8x257_S_d0_1 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  main_v23

def fn {F : FTy → Type} [FloatOps F] (main_arg0 : FVec F S16384x512 .f32) (main_arg1 : FVec F S16384x512 .f32) (main_arg2 : FVec F S16384x512 .f32) (main_arg3 : FVec F S8x257 .f32) (main_arg4 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S8x257 .f32 := Host.absf main_arg3
  let main_cst_4 : FVec F S_ .f32 := constant S_ .f32 0x7F800000#32
  let main_v15 : FVec F S8x257 .f32 := broadcastInDim S8x257 ![] bcast_S_S8x257 main_cst_4
  let main_v16 : IVec S8x257 1 := cmpf .olt main_v14 main_v15
  fn_part1 (F := F) main_arg4 main_v13 main_v16
-- ==== Pre_finite_conv.lean ====
abbrev S16384x1536 : Shape := ⟨2, ![16384, 1536]⟩
abbrev S4x1536 : Shape := ⟨2, ![4, 1536]⟩
abbrev S16384x512 : Shape := ⟨2, ![16384, 512]⟩
abbrev S_ : Shape := ⟨0, ![]⟩

class Facts : Prop where
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S4x1536 : S_.BroadcastsInDim S4x1536 (![] : Fin 0 → Fin S4x1536.rank)
  reducesTo_S4x1536_S_d0_1 : S4x1536.ReducesTo [0, 1] S_
  bcast_S_S16384x512 : S_.BroadcastsInDim S16384x512 (![] : Fin 0 → Fin S16384x512.rank)
  reducesTo_S16384x512_S_d0_1 : S16384x512.ReducesTo [0, 1] S_

variable [Facts]

def fn_part1 {F : FTy → Type} [FloatOps F] (main_arg4 : FVec F S16384x512 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  main_v23

def fn {F : FTy → Type} [FloatOps F] (main_arg0 : FVec F S16384x1536 .f32) (main_arg1 : FVec F S4x1536 .f32) (main_arg2 : FVec F S16384x512 .f32) (main_arg3 : FVec F S16384x512 .f32) (main_arg4 : FVec F S16384x512 .f32) : IVec S_ 1 :=
  let main_v0 : FVec F S16384x1536 .f32 := Host.absf main_arg0
  let main_cst : FVec F S_ .f32 := constant S_ .f32 0x7F800000#32
  let main_v1 : FVec F S16384x1536 .f32 := broadcastInDim S16384x1536 ![] bcast_S_S16384x1536 main_cst
  let main_v2 : IVec S16384x1536 1 := cmpf .olt main_v0 main_v1
  let main_c : IVec S_ 1 := constantI S_ 1 1#1
  let main_v3 : IVec S_ 1 := (fun x v => Host.reduce IntOp.andi x v reducesTo_S16384x1536_S_d0_1 h_S_) main_v2 main_c
  let main_v4 : FVec F S4x1536 .f32 := Host.absf main_arg1
  let main_cst_0 : FVec F S_ .f32 := constant S_ .f32 0x7F800000#32
  let main_v5 : FVec F S4x1536 .f32 := broadcastInDim S4x1536 ![] bcast_S_S4x1536 main_cst_0
  let main_v6 : IVec S4x1536 1 := cmpf .olt main_v4 main_v5
  let main_c_1 : IVec S_ 1 := constantI S_ 1 1#1
  let main_v7 : IVec S_ 1 := (fun x v => Host.reduce IntOp.andi x v reducesTo_S4x1536_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_v13 main_v16
-- ==== Pre_finite_ffn.lean ====
abbrev S16384x1024 : Shape := ⟨2, ![16384, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1x5632 .f32) (main_arg5 : FVec F S2816x1024 .f32) (main_arg6 : FVec F S16384x1024 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S1x5632 .f32 := Host.absf main_arg4
  let main_cst_6 : FVec F S_ .f32 := constant S_ .f32 0x7F800000#32
  let main_v20 : FVec F S1x5632 .f32 := broadcastInDim S1x5632 ![] bcast_S_S1x5632 main_cst_6
  let main_v21 : IVec S1x5632 1 := cmpf .olt main_v19 main_v20
  let main_c_7 : IVec S_ 1 := constantI S_ 1 1#1
  let main_v22 : IVec S_ 1 := (fun x v => Host.reduce IntOp.andi x v reducesTo_S1x5632_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S16384x1024 .f32 := Host.absf main_arg6
  let main_cst_10 : FVec F S_ .f32 := constant S_ .f32 0x7F800000#32
  let main_v30 : FVec F S16384x1024 .f32 := broadcastInDim S16384x1024 ![] bcast_S_S16384x1024 main_cst_10
  let main_v31 : IVec S16384x1024 1 := cmpf .olt main_v29 main_v30
  let main_c_11 : IVec S_ 1 := constantI S_ 1 1#1
  let main_v32 : IVec S_ 1 := (fun x v => Host.reduce IntOp.andi x v reducesTo_S16384x1024_S_d0_1 h_S_) main_v31 main_c_11
  let main_v33 : IVec S_ 1 := andi main_v28 main_v32
  main_v33

def fn {F : FTy → Type} [FloatOps F] (main_arg0 : FVec F S16384x1024 .f32) (main_arg1 : FVec F S1x1024 .f32) (main_arg2 : FVec F S1024x5632 .f32) (main_arg3 : FVec F S3x5632 .f32) (main_arg4 : FVec F S1x5632 .f32) (main_arg5 : FVec F S2816x1024 .f32) (main_arg6 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_arg5 main_arg6 main_v13 main_v16
-- ==== Pre_finite_loss.lean ====
abbrev S16384x1024 : Shape := ⟨2, ![16384, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S16384x1024 .f32) (main_v33 : IVec S_ 1) : IVec S_ 1 :=
  let main_v34 : FVec F S16384x1024 .f32 := Host.absf main_arg7
  let main_cst_12 : FVec F S_ .f32 := constant S_ .f32 0x7F800000#32
  let main_v35 : FVec F S16384x1024 .f32 := broadcastInDim S16384x1024 ![] bcast_S_S16384x1024 main_cst_12
  let main_v36 : IVec S16384x1024 1 := cmpf .olt main_v34 main_v35
  let main_c_13 : IVec S_ 1 := constantI S_ 1 1#1
  let main_v37 : IVec S_ 1 := (fun x v => Host.reduce IntOp.andi x v reducesTo_S16384x1024_S_d0_1 h_S_) main_v36 main_c_13
  let main_v38 : IVec S_ 1 := andi main_v33 main_v37
  main_v38

def fn_part1 {F : FTy → Type} [FloatOps F] (main_arg4 : FVec F S1x5632 .f32) (main_arg5 : FVec F S2816x1024 .f32) (main_arg6 : FVec F S1x1024 .f32) (main_arg7 : FVec F S16384x1024 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S1x5632 .f32 := Host.absf main_arg4
  let main_cst_6 : FVec F S_ .f32 := constant S_ .f32 0x7F800000#32
  let main_v20 : FVec F S1x5632 .f32 := broadcastInDim S1x5632 ![] bcast_S_S1x5632 main_cst_6
  let main_v21 : IVec S1x5632 1 := cmpf .olt main_v19 main_v20
  let main_c_7 : IVec S_ 1 := constantI S_ 1 1#1
  let main_v22 : IVec S_ 1 := (fun x v => Host.reduce IntOp.andi x v reducesTo_S1x5632_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S16384x1024 .f32) (main_arg1 : FVec F S1x1024 .f32) (main_arg2 : FVec F S1024x5632 .f32) (main_arg3 : FVec F S3x5632 .f32) (main_arg4 : FVec F S1x5632 .f32) (main_arg5 : FVec F S2816x1024 .f32) (main_arg6 : FVec F S1x1024 .f32) (main_arg7 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_arg5 main_arg6 main_arg7 main_v13 main_v16
-- ==== Pre_finite_norm.lean ====
abbrev S16384x1024 : Shape := ⟨2, ![16384, 1024]⟩
abbrev S1x1024 : Shape := ⟨2, ![1, 1024]⟩
abbrev S1024x5640 : Shape := ⟨2, ![1024, 5640]⟩
abbrev S16384x5640 : Shape := ⟨2, ![16384, 5640]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5640 : S_.BroadcastsInDim S1024x5640 (![] : Fin 0 → Fin S1024x5640.rank)
  reducesTo_S1024x5640_S_d0_1 : S1024x5640.ReducesTo [0, 1] S_
  bcast_S_S16384x5640 : S_.BroadcastsInDim S16384x5640 (![] : Fin 0 → Fin S16384x5640.rank)
  reducesTo_S16384x5640_S_d0_1 : S16384x5640.ReducesTo [0, 1] S_

variable [Facts]

def fn_part1 {F : FTy → Type} [FloatOps F] (main_v13 : IVec S_ 1) (main_v16 : IVec S16384x5640 1) : IVec S_ 1 :=
  let main_c_5 : IVec S_ 1 := constantI S_ 1 1#1
  let main_v17 : IVec S_ 1 := (fun x v => Host.reduce IntOp.andi x v reducesTo_S16384x5640_S_d0_1 h_S_) main_v16 main_c_5
  let main_v18 : IVec S_ 1 := andi main_v13 main_v17
  main_v18

def fn {F : FTy → Type} [FloatOps F] (main_arg0 : FVec F S16384x1024 .f32) (main_arg1 : FVec F S1x1024 .f32) (main_arg2 : FVec F S1024x5640 .f32) (main_arg3 : FVec F S16384x5640 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5640 .f32 := Host.absf main_arg2
  let main_cst_2 : FVec F S_ .f32 := constant S_ .f32 0x7F800000#32
  let main_v10 : FVec F S1024x5640 .f32 := broadcastInDim S1024x5640 ![] bcast_S_S1024x5640 main_cst_2
  let main_v11 : IVec S1024x5640 1 := cmpf .olt main_v9 main_v10
  let main_c_3 : IVec S_ 1 := constantI S_ 1 1#1
  let main_v12 : IVec S_ 1 := (fun x v => Host.reduce IntOp.andi x v reducesTo_S1024x5640_S_d0_1 h_S_) main_v11 main_c_3
  let main_v13 : IVec S_ 1 := andi main_v8 main_v12
  let main_v14 : FVec F S16384x5640 .f32 := Host.absf main_arg3
  let main_cst_4 : FVec F S_ .f32 := constant S_ .f32 0x7F800000#32
  let main_v15 : FVec F S16384x5640 .f32 := broadcastInDim S16384x5640 ![] bcast_S_S16384x5640 main_cst_4
  let main_v16 : IVec S16384x5640 1 := cmpf .olt main_v14 main_v15
  fn_part1 (F := F) main_v13 main_v16
-- ==== Merge.lean ====
abbrev S16384x1024 : Shape := ⟨2, ![16384, 1024]⟩
abbrev S16384x512 : Shape := ⟨2, ![16384, 512]⟩
abbrev S16384x5640 : Shape := ⟨2, ![16384, 5640]⟩
abbrev S512x1024 : Shape := ⟨2, ![512, 1024]⟩
abbrev S1024x1024 : Shape := ⟨2, ![1024, 1024]⟩
abbrev S16384x2048 : Shape := ⟨2, ![16384, 2048]⟩
abbrev S16384x1536 : Shape := ⟨2, ![16384, 1536]⟩
abbrev S16384x8 : Shape := ⟨2, ![16384, 8]⟩
abbrev S_ : Shape := ⟨0, ![]⟩
abbrev S16384x120 : Shape := ⟨2, ![16384, 120]⟩
abbrev S16384x5760 : Shape := ⟨2, ![16384, 5760]⟩
abbrev S1024x512 : Shape := ⟨2, ![1024, 512]⟩
abbrev S512x512 : Shape := ⟨2, ![512, 512]⟩
abbrev S512x2048 : Shape := ⟨2, ![512, 2048]⟩

abbrev nBuf : Space → Nat
  | .hbm => 31
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x5640, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S16384x1024, .bf16⟩
  | .hbm, ⟨11, _⟩ => ⟨S16384x512, .bf16⟩
  | .hbm, ⟨12, _⟩ => ⟨S16384x512, .bf16⟩
  | .hbm, ⟨13, _⟩ => ⟨S16384x2048, .f32⟩
  | .hbm, ⟨14, _⟩ => ⟨S16384x1024, .f32⟩
  | .hbm, ⟨15, _⟩ => ⟨S16384x1536, .f32⟩
  | .hbm, ⟨16, _⟩ => ⟨S16384x512, .f32⟩
  | .hbm, ⟨17, _⟩ => ⟨S16384x512, .f32⟩
  | .hbm, ⟨18, _⟩ => ⟨S16384x8, .f32⟩
  | .hbm, ⟨19, _⟩ => ⟨S_, .f32⟩
  | .hbm, ⟨20, _⟩ => ⟨S16384x120, .f32⟩
  | .hbm, ⟨21, _⟩ => ⟨S16384x5760, .f32⟩
  | .hbm, ⟨22, _⟩ => ⟨S1024x1024, .bf16⟩
  | .hbm, ⟨23, _⟩ => ⟨S1024x512, .bf16⟩
  | .hbm, ⟨24, _⟩ => ⟨S1024x512, .bf16⟩
  | .hbm, ⟨25, _⟩ => ⟨S16384x5760, .bf16⟩
  | .hbm, ⟨26, _⟩ => ⟨S16384x512, .f32⟩
  | .hbm, ⟨27, _⟩ => ⟨S16384x512, .f32⟩
  | .hbm, ⟨28, _⟩ => ⟨S1024x1024, .f32⟩
  | .hbm, ⟨29, _⟩ => ⟨S512x1024, .f32⟩
  | .hbm, ⟨30, _⟩ => ⟨S512x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x512, .bf16⟩
  | .local _ .vmem, ⟨14, _⟩ => ⟨S1024x512, .bf16⟩
  | .local _ .vmem, ⟨15, _⟩ => ⟨S512x2048, .bf16⟩
  | .local _ .vmem, ⟨16, _⟩ => ⟨S512x2048, .bf16⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S1024x1024, .f32⟩
  | .local _ .vmem, ⟨22, _⟩ => ⟨S512x1024, .f32⟩
  | .local _ .vmem, ⟨23, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev main_v17_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MergeRefIdeal.lean ====
abbrev S16384x1024 : Shape := ⟨2, ![16384, 1024]⟩
abbrev S16384x512 : Shape := ⟨2, ![16384, 512]⟩
abbrev S16384x5640 : Shape := ⟨2, ![16384, 5640]⟩
abbrev S512x1024 : Shape := ⟨2, ![512, 1024]⟩
abbrev S1024x1024 : Shape := ⟨2, ![1024, 1024]⟩
abbrev S16384x2048 : Shape := ⟨2, ![16384, 2048]⟩
abbrev S_ : Shape := ⟨0, ![]⟩
abbrev S1024x512 : Shape := ⟨2, ![1024, 512]⟩
abbrev S16384x5760 : Shape := ⟨2, ![16384, 5760]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x5640, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S16384x2048, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S1024x1024, .f32⟩
  | .hbm, ⟨41, _⟩ => ⟨S1024x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S1024x512, .f32⟩
  | .hbm, ⟨46, _⟩ => ⟨S512x1024, .f32⟩
  | .hbm, ⟨47, _⟩ => ⟨S16384x512, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S1024x512, .f32⟩
  | .hbm, ⟨52, _⟩ => ⟨S512x1024, .f32⟩
  | .hbm, ⟨53, _⟩ => ⟨S16384x512, .f32⟩
  | .hbm, ⟨54, _⟩ => ⟨S16384x1024, .f32⟩
  | .hbm, ⟨55, _⟩ => ⟨S_, .f32⟩
  | .hbm, ⟨56, _⟩ => ⟨S16384x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S16384x2048, .bf16⟩
  | .hbm, ⟨61, _⟩ => ⟨S_, .i32⟩
  | .hbm, ⟨62, _⟩ => ⟨S_, .bf16⟩
  | .hbm, ⟨63, _⟩ => ⟨S16384x5760, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_call0_v0 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Dq.lean ====
abbrev S16384x512 : Shape := ⟨2, ![16384, 512]⟩
abbrev S8x257 : Shape := ⟨2, ![8, 257]⟩
abbrev S16384x8x64 : Shape := ⟨3, ![16384, 8, 64]⟩
abbrev S16384x16384 : Shape := ⟨2, ![16384, 16384]⟩
abbrev S8x16384x16384 : Shape := ⟨3, ![8, 16384, 16384]⟩
abbrev S_ : Shape := ⟨0, ![]⟩
abbrev S16384x16384x1 : Shape := ⟨3, ![16384, 16384, 1]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x8 : Shape := ⟨2, ![16384, 8]⟩
abbrev S16384x120 : Shape := ⟨2, ![16384, 120]⟩
abbrev S16384x128 : Shape := ⟨2, ![16384, 128]⟩
abbrev S16384x2048 : Shape := ⟨2, ![16384, 2048]⟩
abbrev S16384x1536 : Shape := ⟨2, ![16384, 1536]⟩
abbrev S16384x640 : Shape := ⟨2, ![16384, 640]⟩
abbrev S16384x5760 : Shape := ⟨2, ![16384, 5760]⟩
abbrev S256x768 : Shape := ⟨2, ![256, 768]⟩
abbrev S3x256x768 : Shape := ⟨3, ![3, 256, 768]⟩
abbrev S3x1x256x768 : Shape := ⟨4, ![3, 1, 256, 768]⟩
abbrev S256x768x1 : Shape := ⟨3, ![256, 768, 1]⟩
abbrev S8x256x768 : Shape := ⟨3, ![8, 256, 768]⟩
abbrev S1x8x256x768 : Shape := ⟨4, ![1, 8, 256, 768]⟩
abbrev S3x8x256x768 : Shape := ⟨4, ![3, 8, 256, 768]⟩
abbrev S256x512 : Shape := ⟨2, ![256, 512]⟩
abbrev S256x128 : Shape := ⟨2, ![256, 128]⟩
abbrev S8x256 : Shape := ⟨2, ![8, 256]⟩
abbrev S768x512 : Shape := ⟨2, ![768, 512]⟩
abbrev S1x128 : Shape := ⟨2, ![1, 128]⟩
abbrev S768x128 : Shape := ⟨2, ![768, 128]⟩
abbrev S1x1x256x768 : Shape := ⟨4, ![1, 1, 256, 768]⟩
abbrev S256x1 : Shape := ⟨2, ![256, 1]⟩
abbrev S256 : Shape := ⟨1, ![256]⟩
abbrev S128x256 : Shape := ⟨2, ![128, 256]⟩

abbrev nBuf : Space → Nat
  | .hbm => 152
  | .vmem => 26
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S8x257, .f32⟩
  | 4 => ⟨S16384x512, .f32⟩
  | 5 => ⟨S16384x8x64, .f32⟩
  | 6 => ⟨S16384x8x64, .f32⟩
  | 7 => ⟨S16384x16384, .i32⟩
  | 8 => ⟨S16384x16384, .i32⟩
  | 9 => ⟨S8x16384x16384, .f32⟩
  | 10 => ⟨S_, .f32⟩
  | 11 => ⟨S8x16384x16384, .f32⟩
  | 12 => ⟨S8x16384x16384, .f32⟩
  | 13 => ⟨S16384x16384, .i32⟩
  | 14 => ⟨S_, .i32⟩
  | 15 => ⟨S16384x16384, .i32⟩
  | 16 => ⟨S16384x16384, .i32⟩
  | 17 => ⟨S_, .i32⟩
  | 18 => ⟨S16384x16384, .i32⟩
  | 19 => ⟨S16384x16384, .i32⟩
  | 20 => ⟨S_, .i32⟩
  | 21 => ⟨S16384x16384, .i32⟩
  | 22 => ⟨S16384x16384, .i32⟩
  | 23 => ⟨S_, .i32⟩
  | 24 => ⟨S16384x16384, .i32⟩
  | 25 => ⟨S16384x16384, .i1⟩
  | 26 => ⟨S_, .i32⟩
  | 27 => ⟨S16384x16384, .i32⟩
  | 28 => ⟨S16384x16384, .i32⟩
  | 29 => ⟨S16384x16384, .i32⟩
  | 30 => ⟨S16384x16384x1, .i32⟩
  | 31 => ⟨S8x16384x16384, .f32⟩
  | 32 => ⟨S8x16384x16384, .f32⟩
  | 33 => ⟨S_, .i32⟩
  | 34 => ⟨S16384x16384, .i32⟩
  | 35 => ⟨S16384x16384, .i32⟩
  | 36 => ⟨S_, .i32⟩
  | 37 => ⟨S16384x16384, .i32⟩
  | 38 => ⟨S16384x16384, .i32⟩
  | 39 => ⟨S16384x16384, .i1⟩
  | 40 => ⟨S_, .i32⟩
  | 41 => ⟨S16384x16384, .i32⟩
  | 42 => ⟨S16384x16384, .i32⟩
  | 43 => ⟨S_, .i32⟩
  | 44 => ⟨S16384x16384, .i32⟩
  | 45 => ⟨S16384x16384, .i32⟩
  | 46 => ⟨S_, .i32⟩
  | 47 => ⟨S16384x16384, .i32⟩
  | 48 => ⟨S16384x16384, .i32⟩
  | 49 => ⟨S16384x16384, .i1⟩
  | 50 => ⟨S16384x16384, .i1⟩
  | 51 => ⟨S1x16384x16384, .i1⟩
  | 52 => ⟨S_, .f32⟩
  | 53 => ⟨S_, .f32⟩
  | 54 => ⟨S8x16384x16384, .i1⟩
  | 55 => ⟨S8x16384x16384, .f32⟩
  | 56 => ⟨S8x16384x16384, .f32⟩
  | 57 => ⟨S_, .f32⟩
  | 58 => ⟨S8x16384, .f32⟩
  | 59 => ⟨S8x16384x1, .f32⟩
  | 60 => ⟨S8x16384x16384, .f32⟩
  | 61 => ⟨S8x16384x16384, .f32⟩
  | 62 => ⟨S8x16384x16384, .f32⟩
  | 63 => ⟨S_, .f32⟩
  | 64 => ⟨S8x16384, .f32⟩
  | 65 => ⟨S8x16384x1, .f32⟩
  | 66 => ⟨S8x16384x16384, .f32⟩
  | 67 => ⟨S8x16384x16384, .f32⟩
  | 68 => ⟨S16384x8x64, .f32⟩
  | 69 => ⟨S8x64x16384, .f32⟩
  | 70 => ⟨S16384x8x64, .f32⟩
  | 71 => ⟨S8x16384x1, .f32⟩
  | 72 => ⟨S8x16384x1, .f32⟩
  | 73 => ⟨S8x16384, .f32⟩
  | 74 => ⟨S16384x512, .f32⟩
  | 75 => ⟨S16384x8, .f32⟩
  | 76 => ⟨S_, .f32⟩
  | 77 => ⟨S16384x120, .f32⟩
  | 78 => ⟨S16384x128, .f32⟩
  | 79 => ⟨S_, .f32⟩
  | 80 => ⟨S16384x2048, .f32⟩
  | 81 => ⟨S_, .f32⟩
  | 82 => ⟨S16384x1536, .f32⟩
  | 83 => ⟨S_, .f32⟩
  | 84 => ⟨S16384x640, .f32⟩
  | 85 => ⟨S16384x5760, .f32⟩
  | 86 => ⟨S256x768, .i32⟩
  | 87 => ⟨S256x768, .i32⟩
  | 88 => ⟨S3x256x768, .i32⟩
  | 89 => ⟨S3x256x768, .i32⟩
  | 90 => ⟨S3x256x768, .i32⟩
  | 91 => ⟨S_, .i32⟩
  | 92 => ⟨S3x256x768, .i32⟩
  | 93 => ⟨S3x256x768, .i32⟩
  | 94 => ⟨S_, .i32⟩
  | 95 => ⟨S3x256x768, .i32⟩
  | 96 => ⟨S3x256x768, .i32⟩
  | 97 => ⟨S3x256x768, .i1⟩
  | 98 => ⟨S_, .i32⟩
  | 99 => ⟨S3x256x768, .i32⟩
  | 100 => ⟨S3x256x768, .i32⟩
  | 101 => ⟨S_, .i32⟩
  | 102 => ⟨S3x256x768, .i32⟩
  | 103 => ⟨S3x256x768, .i32⟩
  | 104 => ⟨S_, .i32⟩
  | 105 => ⟨S3x256x768, .i32⟩
  | 106 => ⟨S3x256x768, .i32⟩
  | 107 => ⟨S3x256x768, .i1⟩
  | 108 => ⟨S3x256x768, .i1⟩
  | 109 => ⟨S_, .i32⟩
  | 110 => ⟨S3x256x768, .i32⟩
  | 111 => ⟨S3x256x768, .i32⟩
  | 112 => ⟨S_, .i32⟩
  | 113 => ⟨S3x256x768, .i32⟩
  | 114 => ⟨S3x256x768, .i32⟩
  | 115 => ⟨S3x256x768, .i1⟩
  | 116 => ⟨S3x256x768, .i1⟩
  | 117 => ⟨S3x1x256x768, .i1⟩
  | 118 => ⟨S_, .i32⟩
  | 119 => ⟨S256x768, .i32⟩
  | 120 => ⟨S256x768, .i32⟩
  | 121 => ⟨S256x768, .i32⟩
  | 122 => ⟨S_, .i32⟩
  | 123 => ⟨S256x768, .i32⟩
  | 124 => ⟨S256x768, .i32⟩
  | 125 => ⟨S_, .i32⟩
  | 126 => ⟨S256x768, .i32⟩
  | 127 => ⟨S256x768, .i32⟩
  | _ => ⟨S16384x512, .f32⟩

abbrev hbmTy0_1 (i : Nat) : BufTy := match i % 128 with
  | 0 => ⟨S_, .i32⟩
  | 1 => ⟨S256x768, .i32⟩
  | 2 => ⟨S256x768, .i32⟩
  | 3 => ⟨S_, .i32⟩
  | 4 => ⟨S256x768, .i32⟩
  | 5 => ⟨S256x768, .i1⟩
  | 6 => ⟨S_, .i32⟩
  | 7 => ⟨S256x768, .i32⟩
  | 8 => ⟨S256x768, .i32⟩
  | 9 => ⟨S256x768, .i32⟩
  | 10 => ⟨S256x768x1, .i32⟩
  | 11 => ⟨S8x256x768, .f32⟩
  | 12 => ⟨S1x8x256x768, .f32⟩
  | 13 => ⟨S_, .f32⟩
  | 14 => ⟨S_, .f32⟩
  | 15 => ⟨S3x8x256x768, .i1⟩
  | 16 => ⟨S3x8x256x768, .f32⟩
  | 17 => ⟨S3x8x256x768, .f32⟩
  | 18 => ⟨S3x8x256x768, .f32⟩
  | 19 => ⟨S16384x512, .bf16⟩
  | 20 => ⟨S_, .bf16⟩
  | 21 => ⟨S16384x5760, .bf16⟩
  | 22 => ⟨S16384x5760, .bf16⟩
  | 23 => ⟨S8x16384, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S1x8x256x768, .f32⟩
  | .local _ .vmem, ⟨15, _⟩ => ⟨S1x8x256x768, .f32⟩
  | .local _ .vmem, ⟨16, _⟩ => ⟨S256x128, .f32⟩
  | .local _ .vmem, ⟨17, _⟩ => ⟨S256x128, .f32⟩
  | .local _ .vmem, ⟨18, _⟩ => ⟨S256x512, .f32⟩
  | .local _ .vmem, ⟨19, _⟩ => ⟨S256x512, .f32⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S8x256, .f32⟩
  | .local _ .vmem, ⟨25, _⟩ => ⟨S8x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_16 : Ref sig .tc := ⟨.hbm, 91, rfl⟩
abbrev main_v65 : Ref sig .tc := ⟨.hbm, 92, rfl⟩
abbrev main_v66 : Ref sig .tc := ⟨.hbm, 93, rfl⟩
abbrev main_c_17 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_18 : Ref sig .tc := ⟨.hbm, 98, rfl⟩
abbrev main_v70 : Ref sig .tc := ⟨.hbm, 99, rfl⟩
abbrev main_v71 : Ref sig .tc := ⟨.hbm, 100, rfl⟩
abbrev main_c_19 : Ref sig .tc := ⟨.hbm, 101, rfl⟩
abbrev main_v72 : Ref sig .tc := ⟨.hbm, 102, rfl⟩
abbrev main_v73 : Ref sig .tc := ⟨.hbm, 103, rfl⟩
abbrev main_c_20 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_21 : Ref sig .tc := ⟨.hbm, 109, rfl⟩
abbrev main_v78 : Ref sig .tc := ⟨.hbm, 110, rfl⟩
abbrev main_v79 : Ref sig .tc := ⟨.hbm, 111, rfl⟩
abbrev main_c_22 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_23 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_24 : Ref sig .tc := ⟨.hbm, 122, rfl⟩
abbrev main_v88 : Ref sig .tc := ⟨.hbm, 123, rfl⟩
abbrev main_v89 : Ref sig .tc := ⟨.hbm, 124, rfl⟩
abbrev main_c_25 : Ref sig .tc := ⟨.hbm, 125, rfl⟩
abbrev main_v90 : Ref sig .tc := ⟨.hbm, 126, rfl⟩
abbrev main_v91 : Ref sig .tc := ⟨.hbm, 127, rfl⟩
abbrev main_c_26 : Ref sig .tc := ⟨.hbm, 128, rfl⟩
abbrev main_v92 : Ref sig .tc := ⟨.hbm, 129, rfl⟩
abbrev main_v93 : Ref sig .tc := ⟨.hbm, 130, rfl⟩
abbrev main_c_27 : Ref sig .tc := ⟨.hbm, 131, rfl⟩
abbrev main_v94 : Ref sig .tc := ⟨.hbm, 132, rfl⟩
abbrev main_v95 : Ref sig .tc := ⟨.hbm, 133, rfl⟩
abbrev main_c_28 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_29 : Ref sig .tc := ⟨.hbm, 141, rfl⟩
abbrev main_call1_v0 : Ref sig .tc := ⟨.hbm, 142, rfl⟩
abbrev main_call1_v1 : Ref sig .tc := ⟨.hbm, 143, rfl⟩
abbrev main_call1_v2 : Ref sig .tc := ⟨.hbm, 144, rfl⟩
abbrev main_call1_v3 : Ref sig .tc := ⟨.hbm, 145, rfl⟩
abbrev main_v102 : Ref sig .tc := ⟨.hbm, 146, rfl⟩
abbrev main_v103 : Ref sig .tc := ⟨.hbm, 147, rfl⟩
abbrev main_cst_30 : Ref sig .tc := ⟨.hbm, 148, rfl⟩
abbrev main_v104 : Ref sig .tc := ⟨.hbm, 149, rfl⟩
abbrev main_v105_0 : Ref sig .tc := ⟨.hbm, 150, rfl⟩
abbrev main_v105_1 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c_m2_i32 : BitVec 32 := 4294967294#32
  let v0 : BitVec 32 := Scalar.addi arg0 c_m2_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c4_i32 : BitVec 32 := 4#32
  let c0_i32_1 : BitVec 32 := 0#32
  ![v1.toNat, c4_i32.toNat]

def cc0_transform_4 (i : grid0.Coords) : Fin 2 → Nat :=
  let arg0 : BitVec 32 := BitVec.ofNat 32 (i 0).val
  let c_m2_i32 : BitVec 32 := 4294967294#32
  let v0 : BitVec 32 := Scalar.addi arg0 c_m2_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c5_i32 : BitVec 32 := 5#32
  let c0_i32_1 : BitVec 32 := 0#32
  ![v1.toNat, c5_i32.toNat]

def cc0_transform_7 (i : grid0.Coords) : Fin 4 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== DqRefIdeal.lean ====
abbrev S16384x512 : Shape := ⟨2, ![16384, 512]⟩
abbrev S8x257 : Shape := ⟨2, ![8, 257]⟩
abbrev S16384x8x64 : Shape := ⟨3, ![16384, 8, 64]⟩
abbrev S16384x16384 : Shape := ⟨2, ![16384, 16384]⟩
abbrev S8x16384x16384 : Shape := ⟨3, ![8, 16384, 16384]⟩
abbrev S_ : Shape := ⟨0, ![]⟩
abbrev S16384x16384x1 : Shape := ⟨3, ![16384, 16384, 1]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16384x64 : Shape := ⟨3, ![8, 16384, 64]⟩
abbrev S16384x5760 : Shape := ⟨2, ![16384, 5760]⟩

abbrev nBuf : Space → Nat
  | .hbm => 131
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S8x257, .f32⟩
  | 4 => ⟨S16384x512, .f32⟩
  | 5 => ⟨S16384x8x64, .f32⟩
  | 6 => ⟨S16384x8x64, .f32⟩
  | 7 => ⟨S16384x16384, .i32⟩
  | 8 => ⟨S16384x16384, .i32⟩
  | 9 => ⟨S8x16384x16384, .f32⟩
  | 10 => ⟨S_, .f32⟩
  | 11 => ⟨S8x16384x16384, .f32⟩
  | 12 => ⟨S8x16384x16384, .f32⟩
  | 13 => ⟨S16384x16384, .i32⟩
  | 14 => ⟨S_, .i32⟩
  | 15 => ⟨S16384x16384, .i32⟩
  | 16 => ⟨S16384x16384, .i32⟩
  | 17 => ⟨S_, .i32⟩
  | 18 => ⟨S16384x16384, .i32⟩
  | 19 => ⟨S16384x16384, .i32⟩
  | 20 => ⟨S_, .i32⟩
  | 21 => ⟨S16384x16384, .i32⟩
  | 22 => ⟨S16384x16384, .i32⟩
  | 23 => ⟨S_, .i32⟩
  | 24 => ⟨S16384x16384, .i32⟩
  | 25 => ⟨S16384x16384, .i1⟩
  | 26 => ⟨S_, .i32⟩
  | 27 => ⟨S16384x16384, .i32⟩
  | 28 => ⟨S16384x16384, .i32⟩
  | 29 => ⟨S16384x16384, .i32⟩
  | 30 => ⟨S16384x16384x1, .i32⟩
  | 31 => ⟨S8x16384x16384, .f32⟩
  | 32 => ⟨S8x16384x16384, .f32⟩
  | 33 => ⟨S_, .i32⟩
  | 34 => ⟨S16384x16384, .i32⟩
  | 35 => ⟨S16384x16384, .i32⟩
  | 36 => ⟨S_, .i32⟩
  | 37 => ⟨S16384x16384, .i32⟩
  | 38 => ⟨S16384x16384, .i32⟩
  | 39 => ⟨S16384x16384, .i1⟩
  | 40 => ⟨S_, .i32⟩
  | 41 => ⟨S16384x16384, .i32⟩
  | 42 => ⟨S16384x16384, .i32⟩
  | 43 => ⟨S_, .i32⟩
  | 44 => ⟨S16384x16384, .i32⟩
  | 45 => ⟨S16384x16384, .i32⟩
  | 46 => ⟨S_, .i32⟩
  | 47 => ⟨S16384x16384, .i32⟩
  | 48 => ⟨S16384x16384, .i32⟩
  | 49 => ⟨S16384x16384, .i1⟩
  | 50 => ⟨S16384x16384, .i1⟩
  | 51 => ⟨S1x16384x16384, .i1⟩
  | 52 => ⟨S_, .f32⟩
  | 53 => ⟨S_, .f32⟩
  | 54 => ⟨S8x16384x16384, .i1⟩
  | 55 => ⟨S8x16384x16384, .f32⟩
  | 56 => ⟨S8x16384x16384, .f32⟩
  | 57 => ⟨S_, .f32⟩
  | 58 => ⟨S8x16384x16384, .f32⟩
  | 59 => ⟨S_, .f32⟩
  | 60 => ⟨S8x16384, .f32⟩
  | 61 => ⟨S8x16384x1, .f32⟩
  | 62 => ⟨S8x16384x16384, .f32⟩
  | 63 => ⟨S8x16384x16384, .i1⟩
  | 64 => ⟨S8x16384x16384, .f32⟩
  | 65 => ⟨S_, .f32⟩
  | 66 => ⟨S8x16384, .f32⟩
  | 67 => ⟨S_, .f32⟩
  | 68 => ⟨S8x16384, .f32⟩
  | 69 => ⟨S8x16384, .f32⟩
  | 70 => ⟨S_, .f32⟩
  | 71 => ⟨S8x16384, .f32⟩
  | 72 => ⟨S8x16384, .i1⟩
  | 73 => ⟨S_, .f32⟩
  | 74 => ⟨S8x16384, .f32⟩
  | 75 => ⟨S8x16384, .i1⟩
  | 76 => ⟨S_, .f32⟩
  | 77 => ⟨S8x16384, .f32⟩
  | 78 => ⟨S_, .f32⟩
  | 79 => ⟨S8x16384, .f32⟩
  | 80 => ⟨S_, .f32⟩
  | 81 => ⟨S8x16384, .f32⟩
  | 82 => ⟨S8x16384, .f32⟩
  | 83 => ⟨S8x16384, .f32⟩
  | 84 => ⟨S8x16384x1, .f32⟩
  | 85 => ⟨S8x16384x16384, .f32⟩
  | 86 => ⟨S8x16384x16384, .f32⟩
  | 87 => ⟨S8x16384x16384, .f32⟩
  | 88 => ⟨S_, .f32⟩
  | 89 => ⟨S8x16384, .f32⟩
  | 90 => ⟨S8x16384x1, .f32⟩
  | 91 => ⟨S8x16384x16384, .f32⟩
  | 92 => ⟨S8x16384x16384, .f32⟩
  | 93 => ⟨S8x16384x1, .f32⟩
  | 94 => ⟨S_, .f32⟩
  | 95 => ⟨S8x16384x1, .f32⟩
  | 96 => ⟨S8x16384x1, .f32⟩
  | 97 => ⟨S16384x8x64, .f32⟩
  | 98 => ⟨S8x64x16384, .f32⟩
  | 99 => ⟨S16384x8x64, .f32⟩
  | 100 => ⟨S16384x512, .f32⟩
  | 101 => ⟨S16384x8x64, .f32⟩
  | 102 => ⟨S8x64x16384, .f32⟩
  | 103 => ⟨S8x16384x16384, .f32⟩
  | 104 => ⟨S8x16384x16384, .f32⟩
  | 105 => ⟨S8x16384x16384, .f32⟩
  | 106 => ⟨S8x16384x16384, .f32⟩
  | 107 => ⟨S_, .f32⟩
  | 108 => ⟨S8x16384, .f32⟩
  | 109 => ⟨S8x16384x1, .f32⟩
  | 110 => ⟨S8x16384x1, .f32⟩
  | 111 => ⟨S8x16384x16384, .f32⟩
  | 112 => ⟨S8x16384x16384, .f32⟩
  | 113 => ⟨S_, .f32⟩
  | 114 => ⟨S8x16384, .f32⟩
  | 115 => ⟨S8x16384x16384, .f32⟩
  | 116 => ⟨S8x16384x16384, .f32⟩
  | 117 => ⟨S8x16384x16384, .f32⟩
  | 118 => ⟨S_, .f32⟩
  | 119 => ⟨S8x16384x16384, .f32⟩
  | 120 => ⟨S8x16384x16384, .f32⟩
  | 121 => ⟨S_, .f32⟩
  | 122 => ⟨S8x16384x16384, .f32⟩
  | 123 => ⟨S8x16384x16384, .f32⟩
  | 124 => ⟨S8x16384x64, .f32⟩
  | 125 => ⟨S16384x8x64, .f32⟩
  | 126 => ⟨S16384x512, .f32⟩
  | 127 => ⟨S16384x512, .bf16⟩
  | _ => ⟨S16384x512, .f32⟩

abbrev hbmTy0_1 (i : Nat) : BufTy := match i % 128 with
  | 0 => ⟨S_, .i32⟩
  | 1 => ⟨S_, .bf16⟩
  | 2 => ⟨S16384x5760, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_call0_v0 : Ref sig .tc := ⟨.hbm, 53, rfl⟩
abbrev main_v36_1 : Ref sig .tc := ⟨.hbm, 54, rfl⟩
abbrev main_call0_v2 : Ref sig .tc := ⟨.hbm, 55, rfl⟩
abbrev main_v36_0 : Ref sig .tc := ⟨.hbm, 56, rfl⟩
abbrev main_call0_cst : Ref sig .tc := ⟨.hbm, 57, rfl⟩
abbrev main_v36_2 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_v44 : Ref sig .tc := ⟨.hbm, 69, rfl⟩
abbrev main_cst_13 : Ref sig .tc := ⟨.hbm, 70, rfl⟩
abbrev main_v45 : Ref sig .tc := ⟨.hbm, 71, rfl⟩
abbrev main_v46 : Ref sig .tc := ⟨.hbm, 72, rfl⟩
abbrev main_cst_14 : Ref sig .tc := ⟨.hbm, 73, rfl⟩
abbrev main_v47 : Ref sig .tc := ⟨.hbm, 74, rfl⟩
abbrev main_v48 : Ref sig .tc := ⟨.hbm, 75, rfl⟩
abbrev main_cst_15 : Ref sig .tc := ⟨.hbm, 76, rfl⟩
abbrev main_v49 : Ref sig .tc := ⟨.hbm, 77, rfl⟩
abbrev main_cst_16 : Ref sig .tc := ⟨.hbm, 78, rfl⟩
abbrev main_v50 : Ref sig .tc := ⟨.hbm, 79, rfl⟩
abbrev main_cst_17 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_18 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_19 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_20 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_21 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call1_cst : Ref sig .tc := ⟨.hbm, 118, rfl⟩
abbrev main_call1_v0 : Ref sig .tc := ⟨.hbm, 119, rfl⟩
abbrev main_v84 : Ref sig .tc := ⟨.hbm, 120, rfl⟩
abbrev main_cst_22 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_23 : Ref sig .tc := ⟨.hbm, 128, rfl⟩
abbrev main_call2_v0 : Ref sig .tc := ⟨.hbm, 129, rfl⟩
abbrev main_v91 : Ref sig .tc := ⟨.hbm, 130, rfl⟩

abbrev nD : Nat := 1
abbrev τ : Topo := Topo.v7x

variable {F : FTy → Type} [FloatOps F]
-- ==== Dkv.lean ====
abbrev S16384x512 : Shape := ⟨2, ![16384, 512]⟩
abbrev S8x257 : Shape := ⟨2, ![8, 257]⟩
abbrev S16384x8x64 : Shape := ⟨3, ![16384, 8, 64]⟩
abbrev S16384x16384 : Shape := ⟨2, ![16384, 16384]⟩
abbrev S8x16384x16384 : Shape := ⟨3, ![8, 16384, 16384]⟩
abbrev S_ : Shape := ⟨0, ![]⟩
abbrev S16384x16384x1 : Shape := ⟨3, ![16384, 16384, 1]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x8 : Shape := ⟨2, ![16384, 8]⟩
abbrev S16384x2048 : Shape := ⟨2, ![16384, 2048]⟩
abbrev S16384x1536 : Shape := ⟨2, ![16384, 1536]⟩
abbrev S16384x640 : Shape := ⟨2, ![16384, 640]⟩
abbrev S16384x5760 : Shape := ⟨2, ![16384, 5760]⟩
abbrev S256x768 : Shape := ⟨2, ![256, 768]⟩
abbrev S3x256x768 : Shape := ⟨3, ![3, 256, 768]⟩
abbrev S3x1x256x768 : Shape := ⟨4, ![3, 1, 256, 768]⟩
abbrev S256x768x1 : Shape := ⟨3, ![256, 768, 1]⟩
abbrev S8x256x768 : Shape := ⟨3, ![8, 256, 768]⟩
abbrev S1x8x256x768 : Shape := ⟨4, ![1, 8, 256, 768]⟩
abbrev S3x8x256x768 : Shape := ⟨4, ![3, 8, 256, 768]⟩
abbrev S256x512 : Shape := ⟨2, ![256, 512]⟩
abbrev S8x256 : Shape := ⟨2, ![8, 256]⟩
abbrev S256x1024 : Shape := ⟨2, ![256, 1024]⟩
abbrev S768x512 : Shape := ⟨2, ![768, 512]⟩
abbrev S8x768 : Shape := ⟨2, ![8, 768]⟩
abbrev S1x128 : Shape := ⟨2, ![1, 128]⟩
abbrev S256x128 : Shape := ⟨2, ![256, 128]⟩
abbrev S768x128 : Shape := ⟨2, ![768, 128]⟩
abbrev S1x1x256x768 : Shape := ⟨4, ![1, 1, 256, 768]⟩
abbrev S1x768 : Shape := ⟨2, ![1, 768]⟩

abbrev nBuf : Space → Nat
  | .hbm => 148
  | .vmem => 32
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S8x257, .f32⟩
  | 4 => ⟨S16384x512, .f32⟩
  | 5 => ⟨S16384x8x64, .f32⟩
  | 6 => ⟨S16384x8x64, .f32⟩
  | 7 => ⟨S16384x16384, .i32⟩
  | 8 => ⟨S16384x16384, .i32⟩
  | 9 => ⟨S8x16384x16384, .f32⟩
  | 10 => ⟨S_, .f32⟩
  | 11 => ⟨S8x16384x16384, .f32⟩
  | 12 => ⟨S8x16384x16384, .f32⟩
  | 13 => ⟨S16384x16384, .i32⟩
  | 14 => ⟨S_, .i32⟩
  | 15 => ⟨S16384x16384, .i32⟩
  | 16 => ⟨S16384x16384, .i32⟩
  | 17 => ⟨S_, .i32⟩
  | 18 => ⟨S16384x16384, .i32⟩
  | 19 => ⟨S16384x16384, .i32⟩
  | 20 => ⟨S_, .i32⟩
  | 21 => ⟨S16384x16384, .i32⟩
  | 22 => ⟨S16384x16384, .i32⟩
  | 23 => ⟨S_, .i32⟩
  | 24 => ⟨S16384x16384, .i32⟩
  | 25 => ⟨S16384x16384, .i1⟩
  | 26 => ⟨S_, .i32⟩
  | 27 => ⟨S16384x16384, .i32⟩
  | 28 => ⟨S16384x16384, .i32⟩
  | 29 => ⟨S16384x16384, .i32⟩
  | 30 => ⟨S16384x16384x1, .i32⟩
  | 31 => ⟨S8x16384x16384, .f32⟩
  | 32 => ⟨S8x16384x16384, .f32⟩
  | 33 => ⟨S_, .i32⟩
  | 34 => ⟨S16384x16384, .i32⟩
  | 35 => ⟨S16384x16384, .i32⟩
  | 36 => ⟨S_, .i32⟩
  | 37 => ⟨S16384x16384, .i32⟩
  | 38 => ⟨S16384x16384, .i32⟩
  | 39 => ⟨S16384x16384, .i1⟩
  | 40 => ⟨S_, .i32⟩
  | 41 => ⟨S16384x16384, .i32⟩
  | 42 => ⟨S16384x16384, .i32⟩
  | 43 => ⟨S_, .i32⟩
  | 44 => ⟨S16384x16384, .i32⟩
  | 45 => ⟨S16384x16384, .i32⟩
  | 46 => ⟨S_, .i32⟩
  | 47 => ⟨S16384x16384, .i32⟩
  | 48 => ⟨S16384x16384, .i32⟩
  | 49 => ⟨S16384x16384, .i1⟩
  | 50 => ⟨S16384x16384, .i1⟩
  | 51 => ⟨S1x16384x16384, .i1⟩
  | 52 => ⟨S_, .f32⟩
  | 53 => ⟨S_, .f32⟩
  | 54 => ⟨S8x16384x16384, .i1⟩
  | 55 => ⟨S8x16384x16384, .f32⟩
  | 56 => ⟨S8x16384x16384, .f32⟩
  | 57 => ⟨S_, .f32⟩
  | 58 => ⟨S8x16384, .f32⟩
  | 59 => ⟨S8x16384x1, .f32⟩
  | 60 => ⟨S8x16384x16384, .f32⟩
  | 61 => ⟨S8x16384x16384, .f32⟩
  | 62 => ⟨S8x16384x16384, .f32⟩
  | 63 => ⟨S_, .f32⟩
  | 64 => ⟨S8x16384, .f32⟩
  | 65 => ⟨S8x16384x1, .f32⟩
  | 66 => ⟨S8x16384x16384, .f32⟩
  | 67 => ⟨S8x16384x16384, .f32⟩
  | 68 => ⟨S16384x8x64, .f32⟩
  | 69 => ⟨S8x64x16384, .f32⟩
  | 70 => ⟨S16384x8x64, .f32⟩
  | 71 => ⟨S8x16384x1, .f32⟩
  | 72 => ⟨S8x16384x1, .f32⟩
  | 73 => ⟨S8x16384, .f32⟩
  | 74 => ⟨S16384x512, .f32⟩
  | 75 => ⟨S16384x512, .f32⟩
  | 76 => ⟨S16384x8x64, .f32⟩
  | 77 => ⟨S_, .f32⟩
  | 78 => ⟨S16384x8, .f32⟩
  | 79 => ⟨S8x16384, .f32⟩
  | 80 => ⟨S_, .f32⟩
  | 81 => ⟨S16384x2048, .f32⟩
  | 82 => ⟨S_, .f32⟩
  | 83 => ⟨S16384x1536, .f32⟩
  | 84 => ⟨S_, .f32⟩
  | 85 => ⟨S16384x640, .f32⟩
  | 86 => ⟨S16384x5760, .f32⟩
  | 87 => ⟨S256x768, .i32⟩
  | 88 => ⟨S256x768, .i32⟩
  | 89 => ⟨S3x256x768, .i32⟩
  | 90 => ⟨S3x256x768, .i32⟩
  | 91 => ⟨S3x256x768, .i32⟩
  | 92 => ⟨S_, .i32⟩
  | 93 => ⟨S3x256x768, .i32⟩
  | 94 => ⟨S3x256x768, .i32⟩
  | 95 => ⟨S_, .i32⟩
  | 96 => ⟨S3x256x768, .i32⟩
  | 97 => ⟨S3x256x768, .i32⟩
  | 98 => ⟨S3x256x768, .i1⟩
  | 99 => ⟨S_, .i32⟩
  | 100 => ⟨S3x256x768, .i32⟩
  | 101 => ⟨S3x256x768, .i32⟩
  | 102 => ⟨S_, .i32⟩
  | 103 => ⟨S3x256x768, .i32⟩
  | 104 => ⟨S3x256x768, .i32⟩
  | 105 => ⟨S_, .i32⟩
  | 106 => ⟨S3x256x768, .i32⟩
  | 107 => ⟨S3x256x768, .i32⟩
  | 108 => ⟨S3x256x768, .i1⟩
  | 109 => ⟨S3x256x768, .i1⟩
  | 110 => ⟨S_, .i32⟩
  | 111 => ⟨S3x256x768, .i32⟩
  | 112 => ⟨S3x256x768, .i32⟩
  | 113 => ⟨S_, .i32⟩
  | 114 => ⟨S3x256x768, .i32⟩
  | 115 => ⟨S3x256x768, .i32⟩
  | 116 => ⟨S3x256x768, .i1⟩
  | 117 => ⟨S3x256x768, .i1⟩
  | 118 => ⟨S3x1x256x768, .i1⟩
  | 119 => ⟨S256x768, .i32⟩
  | 120 => ⟨S_, .i32⟩
  | 121 => ⟨S256x768, .i32⟩
  | 122 => ⟨S256x768, .i32⟩
  | 123 => ⟨S_, .i32⟩
  | 124 => ⟨S256x768, .i32⟩
  | 125 => ⟨S256x768, .i32⟩
  | 126 => ⟨S_, .i32⟩
  | 127 => ⟨S256x768, .i32⟩
  | _ => ⟨S16384x512, .f32⟩

abbrev hbmTy0_1 (i : Nat) : BufTy := match i % 128 with
  | 0 => ⟨S256x768, .i32⟩
  | 1 => ⟨S_, .i32⟩
  | 2 => ⟨S256x768, .i32⟩
  | 3 => ⟨S256x768, .i1⟩
  | 4 => ⟨S_, .i32⟩
  | 5 => ⟨S256x768, .i32⟩
  | 6 => ⟨S256x768, .i32⟩
  | 7 => ⟨S256x768, .i32⟩
  | 8 => ⟨S256x768x1, .i32⟩
  | 9 => ⟨S8x256x768, .f32⟩
  | 10 => ⟨S1x8x256x768, .f32⟩
  | 11 => ⟨S_, .f32⟩
  | 12 => ⟨S_, .f32⟩
  | 13 => ⟨S3x8x256x768, .i1⟩
  | 14 => ⟨S3x8x256x768, .f32⟩
  | 15 => ⟨S3x8x256x768, .f32⟩
  | 16 => ⟨S3x8x256x768, .f32⟩
  | 17 => ⟨S_, .bf16⟩
  | 18 => ⟨S16384x5760, .bf16⟩
  | 19 => ⟨S16384x5760, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S8x256, .f32⟩
  | .local _ .vmem, ⟨20, _⟩ => ⟨S8x256, .f32⟩
  | .local _ .vmem, ⟨21, _⟩ => ⟨S8x256, .f32⟩
  | .local _ .vmem, ⟨22, _⟩ => ⟨S8x256, .f32⟩
  | .local _ .vmem, ⟨23, _⟩ => ⟨S8x256, .f32⟩
  | .local _ .vmem, ⟨24, _⟩ => ⟨S8x256, .f32⟩
  | .local _ .vmem, ⟨25, _⟩ => ⟨S8x256, .f32⟩
  | .local _ .vmem, ⟨26, _⟩ => ⟨S8x256, .f32⟩
  | .local _ .vmem, ⟨27, _⟩ => ⟨S8x256, .f32⟩
  | .local _ .vmem, ⟨28, _⟩ => ⟨S1x8x256x768, .f32⟩
  | .local _ .vmem, ⟨29, _⟩ => ⟨S1x8x256x768, .f32⟩
  | .local _ .vmem, ⟨30, _⟩ => ⟨S256x1024, .bf16⟩
  | .local _ .vmem, ⟨31, _⟩ => ⟨S256x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_cst_14 : Ref sig .tc := ⟨.hbm, 82, rfl⟩
abbrev main_v58 : Ref sig .tc := ⟨.hbm, 83, rfl⟩
abbrev main_cst_15 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_16 : Ref sig .tc := ⟨.hbm, 92, rfl⟩
abbrev main_v66 : Ref sig .tc := ⟨.hbm, 93, rfl⟩
abbrev main_v67 : Ref sig .tc := ⟨.hbm, 94, rfl⟩
abbrev main_c_17 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_18 : Ref sig .tc := ⟨.hbm, 99, rfl⟩
abbrev main_v71 : Ref sig .tc := ⟨.hbm, 100, rfl⟩
abbrev main_v72 : Ref sig .tc := ⟨.hbm, 101, rfl⟩
abbrev main_c_19 : Ref sig .tc := ⟨.hbm, 102, rfl⟩
abbrev main_v73 : Ref sig .tc := ⟨.hbm, 103, rfl⟩
abbrev main_v74 : Ref sig .tc := ⟨.hbm, 104, rfl⟩
abbrev main_c_20 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_21 : Ref sig .tc := ⟨.hbm, 110, rfl⟩
abbrev main_v79 : Ref sig .tc := ⟨.hbm, 111, rfl⟩
abbrev main_v80 : Ref sig .tc := ⟨.hbm, 112, rfl⟩
abbrev main_c_22 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_23 : Ref sig .tc := ⟨.hbm, 120, rfl⟩
abbrev main_v87 : Ref sig .tc := ⟨.hbm, 121, rfl⟩
abbrev main_v88 : Ref sig .tc := ⟨.hbm, 122, rfl⟩
abbrev main_c_24 : Ref sig .tc := ⟨.hbm, 123, rfl⟩
abbrev main_v89 : Ref sig .tc := ⟨.hbm, 124, rfl⟩
abbrev main_v90 : Ref sig .tc := ⟨.hbm, 125, rfl⟩
abbrev main_c_25 : Ref sig .tc := ⟨.hbm, 126, rfl⟩
abbrev main_v91 : Ref sig .tc := ⟨.hbm, 127, rfl⟩
abbrev main_v92 : Ref sig .tc := ⟨.hbm, 128, rfl⟩
abbrev main_c_26 : Ref sig .tc := ⟨.hbm, 129, rfl⟩
abbrev main_v93 : Ref sig .tc := ⟨.hbm, 130, rfl⟩
abbrev main_v94 : Ref sig .tc := ⟨.hbm, 131, rfl⟩
abbrev main_c_27 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_28 : Ref sig .tc := ⟨.hbm, 139, rfl⟩
abbrev main_call1_v0 : Ref sig .tc := ⟨.hbm, 140, rfl⟩
abbrev main_call1_v1 : Ref sig .tc := ⟨.hbm, 141, rfl⟩
abbrev main_call1_v2 : Ref sig .tc := ⟨.hbm, 142, rfl⟩
abbrev main_call1_v3 : Ref sig .tc := ⟨.hbm, 143, rfl⟩
abbrev main_v101 : Ref sig .tc := ⟨.hbm, 144, rfl⟩
abbrev main_cst_29 : Ref sig .tc := ⟨.hbm, 145, rfl⟩
abbrev main_v102 : Ref sig .tc := ⟨.hbm, 146, rfl⟩
abbrev main_v103 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c63_i32 : BitVec 32 := 63#32
  let v1 : BitVec 32 := Scalar.minsi v0 c63_i32
  let c9_i32 : BitVec 32 := 9#32
  let c0_i32_0 : BitVec 32 := 0#32
  ![v1.toNat, c9_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c9_i32 : BitVec 32 := 9#32
  let c0_i32 : BitVec 32 := 0#32
  ![v1.toNat, c9_i32.toNat]

def cc0_transform_4 (i : grid0.Coords) : Fin 2 → Nat :=
  let arg0 : BitVec 32 := BitVec.ofNat 32 (i 0).val
  let c2_i32 : BitVec 32 := 2#32
  let v0 : BitVec 32 := Scalar.addi arg0 c2_i32
  let c63_i32 : BitVec 32 := 63#32
  let v1 : BitVec 32 := Scalar.minsi v0 c63_i32
  let c9_i32 : BitVec 32 := 9#32
  let c0_i32 : BitVec 32 := 0#32
  ![v1.toNat, c9_i32.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c63_i32 : BitVec 32 := 63#32
  let v1 : BitVec 32 := Scalar.minsi v0 c63_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.addi arg0 c2_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c63_i32 : BitVec 32 := 63#32
  let v1 : BitVec 32 := Scalar.minsi v0 c63_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let c2_i32 : BitVec 32 := 2#32
  let v0 : BitVec 32 := Scalar.addi arg0 c2_i32
  let c63_i32 : BitVec 32 := 63#32
  let v1 : BitVec 32 := Scalar.minsi v0 c63_i32
  let c0_i32 : BitVec 32 := 0#32
  let c0_i32_0 : BitVec 32 := 0#32
  ![c0_i32.toNat, v1.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c63_i32 : BitVec 32 := 63#32
  let v1 : BitVec 32 := Scalar.minsi v0 c63_i32
  let c0_i32_0 : BitVec 32 := 0#32
  let c0_i32_1 : BitVec 32 := 0#32
  ![c0_i32_0.toNat, v1.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let c2_i32 : BitVec 32 := 2#32
  let v0 : BitVec 32 := Scalar.addi arg0 c2_i32
  let c63_i32 : BitVec 32 := 63#32
  let v1 : BitVec 32 := Scalar.minsi v0 c63_i32
  let c0_i32 : BitVec 32 := 0#32
  let c0_i32_0 : BitVec 32 := 0#32
  ![c0_i32.toNat, v1.toNat]

def cc0_transform_14 (i : grid0.Coords) : Fin 4 → Nat :=
  let arg0 : BitVec 32 := BitVec.ofNat 32 (i 0).val
  let c63_i32 : BitVec 32 := 63#32
  let v0 : BitVec 32 := Scalar.subi c63_i32 arg0
  let c2_i32 : BitVec 32 := 2#32
  let v1 : BitVec 32 := Scalar.minsi v0 c2_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_16 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== DkvRefIdeal.lean ====
abbrev S16384x512 : Shape := ⟨2, ![16384, 512]⟩
abbrev S8x257 : Shape := ⟨2, ![8, 257]⟩
abbrev S16384x8x64 : Shape := ⟨3, ![16384, 8, 64]⟩
abbrev S16384x16384 : Shape := ⟨2, ![16384, 16384]⟩
abbrev S8x16384x16384 : Shape := ⟨3, ![8, 16384, 16384]⟩
abbrev S_ : Shape := ⟨0, ![]⟩
abbrev S16384x16384x1 : Shape := ⟨3, ![16384, 16384, 1]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16384x64 : Shape := ⟨3, ![8, 16384, 64]⟩
abbrev S16384x1024 : Shape := ⟨2, ![16384, 1024]⟩
abbrev S16384x5760 : Shape := ⟨2, ![16384, 5760]⟩

abbrev nBuf : Space → Nat
  | .hbm => 135
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S8x257, .f32⟩
  | 4 => ⟨S16384x512, .f32⟩
  | 5 => ⟨S16384x8x64, .f32⟩
  | 6 => ⟨S16384x8x64, .f32⟩
  | 7 => ⟨S16384x16384, .i32⟩
  | 8 => ⟨S16384x16384, .i32⟩
  | 9 => ⟨S8x16384x16384, .f32⟩
  | 10 => ⟨S_, .f32⟩
  | 11 => ⟨S8x16384x16384, .f32⟩
  | 12 => ⟨S8x16384x16384, .f32⟩
  | 13 => ⟨S16384x16384, .i32⟩
  | 14 => ⟨S_, .i32⟩
  | 15 => ⟨S16384x16384, .i32⟩
  | 16 => ⟨S16384x16384, .i32⟩
  | 17 => ⟨S_, .i32⟩
  | 18 => ⟨S16384x16384, .i32⟩
  | 19 => ⟨S16384x16384, .i32⟩
  | 20 => ⟨S_, .i32⟩
  | 21 => ⟨S16384x16384, .i32⟩
  | 22 => ⟨S16384x16384, .i32⟩
  | 23 => ⟨S_, .i32⟩
  | 24 => ⟨S16384x16384, .i32⟩
  | 25 => ⟨S16384x16384, .i1⟩
  | 26 => ⟨S_, .i32⟩
  | 27 => ⟨S16384x16384, .i32⟩
  | 28 => ⟨S16384x16384, .i32⟩
  | 29 => ⟨S16384x16384, .i32⟩
  | 30 => ⟨S16384x16384x1, .i32⟩
  | 31 => ⟨S8x16384x16384, .f32⟩
  | 32 => ⟨S8x16384x16384, .f32⟩
  | 33 => ⟨S_, .i32⟩
  | 34 => ⟨S16384x16384, .i32⟩
  | 35 => ⟨S16384x16384, .i32⟩
  | 36 => ⟨S_, .i32⟩
  | 37 => ⟨S16384x16384, .i32⟩
  | 38 => ⟨S16384x16384, .i32⟩
  | 39 => ⟨S16384x16384, .i1⟩
  | 40 => ⟨S_, .i32⟩
  | 41 => ⟨S16384x16384, .i32⟩
  | 42 => ⟨S16384x16384, .i32⟩
  | 43 => ⟨S_, .i32⟩
  | 44 => ⟨S16384x16384, .i32⟩
  | 45 => ⟨S16384x16384, .i32⟩
  | 46 => ⟨S_, .i32⟩
  | 47 => ⟨S16384x16384, .i32⟩
  | 48 => ⟨S16384x16384, .i32⟩
  | 49 => ⟨S16384x16384, .i1⟩
  | 50 => ⟨S16384x16384, .i1⟩
  | 51 => ⟨S1x16384x16384, .i1⟩
  | 52 => ⟨S_, .f32⟩
  | 53 => ⟨S_, .f32⟩
  | 54 => ⟨S8x16384x16384, .i1⟩
  | 55 => ⟨S8x16384x16384, .f32⟩
  | 56 => ⟨S8x16384x16384, .f32⟩
  | 57 => ⟨S_, .f32⟩
  | 58 => ⟨S8x16384x16384, .f32⟩
  | 59 => ⟨S_, .f32⟩
  | 60 => ⟨S8x16384, .f32⟩
  | 61 => ⟨S8x16384x1, .f32⟩
  | 62 => ⟨S8x16384x16384, .f32⟩
  | 63 => ⟨S8x16384x16384, .i1⟩
  | 64 => ⟨S8x16384x16384, .f32⟩
  | 65 => ⟨S_, .f32⟩
  | 66 => ⟨S8x16384, .f32⟩
  | 67 => ⟨S_, .f32⟩
  | 68 => ⟨S8x16384, .f32⟩
  | 69 => ⟨S8x16384, .f32⟩
  | 70 => ⟨S_, .f32⟩
  | 71 => ⟨S8x16384, .f32⟩
  | 72 => ⟨S8x16384, .i1⟩
  | 73 => ⟨S_, .f32⟩
  | 74 => ⟨S8x16384, .f32⟩
  | 75 => ⟨S8x16384, .i1⟩
  | 76 => ⟨S_, .f32⟩
  | 77 => ⟨S8x16384, .f32⟩
  | 78 => ⟨S_, .f32⟩
  | 79 => ⟨S8x16384, .f32⟩
  | 80 => ⟨S_, .f32⟩
  | 81 => ⟨S8x16384, .f32⟩
  | 82 => ⟨S8x16384, .f32⟩
  | 83 => ⟨S8x16384, .f32⟩
  | 84 => ⟨S8x16384x1, .f32⟩
  | 85 => ⟨S8x16384x16384, .f32⟩
  | 86 => ⟨S8x16384x16384, .f32⟩
  | 87 => ⟨S8x16384x16384, .f32⟩
  | 88 => ⟨S_, .f32⟩
  | 89 => ⟨S8x16384, .f32⟩
  | 90 => ⟨S8x16384x1, .f32⟩
  | 91 => ⟨S8x16384x16384, .f32⟩
  | 92 => ⟨S8x16384x16384, .f32⟩
  | 93 => ⟨S8x16384x1, .f32⟩
  | 94 => ⟨S_, .f32⟩
  | 95 => ⟨S8x16384x1, .f32⟩
  | 96 => ⟨S8x16384x1, .f32⟩
  | 97 => ⟨S16384x8x64, .f32⟩
  | 98 => ⟨S8x64x16384, .f32⟩
  | 99 => ⟨S16384x8x64, .f32⟩
  | 100 => ⟨S16384x512, .f32⟩
  | 101 => ⟨S16384x8x64, .f32⟩
  | 102 => ⟨S8x64x16384, .f32⟩
  | 103 => ⟨S8x16384x16384, .f32⟩
  | 104 => ⟨S8x64x16384, .f32⟩
  | 105 => ⟨S16384x8x64, .f32⟩
  | 106 => ⟨S16384x512, .f32⟩
  | 107 => ⟨S8x16384x16384, .f32⟩
  | 108 => ⟨S8x16384x16384, .f32⟩
  | 109 => ⟨S8x16384x16384, .f32⟩
  | 110 => ⟨S_, .f32⟩
  | 111 => ⟨S8x16384, .f32⟩
  | 112 => ⟨S8x16384x1, .f32⟩
  | 113 => ⟨S8x16384x1, .f32⟩
  | 114 => ⟨S8x16384x16384, .f32⟩
  | 115 => ⟨S8x16384x16384, .f32⟩
  | 116 => ⟨S_, .f32⟩
  | 117 => ⟨S8x16384, .f32⟩
  | 118 => ⟨S8x16384x16384, .f32⟩
  | 119 => ⟨S8x16384x16384, .f32⟩
  | 120 => ⟨S8x16384x16384, .f32⟩
  | 121 => ⟨S_, .f32⟩
  | 122 => ⟨S8x16384x16384, .f32⟩
  | 123 => ⟨S8x16384x16384, .f32⟩
  | 124 => ⟨S_, .f32⟩
  | 125 => ⟨S8x16384x16384, .f32⟩
  | 126 => ⟨S8x16384x16384, .f32⟩
  | 127 => ⟨S8x16384x64, .f32⟩
  | _ => ⟨S16384x512, .f32⟩

abbrev hbmTy0_1 (i : Nat) : BufTy := match i % 128 with
  | 0 => ⟨S16384x8x64, .f32⟩
  | 1 => ⟨S16384x512, .f32⟩
  | 2 => ⟨S16384x1024, .f32⟩
  | 3 => ⟨S16384x1024, .bf16⟩
  | 4 => ⟨S_, .i32⟩
  | 5 => ⟨S_, .bf16⟩
  | 6 => ⟨S16384x5760, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_call0_v0 : Ref sig .tc := ⟨.hbm, 53, rfl⟩
abbrev main_v36_1 : Ref sig .tc := ⟨.hbm, 54, rfl⟩
abbrev main_call0_v2 : Ref sig .tc := ⟨.hbm, 55, rfl⟩
abbrev main_v36_0 : Ref sig .tc := ⟨.hbm, 56, rfl⟩
abbrev main_call0_cst : Ref sig .tc := ⟨.hbm, 57, rfl⟩
abbrev main_v36_2 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_v44 : Ref sig .tc := ⟨.hbm, 69, rfl⟩
abbrev main_cst_13 : Ref sig .tc := ⟨.hbm, 70, rfl⟩
abbrev main_v45 : Ref sig .tc := ⟨.hbm, 71, rfl⟩
abbrev main_v46 : Ref sig .tc := ⟨.hbm, 72, rfl⟩
abbrev main_cst_14 : Ref sig .tc := ⟨.hbm, 73, rfl⟩
abbrev main_v47 : Ref sig .tc := ⟨.hbm, 74, rfl⟩
abbrev main_v48 : Ref sig .tc := ⟨.hbm, 75, rfl⟩
abbrev main_cst_15 : Ref sig .tc := ⟨.hbm, 76, rfl⟩
abbrev main_v49 : Ref sig .tc := ⟨.hbm, 77, rfl⟩
abbrev main_cst_16 : Ref sig .tc := ⟨.hbm, 78, rfl⟩
abbrev main_v50 : Ref sig .tc := ⟨.hbm, 79, rfl⟩
abbrev main_cst_17 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_18 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_19 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_20 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_21 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_call1_cst : Ref sig .tc := ⟨.hbm, 121, rfl⟩
abbrev main_call1_v0 : Ref sig .tc := ⟨.hbm, 122, rfl⟩
abbrev main_v87 : Ref sig .tc := ⟨.hbm, 123, rfl⟩
abbrev main_cst_22 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_23 : Ref sig .tc := ⟨.hbm, 132, rfl⟩
abbrev main_call2_v0 : Ref sig .tc := ⟨.hbm, 133, rfl⟩
abbrev main_v95 : Ref sig .tc := ⟨.hbm, 134, rfl⟩

abbrev nD : Nat := 1
abbrev τ : Topo := Topo.v7x

variable {F : FTy → Type} [FloatOps F]
-- ==== Conv.lean ====
abbrev S16384x1536 : Shape := ⟨2, ![16384, 1536]⟩
abbrev S4x1536 : Shape := ⟨2, ![4, 1536]⟩
abbrev S16384x512 : Shape := ⟨2, ![16384, 512]⟩
abbrev S_ : Shape := ⟨0, ![]⟩
abbrev S16384x3072 : Shape := ⟨2, ![16384, 3072]⟩
abbrev S16384x1152 : Shape := ⟨2, ![16384, 1152]⟩
abbrev S16384x5760 : Shape := ⟨2, ![16384, 5760]⟩
abbrev S1x1536 : Shape := ⟨2, ![1, 1536]⟩
abbrev S3x1536 : Shape := ⟨2, ![3, 1536]⟩
abbrev S16387x1536 : Shape := ⟨2, ![16387, 1536]⟩
abbrev S8x1536 : Shape := ⟨2, ![8, 1536]⟩
abbrev S512x512 : Shape := ⟨2, ![512, 512]⟩
abbrev S512x1536 : Shape := ⟨2, ![512, 1536]⟩
abbrev S8x512 : Shape := ⟨2, ![8, 512]⟩
abbrev S4x512 : Shape := ⟨2, ![4, 512]⟩
abbrev S520x512 : Shape := ⟨2, ![520, 512]⟩
abbrev S520x128 : Shape := ⟨2, ![520, 128]⟩
abbrev S520 : Shape := ⟨1, ![520]⟩
abbrev S520x1 : Shape := ⟨2, ![520, 1]⟩
abbrev S1x512 : Shape := ⟨2, ![1, 512]⟩
abbrev S512 : Shape := ⟨1, ![512]⟩

abbrev nBuf : Space → Nat
  | .hbm => 48
  | .vmem => 26
  | .smem => 0
  | _ => 0

abbrev bufTy : (tb : Table) → Fin (tcTables nBuf tb) → BufTy
  | .hbm, ⟨0, _⟩ => ⟨S16384x1536, .f32⟩
  | .hbm, ⟨1, _⟩ => ⟨S4x1536, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S_, .f32⟩
  | .hbm, ⟨6, _⟩ => ⟨S16384x3072, .f32⟩
  | .hbm, ⟨7, _⟩ => ⟨S_, .f32⟩
  | .hbm, ⟨8, _⟩ => ⟨S16384x1152, .f32⟩
  | .hbm, ⟨9, _⟩ => ⟨S16384x5760, .f32⟩
  | .hbm, ⟨10, _⟩ => ⟨S1x1536, .f32⟩
  | .hbm, ⟨11, _⟩ => ⟨S_, .f32⟩
  | .hbm, ⟨12, _⟩ => ⟨S3x1536, .f32⟩
  | .hbm, ⟨13, _⟩ => ⟨S16387x1536, .f32⟩
  | .hbm, ⟨14, _⟩ => ⟨S16384x1536, .f32⟩
  | .hbm, ⟨15, _⟩ => ⟨S16384x1536, .f32⟩
  | .hbm, ⟨16, _⟩ => ⟨S16384x1536, .f32⟩
  | .hbm, ⟨17, _⟩ => ⟨S_, .f32⟩
  | .hbm, ⟨18, _⟩ => ⟨S16384x1536, .f32⟩
  | .hbm, ⟨19, _⟩ => ⟨S16384x1536, .f32⟩
  | .hbm, ⟨20, _⟩ => ⟨S1x1536, .f32⟩
  | .hbm, ⟨21, _⟩ => ⟨S_, .f32⟩
  | .hbm, ⟨22, _⟩ => ⟨S3x1536, .f32⟩
  | .hbm, ⟨23, _⟩ => ⟨S16387x1536, .f32⟩
  | .hbm, ⟨24, _⟩ => ⟨S16384x1536, .f32⟩
  | .hbm, ⟨25, _⟩ => ⟨S16384x1536, .f32⟩
  | .hbm, ⟨26, _⟩ => ⟨S16384x1536, .f32⟩
  | .hbm, ⟨27, _⟩ => ⟨S16384x1536, .f32⟩
  | .hbm, ⟨28, _⟩ => ⟨S1x1536, .f32⟩
  | .hbm, ⟨29, _⟩ => ⟨S_, .f32⟩
  | .hbm, ⟨30, _⟩ => ⟨S3x1536, .f32⟩
  | .hbm, ⟨31, _⟩ => ⟨S16387x1536, .f32⟩
  | .hbm, ⟨32, _⟩ => ⟨S16384x1536, .f32⟩
  | .hbm, ⟨33, _⟩ => ⟨S16384x1536, .f32⟩
  | .hbm, ⟨34, _⟩ => ⟨S16384x1536, .f32⟩
  | .hbm, ⟨35, _⟩ => ⟨S16384x1536, .f32⟩
  | .hbm, ⟨36, _⟩ => ⟨S1x1536, .f32⟩
  | .hbm, ⟨37, _⟩ => ⟨S_, .f32⟩
  | .hbm, ⟨38, _⟩ => ⟨S3x1536, .f32⟩
  | .hbm, ⟨39, _⟩ => ⟨S16387x1536, .f32⟩
  | .hbm, ⟨40, _⟩ => ⟨S16384x1536, .f32⟩
  | .hbm, ⟨41, _⟩ => ⟨S16384x1536, .f32⟩
  | .hbm, ⟨42, _⟩ => ⟨S16384x1536, .f32⟩
  | .hbm, ⟨43, _⟩ => ⟨S16384x1536, .f32⟩
  | .hbm, ⟨44, _⟩ => ⟨S_, .bf16⟩
  | .hbm, ⟨45, _⟩ => ⟨S16384x5760, .bf16⟩
  | .hbm, ⟨46, _⟩ => ⟨S16384x5760, .bf16⟩
  | .hbm, ⟨47, _⟩ => ⟨S8x1536, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1536, .f32⟩
  | .local _ .vmem, ⟨7, _⟩ => ⟨S512x1536, .f32⟩
  | .local _ .vmem, ⟨8, _⟩ => ⟨S8x1536, .f32⟩
  | .local _ .vmem, ⟨9, _⟩ => ⟨S8x1536, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S4x1536, .f32⟩
  | .local _ .vmem, ⟨23, _⟩ => ⟨S512x1536, .bf16⟩
  | .local _ .vmem, ⟨24, _⟩ => ⟨S512x1536, .bf16⟩
  | .local _ .vmem, ⟨25, _⟩ => ⟨S8x1536, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33_0 : Ref sig .tc := ⟨.hbm, 46, rfl⟩
abbrev main_v33_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ConvRefIdeal.lean ====
abbrev S16384x1536 : Shape := ⟨2, ![16384, 1536]⟩
abbrev S4x1536 : Shape := ⟨2, ![4, 1536]⟩
abbrev S16384x512 : Shape := ⟨2, ![16384, 512]⟩
abbrev S1x1536 : Shape := ⟨2, ![1, 1536]⟩
abbrev S_ : Shape := ⟨0, ![]⟩
abbrev S3x1536 : Shape := ⟨2, ![3, 1536]⟩
abbrev S16387x1536 : Shape := ⟨2, ![16387, 1536]⟩
abbrev S16384x4x128 : Shape := ⟨3, ![16384, 4, 128]⟩
abbrev S16384x4 : Shape := ⟨2, ![16384, 4]⟩
abbrev S16384x4x1 : Shape := ⟨3, ![16384, 4, 1]⟩
abbrev S1536 : Shape := ⟨1, ![1536]⟩
abbrev S16384x5760 : Shape := ⟨2, ![16384, 5760]⟩
abbrev S8x1536 : Shape := ⟨2, ![8, 1536]⟩

abbrev nBuf : Space → Nat
  | .hbm => 200
  | .vmem => 0
  | .smem => 0
  | _ => 0

abbrev hbmTy0_0 (i : Nat) : BufTy := match i % 128 with
  | 0 => ⟨S16384x1536, .f32⟩
  | 1 => ⟨S4x1536, .f32⟩
  | 2 => ⟨S16384x512, .f32⟩
  | 3 => ⟨S16384x512, .f32⟩
  | 4 => ⟨S16384x512, .f32⟩
  | 5 => ⟨S1x1536, .f32⟩
  | 6 => ⟨S_, .f32⟩
  | 7 => ⟨S3x1536, .f32⟩
  | 8 => ⟨S16387x1536, .f32⟩
  | 9 => ⟨S_, .f32⟩
  | 10 => ⟨S3x1536, .f32⟩
  | 11 => ⟨S16384x1536, .f32⟩
  | 12 => ⟨S16384x1536, .f32⟩
  | 13 => ⟨S16384x1536, .f32⟩
  | 14 => ⟨S_, .f32⟩
  | 15 => ⟨S16384x1536, .f32⟩
  | 16 => ⟨S16384x1536, .f32⟩
  | 17 => ⟨S1x1536, .f32⟩
  | 18 => ⟨S_, .f32⟩
  | 19 => ⟨S3x1536, .f32⟩
  | 20 => ⟨S16387x1536, .f32⟩
  | 21 => ⟨S_, .f32⟩
  | 22 => ⟨S3x1536, .f32⟩
  | 23 => ⟨S16384x1536, .f32⟩
  | 24 => ⟨S16384x1536, .f32⟩
  | 25 => ⟨S16384x1536, .f32⟩
  | 26 => ⟨S16384x1536, .f32⟩
  | 27 => ⟨S1x1536, .f32⟩
  | 28 => ⟨S_, .f32⟩
  | 29 => ⟨S3x1536, .f32⟩
  | 30 => ⟨S16387x1536, .f32⟩
  | 31 => ⟨S_, .f32⟩
  | 32 => ⟨S3x1536, .f32⟩
  | 33 => ⟨S16384x1536, .f32⟩
  | 34 => ⟨S16384x1536, .f32⟩
  | 35 => ⟨S16384x1536, .f32⟩
  | 36 => ⟨S16384x1536, .f32⟩
  | 37 => ⟨S1x1536, .f32⟩
  | 38 => ⟨S_, .f32⟩
  | 39 => ⟨S3x1536, .f32⟩
  | 40 => ⟨S16387x1536, .f32⟩
  | 41 => ⟨S_, .f32⟩
  | 42 => ⟨S3x1536, .f32⟩
  | 43 => ⟨S16384x1536, .f32⟩
  | 44 => ⟨S16384x1536, .f32⟩
  | 45 => ⟨S16384x1536, .f32⟩
  | 46 => ⟨S16384x1536, .f32⟩
  | 47 => ⟨S16384x1536, .f32⟩
  | 48 => ⟨S16384x1536, .f32⟩
  | 49 => ⟨S_, .f32⟩
  | 50 => ⟨S16384x1536, .f32⟩
  | 51 => ⟨S16384x1536, .f32⟩
  | 52 => ⟨S_, .f32⟩
  | 53 => ⟨S16384x1536, .f32⟩
  | 54 => ⟨S16384x1536, .f32⟩
  | 55 => ⟨S_, .f32⟩
  | 56 => ⟨S16384x1536, .f32⟩
  | 57 => ⟨S16384x1536, .f32⟩
  | 58 => ⟨S16384x1536, .f32⟩
  | 59 => ⟨S16384x1536, .f32⟩
  | 60 => ⟨S16384x512, .f32⟩
  | 61 => ⟨S16384x4x128, .f32⟩
  | 62 => ⟨S16384x4x128, .f32⟩
  | 63 => ⟨S_, .f32⟩
  | 64 => ⟨S16384x4, .f32⟩
  | 65 => ⟨S16384x4x1, .f32⟩
  | 66 => ⟨S_, .f32⟩
  | 67 => ⟨S16384x4x1, .f32⟩
  | 68 => ⟨S16384x4x1, .f32⟩
  | 69 => ⟨S16384x4x1, .f32⟩
  | 70 => ⟨S16384x4x1, .f32⟩
  | 71 => ⟨S_, .f32⟩
  | 72 => ⟨S16384x4x1, .f32⟩
  | 73 => ⟨S16384x4x1, .f32⟩
  | 74 => ⟨S16384x4x128, .f32⟩
  | 75 => ⟨S16384x4x128, .f32⟩
  | 76 => ⟨S16384x512, .f32⟩
  | 77 => ⟨S16384x512, .f32⟩
  | 78 => ⟨S16384x4x128, .f32⟩
  | 79 => ⟨S16384x4x128, .f32⟩
  | 80 => ⟨S_, .f32⟩
  | 81 => ⟨S16384x4, .f32⟩
  | 82 => ⟨S16384x4x1, .f32⟩
  | 83 => ⟨S_, .f32⟩
  | 84 => ⟨S16384x4x1, .f32⟩
  | 85 => ⟨S16384x4x1, .f32⟩
  | 86 => ⟨S16384x4x1, .f32⟩
  | 87 => ⟨S16384x4x1, .f32⟩
  | 88 => ⟨S_, .f32⟩
  | 89 => ⟨S16384x4x1, .f32⟩
  | 90 => ⟨S16384x4x1, .f32⟩
  | 91 => ⟨S16384x4x128, .f32⟩
  | 92 => ⟨S16384x4x128, .f32⟩
  | 93 => ⟨S16384x512, .f32⟩
  | 94 => ⟨S16384x512, .f32⟩
  | 95 => ⟨S_, .f32⟩
  | 96 => ⟨S16384x1536, .f32⟩
  | 97 => ⟨S16384x4x128, .f32⟩
  | 98 => ⟨S16384x4x128, .f32⟩
  | 99 => ⟨S_, .f32⟩
  | 100 => ⟨S16384x4, .f32⟩
  | 101 => ⟨S16384x4x1, .f32⟩
  | 102 => ⟨S16384x4x128, .f32⟩
  | 103 => ⟨S16384x4x128, .f32⟩
  | 104 => ⟨S16384x4x1, .f32⟩
  | 105 => ⟨S_, .f32⟩
  | 106 => ⟨S16384x4, .f32⟩
  | 107 => ⟨S16384x4x128, .f32⟩
  | 108 => ⟨S16384x4x128, .f32⟩
  | 109 => ⟨S16384x4x128, .f32⟩
  | 110 => ⟨S16384x4x128, .f32⟩
  | 111 => ⟨S16384x4x128, .f32⟩
  | 112 => ⟨S16384x512, .f32⟩
  | 113 => ⟨S_, .f32⟩
  | 114 => ⟨S16384x1536, .f32⟩
  | 115 => ⟨S16384x1536, .f32⟩
  | 116 => ⟨S16384x4x128, .f32⟩
  | 117 => ⟨S16384x4x128, .f32⟩
  | 118 => ⟨S_, .f32⟩
  | 119 => ⟨S16384x4, .f32⟩
  | 120 => ⟨S16384x4x1, .f32⟩
  | 121 => ⟨S16384x4x128, .f32⟩
  | 122 => ⟨S16384x4x128, .f32⟩
  | 123 => ⟨S16384x4x1, .f32⟩
  | 124 => ⟨S_, .f32⟩
  | 125 => ⟨S16384x4, .f32⟩
  | 126 => ⟨S16384x4x128, .f32⟩
  | 127 => ⟨S16384x4x128, .f32⟩
  | _ => ⟨S16384x1536, .f32⟩

abbrev hbmTy0_1 (i : Nat) : BufTy := match i % 128 with
  | 0 => ⟨S16384x4x128, .f32⟩
  | 1 => ⟨S16384x4x128, .f32⟩
  | 2 => ⟨S16384x4x128, .f32⟩
  | 3 => ⟨S16384x512, .f32⟩
  | 4 => ⟨S_, .f32⟩
  | 5 => ⟨S16384x1536, .f32⟩
  | 6 => ⟨S16384x1536, .f32⟩
  | 7 => ⟨S16384x1536, .f32⟩
  | 8 => ⟨S16384x1536, .f32⟩
  | 9 => ⟨S16384x1536, .f32⟩
  | 10 => ⟨S16384x1536, .f32⟩
  | 11 => ⟨S16384x1536, .f32⟩
  | 12 => ⟨S16384x1536, .f32⟩
  | 13 => ⟨S16384x1536, .f32⟩
  | 14 => ⟨S_, .f32⟩
  | 15 => ⟨S1536, .f32⟩
  | 16 => ⟨S1x1536, .f32⟩
  | 17 => ⟨S_, .f32⟩
  | 18 => ⟨S16387x1536, .f32⟩
  | 19 => ⟨S3x1536, .f32⟩
  | 20 => ⟨S16384x1536, .f32⟩
  | 21 => ⟨S_, .f32⟩
  | 22 => ⟨S4x1536, .f32⟩
  | 23 => ⟨S16384x1536, .f32⟩
  | 24 => ⟨S16384x1536, .f32⟩
  | 25 => ⟨S16384x1536, .f32⟩
  | 26 => ⟨S_, .f32⟩
  | 27 => ⟨S1536, .f32⟩
  | 28 => ⟨S1x1536, .f32⟩
  | 29 => ⟨S_, .f32⟩
  | 30 => ⟨S16387x1536, .f32⟩
  | 31 => ⟨S3x1536, .f32⟩
  | 32 => ⟨S16384x1536, .f32⟩
  | 33 => ⟨S16384x1536, .f32⟩
  | 34 => ⟨S_, .f32⟩
  | 35 => ⟨S4x1536, .f32⟩
  | 36 => ⟨S4x1536, .f32⟩
  | 37 => ⟨S16384x1536, .f32⟩
  | 38 => ⟨S16384x1536, .f32⟩
  | 39 => ⟨S16384x1536, .f32⟩
  | 40 => ⟨S_, .f32⟩
  | 41 => ⟨S1536, .f32⟩
  | 42 => ⟨S1x1536, .f32⟩
  | 43 => ⟨S_, .f32⟩
  | 44 => ⟨S16387x1536, .f32⟩
  | 45 => ⟨S3x1536, .f32⟩
  | 46 => ⟨S16384x1536, .f32⟩
  | 47 => ⟨S16384x1536, .f32⟩
  | 48 => ⟨S_, .f32⟩
  | 49 => ⟨S4x1536, .f32⟩
  | 50 => ⟨S4x1536, .f32⟩
  | 51 => ⟨S16384x1536, .f32⟩
  | 52 => ⟨S16384x1536, .f32⟩
  | 53 => ⟨S16384x1536, .f32⟩
  | 54 => ⟨S_, .f32⟩
  | 55 => ⟨S1536, .f32⟩
  | 56 => ⟨S1x1536, .f32⟩
  | 57 => ⟨S_, .f32⟩
  | 58 => ⟨S16387x1536, .f32⟩
  | 59 => ⟨S3x1536, .f32⟩
  | 60 => ⟨S16384x1536, .f32⟩
  | 61 => ⟨S16384x1536, .f32⟩
  | 62 => ⟨S_, .f32⟩
  | 63 => ⟨S4x1536, .f32⟩
  | 64 => ⟨S4x1536, .f32⟩
  | 65 => ⟨S16384x1536, .bf16⟩
  | 66 => ⟨S_, .i32⟩
  | 67 => ⟨S_, .bf16⟩
  | 68 => ⟨S16384x5760, .bf16⟩
  | 69 => ⟨S_, .i32⟩
  | 70 => ⟨S_, .f32⟩
  | 71 => ⟨S8x1536, .f32⟩
  | _ => ⟨S16384x1536, .f32⟩

abbrev hbmTy (i : Nat) : BufTy := match i / 128 with
  | 0 => hbmTy0_0 i
  | 1 => hbmTy0_1 i
  | _ => ⟨S16384x1536, .f32⟩

abbrev bufTy : (tb : Table) → Fin (tcTables nBuf tb) → BufTy
  | .hbm, ⟨i, _⟩ => hbmTy i
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v33_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v33_1 : Ref sig .tc := ⟨.hbm, 58, rfl⟩
abbrev main_v33_0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_17 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_18 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_19 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_20 : Ref sig .tc := ⟨.hbm, 132, rfl⟩
abbrev main_v94 : Ref sig .tc := ⟨.hbm, 133, rfl⟩
abbrev main_v95 : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_21 : Ref sig .tc := ⟨.hbm, 142, rfl⟩
abbrev main_v100 : Ref sig .tc := ⟨.hbm, 143, rfl⟩
abbrev main_v101 : Ref sig .tc := ⟨.hbm, 144, rfl⟩
abbrev main_cst_22 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_23 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_24 : Ref sig .tc := ⟨.hbm, 154, rfl⟩
abbrev main_v109 : Ref sig .tc := ⟨.hbm, 155, rfl⟩
abbrev main_v110 : Ref sig .tc := ⟨.hbm, 156, rfl⟩
abbrev main_cst_25 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_26 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_27 : Ref sig .tc := ⟨.hbm, 168, rfl⟩
abbrev main_v120 : Ref sig .tc := ⟨.hbm, 169, rfl⟩
abbrev main_v121 : Ref sig .tc := ⟨.hbm, 170, rfl⟩
abbrev main_cst_28 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_29 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_30 : Ref sig .tc := ⟨.hbm, 182, rfl⟩
abbrev main_v131 : Ref sig .tc := ⟨.hbm, 183, rfl⟩
abbrev main_v132 : Ref sig .tc := ⟨.hbm, 184, rfl⟩
abbrev main_cst_31 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_32 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_c : Ref sig .tc := ⟨.hbm, 194, rfl⟩
abbrev main_call2_v0 : Ref sig .tc := ⟨.hbm, 195, rfl⟩
abbrev main_v140 : Ref sig .tc := ⟨.hbm, 196, rfl⟩
abbrev main_c_33 : Ref sig .tc := ⟨.hbm, 197, rfl⟩
abbrev main_call3_v0 : Ref sig .tc := ⟨.hbm, 198, rfl⟩
abbrev main_v141 : Ref sig .tc := ⟨.hbm, 199, rfl⟩

abbrev nD : Nat := 1
abbrev τ : Topo := Topo.v7x

variable {F : FTy → Type} [FloatOps F]
-- ==== Rms.lean ====
abbrev S16384x1024 : Shape := ⟨2, ![16384, 1024]⟩
abbrev S1x1024 : Shape := ⟨2, ![1, 1024]⟩
abbrev S1024x5640 : Shape := ⟨2, ![1024, 5640]⟩
abbrev S16384x5640 : Shape := ⟨2, ![16384, 5640]⟩
abbrev S16384x2048 : Shape := ⟨2, ![16384, 2048]⟩
abbrev S16384x1536 : Shape := ⟨2, ![16384, 1536]⟩
abbrev S16384x512 : Shape := ⟨2, ![16384, 512]⟩
abbrev S16384x8 : Shape := ⟨2, ![16384, 8]⟩
abbrev S_ : Shape := ⟨0, ![]⟩
abbrev S16384x120 : Shape := ⟨2, ![16384, 120]⟩
abbrev S16384x5760 : Shape := ⟨2, ![16384, 5760]⟩
abbrev S1024x2048 : Shape := ⟨2, ![1024, 2048]⟩
abbrev S1024x1024 : Shape := ⟨2, ![1024, 1024]⟩
abbrev S1024x1536 : Shape := ⟨2, ![1024, 1536]⟩
abbrev S1024x512 : Shape := ⟨2, ![1024, 512]⟩
abbrev S1024x8 : Shape := ⟨2, ![1024, 8]⟩
abbrev S1024x120 : Shape := ⟨2, ![1024, 120]⟩
abbrev S1024x5760 : Shape := ⟨2, ![1024, 5760]⟩
abbrev S5760x1024 : Shape := ⟨2, ![5760, 1024]⟩
abbrev S8x1024 : Shape := ⟨2, ![8, 1024]⟩
abbrev S1024x1152 : Shape := ⟨2, ![1024, 1152]⟩
abbrev S1152x1024 : Shape := ⟨2, ![1152, 1024]⟩
abbrev S1024 : Shape := ⟨1, ![1024]⟩
abbrev S1024x1 : Shape := ⟨2, ![1024, 1]⟩

abbrev nBuf : Space → Nat
  | .hbm => 29
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5640, .f32⟩
  | .hbm, ⟨3, _⟩ => ⟨S16384x5640, .f32⟩
  | .hbm, ⟨4, _⟩ => ⟨S16384x1024, .f32⟩
  | .hbm, ⟨5, _⟩ => ⟨S16384x5640, .bf16⟩
  | .hbm, ⟨6, _⟩ => ⟨S16384x2048, .bf16⟩
  | .hbm, ⟨7, _⟩ => ⟨S16384x1024, .bf16⟩
  | .hbm, ⟨8, _⟩ => ⟨S16384x1536, .bf16⟩
  | .hbm, ⟨9, _⟩ => ⟨S16384x512, .bf16⟩
  | .hbm, ⟨10, _⟩ => ⟨S16384x512, .bf16⟩
  | .hbm, ⟨11, _⟩ => ⟨S16384x8, .bf16⟩
  | .hbm, ⟨12, _⟩ => ⟨S_, .bf16⟩
  | .hbm, ⟨13, _⟩ => ⟨S16384x120, .bf16⟩
  | .hbm, ⟨14, _⟩ => ⟨S16384x5760, .bf16⟩
  | .hbm, ⟨15, _⟩ => ⟨S1024x5640, .bf16⟩
  | .hbm, ⟨16, _⟩ => ⟨S1024x2048, .bf16⟩
  | .hbm, ⟨17, _⟩ => ⟨S1024x1024, .bf16⟩
  | .hbm, ⟨18, _⟩ => ⟨S1024x1536, .bf16⟩
  | .hbm, ⟨19, _⟩ => ⟨S1024x512, .bf16⟩
  | .hbm, ⟨20, _⟩ => ⟨S1024x512, .bf16⟩
  | .hbm, ⟨21, _⟩ => ⟨S1024x8, .bf16⟩
  | .hbm, ⟨22, _⟩ => ⟨S_, .bf16⟩
  | .hbm, ⟨23, _⟩ => ⟨S1024x120, .bf16⟩
  | .hbm, ⟨24, _⟩ => ⟨S1024x5760, .bf16⟩
  | .hbm, ⟨25, _⟩ => ⟨S5760x1024, .bf16⟩
  | .hbm, ⟨26, _⟩ => ⟨S16384x1024, .f32⟩
  | .hbm, ⟨27, _⟩ => ⟨S16384x1024, .bf16⟩
  | .hbm, ⟨28, _⟩ => ⟨S8x1024, .f32⟩
  | .local _ .vmem, ⟨0, _⟩ => ⟨S1024x1152, .bf16⟩
  | .local _ .vmem, ⟨1, _⟩ => ⟨S1024x1152, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S8x1024, .f32⟩
  | .local _ .vmem, ⟨14, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 5], ![false, false]⟩

def k0_cond3 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_11 : BitVec 32 := 0#32
  let v20 : BitVec 1 := Scalar.cmpi .ne v19 c0_i32_11
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== RmsRefIdeal.lean ====
abbrev S16384x1024 : Shape := ⟨2, ![16384, 1024]⟩
abbrev S1x1024 : Shape := ⟨2, ![1, 1024]⟩
abbrev S1024x5640 : Shape := ⟨2, ![1024, 5640]⟩
abbrev S16384x5640 : Shape := ⟨2, ![16384, 5640]⟩
abbrev S_ : Shape := ⟨0, ![]⟩
abbrev S16384 : Shape := ⟨1, ![16384]⟩
abbrev S16384x1 : Shape := ⟨2, ![16384, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5640, .f32⟩
  | .hbm, ⟨3, _⟩ => ⟨S16384x5640, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x5640, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .bf16⟩
  | .hbm, ⟨51, _⟩ => ⟨S_, .f32⟩
  | .hbm, ⟨52, _⟩ => ⟨S7x1024, .f32⟩
  | .hbm, ⟨53, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Ffn.lean ====
abbrev S16384x1024 : Shape := ⟨2, ![16384, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S2x5632 : Shape := ⟨2, ![2, 5632]⟩
abbrev S16386x5632 : Shape := ⟨2, ![16386, 5632]⟩
abbrev S1024x2816 : Shape := ⟨2, ![1024, 2816]⟩
abbrev S5x5632 : Shape := ⟨2, ![5, 5632]⟩
abbrev S8x5632 : Shape := ⟨2, ![8, 5632]⟩
abbrev S5632x1024 : Shape := ⟨2, ![5632, 1024]⟩
abbrev S8x1024 : Shape := ⟨2, ![8, 1024]⟩
abbrev S128x1024 : Shape := ⟨2, ![128, 1024]⟩
abbrev S128x5632 : Shape := ⟨2, ![128, 5632]⟩
abbrev S128x2816 : Shape := ⟨2, ![128, 2816]⟩
abbrev S5632 : Shape := ⟨1, ![5632]⟩
abbrev S136x5632 : Shape := ⟨2, ![136, 5632]⟩
abbrev S128 : Shape := ⟨1, ![128]⟩
abbrev S128x1 : Shape := ⟨2, ![128, 1]⟩
abbrev S1024 : Shape := ⟨1, ![1024]⟩

abbrev nBuf : Space → Nat
  | .hbm => 64
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S1x5632, .f32⟩
  | .hbm, ⟨5, _⟩ => ⟨S2816x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x5632, .f32⟩
  | .hbm, ⟨23, _⟩ => ⟨S1x5632, .f32⟩
  | .hbm, ⟨24, _⟩ => ⟨S_, .f32⟩
  | .hbm, ⟨25, _⟩ => ⟨S2x5632, .f32⟩
  | .hbm, ⟨26, _⟩ => ⟨S16386x5632, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S1x5632, .f32⟩
  | .hbm, ⟨34, _⟩ => ⟨S_, .f32⟩
  | .hbm, ⟨35, _⟩ => ⟨S2x5632, .f32⟩
  | .hbm, ⟨36, _⟩ => ⟨S16386x5632, .f32⟩
  | .hbm, ⟨37, _⟩ => ⟨S16384x5632, .f32⟩
  | .hbm, ⟨38, _⟩ => ⟨S16384x5632, .f32⟩
  | .hbm, ⟨39, _⟩ => ⟨S16384x5632, .f32⟩
  | .hbm, ⟨40, _⟩ => ⟨S16384x5632, .f32⟩
  | .hbm, ⟨41, _⟩ => ⟨S1x5632, .f32⟩
  | .hbm, ⟨42, _⟩ => ⟨S_, .f32⟩
  | .hbm, ⟨43, _⟩ => ⟨S2x5632, .f32⟩
  | .hbm, ⟨44, _⟩ => ⟨S16386x5632, .f32⟩
  | .hbm, ⟨45, _⟩ => ⟨S16384x5632, .f32⟩
  | .hbm, ⟨46, _⟩ => ⟨S16384x5632, .f32⟩
  | .hbm, ⟨47, _⟩ => ⟨S16384x5632, .f32⟩
  | .hbm, ⟨48, _⟩ => ⟨S16384x5632, .f32⟩
  | .hbm, ⟨49, _⟩ => ⟨S16384x5632, .f32⟩
  | .hbm, ⟨50, _⟩ => ⟨S16384x5632, .f32⟩
  | .hbm, ⟨51, _⟩ => ⟨S16384x1024, .bf16⟩
  | .hbm, ⟨52, _⟩ => ⟨S2816x1024, .bf16⟩
  | .hbm, ⟨53, _⟩ => ⟨S1024x2816, .bf16⟩
  | .hbm, ⟨54, _⟩ => ⟨S_, .f32⟩
  | .hbm, ⟨55, _⟩ => ⟨S5x5632, .f32⟩
  | .hbm, ⟨56, _⟩ => ⟨S8x5632, .f32⟩
  | .hbm, ⟨57, _⟩ => ⟨S1024x5632, .bf16⟩
  | .hbm, ⟨58, _⟩ => ⟨S5632x1024, .bf16⟩
  | .hbm, ⟨59, _⟩ => ⟨S16384x5632, .bf16⟩
  | .hbm, ⟨60, _⟩ => ⟨S8x5632, .f32⟩
  | .hbm, ⟨61, _⟩ => ⟨S16384x1024, .f32⟩
  | .hbm, ⟨62, _⟩ => ⟨S16384x1024, .bf16⟩
  | .hbm, ⟨63, _⟩ => ⟨S8x1024, .f32⟩
  | .local _ .vmem, ⟨0, _⟩ => ⟨S128x1024, .bf16⟩
  | .local _ .vmem, ⟨1, _⟩ => ⟨S128x1024, .bf16⟩
  | .local _ .vmem, ⟨2, _⟩ => ⟨S1024x2816, .bf16⟩
  | .local _ .vmem, ⟨3, _⟩ => ⟨S128x5632, .f32⟩
  | .local _ .vmem, ⟨4, _⟩ => ⟨S128x5632, .f32⟩
  | .local _ .vmem, ⟨5, _⟩ => ⟨S128x5632, .f32⟩
  | .local _ .vmem, ⟨6, _⟩ => ⟨S128x5632, .f32⟩
  | .local _ .vmem, ⟨7, _⟩ => ⟨S8x5632, .f32⟩
  | .local _ .vmem, ⟨8, _⟩ => ⟨S5632x1024, .bf16⟩
  | .local _ .vmem, ⟨9, _⟩ => ⟨S128x1024, .f32⟩
  | .local _ .vmem, ⟨10, _⟩ => ⟨S128x1024, .f32⟩
  | .local _ .vmem, ⟨11, _⟩ => ⟨S1x1024, .f32⟩
  | .local _ .vmem, ⟨12, _⟩ => ⟨S128x1024, .f32⟩
  | .local _ .vmem, ⟨13, _⟩ => ⟨S128x1024, .f32⟩
  | .local _ .vmem, ⟨14, _⟩ => ⟨S128x5632, .bf16⟩
  | .local _ .vmem, ⟨15, _⟩ => ⟨S128x5632, .bf16⟩
  | .local _ .vmem, ⟨16, _⟩ => ⟨S8x5632, .f32⟩
  | .local _ .vmem, ⟨17, _⟩ => ⟨S128x1024, .f32⟩
  | .local _ .vmem, ⟨18, _⟩ => ⟨S128x1024, .f32⟩
  | .local _ .vmem, ⟨19, _⟩ => ⟨S128x1024, .bf16⟩
  | .local _ .vmem, ⟨20, _⟩ => ⟨S128x1024, .bf16⟩
  | .local _ .vmem, ⟨21, _⟩ => ⟨S8x1024, .f32⟩
  | .local _ .vmem, ⟨22, _⟩ => ⟨S8x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44_0 : Ref sig .tc := ⟨.hbm, 59, rfl⟩
abbrev main_v44_1 : Ref sig .tc := ⟨.hbm, 60, rfl⟩
abbrev main_v44_2 : Ref sig .tc := ⟨.hbm, 61, rfl⟩
abbrev main_v44_3 : Ref sig .tc := ⟨.hbm, 62, rfl⟩
abbrev main_v44_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnRefIdeal.lean ====
abbrev S16384x1024 : Shape := ⟨2, ![16384, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S2x5632 : Shape := ⟨2, ![2, 5632]⟩
abbrev S16386x5632 : Shape := ⟨2, ![16386, 5632]⟩
abbrev S16384x2816 : Shape := ⟨2, ![16384, 2816]⟩
abbrev S5632 : Shape := ⟨1, ![5632]⟩
abbrev S1024 : Shape := ⟨1, ![1024]⟩
abbrev S4x5632 : Shape := ⟨2, ![4, 5632]⟩
abbrev S8x5632 : Shape := ⟨2, ![8, 5632]⟩
abbrev S7x1024 : Shape := ⟨2, ![7, 1024]⟩
abbrev S8x1024 : Shape := ⟨2, ![8, 1024]⟩

abbrev nBuf : Space → Nat
  | .hbm => 167
  | .vmem => 0
  | .smem => 0
  | _ => 0

abbrev hbmTy0_0 (i : Nat) : BufTy := match i % 128 with
  | 0 => ⟨S16384x1024, .f32⟩
  | 1 => ⟨S1x1024, .f32⟩
  | 2 => ⟨S1024x5632, .f32⟩
  | 3 => ⟨S3x5632, .f32⟩
  | 4 => ⟨S1x5632, .f32⟩
  | 5 => ⟨S2816x1024, .f32⟩
  | 6 => ⟨S16384x1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1024, .f32⟩
  | 23 => ⟨S16384x1024, .f32⟩
  | 24 => ⟨S16384x1024, .f32⟩
  | 25 => ⟨S16384x1024, .f32⟩
  | 26 => ⟨S16384x5632, .f32⟩
  | 27 => ⟨S1x5632, .f32⟩
  | 28 => ⟨S_, .f32⟩
  | 29 => ⟨S2x5632, .f32⟩
  | 30 => ⟨S16386x5632, .f32⟩
  | 31 => ⟨S_, .f32⟩
  | 32 => ⟨S2x5632, .f32⟩
  | 33 => ⟨S16384x5632, .f32⟩
  | 34 => ⟨S16384x5632, .f32⟩
  | 35 => ⟨S16384x5632, .f32⟩
  | 36 => ⟨S_, .f32⟩
  | 37 => ⟨S16384x5632, .f32⟩
  | 38 => ⟨S16384x5632, .f32⟩
  | 39 => ⟨S1x5632, .f32⟩
  | 40 => ⟨S_, .f32⟩
  | 41 => ⟨S2x5632, .f32⟩
  | 42 => ⟨S16386x5632, .f32⟩
  | 43 => ⟨S_, .f32⟩
  | 44 => ⟨S2x5632, .f32⟩
  | 45 => ⟨S16384x5632, .f32⟩
  | 46 => ⟨S16384x5632, .f32⟩
  | 47 => ⟨S16384x5632, .f32⟩
  | 48 => ⟨S16384x5632, .f32⟩
  | 49 => ⟨S1x5632, .f32⟩
  | 50 => ⟨S_, .f32⟩
  | 51 => ⟨S2x5632, .f32⟩
  | 52 => ⟨S16386x5632, .f32⟩
  | 53 => ⟨S_, .f32⟩
  | 54 => ⟨S2x5632, .f32⟩
  | 55 => ⟨S16384x5632, .f32⟩
  | 56 => ⟨S16384x5632, .f32⟩
  | 57 => ⟨S16384x5632, .f32⟩
  | 58 => ⟨S16384x5632, .f32⟩
  | 59 => ⟨S16384x5632, .f32⟩
  | 60 => ⟨S16384x5632, .f32⟩
  | 61 => ⟨S16384x2816, .f32⟩
  | 62 => ⟨S16384x2816, .f32⟩
  | 63 => ⟨S16384x2816, .f32⟩
  | 64 => ⟨S_, .f32⟩
  | 65 => ⟨S16384x2816, .f32⟩
  | 66 => ⟨S16384x2816, .f32⟩
  | 67 => ⟨S_, .f32⟩
  | 68 => ⟨S16384x2816, .f32⟩
  | 69 => ⟨S16384x2816, .f32⟩
  | 70 => ⟨S_, .f32⟩
  | 71 => ⟨S16384x2816, .f32⟩
  | 72 => ⟨S16384x2816, .f32⟩
  | 73 => ⟨S16384x2816, .f32⟩
  | 74 => ⟨S16384x2816, .f32⟩
  | 75 => ⟨S16384x2816, .f32⟩
  | 76 => ⟨S16384x2816, .f32⟩
  | 77 => ⟨S16384x1024, .f32⟩
  | 78 => ⟨S16384x2816, .f32⟩
  | 79 => ⟨S16384x2816, .f32⟩
  | 80 => ⟨S16384x2816, .f32⟩
  | 81 => ⟨S_, .f32⟩
  | 82 => ⟨S16384x5632, .f32⟩
  | 83 => ⟨S16384x2816, .f32⟩
  | 84 => ⟨S16384x2816, .f32⟩
  | 85 => ⟨S16384x2816, .f32⟩
  | 86 => ⟨S16384x2816, .f32⟩
  | 87 => ⟨S_, .f32⟩
  | 88 => ⟨S16384x5632, .f32⟩
  | 89 => ⟨S16384x5632, .f32⟩
  | 90 => ⟨S_, .f32⟩
  | 91 => ⟨S5632, .f32⟩
  | 92 => ⟨S1x5632, .f32⟩
  | 93 => ⟨S16384x5632, .f32⟩
  | 94 => ⟨S16384x5632, .f32⟩
  | 95 => ⟨S16384x5632, .f32⟩
  | 96 => ⟨S_, .f32⟩
  | 97 => ⟨S5632, .f32⟩
  | 98 => ⟨S1x5632, .f32⟩
  | 99 => ⟨S_, .f32⟩
  | 100 => ⟨S16386x5632, .f32⟩
  | 101 => ⟨S2x5632, .f32⟩
  | 102 => ⟨S16384x5632, .f32⟩
  | 103 => ⟨S_, .f32⟩
  | 104 => ⟨S3x5632, .f32⟩
  | 105 => ⟨S16384x5632, .f32⟩
  | 106 => ⟨S16384x5632, .f32⟩
  | 107 => ⟨S16384x5632, .f32⟩
  | 108 => ⟨S_, .f32⟩
  | 109 => ⟨S5632, .f32⟩
  | 110 => ⟨S1x5632, .f32⟩
  | 111 => ⟨S_, .f32⟩
  | 112 => ⟨S16386x5632, .f32⟩
  | 113 => ⟨S2x5632, .f32⟩
  | 114 => ⟨S16384x5632, .f32⟩
  | 115 => ⟨S16384x5632, .f32⟩
  | 116 => ⟨S_, .f32⟩
  | 117 => ⟨S3x5632, .f32⟩
  | 118 => ⟨S3x5632, .f32⟩
  | 119 => ⟨S16384x5632, .f32⟩
  | 120 => ⟨S16384x5632, .f32⟩
  | 121 => ⟨S16384x5632, .f32⟩
  | 122 => ⟨S_, .f32⟩
  | 123 => ⟨S5632, .f32⟩
  | 124 => ⟨S1x5632, .f32⟩
  | 125 => ⟨S_, .f32⟩
  | 126 => ⟨S16386x5632, .f32⟩
  | 127 => ⟨S2x5632, .f32⟩
  | _ => ⟨S16384x1024, .f32⟩

abbrev hbmTy0_1 (i : Nat) : BufTy := match i % 128 with
  | 0 => ⟨S16384x5632, .f32⟩
  | 1 => ⟨S16384x5632, .f32⟩
  | 2 => ⟨S_, .f32⟩
  | 3 => ⟨S3x5632, .f32⟩
  | 4 => ⟨S3x5632, .f32⟩
  | 5 => ⟨S16384x1024, .f32⟩
  | 6 => ⟨S16384x1024, .f32⟩
  | 7 => ⟨S_, .f32⟩
  | 8 => ⟨S1024, .f32⟩
  | 9 => ⟨S1x1024, .f32⟩
  | 10 => ⟨S16384x1024, .f32⟩
  | 11 => ⟨S16384x1024, .f32⟩
  | 12 => ⟨S16384x1024, .f32⟩
  | 13 => ⟨S_, .f32⟩
  | 14 => ⟨S16384, .f32⟩
  | 15 => ⟨S16384x1, .f32⟩
  | 16 => ⟨S16384x1024, .f32⟩
  | 17 => ⟨S16384x1024, .f32⟩
  | 18 => ⟨S16384x1, .f32⟩
  | 19 => ⟨S_, .f32⟩
  | 20 => ⟨S16384x1, .f32⟩
  | 21 => ⟨S16384x1, .f32⟩
  | 22 => ⟨S_, .f32⟩
  | 23 => ⟨S16384, .f32⟩
  | 24 => ⟨S16384x1024, .f32⟩
  | 25 => ⟨S16384x1024, .f32⟩
  | 26 => ⟨S16384x1024, .f32⟩
  | 27 => ⟨S16384x1024, .f32⟩
  | 28 => ⟨S16384x1024, .f32⟩
  | 29 => ⟨S16384x1024, .f32⟩
  | 30 => ⟨S16384x5632, .bf16⟩
  | 31 => ⟨S4x5632, .f32⟩
  | 32 => ⟨S_, .f32⟩
  | 33 => ⟨S4x5632, .f32⟩
  | 34 => ⟨S8x5632, .f32⟩
  | 35 => ⟨S16384x1024, .bf16⟩
  | 36 => ⟨S_, .f32⟩
  | 37 => ⟨S7x1024, .f32⟩
  | 38 => ⟨S8x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_v44_2 : Ref sig .tc := ⟨.hbm, 69, rfl⟩
abbrev main_call0_cst_1 : Ref sig .tc := ⟨.hbm, 70, rfl⟩
abbrev main_call0_v6 : Ref sig .tc := ⟨.hbm, 71, rfl⟩
abbrev main_call0_v7 : Ref sig .tc := ⟨.hbm, 72, rfl⟩
abbrev main_v44_1 : Ref sig .tc := ⟨.hbm, 73, rfl⟩
abbrev main_v44_0 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v52 : Ref sig .tc := ⟨.hbm, 86, rfl⟩
abbrev main_cst_11 : Ref sig .tc := ⟨.hbm, 87, rfl⟩
abbrev main_v53 : Ref sig .tc := ⟨.hbm, 88, rfl⟩
abbrev main_v54 : Ref sig .tc := ⟨.hbm, 89, rfl⟩
abbrev main_cst_12 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_13 : Ref sig .tc := ⟨.hbm, 96, rfl⟩
abbrev main_v60 : Ref sig .tc := ⟨.hbm, 97, rfl⟩
abbrev main_v61 : Ref sig .tc := ⟨.hbm, 98, rfl⟩
abbrev main_cst_14 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_15 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_16 : Ref sig .tc := ⟨.hbm, 108, rfl⟩
abbrev main_v69 : Ref sig .tc := ⟨.hbm, 109, rfl⟩
abbrev main_v70 : Ref sig .tc := ⟨.hbm, 110, rfl⟩
abbrev main_cst_17 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_18 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_19 : Ref sig .tc := ⟨.hbm, 122, rfl⟩
abbrev main_v80 : Ref sig .tc := ⟨.hbm, 123, rfl⟩
abbrev main_v81 : Ref sig .tc := ⟨.hbm, 124, rfl⟩
abbrev main_cst_20 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_21 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_22 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_23 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_24 : Ref sig .tc := ⟨.hbm, 147, rfl⟩
abbrev main_v100 : Ref sig .tc := ⟨.hbm, 148, rfl⟩
abbrev main_v101 : Ref sig .tc := ⟨.hbm, 149, rfl⟩
abbrev main_cst_25 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_26 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_27 : Ref sig .tc := ⟨.hbm, 164, rfl⟩
abbrev main_v114 : Ref sig .tc := ⟨.hbm, 165, rfl⟩
abbrev main_v115 : Ref sig .tc := ⟨.hbm, 166, rfl⟩

abbrev nD : Nat := 1
abbrev τ : Topo := Topo.v7x

variable {F : FTy → Type} [FloatOps F]
-- ==== Loss.lean ====
abbrev S16384x1024 : Shape := ⟨2, ![16384, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S5x5632 : Shape := ⟨2, ![5, 5632]⟩
abbrev S8x5632 : Shape := ⟨2, ![8, 5632]⟩
abbrev S16384x5632 : Shape := ⟨2, ![16384, 5632]⟩
abbrev S16384x2816 : Shape := ⟨2, ![16384, 2816]⟩
abbrev S8x1024 : Shape := ⟨2, ![8, 1024]⟩
abbrev S128x1024 : Shape := ⟨2, ![128, 1024]⟩
abbrev S128x5632 : Shape := ⟨2, ![128, 5632]⟩
abbrev S128x2816 : Shape := ⟨2, ![128, 2816]⟩
abbrev S136x5632 : Shape := ⟨2, ![136, 5632]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1024 : Shape := ⟨1, ![1024]⟩

abbrev nBuf : Space → Nat
  | .hbm => 35
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S1x5632, .f32⟩
  | .hbm, ⟨5, _⟩ => ⟨S2816x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .bf16⟩
  | .hbm, ⟨24, _⟩ => ⟨S1024x5632, .bf16⟩
  | .hbm, ⟨25, _⟩ => ⟨S_, .f32⟩
  | .hbm, ⟨26, _⟩ => ⟨S5x5632, .f32⟩
  | .hbm, ⟨27, _⟩ => ⟨S8x5632, .f32⟩
  | .hbm, ⟨28, _⟩ => ⟨S2816x1024, .bf16⟩
  | .hbm, ⟨29, _⟩ => ⟨S16384x5632, .f32⟩
  | .hbm, ⟨30, _⟩ => ⟨S16384x5632, .f32⟩
  | .hbm, ⟨31, _⟩ => ⟨S16384x1024, .f32⟩
  | .hbm, ⟨32, _⟩ => ⟨S16384x1024, .bf16⟩
  | .hbm, ⟨33, _⟩ => ⟨S16384x2816, .bf16⟩
  | .hbm, ⟨34, _⟩ => ⟨S8x1024, .f32⟩
  | .local _ .vmem, ⟨0, _⟩ => ⟨S128x1024, .bf16⟩
  | .local _ .vmem, ⟨1, _⟩ => ⟨S128x1024, .bf16⟩
  | .local _ .vmem, ⟨2, _⟩ => ⟨S1024x5632, .bf16⟩
  | .local _ .vmem, ⟨3, _⟩ => ⟨S8x5632, .f32⟩
  | .local _ .vmem, ⟨4, _⟩ => ⟨S1x5632, .f32⟩
  | .local _ .vmem, ⟨5, _⟩ => ⟨S2816x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S1x1024, .f32⟩
  | .local _ .vmem, ⟨11, _⟩ => ⟨S128x5632, .f32⟩
  | .local _ .vmem, ⟨12, _⟩ => ⟨S128x5632, .f32⟩
  | .local _ .vmem, ⟨13, _⟩ => ⟨S128x5632, .f32⟩
  | .local _ .vmem, ⟨14, _⟩ => ⟨S128x5632, .f32⟩
  | .local _ .vmem, ⟨15, _⟩ => ⟨S128x1024, .f32⟩
  | .local _ .vmem, ⟨16, _⟩ => ⟨S128x1024, .f32⟩
  | .local _ .vmem, ⟨17, _⟩ => ⟨S128x1024, .bf16⟩
  | .local _ .vmem, ⟨18, _⟩ => ⟨S128x1024, .bf16⟩
  | .local _ .vmem, ⟨19, _⟩ => ⟨S128x2816, .bf16⟩
  | .local _ .vmem, ⟨20, _⟩ => ⟨S128x2816, .bf16⟩
  | .local _ .vmem, ⟨21, _⟩ => ⟨S8x1024, .f32⟩
  | .local _ .vmem, ⟨22, _⟩ => ⟨S8x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v17_3 : Ref sig .tc := ⟨.hbm, 32, rfl⟩
abbrev main_v17_4 : Ref sig .tc := ⟨.hbm, 33, rfl⟩
abbrev main_v17_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LossRefIdeal.lean ====
abbrev S16384x1024 : Shape := ⟨2, ![16384, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S2x5632 : Shape := ⟨2, ![2, 5632]⟩
abbrev S16386x5632 : Shape := ⟨2, ![16386, 5632]⟩
abbrev S16384x2816 : Shape := ⟨2, ![16384, 2816]⟩
abbrev S1024 : Shape := ⟨1, ![1024]⟩
abbrev S2x1024 : Shape := ⟨2, ![2, 1024]⟩
abbrev S6x1024 : Shape := ⟨2, ![6, 1024]⟩
abbrev S8x1024 : Shape := ⟨2, ![8, 1024]⟩

abbrev nBuf : Space → Nat
  | .hbm => 137
  | .vmem => 0
  | .smem => 0
  | _ => 0

abbrev hbmTy0_0 (i : Nat) : BufTy := match i % 128 with
  | 0 => ⟨S16384x1024, .f32⟩
  | 1 => ⟨S1x1024, .f32⟩
  | 2 => ⟨S1024x5632, .f32⟩
  | 3 => ⟨S3x5632, .f32⟩
  | 4 => ⟨S1x5632, .f32⟩
  | 5 => ⟨S2816x1024, .f32⟩
  | 6 => ⟨S1x1024, .f32⟩
  | 7 => ⟨S16384x1024, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S16384x1024, .f32⟩
  | 22 => ⟨S16384x1024, .f32⟩
  | 23 => ⟨S16384x5632, .f32⟩
  | 24 => ⟨S1x5632, .f32⟩
  | 25 => ⟨S_, .f32⟩
  | 26 => ⟨S2x5632, .f32⟩
  | 27 => ⟨S16386x5632, .f32⟩
  | 28 => ⟨S16384x5632, .f32⟩
  | 29 => ⟨S16384x5632, .f32⟩
  | 30 => ⟨S16384x5632, .f32⟩
  | 31 => ⟨S_, .f32⟩
  | 32 => ⟨S16384x5632, .f32⟩
  | 33 => ⟨S16384x5632, .f32⟩
  | 34 => ⟨S1x5632, .f32⟩
  | 35 => ⟨S_, .f32⟩
  | 36 => ⟨S2x5632, .f32⟩
  | 37 => ⟨S16386x5632, .f32⟩
  | 38 => ⟨S16384x5632, .f32⟩
  | 39 => ⟨S16384x5632, .f32⟩
  | 40 => ⟨S16384x5632, .f32⟩
  | 41 => ⟨S16384x5632, .f32⟩
  | 42 => ⟨S1x5632, .f32⟩
  | 43 => ⟨S_, .f32⟩
  | 44 => ⟨S2x5632, .f32⟩
  | 45 => ⟨S16386x5632, .f32⟩
  | 46 => ⟨S16384x5632, .f32⟩
  | 47 => ⟨S16384x5632, .f32⟩
  | 48 => ⟨S16384x5632, .f32⟩
  | 49 => ⟨S16384x5632, .f32⟩
  | 50 => ⟨S16384x5632, .f32⟩
  | 51 => ⟨S16384x5632, .f32⟩
  | 52 => ⟨S16384x2816, .f32⟩
  | 53 => ⟨S16384x2816, .f32⟩
  | 54 => ⟨S16384x2816, .f32⟩
  | 55 => ⟨S_, .f32⟩
  | 56 => ⟨S16384x2816, .f32⟩
  | 57 => ⟨S16384x2816, .f32⟩
  | 58 => ⟨S_, .f32⟩
  | 59 => ⟨S16384x2816, .f32⟩
  | 60 => ⟨S16384x2816, .f32⟩
  | 61 => ⟨S16384x2816, .f32⟩
  | 62 => ⟨S16384x2816, .f32⟩
  | 63 => ⟨S16384x2816, .f32⟩
  | 64 => ⟨S16384x1024, .f32⟩
  | 65 => ⟨S16384x1024, .f32⟩
  | 66 => ⟨S16384x1024, .f32⟩
  | 67 => ⟨S_, .f32⟩
  | 68 => ⟨S16384, .f32⟩
  | 69 => ⟨S16384x1, .f32⟩
  | 70 => ⟨S_, .f32⟩
  | 71 => ⟨S16384x1, .f32⟩
  | 72 => ⟨S16384x1, .f32⟩
  | 73 => ⟨S_, .f32⟩
  | 74 => ⟨S16384x1, .f32⟩
  | 75 => ⟨S16384x1, .f32⟩
  | 76 => ⟨S16384x1, .f32⟩
  | 77 => ⟨S16384x1, .f32⟩
  | 78 => ⟨S_, .f32⟩
  | 79 => ⟨S16384x1, .f32⟩
  | 80 => ⟨S16384x1, .f32⟩
  | 81 => ⟨S16384x1024, .f32⟩
  | 82 => ⟨S16384x1024, .f32⟩
  | 83 => ⟨S16384x1024, .f32⟩
  | 84 => ⟨S16384x1024, .f32⟩
  | 85 => ⟨S16384x1024, .f32⟩
  | 86 => ⟨S16384x1024, .f32⟩
  | 87 => ⟨S_, .f32⟩
  | 88 => ⟨S16384x1024, .f32⟩
  | 89 => ⟨S16384x1024, .f32⟩
  | 90 => ⟨S_, .f32⟩
  | 91 => ⟨S16384, .f32⟩
  | 92 => ⟨S_, .f32⟩
  | 93 => ⟨S16384, .f32⟩
  | 94 => ⟨S16384, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S16384, .f32⟩
  | 103 => ⟨S_, .f32⟩
  | 104 => ⟨S16384, .f32⟩
  | 105 => ⟨S16384, .f32⟩
  | 106 => ⟨S16384x1024, .f32⟩
  | 107 => ⟨S16384x1024, .f32⟩
  | 108 => ⟨S16384x1024, .f32⟩
  | 109 => ⟨S_, .f32⟩
  | 110 => ⟨S1024, .f32⟩
  | 111 => ⟨S1x1024, .f32⟩
  | 112 => ⟨S16384x1024, .f32⟩
  | 113 => ⟨S16384x1024, .f32⟩
  | 114 => ⟨S16384x1024, .f32⟩
  | 115 => ⟨S_, .f32⟩
  | 116 => ⟨S16384, .f32⟩
  | 117 => ⟨S16384x1, .f32⟩
  | 118 => ⟨S16384x1024, .f32⟩
  | 119 => ⟨S16384x1024, .f32⟩
  | 120 => ⟨S16384x1, .f32⟩
  | 121 => ⟨S_, .f32⟩
  | 122 => ⟨S16384x1, .f32⟩
  | 123 => ⟨S16384x1, .f32⟩
  | 124 => ⟨S_, .f32⟩
  | 125 => ⟨S16384, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S16384x1024, .bf16⟩
  | 4 => ⟨S1x1024, .f32⟩
  | 5 => ⟨S2x1024, .f32⟩
  | 6 => ⟨S_, .f32⟩
  | 7 => ⟨S6x1024, .f32⟩
  | 8 => ⟨S8x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_cst_14 : Ref sig .tc := ⟨.hbm, 97, rfl⟩
abbrev main_v66 : Ref sig .tc := ⟨.hbm, 98, rfl⟩
abbrev main_cst_15 : Ref sig .tc := ⟨.hbm, 99, rfl⟩
abbrev main_cst_16 : Ref sig .tc := ⟨.hbm, 100, rfl⟩
abbrev main_v67 : Ref sig .tc := ⟨.hbm, 101, rfl⟩
abbrev main_v68 : Ref sig .tc := ⟨.hbm, 102, rfl⟩
abbrev main_cst_17 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_19 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_20 : Ref sig .tc := ⟨.hbm, 121, rfl⟩
abbrev main_v84 : Ref sig .tc := ⟨.hbm, 122, rfl⟩
abbrev main_v85 : Ref sig .tc := ⟨.hbm, 123, rfl⟩
abbrev main_cst_21 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]
-- ==== Proof.Sigmoid.lean ====
module

public import Idealize.ShloMosaic.Lib.Pipeline.ValueKit
public import Idealize.ShloMosaic.Lib.Pointwise

/-! # The kernel's sigmoid and the logistic function

  The kernels compute a sigmoid as half of `tanh` of half the argument, plus a half. Over the extended reals that is the
  logistic function, at both infinities too. -/

@[expose] public section

set_option maxRecDepth 16384

noncomputable section

namespace Cert.Sigmoid

open Idealize.ShloMosaic

/-- The logistic function as the host computes it: `1 / (1 + exp (-x))`. -/
def sigmoid (x : EReal) : EReal := Ideal.div 1 (1 + Ideal.exp (-x))

theorem half_word : Ideal.ofBits .f32 0x3F000000#32 = ((1 / 2 : ℝ) : EReal) := by
  simp [Ideal.ofBits, Ideal.ieee, -EReal.coe_mul]; norm_num

/-- The identity over the reals: half of `tanh` of half, plus a half. -/
theorem real_identity (x : ℝ) : 1 / 2 * Real.tanh (1 / 2 * x) + 1 / 2 = 1 / (1 + Real.exp (-x)) := by
  rw [Real.tanh_eq_sinh_div_cosh, Real.sinh_eq, Real.cosh_eq]
  have e : Real.exp (-x) = Real.exp (-(1 / 2 * x)) * Real.exp (-(1 / 2 * x)) := by rw [← Real.exp_add]; congr 1; ring
  have i : Real.exp (1 / 2 * x) * Real.exp (-(1 / 2 * x)) = 1 := by rw [← Real.exp_add]; simp
  have p := Real.exp_pos (1 / 2 * x)
  have q := Real.exp_pos (-(1 / 2 * x))
  rw [e]
  set u := Real.exp (1 / 2 * x)
  set v := Real.exp (-(1 / 2 * x))
  field_simp
  nlinarith [i]

/-- The kernel's sigmoid, half of `tanh` of half the argument plus a half, is the logistic function, at every extended real. -/
theorem half_tanh (x : EReal) :
    Ideal.ofBits .f32 0x3F000000#32 * Ideal.tanh (Ideal.ofBits .f32 0x3F000000#32 * x) + Ideal.ofBits .f32 0x3F000000#32 = sigmoid x := by
  unfold sigmoid
  rw [half_word, ← EReal.coe_one]
  induction x using EReal.rec with
  | bot =>
    rw [EReal.coe_mul_bot_of_pos (by norm_num), Ideal.tanh_bot, EReal.neg_bot, Ideal.exp_top, EReal.coe_add_top, Ideal.div, if_neg (by simp),
      EReal.inv_top, mul_zero, mul_neg, mul_one, ← EReal.coe_neg, ← EReal.coe_add]
    norm_num
  | top =>
    rw [EReal.coe_mul_top_of_pos (by norm_num), Ideal.tanh_top, EReal.neg_top, Ideal.exp_bot, add_zero, Ideal.div_coe one_ne_zero, mul_one, ← EReal.coe_mul,
      ← EReal.coe_add]
    norm_num
  | coe r =>
    have h : (1 + Real.exp (-r) : ℝ) ≠ 0 := by have := Real.exp_pos (-r); positivity
    rw [← EReal.coe_mul, Ideal.tanh_coe, ← EReal.coe_mul, ← EReal.coe_add, ← EReal.coe_neg, Ideal.exp_coe, ← EReal.coe_add,
      Ideal.div_coe h, ← EReal.coe_mul, real_identity, one_mul]

end Cert.Sigmoid
-- ==== Proof.MergeRef.lean ====
module

public import proofs.«01_k».proof.Proof.Sigmoid
public import proofs.«01_k».proof.Proof.Gen.MergeRefIdeal.Read
public import Idealize.ShloMosaic.Lib.Pipeline.ValueKit
public import Idealize.ShloMosaic.Lib.Pointwise

/-! # What the reference computes: the six gradients of the gated merge, entry by entry

  `dmix` is the cotangent carried back through `wo`, `branch` a branch's product with its weight, `gate` the logistic
  of a gate column. Every result of the reference is a sum of products of these three. -/

@[expose] public section

set_option maxRecDepth 16384

noncomputable section

namespace Cert.MergeRefIdeal.Point

open Cert.MergeRefIdeal Cert.MergeRefIdeal.Read Cert.Sigmoid Idealize.ShloMosaic Idealize.ShloMosaic.TcCoe Idealize.SL.Sem

variable (dx : (⟨S16384x1024, .f32⟩ : BufTy).Contents (Elt Ideal)) (oa ob : (⟨S16384x512, .f32⟩ : BufTy).Contents (Elt Ideal))
  (p : (⟨S16384x5640, .f32⟩ : BufTy).Contents (Elt Ideal)) (wa wb : (⟨S512x1024, .f32⟩ : BufTy).Contents (Elt Ideal))
  (wo : (⟨S1024x1024, .f32⟩ : BufTy).Contents (Elt Ideal))

/-- The cotangent of the mix: `dx · woᵀ`. -/
def dmix (r : Fin 16384) (d : Fin 1024) : EReal := ∑ k : Fin 1024, dx (ix2 r k) * wo (ix2 d k)

/-- One branch before its gate: `oa · wa`. -/
def branch (r : Fin 16384) (d : Fin 1024) : EReal := ∑ k : Fin 512, oa (ix2 r k) * wa (ix2 k d)

/-- The first branch's gate, columns 3592 to 4615 of the projection. -/
def gateA (r : Fin 16384) (d : Fin 1024) : EReal := sigmoid (p (ix2 r ⟨3592 + d.val, by have := d.isLt; omega⟩))

/-- The second branch's gate, columns 4616 to 5639 of the projection. -/
def gateB (r : Fin 16384) (d : Fin 1024) : EReal := sigmoid (p (ix2 r ⟨4616 + d.val, by have := d.isLt; omega⟩))

theorem gate_a (r : Fin 16384) (d : Fin 1024) : val_main_v8 p (ix2 r d) = gateA p r d := by
  unfold val_main_v8
  pointwise [val_main_v7, val_main_v6, val_main_v5, val_main_v4, val_main_v3, val_main_cst, val_main_cst_0, val_main_v1, val_main_v0]
  rfl

theorem gate_b (r : Fin 16384) (d : Fin 1024) : val_main_v19 p (ix2 r d) = gateB p r d := by
  unfold val_main_v19
  pointwise [val_main_v18, val_main_v17, val_main_v16, val_main_v15, val_main_v14, val_main_cst_2, val_main_cst_3, val_main_v2, val_main_v0]
  unfold gateB sigmoid
  congr 6
  exact Fin.ext (show 3592 + (1024 + d.val) = 4616 + d.val by omega)

theorem dmix_eq (r : Fin 16384) (d : Fin 1024) : val_main_v29 dx wo (ix2 r d) = dmix dx wo r d := by
  unfold val_main_v29 dmix
  pointwise

theorem branch_a (r : Fin 16384) (d : Fin 1024) : val_main_v12 oa wa (ix2 r d) = branch oa wa r d := by
  unfold val_main_v12 branch
  pointwise

theorem branch_b (r : Fin 16384) (d : Fin 1024) : val_main_v23 ob wb (ix2 r d) = branch ob wb r d := by
  unfold val_main_v23 branch
  pointwise

/-- The gradient of the first branch's operand. -/
theorem d_oa (r : Fin 16384) (k : Fin 512) :
    val_main_v40 dx p wa wo (ix2 r k) = ∑ d : Fin 1024, dmix dx wo r d * gateA p r d * wa (ix2 k d) := by
  unfold val_main_v40
  pointwise [val_main_v36, gate_a, dmix_eq]
  exact Finset.sum_congr rfl fun d _ => by rw [mul_comm (gateA p r d)]

/-- The gradient of the second branch's operand. -/
theorem d_ob (r : Fin 16384) (k : Fin 512) :
    val_main_v34 dx p wb wo (ix2 r k) = ∑ d : Fin 1024, dmix dx wo r d * gateB p r d * wb (ix2 k d) := by
  unfold val_main_v34
  pointwise [val_main_v30, gate_b, dmix_eq]
  exact Finset.sum_congr rfl fun d _ => by rw [mul_comm (gateB p r d)]

/-- The gradient of the first branch's weight. -/
theorem d_wa (k : Fin 512) (d : Fin 1024) :
    val_main_v39 dx oa p wo (ix2 k d) = ∑ r : Fin 16384, oa (ix2 r k) * (dmix dx wo r d * gateA p r d) := by
  unfold val_main_v39
  pointwise [val_main_v38, val_main_v36, gate_a, dmix_eq]
  exact Finset.sum_congr rfl fun r _ => by rw [mul_comm (gateA p r d), mul_comm (oa (ix2 r k))]

/-- The gradient of the second branch's weight. -/
theorem d_wb (k : Fin 512) (d : Fin 1024) :
    val_main_v33 dx ob p wo (ix2 k d) = ∑ r : Fin 16384, ob (ix2 r k) * (dmix dx wo r d * gateB p r d) := by
  unfold val_main_v33
  pointwise [val_main_v32, val_main_v30, gate_b, dmix_eq]
  exact Finset.sum_congr rfl fun r _ => by rw [mul_comm (gateB p r d), mul_comm (ob (ix2 r k))]

/-- The gradient of the output weight. -/
theorem d_wo (k d : Fin 1024) :
    val_main_v28 dx oa ob p wa wb (ix2 k d)
      = ∑ r : Fin 16384, (gateA p r k * branch oa wa r k + gateB p r k * branch ob wb r k) * dx (ix2 r d) := by
  unfold val_main_v28
  pointwise [val_main_v27, val_main_v25, val_main_v24, val_main_v13, gate_a, gate_b, branch_a, branch_b]
  exact Finset.sum_congr rfl fun r _ => mul_comm _ _

/-- The gate columns' gradient: the first 1024 columns are the first gate's. -/
theorem d_gate_a (r : Fin 16384) (d : Fin 1024) :
    val_main_v46 dx oa ob p wa wb wo (ix2 r ⟨d.val, by have := d.isLt; omega⟩)
      = dmix dx wo r d * branch oa wa r d * (gateA p r d * (1 - gateA p r d)) := by
  have h : d.val < 2048 := by have := d.isLt; omega
  unfold val_main_v46
  pointwise [val_main_v45, val_main_v44, val_main_v42, val_main_v43, val_main_v41, val_main_v37, val_main_v11, val_main_v10, val_main_v9, val_main_cst_1,
    gate_a, dmix_eq, branch_a, val_main_cst_5, val_main_cst_6, h]
  rw [dif_neg (fun c => c.1), zero_add]

/-- The next 1024 columns are the second gate's. -/
theorem d_gate_b (r : Fin 16384) (d : Fin 1024) :
    val_main_v46 dx oa ob p wa wb wo (ix2 r ⟨1024 + d.val, by have := d.isLt; omega⟩)
      = dmix dx wo r d * branch ob wb r d * (gateB p r d * (1 - gateB p r d)) := by
  have h : 1024 + d.val < 2048 := by have := d.isLt; omega
  unfold val_main_v46
  pointwise [val_main_v45, val_main_v44, val_main_v42, val_main_v43, val_main_v35, val_main_v31, val_main_v22, val_main_v21, val_main_v20, val_main_cst_4,
    gate_b, dmix_eq, branch_b, val_main_cst_5, val_main_cst_6, h]

end Cert.MergeRefIdeal.Point
-- ==== Proof.MergeReads.lean ====
module

public import proofs.«01_k».proof.Proof.Sigmoid
public import proofs.«01_k».proof.Proof.MergeRef
public import proofs.«01_k».proof.Proof.Gen.MergeIdeal.Value
public import Idealize.ShloMosaic.Lib.Pipeline.ValueKit
public import Idealize.ShloMosaic.Lib.Pointwise

/-! # The blocks the merge's backward kernel reads

  Grid point `t` reads rows `512 t` to `512 t + 511` of the cotangent, of the two branches and of the packed projection's
  two gate blocks, and every weight whole, three of them transposed. -/

@[expose] public section

set_option maxRecDepth 16384

noncomputable section

namespace Cert.MergeIdeal.Point

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The row of the whole array that is row `r` of grid point `t`'s blocks. -/
def row (t : Fin cfg0.N) (r : Fin 512) : Fin 16384 := ⟨512 * t.val + r.val, by have := r.isLt; have : t.val < 32 := t.isLt; omega⟩

/-- The arguments, at their shapes. -/
abbrev dx (c : Dev nD) : (⟨S16384x1024, .f32⟩ : BufTy).Contents (Elt Ideal) := m ((c : Thread nD τ).loc main_arg0)
abbrev oa (c : Dev nD) : (⟨S16384x512, .f32⟩ : BufTy).Contents (Elt Ideal) := m ((c : Thread nD τ).loc main_arg1)
abbrev ob (c : Dev nD) : (⟨S16384x512, .f32⟩ : BufTy).Contents (Elt Ideal) := m ((c : Thread nD τ).loc main_arg2)
abbrev proj (c : Dev nD) : (⟨S16384x5640, .f32⟩ : BufTy).Contents (Elt Ideal) := m ((c : Thread nD τ).loc main_arg3)
abbrev wa (c : Dev nD) : (⟨S512x1024, .f32⟩ : BufTy).Contents (Elt Ideal) := m ((c : Thread nD τ).loc main_arg4)
abbrev wb (c : Dev nD) : (⟨S512x1024, .f32⟩ : BufTy).Contents (Elt Ideal) := m ((c : Thread nD τ).loc main_arg5)
abbrev wo (c : Dev nD) : (⟨S1024x1024, .f32⟩ : BufTy).Contents (Elt Ideal) := m ((c : Thread nD τ).loc main_arg6)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 1] := (by decide +kernel : ∀ t : Fin grid0.N, win0_4.index t = ![t.val, 1])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])

theorem read0 (c : Dev nD) (t : Fin cfg0.N) (r : Fin 512) (k : Fin 1024) : iblk m c 0 t (ix2 r k) = dx m c (ix2 (row t r) k) := by
  blk_simp [iblk]
  entry_read
  pointwise
  blk_ext [idx0 t, row]

theorem read1 (c : Dev nD) (t : Fin cfg0.N) (r : Fin 512) (k : Fin 512) : iblk m c 1 t (ix2 r k) = oa m c (ix2 (row t r) k) := by
  blk_simp [iblk]
  entry_read
  pointwise
  blk_ext [idx1 t, row]

theorem read2 (c : Dev nD) (t : Fin cfg0.N) (r : Fin 512) (k : Fin 512) : iblk m c 2 t (ix2 r k) = ob m c (ix2 (row t r) k) := by
  blk_simp [iblk]
  entry_read
  pointwise
  blk_ext [idx2 t, row]

theorem read5 (c : Dev nD) (t : Fin cfg0.N) (r : Fin 512) (k : Fin 1024) : iblk m c 5 t (ix2 r k) = wa m c (ix2 r k) := by
  blk_simp [iblk]
  entry_read
  pointwise
  blk_ext [idx5 t, row]

theorem read6 (c : Dev nD) (t : Fin cfg0.N) (r : Fin 512) (k : Fin 1024) : iblk m c 6 t (ix2 r k) = wb m c (ix2 r k) := by
  blk_simp [iblk]
  entry_read
  pointwise
  blk_ext [idx6 t, row]

theorem read7 (c : Dev nD) (t : Fin cfg0.N) (r : Fin 1024) (k : Fin 1024) : iblk m c 7 t (ix2 r k) = wo m c (ix2 k r) := by
  blk_simp [iblk]
  entry_read
  pointwise
  blk_ext [idx7 t, row]

theorem read8 (c : Dev nD) (t : Fin cfg0.N) (r : Fin 1024) (k : Fin 512) : iblk m c 8 t (ix2 r k) = wa m c (ix2 k r) := by
  blk_simp [iblk]
  entry_read
  pointwise
  blk_ext [idx8 t, row]

theorem read9 (c : Dev nD) (t : Fin cfg0.N) (r : Fin 1024) (k : Fin 512) : iblk m c 9 t (ix2 r k) = wb m c (ix2 k r) := by
  blk_simp [iblk]
  entry_read
  pointwise
  blk_ext [idx9 t, row]

/-- The packed projection as the call receives it: the projection's columns in the kernel's order, then padding. -/
theorem packed (c : Dev nD) : V m c main_v13 = concatenate S16384x5760 1
    [⟨S16384x2048, extractStridedSlice S16384x2048 ![0, 3592] (proj m c) slices_S16384x5640_S16384x2048_0_3592⟩,
    ⟨S16384x1024, extractStridedSlice S16384x1024 ![0, 2568] (proj m c) slices_S16384x5640_S16384x1024_0_2568⟩,
    ⟨S16384x1536, extractStridedSlice S16384x1536 ![0, 0] (proj m c) slices_S16384x5640_S16384x1536_0_0⟩,
    ⟨S16384x512, extractStridedSlice S16384x512 ![0, 2056] (proj m c) slices_S16384x5640_S16384x512_0_2056⟩,
    ⟨S16384x512, extractStridedSlice S16384x512 ![0, 1536] (proj m c) slices_S16384x5640_S16384x512_0_1536⟩,
    ⟨S16384x8, extractStridedSlice S16384x8 ![0, 2048] (proj m c) slices_S16384x5640_S16384x8_0_2048⟩,
    ⟨S16384x120, broadcastInDim S16384x120 ![] bcast_S_S16384x120 (constant (F := Ideal) S_ .f32 0x00000000#32)⟩]
    concatenates_S16384x2048_S16384x1024_S16384x1536_S16384x512_S16384x512_S16384x8_S16384x120_S16384x5760_d1 := by
  rfl

/-- The packed projection's first 2048 columns are the gates'. -/
theorem packed_gates (c : Dev nD) (r : Fin 16384) (d : Fin 5760) (h : d.val < 2048) :
    V m c main_v13 (ix2 r d) = proj m c (ix2 r ⟨3592 + d.val, by omega⟩) := by
  rw [packed]
  refine (concatenate_apply_piece 1 _ _ (ix2 r d) 0 (by simp) S16384x2048 _ rfl rfl 0 rfl (ix2 r ⟨d.val, h⟩) ?_ (by simp)).trans ?_
  · intro b hb
    fin_cases b
    · rfl
    · exact absurd rfl hb
  · pointwise

theorem read3 (c : Dev nD) (t : Fin cfg0.N) (r : Fin 512) (k : Fin 1024) :
    X0_3 m c t (ix2 r k) = proj m c (ix2 (row t r) ⟨3592 + k.val, by have := k.isLt; omega⟩) := by
  unfold X0_3 Pipeline.Window.fill
  rw [dif_pos (moved0_3 t _)]
  refine Eq.trans (b := V m c main_v13 (ix2 (row t r) ⟨0 + k.val, by have := k.isLt; omega⟩)) ?_ ?_
  · blk_simp [iblk]
    blk_ext [idx3 t, row]
  · rw [packed_gates m c _ _ (by have := k.isLt; show 0 + k.val < 2048; omega)]
    exact congrArg (fun i => proj m c (ix2 (row t r) i)) (Fin.ext (show 3592 + (0 + k.val) = 3592 + k.val by omega))

theorem read4 (c : Dev nD) (t : Fin cfg0.N) (r : Fin 512) (k : Fin 1024) :
    X0_4 m c t (ix2 r k) = proj m c (ix2 (row t r) ⟨4616 + k.val, by have := k.isLt; omega⟩) := by
  unfold X0_4 Pipeline.Window.fill
  rw [dif_pos (moved0_4 t _)]
  refine Eq.trans (b := V m c main_v13 (ix2 (row t r) ⟨1024 + k.val, by have := k.isLt; omega⟩)) ?_ ?_
  · blk_simp [iblk]
    blk_ext [idx4 t, row]
  · rw [packed_gates m c _ _ (by have := k.isLt; show 1024 + k.val < 2048; omega)]
    exact congrArg (fun i => proj m c (ix2 (row t r) i)) (Fin.ext (show 3592 + (1024 + k.val) = 4616 + k.val by omega))

end Cert.MergeIdeal.Point
-- ==== Proof.MergeBlocks.lean ====
module

public import proofs.«01_k».proof.Proof.MergeReads

/-! # The arrays written row block by row block

  Grid point `t` writes rows `512 t` to `512 t + 511` of the gate columns' gradient and of the two branches' gradients. -/

@[expose] public section

set_option maxRecDepth 16384

noncomputable section

namespace Cert.MergeIdeal.Point

open Cert.MergeIdeal Cert.MergeIdeal.Gen Idealize.ShloMosaic Idealize.ShloMosaic.TcCoe Idealize.SL.Sem
open Idealize.ShloMosaic.Pipeline (Dat)
open Cert.MergeRefIdeal.Point (dmix branch gateA gateB)
open Cert.Sigmoid

variable (m : (ℓ : Loc nD τ sig) → Buf (Elt Ideal) ℓ)

theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])

/-- The first branch's gradient. -/
theorem out11 (c : Dev nD) : (dats m 0 c).arrAt 11 cfg0.N
    = fun i => ∑ d : Fin 1024, dmix (dx m c) (wo m c) (i 0) d * gateA (proj m c) (i 0) d * wa m c (ix2 (i 1) d) := by
  refine (dats m 0 c).arrAt_eq_of_covers 11 _ (by decide +kernel) fun t hf y => ?_
  have e : ((View.whole main_v17_1).slice (win0_11.rect t)).emb y = ix2 (row t (y 0)) (y 1) := by blk_ext [idx11 t, row]
  blk_simp
  rw [after0_11, e]
  by_cases h0 : t.val % 32 = 0
  all_goals
    first | rw [outsAt0_A m c t h0] | rw [outsAt0_B m c t h0]
    frame_out
    unfold_payloads
    pointwise [read0, read3, read7, read8, half_tanh]
    rfl

/-- The second branch's gradient. -/
theorem out12 (c : Dev nD) : (dats m 0 c).arrAt 12 cfg0.N
    = fun i => ∑ d : Fin 1024, dmix (dx m c) (wo m c) (i 0) d * gateB (proj m c) (i 0) d * wb m c (ix2 (i 1) d) := by
  refine (dats m 0 c).arrAt_eq_of_covers 12 _ (by decide +kernel) fun t hf y => ?_
  have e : ((View.whole main_v17_2).slice (win0_12.rect t)).emb y = ix2 (row t (y 0)) (y 1) := by blk_ext [idx12 t, row]
  blk_simp
  rw [after0_12, e]
  by_cases h0 : t.val % 32 = 0
  all_goals
    first | rw [outsAt0_A m c t h0] | rw [outsAt0_B m c t h0]
    frame_out
    unfold_payloads
    pointwise [read0, read4, read7, read9, half_tanh]
    rfl

/-- The gate columns' gradient at row `r`, column `d`: the first 1024 columns are the first gate's, the next 1024 the second's. -/
def gateGrad (c : Dev nD) (r : Fin 16384) (d : Nat) : EReal :=
  if h : d < 1024 then
    dmix (dx m c) (wo m c) r ⟨d, h⟩ * branch (oa m c) (wa m c) r ⟨d, h⟩ * (gateA (proj m c) r ⟨d, h⟩ * (1 - gateA (proj m c) r ⟨d, h⟩))
  else
    dmix (dx m c) (wo m c) r ⟨(d - 1024) % 1024, Nat.mod_lt _ (by decide)⟩ * branch (ob m c) (wb m c) r ⟨(d - 1024) % 1024, Nat.mod_lt _ (by decide)⟩
      * (gateB (proj m c) r ⟨(d - 1024) % 1024, Nat.mod_lt _ (by decide)⟩ * (1 - gateB (proj m c) r ⟨(d - 1024) % 1024, Nat.mod_lt _ (by decide)⟩))

theorem gateGrad_a (c : Dev nD) (r : Fin 16384) (d : Fin 1024) : gateGrad m c r d.val
    = dmix (dx m c) (wo m c) r d * branch (oa m c) (wa m c) r d * (gateA (proj m c) r d * (1 - gateA (proj m c) r d)) := by
  rw [gateGrad, dif_pos d.isLt]

theorem gateGrad_b (c : Dev nD) (r : Fin 16384) (d : Fin 1024) : gateGrad m c r (1024 + d.val)
    = dmix (dx m c) (wo m c) r d * branch (ob m c) (wb m c) r d * (gateB (proj m c) r d * (1 - gateB (proj m c) r d)) := by
  have e : (⟨(1024 + d.val - 1024) % 1024, Nat.mod_lt _ (by decide)⟩ : Fin 1024) = d :=
    Fin.ext (by show (1024 + d.val - 1024) % 1024 = d.val; have := d.isLt; omega)
  rw [gateGrad, dif_neg (by omega), e]

theorem read3_at (c : Dev nD) (t : Fin cfg0.N) (x : S512x1024.Idx) :
    X0_3 m c t x = proj m c (ix2 (row t (x 0)) ⟨3592 + (x 1).val, by have : (x 1).val < 1024 := (x 1).isLt; omega⟩) := by
  rw [← read3 m c t (x 0) (x 1), ix2_eta]

theorem read4_at (c : Dev nD) (t : Fin cfg0.N) (x : S512x1024.Idx) :
    X0_4 m c t x = proj m c (ix2 (row t (x 0)) ⟨4616 + (x 1).val, by have : (x 1).val < 1024 := (x 1).isLt; omega⟩) := by
  rw [← read4 m c t (x 0) (x 1), ix2_eta]

/-- One grid point's block of it. -/
theorem block10 (c : Dev nD) (t : Fin cfg0.N) (y : S512x2048.Idx) : (outsAt0 m c t.val t.isLt).1 y = gateGrad m c (row t (y 0)) (y 1).val := by
  by_cases h0 : t.val % 32 = 0
  all_goals
    first | rw [outsAt0_A m c t h0] | rw [outsAt0_B m c t h0]
    frame_out
    canon_tiles x h
    · rw [show y 0 = x 0 from Fin.ext h0, show (y 1).val = 1024 + (x 1).val from h1, gateGrad_b m c _ (x 1)]
      unfold_payloads
      pointwise [read0, read2, read4, read6, read7, half_tanh]
      exact (congrArg₂ (· * ·) (congrArg _ (congrArg sigmoid (read4_at m c t x))) (congrArg (1 - ·) (congrArg sigmoid (read4_at m c t x)))).trans (mul_assoc _ _ _)
    · rw [show y 0 = x 0 from Fin.ext h0, show (y 1).val = (x 1).val from h1, gateGrad_a m c _ (x 1)]
      unfold_payloads
      pointwise [read0, read1, read3, read5, read7, half_tanh]
      exact (congrArg₂ (· * ·) (congrArg _ (congrArg sigmoid (read3_at m c t x))) (congrArg (1 - ·) (congrArg sigmoid (read3_at m c t x)))).trans (mul_assoc _ _ _)

theorem out10 (c : Dev nD) : (dats m 0 c).arrAt 10 cfg0.N
    = fun i => if (i 1).val / 2048 = 0 then gateGrad m c (i 0) (i 1).val else V m c main_v17_0 i := by
  refine (dats m 0 c).arrAt_eq_of_coversWhere 10 (fun i => gateGrad m c (i 0) (i 1).val) (fun β => β 1 = 0) (by decide +kernel) (fun t hf y => ?_) (fun j => Iff.rfl)
  rw [after0_10]
  refine (block10 m c t ((cfg0.win 10).xinj (cfg0.grid.coords t) y)).trans ?_
  refine congrArg₂ (gateGrad m c) ?_ ?_
  · refine Fin.ext ?_
    blk_simp
    rw [idx10 t]
    show 512 * t.val + (y 0).val = t.val * 512 + (y 0).val
    omega
  · show (y 1).val = win0_10.index t 1 * 2048 + 1 * (y 1).val
    rw [idx10 t]
    show (y 1).val = 0 * 2048 + 1 * (y 1).val
    omega

end Cert.MergeIdeal.Point
-- ==== Proof.MergeAcc.lean ====
module

public import proofs.«01_k».proof.Proof.MergeReads

/-! # The weights' gradients, accumulated over the grid

  Each of the three is set at the first grid point, gains one block's product at every later point and is written out at the
  last. A sum over the points and a block's rows is a sum over all rows. -/

@[expose] public section

set_option maxRecDepth 16384

noncomputable section

namespace Cert.MergeIdeal.Point

open Cert.MergeIdeal Cert.MergeIdeal.Gen Idealize.ShloMosaic Idealize.ShloMosaic.TcCoe Idealize.SL.Sem
open Idealize.ShloMosaic.Pipeline (Dat)
open Cert.MergeRefIdeal.Point (dmix branch gateA gateB)
open Cert.Sigmoid

variable (m : (ℓ : Loc nD τ sig) → Buf (Elt Ideal) ℓ)

/-- The last grid point, which writes the accumulators out. -/
def last : Fin cfg0.N := ⟨31, by decide⟩

theorem sum_rows (f : Fin 16384 → EReal) : ∑ t : Fin cfg0.N, ∑ r : Fin 512, f (row t r) = ∑ r : Fin 16384, f r := by
  refine Fin.sum_mul_add_congr (S := 32) (n := 512) (fun s k hl => congrArg f (Fin.ext ?_))
  show 512 * s.val + k.val = s.val * 512 + k.val
  omega

/-- Row `r`'s part of the output weight's gradient at entry `j`. -/
def part13 (c : Dev nD) (j : S1024x1024.Idx) (r : Fin 16384) : EReal :=
  (gateA (proj m c) r (j 0) * branch (oa m c) (wa m c) r (j 0) + gateB (proj m c) r (j 0) * branch (ob m c) (wb m c) r (j 0)) * dx m c (ix2 r (j 1))

/-- The output weight's gradient. -/
theorem out13 (c : Dev nD) : (dats m 0 c).arrAt 13 cfg0.N = fun j => ∑ r : Fin 16384, part13 m c j r := by
  refine (dats m 0 c).arrAt_eq_of_after_last 13 last (by decide +kernel) _ fun j => ?_
  rw [after0_13]
  refine (Pipeline.eq_sum_fin_of_reset_step_apply_last (fun n h => (outsAt0 m c n h).2.2.2.1) 32 (fun _ => 0)
    (fun t j => ∑ x : Fin 512, part13 m c j (row t x)) (fun t h0 i => ?_) (fun t h0 i => ?_) (le_of_eq N_0) last rfl j).trans ?_
  · rw [outsAt0_A m c t h0, zero_add]
    frame_out
    unfold_payloads
    pointwise [read0, read1, read2, read3, read4, read5, read6, half_tanh]
    rfl
  · rw [outsAt0_B m c t h0]
    frame_out
    unfold_payloads
    pointwise [read0, read1, read2, read3, read4, read5, read6, half_tanh]
    rfl
  · exact (zero_add _).trans (sum_rows (part13 m c j))

/-- Row `r`'s part of the first branch's weight's gradient at entry `j`. -/
def part14 (c : Dev nD) (j : S512x1024.Idx) (r : Fin 16384) : EReal :=
  oa m c (ix2 r (j 0)) * (dmix (dx m c) (wo m c) r (j 1) * gateA (proj m c) r (j 1))

/-- The first branch's weight's gradient. -/
theorem out14 (c : Dev nD) : (dats m 0 c).arrAt 14 cfg0.N = fun j => ∑ r : Fin 16384, part14 m c j r := by
  refine (dats m 0 c).arrAt_eq_of_after_last 14 last (by decide +kernel) _ fun j => ?_
  rw [after0_14]
  refine (Pipeline.eq_sum_fin_of_reset_step_apply_last (fun n h => (outsAt0 m c n h).2.2.2.2.1) 32 (fun _ => 0)
    (fun t j => ∑ x : Fin 512, part14 m c j (row t x)) (fun t h0 i => ?_) (fun t h0 i => ?_) (le_of_eq N_0) last rfl j).trans ?_
  · rw [outsAt0_A m c t h0, zero_add]
    frame_out
    unfold_payloads
    pointwise [read0, read1, read3, read7, half_tanh]
    rfl
  · rw [outsAt0_B m c t h0]
    frame_out
    unfold_payloads
    pointwise [read0, read1, read3, read7, half_tanh]
    rfl
  · exact (zero_add _).trans (sum_rows (part14 m c j))

/-- Row `r`'s part of the second branch's weight's gradient at entry `j`. -/
def part15 (c : Dev nD) (j : S512x1024.Idx) (r : Fin 16384) : EReal :=
  ob m c (ix2 r (j 0)) * (dmix (dx m c) (wo m c) r (j 1) * gateB (proj m c) r (j 1))

/-- The second branch's weight's gradient. -/
theorem out15 (c : Dev nD) : (dats m 0 c).arrAt 15 cfg0.N = fun j => ∑ r : Fin 16384, part15 m c j r := by
  refine (dats m 0 c).arrAt_eq_of_after_last 15 last (by decide +kernel) _ fun j => ?_
  rw [after0_15]
  refine (Pipeline.eq_sum_fin_of_reset_step_apply_last (fun n h => (outsAt0 m c n h).2.2.2.2.2) 32 (fun _ => 0)
    (fun t j => ∑ x : Fin 512, part15 m c j (row t x)) (fun t h0 i => ?_) (fun t h0 i => ?_) (le_of_eq N_0) last rfl j).trans ?_
  · rw [outsAt0_A m c t h0, zero_add]
    frame_out
    unfold_payloads
    pointwise [read0, read2, read4, read7, half_tanh]
    rfl
  · rw [outsAt0_B m c t h0]
    frame_out
    unfold_payloads
    pointwise [read0, read2, read4, read7, half_tanh]
    rfl
  · exact (zero_add _).trans (sum_rows (part15 m c j))

end Cert.MergeIdeal.Point
-- ==== Proof.MergeEq.lean ====
module

public import proofs.«01_k».proof.Proof.MergeBlocks
public import proofs.«01_k».proof.Proof.MergeAcc
public import proofs.«01_k».proof.Defs
public import proofs.«01_k».proof.Proof.Gen.MergeRefIdeal.Run

/-! # Kernel and reference agree: the six gradients of the gated merge

  Each result of the kernel's call against the reference's, entry by entry. Of the first only the 2048 gate columns are
  written by the call, and the mask selects exactly these. -/

@[expose] public section

set_option maxRecDepth 16384

noncomputable section

namespace Cert.MergeIdeal.Point

open Cert.MergeIdeal Cert.MergeIdeal.Gen Idealize.ShloMosaic Idealize.ShloMosaic.TcCoe Idealize.SL.Sem
open Idealize.ShloMosaic.Pipeline (Dat)
open Cert.MergeRefIdeal.Point (dmix branch gateA gateB)
open Cert.Sigmoid
open Cert.MergeRefIdeal.Read (val_main_v46_eq val_main_v40_eq val_main_v34_eq val_main_v28_eq val_main_v39_eq val_main_v33_eq val_main_v46 val_main_v40 val_main_v34 val_main_v28 val_main_v39 val_main_v33)
open Cert.MergeRefIdeal.Point (d_oa d_ob d_wa d_wb d_wo d_gate_a d_gate_b)

variable (m : (ℓ : Loc nD τ sig) → Buf (Elt Ideal) ℓ)

/-- The mask's shape facts. -/
theorem mask_facts : Cert.On_gate_columns.Facts := ⟨by decide, by decide, by decide, by decide⟩

/-- The first mask selects the gate columns and no others. -/
theorem mask_columns (i : S16384x5760.Idx) (x0 x1 x2 x3 x4 x5 x6)
    (h : (@Cert.On_gate_columns.fn mask_facts Ideal _ x0 x1 x2 x3 x4 x5 x6).1 i = 1#1) : (i 1).val < 2048 := by
  by_contra hlt
  have hb : (i 1).val < 5760 := (i 1).isLt
  unfold Cert.On_gate_columns.fn at h
  revert h
  pointwise
  exact fun h => hlt ((WordCmp.cmpi_slt_ofNat_eq_one_iff (by omega) (by omega)).mp h)

theorem gates_eq (c : Dev nD) (i : S16384x5760.Idx) (h : (i 1).val < 2048) :
    (dats m 0 c).arrAt 10 cfg0.N i = val_main_v46 (dx m c) (oa m c) (ob m c) (proj m c) (wa m c) (wb m c) (wo m c) i := by
  rw [out10]
  show (if (i 1).val / 2048 = 0 then _ else _) = _
  rw [if_pos (by omega)]
  obtain ⟨r, d, rfl⟩ : ∃ (r : Fin 16384) (d : Fin 5760), i = ix2 r d := ⟨i 0, i 1, eq_ix2 i⟩
  change d.val < 2048 at h
  show gateGrad m c r d.val = _
  by_cases h1 : d.val < 1024
  · exact (gateGrad_a m c r ⟨d.val, h1⟩).trans (d_gate_a (dx m c) (oa m c) (ob m c) (proj m c) (wa m c) (wb m c) (wo m c) r ⟨d.val, h1⟩).symm
  · have e : 1024 + (d.val - 1024) = d.val := by omega
    have g := (gateGrad_b m c r ⟨d.val - 1024, by omega⟩).trans
      (d_gate_b (dx m c) (oa m c) (ob m c) (proj m c) (wa m c) (wb m c) (wo m c) r ⟨d.val - 1024, by omega⟩).symm
    rw [show gateGrad m c r d.val = gateGrad m c r (1024 + (d.val - 1024)) by rw [e]]
    exact g.trans (congrArg _ (congrArg (ix2 r) (Fin.ext e)))

theorem oa_eq (c : Dev nD) : (dats m 0 c).arrAt 11 cfg0.N = val_main_v40 (dx m c) (proj m c) (wa m c) (wo m c) := by
  rw [out11]; funext i; rw [eq_ix2 i]; exact (d_oa (dx m c) (proj m c) (wa m c) (wo m c) (i 0) (i 1)).symm

theorem ob_eq (c : Dev nD) : (dats m 0 c).arrAt 12 cfg0.N = val_main_v34 (dx m c) (proj m c) (wb m c) (wo m c) := by
  rw [out12]; funext i; rw [eq_ix2 i]; exact (d_ob (dx m c) (proj m c) (wb m c) (wo m c) (i 0) (i 1)).symm

theorem wo_eq (c : Dev nD) : (dats m 0 c).arrAt 13 cfg0.N = val_main_v28 (dx m c) (oa m c) (ob m c) (proj m c) (wa m c) (wb m c) := by
  rw [out13]; funext i; rw [eq_ix2 i]; exact (d_wo (dx m c) (oa m c) (ob m c) (proj m c) (wa m c) (wb m c) (i 0) (i 1)).symm

theorem wa_eq (c : Dev nD) : (dats m 0 c).arrAt 14 cfg0.N = val_main_v39 (dx m c) (oa m c) (proj m c) (wo m c) := by
  rw [out14]; funext i; rw [eq_ix2 i]; exact (d_wa (dx m c) (oa m c) (proj m c) (wo m c) (i 0) (i 1)).symm

theorem wb_eq (c : Dev nD) : (dats m 0 c).arrAt 15 cfg0.N = val_main_v33 (dx m c) (ob m c) (proj m c) (wo m c) := by
  rw [out15]; funext i; rw [eq_ix2 i]; exact (d_wb (dx m c) (ob m c) (proj m c) (wo m c) (i 0) (i 1)).symm

set_option maxHeartbeats 1000000 in
/-- The kernel computes the reference's six gradients on the gate columns, from memories that agree on the arguments. -/
theorem agree : @Cert.algebraic_MergeIdeal_MergeRefIdeal_on_gate_columns Cert.MergeIdeal.Gen.facts Cert.MergeRefIdeal.Gen.facts mask_facts := by
  intro m g m' g' _ hargs
  refine ⟨fun c => (dats m 0 c).arrAt 10 cfg0.N, fun c => (dats m 0 c).arrAt 11 cfg0.N, fun c => (dats m 0 c).arrAt 12 cfg0.N,
    fun c => (dats m 0 c).arrAt 13 cfg0.N, fun c => (dats m 0 c).arrAt 14 cfg0.N, fun c => (dats m 0 c).arrAt 15 cfg0.N, ?_, ?_⟩
  · refine (θ_run _ _ _).mono (fun r h c => ?_) (Cert.MergeIdeal.Value.run_blocks (F := Ideal) m g)
    obtain ⟨h0, h1, h2, h3, h4, h5, hk⟩ := h c
    exact ⟨fun i _ => congrFun h0 i, fun i _ => congrFun h1 i, fun i _ => congrFun h2 i, fun i _ => congrFun h3 i,
      fun i _ => congrFun h4 i, fun i _ => congrFun h5 i, hk⟩
  · refine (θ_run _ _ _).mono (fun r h c => ?_) (Cert.MergeRefIdeal.Value.run (F := Ideal) m' g')
    obtain ⟨h0, h1, h2, h3, h4, h5, hk⟩ := h c
    obtain ⟨a0, a1, a2, a3, a4, a5, a6⟩ := hargs c
    refine ⟨fun i hi => ?_, fun i _ => ?_, fun i _ => ?_, fun i _ => ?_, fun i _ => ?_, fun i _ => ?_, hk⟩
    · refine (congrFun (h0.trans (val_main_v46_eq _ _ _ _ _ _ _)) i).trans ?_
      rw [a0, a1, a2, a3, a4, a5, a6]
      exact (gates_eq m c i (mask_columns i _ _ _ _ _ _ _ hi)).symm
    · refine (congrFun (h1.trans (val_main_v40_eq _ _ _ _)) i).trans ?_
      rw [a0, a3, a4, a6]
      exact (congrFun (oa_eq m c) i).symm
    · refine (congrFun (h2.trans (val_main_v34_eq _ _ _ _)) i).trans ?_
      rw [a0, a3, a5, a6]
      exact (congrFun (ob_eq m c) i).symm
    · refine (congrFun (h3.trans (val_main_v28_eq _ _ _ _ _ _)) i).trans ?_
      rw [a0, a1, a2, a3, a4, a5]
      exact (congrFun (wo_eq m c) i).symm
    · refine (congrFun (h4.trans (val_main_v39_eq _ _ _ _)) i).trans ?_
      rw [a0, a1, a3, a6]
      exact (congrFun (wa_eq m c) i).symm
    · refine (congrFun (h5.trans (val_main_v33_eq _ _ _ _)) i).trans ?_
      rw [a0, a2, a3, a6]
      exact (congrFun (wb_eq m c) i).symm

end Cert.MergeIdeal.Point
-- ==== Proof.AttMath.lean ====
module

public import Idealize.ShloMosaic.PureOps.Ideal
public import Mathlib.Analysis.SpecialFunctions.Log.Basic

/-! # Band attention and its gradients over the extended reals

  Row `i` of head `h` attends to row `j` where `seen i j`. Everything is written for arrays of rows with 512 columns, 64 per head, and for any table
  `b` of biases; the second part says what the same formulas are when all of them hold real numbers. -/

@[expose] public section

noncomputable section

namespace Cert.Attention

open Idealize.ShloMosaic

/-- Row `i` attends to the rows of its own chunk of 64 and of the 8 chunks before it. -/
abbrev seen (i j : Nat) : Prop := j / 64 ≤ i / 64 ∧ i / 64 ≤ j / 64 + 8

/-- Column `d` of head `h`. -/
def lane (h : Fin 8) (d : Fin 64) : Fin 512 := ⟨h.val * 64 + d.val, by have := h.isLt; have := d.isLt; omega⟩

/-- The factor `64 ^ (-1/2)`. -/
abbrev scale : EReal := Ideal.ofBits .f32 1040187392#32

theorem scale_eq : scale = ((1 / 8 : ℝ) : EReal) := by
  simp [scale, Ideal.ofBits, Ideal.ieee]
  show ((8388608 : ℝ) : EReal) * _ = _
  rw [← EReal.coe_mul]
  norm_num

section Formulas

variable (q k v g : Fin 16384 → Fin 512 → EReal) (b : Fin 8 → Fin 16384 → Fin 16384 → EReal)

/-- The score of a query row and a key row, `⊥` where the row isn't attended to. -/
def score (h : Fin 8) (i j : Fin 16384) : EReal :=
  if seen i.val j.val then (∑ d, q i (lane h d) * k j (lane h d)) * scale + b h i j else ⊥

/-- The greatest score of a row. -/
def top (h : Fin 8) (i : Fin 16384) : EReal := Finset.fold max ⊥ (fun j => score q k b h i j) Finset.univ

/-- The exponential of a score less the row's greatest. -/
def weight (h : Fin 8) (i j : Fin 16384) : EReal := Ideal.exp (score q k b h i j - top q k b h i)

/-- The row's sum of weights. -/
def total (h : Fin 8) (i : Fin 16384) : EReal := ∑ j, weight q k b h i j

/-- The logarithm of the row's sum of exponentials. -/
def logSum (h : Fin 8) (i : Fin 16384) : EReal := top q k b h i + Ideal.log (total q k b h i)

/-- The attention's output. -/
def output (h : Fin 8) (i : Fin 16384) (d : Fin 64) : EReal :=
  ∑ j, v j (lane h d) * Ideal.div (weight q k b h i j) (total q k b h i)

/-- A row's sum of cotangent times output. -/
def delta (h : Fin 8) (i : Fin 16384) : EReal := ∑ d, g i (lane h d) * output q k v b h i d

/-- The cotangent of a weight's share. -/
def dshare (h : Fin 8) (i j : Fin 16384) : EReal := ∑ d, g i (lane h d) * v j (lane h d)

/-- The cotangent of a score, as the derivative of the quotient of a weight and its row's sum. -/
def dscore (h : Fin 8) (i j : Fin 16384) : EReal :=
  if seen i.val j.val then
    (Ideal.div (dshare v g h i j) (total q k b h i)
      + -(∑ x, dshare v g h i x * Ideal.div 1 (total q k b h i * total q k b h i) * weight q k b h i x)) * weight q k b h i j
  else 0

/-- The gradient of a query row. -/
def dquery (h : Fin 8) (i : Fin 16384) (d : Fin 64) : EReal := ∑ j, dscore q k v g b h i j * scale * k j (lane h d)

/-- The gradient of a key row. -/
def dkey (h : Fin 8) (j : Fin 16384) (d : Fin 64) : EReal := ∑ i, dscore q k v g b h i j * scale * q i (lane h d)

/-- The gradient of a value row. -/
def dvalue (h : Fin 8) (j : Fin 16384) (d : Fin 64) : EReal :=
  ∑ i, g i (lane h d) * Ideal.div (weight q k b h i j) (total q k b h i)

end Formulas

/-! ## The same over the reals -/

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem div_real {x y : ℝ} (hy : y ≠ 0) : Ideal.div (x : EReal) (y : EReal) = ((x / y : ℝ) : EReal) := by
  rw [Ideal.div_coe hy, ← EReal.coe_mul, mul_one_div]

theorem log_real {x : ℝ} (hx : 0 < x) : Ideal.log (x : EReal) = (Real.log x : EReal) := if_neg (not_le.mpr hx)

theorem exp_real (x : ℝ) : Ideal.exp (x : EReal) = (Real.exp x : EReal) := rfl

section Reals

variable (q k v g : Fin 16384 → Fin 512 → ℝ) (b : Fin 8 → Fin 16384 → Fin 16384 → ℝ)

/-- Real arrays as arrays of extended reals. -/
abbrev up (x : Fin 16384 → Fin 512 → ℝ) : Fin 16384 → Fin 512 → EReal := fun i n => (x i n : EReal)
/-- A real table of biases as one of extended reals. -/
abbrev up3 (x : Fin 8 → Fin 16384 → Fin 16384 → ℝ) : Fin 8 → Fin 16384 → Fin 16384 → EReal := fun h i j => (x h i j : EReal)

/-- The score where the row is attended to. -/
def rscore (h : Fin 8) (i j : Fin 16384) : ℝ := (∑ d, q i (lane h d) * k j (lane h d)) * (1 / 8) + b h i j

theorem score_real (h : Fin 8) (i j : Fin 16384) :
    score (up q) (up k) (up3 b) h i j = if seen i.val j.val then ((rscore q k b h i j : ℝ) : EReal) else ⊥ := by
  unfold score rscore
  simp only [scale_eq, EReal.coe_add, EReal.coe_mul, coe_sum]

theorem fold_max_le {ι : Type} (s : Finset ι) (f : ι → EReal) (c : EReal) (h : ∀ x ∈ s, f x ≤ c) : Finset.fold max ⊥ f s ≤ c :=
  (Finset.fold_max_le c).mpr ⟨bot_le, h⟩

theorem top_ne_bot (h : Fin 8) (i : Fin 16384) : top (up q) (up k) (up3 b) h i ≠ ⊥ := by
  intro e
  have h1 : score (up q) (up k) (up3 b) h i i ≤ top (up q) (up k) (up3 b) h i :=
    ((Finset.fold_max_le _).mp le_rfl).2 i (Finset.mem_univ _)
  rw [e, score_real, if_pos ⟨le_rfl, by omega⟩] at h1
  exact EReal.coe_ne_bot _ (le_bot_iff.mp h1)

theorem top_ne_top (h : Fin 8) (i : Fin 16384) : top (up q) (up k) (up3 b) h i ≠ ⊤ := by
  have : top (up q) (up k) (up3 b) h i < ⊤ := by
    refine Finset.fold_max_lt _ |>.mpr ⟨bot_lt_top, fun j _ => ?_⟩
    rw [score_real]
    split
    · exact EReal.coe_lt_top _
    · exact bot_lt_top
  exact this.ne

/-- The greatest score as a real. -/
def rtop (h : Fin 8) (i : Fin 16384) : ℝ := (top (up q) (up k) (up3 b) h i).toReal

theorem top_real (h : Fin 8) (i : Fin 16384) : top (up q) (up k) (up3 b) h i = ((rtop q k b h i : ℝ) : EReal) :=
  (EReal.coe_toReal (top_ne_top q k b h i) (top_ne_bot q k b h i)).symm

/-- A weight as a real. -/
def rweight (h : Fin 8) (i j : Fin 16384) : ℝ :=
  if seen i.val j.val then Real.exp (rscore q k b h i j - rtop q k b h i) else 0

theorem weight_real (h : Fin 8) (i j : Fin 16384) : weight (up q) (up k) (up3 b) h i j = ((rweight q k b h i j : ℝ) : EReal) := by
  unfold weight rweight
  rw [score_real, top_real]
  split
  · rw [← EReal.coe_sub, exp_real]
  · rw [EReal.bot_sub]; rfl

/-- A row's sum of weights as a real. -/
def rtotal (h : Fin 8) (i : Fin 16384) : ℝ := ∑ j, rweight q k b h i j

theorem total_real (h : Fin 8) (i : Fin 16384) : total (up q) (up k) (up3 b) h i = ((rtotal q k b h i : ℝ) : EReal) := by
  unfold total rtotal
  rw [coe_sum]
  exact Finset.sum_congr rfl fun j _ => weight_real q k b h i j

theorem rtotal_pos (h : Fin 8) (i : Fin 16384) : 0 < rtotal q k b h i := by
  refine Finset.sum_pos' (fun j _ => ?_) ⟨i, Finset.mem_univ _, ?_⟩
  · unfold rweight; split
    · exact (Real.exp_pos _).le
    · exact le_rfl
  · unfold rweight; rw [if_pos ⟨le_rfl, by omega⟩]; exact Real.exp_pos _

theorem logSum_real (h : Fin 8) (i : Fin 16384) :
    logSum (up q) (up k) (up3 b) h i = ((rtop q k b h i + Real.log (rtotal q k b h i) : ℝ) : EReal) := by
  unfold logSum
  rw [top_real, total_real, log_real (rtotal_pos q k b h i), EReal.coe_add]

/-- A weight's share of its row. -/
def share (h : Fin 8) (i j : Fin 16384) : ℝ := rweight q k b h i j / rtotal q k b h i

theorem share_real (h : Fin 8) (i j : Fin 16384) :
    Ideal.div (weight (up q) (up k) (up3 b) h i j) (total (up q) (up k) (up3 b) h i) = ((share q k b h i j : ℝ) : EReal) := by
  rw [weight_real, total_real, div_real (rtotal_pos q k b h i).ne', share]

theorem share_of_not_seen {h : Fin 8} {i j : Fin 16384} (hs : ¬ seen i.val j.val) : share q k b h i j = 0 := by
  rw [share, rweight, if_neg hs, zero_div]

/-- The share from the score and the row's logarithm. -/
theorem exp_sub_logSum (h : Fin 8) (i j : Fin 16384) :
    Ideal.exp ((if seen i.val j.val then ((rscore q k b h i j : ℝ) : EReal) else ⊥) - logSum (up q) (up k) (up3 b) h i)
      = ((share q k b h i j : ℝ) : EReal) := by
  rw [logSum_real]
  split
  · next hs =>
    rw [← EReal.coe_sub, exp_real, share, rweight, if_pos hs, ← sub_sub, Real.exp_sub, Real.exp_log (rtotal_pos q k b h i)]
  · next hs => rw [EReal.bot_sub, share_of_not_seen q k b hs]; rfl

theorem output_real (h : Fin 8) (i : Fin 16384) (d : Fin 64) :
    output (up q) (up k) (up v) (up3 b) h i d = ((∑ j, v j (lane h d) * share q k b h i j : ℝ) : EReal) := by
  unfold output
  rw [coe_sum]
  exact Finset.sum_congr rfl fun j _ => by rw [share_real, EReal.coe_mul]

/-- The cotangent of a share as a real. -/
def rdshare (h : Fin 8) (i j : Fin 16384) : ℝ := ∑ d, g i (lane h d) * v j (lane h d)

theorem dshare_real (h : Fin 8) (i j : Fin 16384) : dshare (up v) (up g) h i j = ((rdshare v g h i j : ℝ) : EReal) := by
  unfold dshare rdshare
  simp only [coe_sum, EReal.coe_mul]

/-- A row's mean of the shares' cotangents. -/
def rdelta (h : Fin 8) (i : Fin 16384) : ℝ := ∑ j, rdshare v g h i j * share q k b h i j

/-- The row's sum of cotangent times output is that mean. -/
theorem delta_real (h : Fin 8) (i : Fin 16384) :
    delta (up q) (up k) (up v) (up g) (up3 b) h i = ((rdelta q k v g b h i : ℝ) : EReal) := by
  unfold delta rdelta rdshare
  simp only [output_real, ← EReal.coe_mul, ← coe_sum]
  refine congrArg _ ?_
  simp only [Finset.mul_sum, Finset.sum_mul]
  rw [Finset.sum_comm]
  exact Finset.sum_congr rfl fun j _ => Finset.sum_congr rfl fun d _ => (mul_assoc _ _ _).symm

/-- The cotangent of a score as a real. -/
def rdscore (h : Fin 8) (i j : Fin 16384) : ℝ := share q k b h i j * (rdshare v g h i j - rdelta q k v g b h i)

theorem rdscore_of_not_seen {h : Fin 8} {i j : Fin 16384} (hs : ¬ seen i.val j.val) : rdscore q k v g b h i j = 0 := by
  rw [rdscore, share_of_not_seen q k b hs, zero_mul]

theorem dscore_real (h : Fin 8) (i j : Fin 16384) :
    dscore (up q) (up k) (up v) (up g) (up3 b) h i j = ((rdscore q k v g b h i j : ℝ) : EReal) := by
  unfold dscore
  split
  · have ht := (rtotal_pos q k b h i).ne'
    rw [show (1 : EReal) = ((1 : ℝ) : EReal) from rfl]
    simp only [dshare_real, total_real, weight_real, ← EReal.coe_mul]
    rw [div_real ht, div_real (mul_ne_zero ht ht)]
    simp only [← EReal.coe_mul, ← coe_sum, ← EReal.coe_neg, ← EReal.coe_add]
    refine congrArg _ ?_
    unfold rdscore rdelta share
    have e : ∑ x, rdshare v g h i x * (1 / (rtotal q k b h i * rtotal q k b h i)) * rweight q k b h i x
        = (∑ x, rdshare v g h i x * (rweight q k b h i x / rtotal q k b h i)) / rtotal q k b h i := by
      rw [Finset.sum_div]
      exact Finset.sum_congr rfl fun x _ => by field_simp
    rw [e]
    field_simp
    ring
  · next hs => rw [rdscore_of_not_seen q k v g b hs]; rfl

theorem dquery_real (h : Fin 8) (i : Fin 16384) (d : Fin 64) : dquery (up q) (up k) (up v) (up g) (up3 b) h i d
    = ((∑ j, rdscore q k v g b h i j * (1 / 8) * k j (lane h d) : ℝ) : EReal) := by
  unfold dquery
  simp only [dscore_real, scale_eq, ← EReal.coe_mul, ← coe_sum]

theorem dkey_real (h : Fin 8) (j : Fin 16384) (d : Fin 64) : dkey (up q) (up k) (up v) (up g) (up3 b) h j d
    = ((∑ i, rdscore q k v g b h i j * (1 / 8) * q i (lane h d) : ℝ) : EReal) := by
  unfold dkey
  simp only [dscore_real, scale_eq, ← EReal.coe_mul, ← coe_sum]

theorem dvalue_real (h : Fin 8) (j : Fin 16384) (d : Fin 64) : dvalue (up q) (up k) (up g) (up3 b) h j d
    = ((∑ i, g i (lane h d) * share q k b h i j : ℝ) : EReal) := by
  unfold dvalue
  simp only [share_real, ← EReal.coe_mul, ← coe_sum]

end Reals

end Cert.Attention

end
-- ==== Proof.AttWords.lean ====
module

public import proofs.«01_k».proof.Proof.AttMath
public import Idealize.ShloMosaic.Lib.WordCmp
public import Idealize.ShloMosaic.Lib.Routing.Words

/-! # The attention's words

  The chunk masks and the table rows, which the programs compute as words of 32 bits. -/

@[expose] public section

noncomputable section

namespace Cert.Attention

open Idealize.ShloMosaic

theorem chunk_word {i : Nat} (hi : i < 16384) : IntOp.divsi ArithUnit.host (BitVec.ofNat 32 i) 64#32 = BitVec.ofNat 32 (i / 64) :=
  Routing.divsi_word _ (by omega) (by omega) (by omega)

theorem pick_of_iff {α : Type} {c : BitVec 1} {p : Prop} [Decidable p] (h : c = 1 ↔ p) (x y : α) :
    Scalar.select c x y = if p then x else y := by
  unfold Scalar.select
  by_cases hp : p
  · rw [if_pos hp, if_pos (h.mpr hp)]
  · rw [if_neg hp, if_neg fun e => hp (h.mp e)]

theorem and_eq_one (x y : BitVec 1) : IntOp.andi x y = 1 ↔ x = 1 ∧ y = 1 := by
  revert x y; decide

theorem sle_eq_one {a b : Nat} (ha : a < 2 ^ 31) (hb : b < 2 ^ 31) :
    IntOp.cmpi .sle (BitVec.ofNat 32 a) (BitVec.ofNat 32 b) = 1 ↔ a ≤ b := WordCmp.cmpi_sle_ofNat_eq_one_iff ha hb

theorem sge_eq_one {a b : Nat} (ha : a < 2 ^ 31) (hb : b < 2 ^ 31) :
    IntOp.cmpi .sge (BitVec.ofNat 32 a) (BitVec.ofNat 32 b) = 1 ↔ b ≤ a := WordCmp.cmpi_sge_ofNat_eq_one_iff ha hb

theorem slt_eq_one {a b : Nat} (ha : a < 2 ^ 31) (hb : b < 2 ^ 31) :
    IntOp.cmpi .slt (BitVec.ofNat 32 a) (BitVec.ofNat 32 b) = 1 ↔ a < b := WordCmp.cmpi_slt_ofNat_eq_one_iff ha hb

theorem chunk_add (i : Nat) : IntOp.addi (BitVec.ofNat 32 i) 8#32 = BitVec.ofNat 32 (i + 8) := (BitVec.ofNat_add i 8).symm

/-- The forward lines' mask. -/
theorem pick_seen {α : Type} {i j : Nat} (hi : i < 16384) (hj : j < 16384) (x y : α) :
    Scalar.select (IntOp.andi
        (IntOp.cmpi .sle (IntOp.divsi ArithUnit.host (BitVec.ofNat 32 j) 64#32) (IntOp.divsi ArithUnit.host (BitVec.ofNat 32 i) 64#32))
        (IntOp.cmpi .sle (IntOp.divsi ArithUnit.host (BitVec.ofNat 32 i) 64#32)
          (IntOp.addi (IntOp.divsi ArithUnit.host (BitVec.ofNat 32 j) 64#32) 8#32))) x y
      = if seen i j then x else y := by
  refine pick_of_iff ?_ x y
  rw [chunk_word hi, chunk_word hj, chunk_add, and_eq_one, sle_eq_one (by omega) (by omega), sle_eq_one (by omega) (by omega)]

/-- The table row of a distance: clipped to 128 either way, 128 added, and a negative number counted from the table's end. -/
def tableRow (w : BitVec 32) : Fin 257 :=
  ⟨min (BitVec.toInt (Scalar.select
      (IntOp.cmpi .slt (IntOp.addi (IntOp.minsi (IntOp.maxsi w 4294967168#32) 128#32) 128#32) 0#32)
      (IntOp.addi (IntOp.addi (IntOp.minsi (IntOp.maxsi w 4294967168#32) 128#32) 128#32) 257#32)
      (IntOp.addi (IntOp.minsi (IntOp.maxsi w 4294967168#32) 128#32) 128#32))).toNat 256, by omega⟩

/-- The distance of two rows as a word. -/
abbrev apart (i j : Nat) : BitVec 32 := IntOp.subi (BitVec.ofNat 32 i) (BitVec.ofNat 32 j)

theorem apart_add (o i j : Nat) : apart (o + i) (o + j) = apart i j := by
  show BitVec.ofNat 32 (o + i) - BitVec.ofNat 32 (o + j) = BitVec.ofNat 32 i - BitVec.ofNat 32 j
  rw [BitVec.ofNat_add, BitVec.ofNat_add]
  generalize BitVec.ofNat 32 o = a
  generalize BitVec.ofNat 32 i = x
  generalize BitVec.ofNat 32 j = y
  ring

theorem neg_inf : Ideal.ofBits .f32 4286578688#32 = ⊥ := by
  simp [Ideal.ofBits, Ideal.ieee]

theorem sitofp_zero : (FloatOps.sitofp FTy.bf16 0#32 : Ideal .bf16) = (0 : EReal) := by
  show (((0#32 : BitVec 32).toInt : ℝ) : EReal) = 0
  simp

theorem zero_bits : Ideal.ofBits .f32 0#32 = 0 := by
  simp [Ideal.ofBits, Ideal.ieee]

end Cert.Attention

end
-- ==== Proof.TableLookup.lean ====
module

public import Idealize.ShloMosaic.Lib.ValueIdx

/-! # Columns of a table by an array of column numbers

  `table[:, idx]` for an array `idx` of two axes, read at an index. -/

@[expose] public section

namespace Cert.TableLookup

open Idealize.ShloMosaic Idealize.ShloMosaic.ValueIdx

theorem getElem_at {n : Nat} (l r : List (Fin n)) (i k : Nat) (hl : l = r) (hi : i = k) (hp : i < l.length) (hq : k < r.length) :
    l[i]'(hp) = r[k]'(hq) := by subst hl hi; rfl

/-- Entry `(h, a, b)` of `table[:, idx]` is the table's entry in row `h` and the column that `idx` holds at `(a, b)`, clamped into the table. -/
theorem gather_columns {α : Type} {H N A B w : Nat} (d : GatherDims ⟨2, ![H, N]⟩ ⟨3, ![A, B, 1]⟩ ⟨3, ![H, A, B]⟩)
    (hoff : d.offsetDims = [0]) (hcoll : d.collapsedSliceDims = [1]) (hob : d.operandBatchingDims = []) (hsim : d.startIndexMap = [1])
    (hivd : d.indexVectorDim = 2) (hN : 0 < N) (x : (⟨2, ![H, N]⟩ : Shape).Idx → α) (idx : IVec ⟨3, ![A, B, 1]⟩ w)
    (h : Fin H) (a : Fin A) (b : Fin B) :
    Host.gather d x idx (ix3 h a b) = x (ix2 h ⟨min (idx (ix3 a b 0)).toInt.toNat (N - 1), by omega⟩) := by
  unfold Host.gather
  refine congrArg x (funext fun c => Fin.ext ?_)
  have hbN : ∀ c, c ∉ d.operandBatchingDims := fun c => by rw [hob]; exact List.not_mem_nil
  have hbatch : d.batchDims = [1, 2] := by unfold GatherDims.batchDims; rw [hoff]; rfl
  have hkept : d.siKept = [0, 1] := by unfold GatherDims.siKept; rw [hivd]; rfl
  have hskept : d.sKept = [0] := by unfold GatherDims.sKept; rw [hcoll, hob]; rfl
  match c with
  | ⟨0, _⟩ =>
    have hk : (0 : Fin 2) ∈ d.sKept := by rw [hskept]; exact List.mem_singleton.2 rfl
    have hm : (0 : Fin 2) ∉ d.startIndexMap := by rw [hsim]; simp
    show d.start (ix3 h a b) idx 0 + d.batchCoord (ix3 h a b) 0 + d.offCoord (ix3 h a b) 0 = h.val
    rw [d.batchCoord_eq_zero _ _ (hbN 0)]
    unfold GatherDims.start GatherDims.offCoord
    rw [dif_neg hm, dif_pos hk, getElem_at d.offsetDims [0] _ 0 hoff (by rw [hskept]; rfl) _ (by simp)]
    show 0 + 0 + h.val = h.val
    omega
  | ⟨1, _⟩ =>
    have hk : (1 : Fin 2) ∉ d.sKept := by rw [hskept]; simp
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix3 h a b) idx 1 + d.batchCoord (ix3 h a b) 1 + d.offCoord (ix3 h a b) 1 = min (idx (ix3 a b 0)).toInt.toNat (N - 1)
    rw [d.batchCoord_eq_zero _ _ (hbN 1), d.offCoord_eq_zero _ _ hk]
    unfold GatherDims.start
    rw [dif_pos hm, hsl]
    have hsi : d.siIdx (ix3 h a b) ⟨d.startIndexMap.idxOf 1, List.idxOf_lt_length_iff.2 hm⟩ = ix3 a b (0 : Fin 1) := by
      funext e
      refine Fin.ext ?_
      match e with
      | ⟨0, _⟩ =>
        unfold GatherDims.siIdx GatherDims.siCoord
        rw [dif_neg (by rw [hivd]; simp)]
        simp only [Fin.val_cast]
        rw [getElem_at d.batchDims [1, 2] _ 0 hbatch (by rw [hkept]; rfl) _ (by simp)]
        rfl
      | ⟨1, _⟩ =>
        unfold GatherDims.siIdx GatherDims.siCoord
        rw [dif_neg (by rw [hivd]; simp)]
        simp only [Fin.val_cast]
        rw [getElem_at d.batchDims [1, 2] _ 1 hbatch (by rw [hkept]; rfl) _ (by simp)]
        rfl
      | ⟨2, _⟩ =>
        unfold GatherDims.siIdx
        rw [dif_pos (by rw [hivd])]
        show List.idxOf (1 : Fin 2) d.startIndexMap = 0
        rw [hsim]; rfl
    rw [hsi]
    rfl

end Cert.TableLookup
-- ==== Proof.DqSaved.lean ====
module

public import proofs.«01_k».proof.Proof.Gen.DqIdeal.Value
public import proofs.«01_k».proof.Proof.AttWords
public import proofs.«01_k».proof.Proof.TableLookup
public import Idealize.ShloMosaic.Lib.Pipeline.ValueKit
public import Idealize.ShloMosaic.Lib.Pointwise
public import Idealize.ShloMosaic.Lib.StableHlo.RunRead

/-! # The values saved by the forward lines

  The rows' logarithms of summed exponentials and the output, which the host computes before the call, are the terms of `Cert.Attention`. -/

@[expose] public section

set_option maxRecDepth 16384

noncomputable section

namespace Cert.DqIdeal.Point

open Cert.DqIdeal Cert.DqIdeal.Gen Idealize.ShloMosaic Idealize.ShloMosaic.TcCoe Idealize.SL.Sem
open Idealize.ShloMosaic.Pipeline (Dat)
open Cert.Attention

variable (m : (ℓ : Loc nD τ sig) → Buf (Elt Ideal) ℓ)

/-- The arguments' rows. -/
abbrev xq (c : Dev nD) (i : Fin 16384) (n : Fin 512) : EReal := (m ((c : Thread nD τ).loc main_arg0) : (⟨S16384x512, .f32⟩ : BufTy).Contents (Elt Ideal)) (ix2 i n)
abbrev xk (c : Dev nD) (i : Fin 16384) (n : Fin 512) : EReal := (m ((c : Thread nD τ).loc main_arg1) : (⟨S16384x512, .f32⟩ : BufTy).Contents (Elt Ideal)) (ix2 i n)
abbrev xv (c : Dev nD) (i : Fin 16384) (n : Fin 512) : EReal := (m ((c : Thread nD τ).loc main_arg2) : (⟨S16384x512, .f32⟩ : BufTy).Contents (Elt Ideal)) (ix2 i n)
abbrev xg (c : Dev nD) (i : Fin 16384) (n : Fin 512) : EReal := (m ((c : Thread nD τ).loc main_arg4) : (⟨S16384x512, .f32⟩ : BufTy).Contents (Elt Ideal)) (ix2 i n)
/-- The table of biases. -/
abbrev table (c : Dev nD) : (⟨S8x257, .f32⟩ : BufTy).Contents (Elt Ideal) := m ((c : Thread nD τ).loc main_arg3)
/-- The bias of a head between two rows. -/
abbrev xb (c : Dev nD) (h : Fin 8) (i j : Fin 16384) : EReal := table m c (ix2 h (tableRow (apart i.val j.val)))

theorem lookup (x : (⟨S8x257, .f32⟩ : BufTy).Contents (Elt Ideal)) (idx : IVec S16384x16384x1 32) (h : Fin 8) (a b : Fin 16384) :
    Host.gather gather_S8x257_S16384x16384x1_S8x16384x16384_0_1_n_n_1_2_81 x idx (ix3 h a b)
      = x (ix2 h ⟨min (idx (ix3 a b 0)).toInt.toNat 256, by omega⟩) :=
  Cert.TableLookup.gather_columns _ rfl rfl rfl rfl rfl (by decide) x idx h a b

theorem score_at (c : Dev nD) (h : Fin 8) (i j : Fin 16384) : V m c main_v36 (ix3 h i j) = score (xq m c) (xk m c) (xb m c) h i j := by
  unfold V
  after_reads_simp
  simp only [StableHlo.TRef.toBuf, StableHlo.TRef.ofBuf, cast_eq, id_eq]
  pointwise
  rw [lookup]
  pointwise
  rw [pick_seen i.isLt j.isLt]
  unfold score
  refine if_congr Iff.rfl ?_ neg_inf
  refine congrArg _ ?_
  rfl

theorem top_line (c : Dev nD) : V m c main_v37 = Host.reduce (FloatOps.maximumf (F := Ideal) (φ := .f32)) (V m c main_v36) (constant (F := Ideal) S_ .f32 0xFF800000#32)
    reducesTo_S8x16384x16384_S8x16384_d2 h_S_ := by
  unfold V
  after_reads_simp

theorem fold_at (x : (⟨S8x16384x16384, .f32⟩ : BufTy).Contents (Elt Ideal)) (v : (⟨S_, .f32⟩ : BufTy).Contents (Elt Ideal)) (h : Fin 8) (i : Fin 16384) :
    Host.reduce (FloatOps.maximumf (F := Ideal) (φ := .f32)) x v reducesTo_S8x16384x16384_S8x16384_d2 h_S_ (ix2 h i)
      = Finset.fold max (v (Shape.Idx.first h_S_)) (fun j => x (ix3 h i j)) Finset.univ := by
  pointwise

theorem least_at : constant (F := Ideal) S_ .f32 0xFF800000#32 (Shape.Idx.first h_S_) = (⊥ : EReal) := neg_inf

theorem top_at (c : Dev nD) (h : Fin 8) (i : Fin 16384) : V m c main_v37 (ix2 h i) = top (xq m c) (xk m c) (xb m c) h i := by
  rw [top_line, fold_at, least_at]
  unfold top
  refine congrArg (fun f : Fin 16384 → EReal => Finset.fold max (⊥ : EReal) f Finset.univ) ?_
  funext j
  exact score_at m c h i j

abbrev SS := (⟨S8x16384x16384, .f32⟩ : BufTy).Contents (Elt Ideal)
abbrev HR := (⟨S8x16384, .f32⟩ : BufTy).Contents (Elt Ideal)

theorem weight_line (c : Dev nD) : V m c main_v41 = Host.exp (F := Ideal) (φ := .f32) (subf (F := Ideal) (φ := .f32) (V m c main_v36)
    (broadcastInDim S8x16384x16384 ![0, 1, 2] bcast_S8x16384x1_S8x16384x16384_0_1_2
      (broadcastInDim S8x16384x1 ![0, 1] bcast_S8x16384_S8x16384x1_0_1 (V m c main_v37 : HR)))) := by
  unfold V
  after_reads_simp

theorem exp_sub_at (x : SS) (y : HR) (h : Fin 8) (i j : Fin 16384) : Host.exp (F := Ideal) (φ := .f32) (subf (F := Ideal) (φ := .f32) x
    (broadcastInDim S8x16384x16384 ![0, 1, 2] bcast_S8x16384x1_S8x16384x16384_0_1_2
      (broadcastInDim S8x16384x1 ![0, 1] bcast_S8x16384_S8x16384x1_0_1 y))) (ix3 h i j) = Ideal.exp (x (ix3 h i j) - y (ix2 h i)) := by
  pointwise

theorem weight_at (c : Dev nD) (h : Fin 8) (i j : Fin 16384) : V m c main_v41 (ix3 h i j) = weight (xq m c) (xk m c) (xb m c) h i j := by
  rw [weight_line, exp_sub_at, score_at, top_at]
  rfl

theorem total_line (c : Dev nD) : V m c main_v42 = Host.reduceAdd (F := Ideal) (φ := .f32) (V m c main_v41) (constant (F := Ideal) S_ .f32 0x00000000#32)
    reducesTo_S8x16384x16384_S8x16384_d2 h_S_ := by
  unfold V
  after_reads_simp

theorem sum_at (x : SS) (h : Fin 8) (i : Fin 16384) : Host.reduceAdd (F := Ideal) (φ := .f32) x (constant (F := Ideal) S_ .f32 0x00000000#32)
    reducesTo_S8x16384x16384_S8x16384_d2 h_S_ (ix2 h i) = ∑ j, x (ix3 h i j) := by
  pointwise

theorem total_at (c : Dev nD) (h : Fin 8) (i : Fin 16384) : V m c main_v42 (ix2 h i) = total (xq m c) (xk m c) (xb m c) h i := by
  rw [total_line, sum_at]
  exact congrArg (fun f : Fin 16384 → EReal => ∑ j, f j) (funext fun j => weight_at m c h i j)

theorem logSum_line (c : Dev nD) : V m c main_v51 = shapeCast S8x16384 (addf (F := Ideal) (φ := .f32)
    (broadcastInDim S8x16384x1 ![0, 1] bcast_S8x16384_S8x16384x1_0_1 (V m c main_v37 : HR))
    (Host.log (F := Ideal) (φ := .f32) (broadcastInDim S8x16384x1 ![0, 1] bcast_S8x16384_S8x16384x1_0_1 (V m c main_v42 : HR)))) shapeCasts_S8x16384x1_S8x16384 := by
  unfold V
  after_reads_simp
  rfl

theorem add_log_at (x y : HR) (h : Fin 8) (i : Fin 16384) : shapeCast S8x16384 (addf (F := Ideal) (φ := .f32)
    (broadcastInDim S8x16384x1 ![0, 1] bcast_S8x16384_S8x16384x1_0_1 x)
    (Host.log (F := Ideal) (φ := .f32) (broadcastInDim S8x16384x1 ![0, 1] bcast_S8x16384_S8x16384x1_0_1 y))) shapeCasts_S8x16384x1_S8x16384 (ix2 h i)
      = x (ix2 h i) + Ideal.log (y (ix2 h i)) := by
  pointwise

theorem logSum_at (c : Dev nD) (h : Fin 8) (i : Fin 16384) : V m c main_v51 (ix2 h i) = logSum (xq m c) (xk m c) (xb m c) h i := by
  rw [logSum_line, add_log_at, top_at, total_at]
  rfl

theorem output_line (c : Dev nD) : V m c main_v52 = shapeCast S16384x512 (transpose S16384x8x64 [2, 0, 1]
    (Host.dotGeneral (F := Ideal) (φ₁ := .f32) (φ₂ := .f32) dot_S16384x8x64_S8x16384x16384_S8x64x16384_0_2_2_1_1_0 none
      (shapeCast S16384x8x64 (V m c main_arg2 : (⟨S16384x512, .f32⟩ : BufTy).Contents (Elt Ideal)) shapeCasts_S16384x512_S16384x8x64)
      (Host.divf (F := Ideal) (φ := .f32) (V m c main_v41) (broadcastInDim S8x16384x16384 ![0, 1, 2] bcast_S8x16384x1_S8x16384x16384_0_1_2
      (broadcastInDim S8x16384x1 ![0, 1] bcast_S8x16384_S8x16384x1_0_1 (V m c main_v42 : HR))))) transposes_S8x64x16384_S16384x8x64_2_0_1)
    shapeCasts_S16384x8x64_S16384x512 := by
  unfold V
  after_reads_simp
  rfl

theorem weighted_row (v : (⟨S16384x512, .f32⟩ : BufTy).Contents (Elt Ideal)) (x : SS) (y : HR) (i : Fin 16384) (n : Fin 512) :
    shapeCast S16384x512 (transpose S16384x8x64 [2, 0, 1]
    (Host.dotGeneral (F := Ideal) (φ₁ := .f32) (φ₂ := .f32) dot_S16384x8x64_S8x16384x16384_S8x64x16384_0_2_2_1_1_0 none
      (shapeCast S16384x8x64 v shapeCasts_S16384x512_S16384x8x64)
      (Host.divf (F := Ideal) (φ := .f32) x (broadcastInDim S8x16384x16384 ![0, 1, 2] bcast_S8x16384x1_S8x16384x16384_0_1_2
      (broadcastInDim S8x16384x1 ![0, 1] bcast_S8x16384_S8x16384x1_0_1 y)))) transposes_S8x64x16384_S16384x8x64_2_0_1)
    shapeCasts_S16384x8x64_S16384x512 (ix2 i n)
      = ∑ j, v (ix2 j n) * Ideal.div (x (ix3 ⟨n.val / 64, by omega⟩ i j)) (y (ix2 ⟨n.val / 64, by omega⟩ i)) := by
  pointwise

theorem output_at (c : Dev nD) (i : Fin 16384) (h : Fin 8) (d : Fin 64) : V m c main_v52 (ix2 i (lane h d))
    = output (xq m c) (xk m c) (xv m c) (xb m c) h i d := by
  refine (congrFun (output_line m c) _).trans ((weighted_row _ _ _ i (lane h d)).trans ?_)
  have hh : (⟨(lane h d).val / 64, by have := (lane h d).isLt; omega⟩ : Fin 8) = h := Fin.ext (by show (h.val * 64 + d.val) / 64 = h.val; omega)
  refine congrArg (fun f : Fin 16384 → EReal => ∑ j, f j) (funext fun j => congrArg₂ (fun x y : EReal => x * y) (by entry_read; rfl)
    (congrArg₂ Ideal.div ((weight_at m c _ i j).trans (congrArg (fun h => weight (xq m c) (xk m c) (xb m c) h i j) hh))
      ((total_at m c _ i).trans (congrArg (fun h => total (xq m c) (xk m c) (xb m c) h i) hh))))

theorem logs_line (c : Dev nD) : V m c main_v55 = concatenate S16384x128 1
    [⟨S16384x8, transpose S16384x8 [1, 0] (V m c main_v51 : HR) transposes_S8x16384_S16384x8_1_0⟩,
    ⟨S16384x120, broadcastInDim S16384x120 ![] bcast_S_S16384x120 (constant (F := Ideal) S_ .f32 0x00000000#32)⟩]
    concatenates_S16384x8_S16384x120_S16384x128_d1 := by
  unfold V
  after_reads_simp
  rfl

theorem padded_at (x : HR) (z : (⟨S16384x120, .f32⟩ : BufTy).Contents (Elt Ideal)) (i : Fin 16384) (e : Fin 8) :
    concatenate S16384x128 1 [⟨S16384x8, transpose S16384x8 [1, 0] x transposes_S8x16384_S16384x8_1_0⟩, ⟨S16384x120, z⟩]
      concatenates_S16384x8_S16384x120_S16384x128_d1 (ix2 i (⟨e.val, by omega⟩ : Fin 128)) = x (ix2 e i) := by
  pointwise

theorem logs_at (c : Dev nD) (i : Fin 16384) (e : Fin 8) : V m c main_v55 (ix2 i (⟨e.val, by omega⟩ : Fin 128))
    = logSum (xq m c) (xk m c) (xb m c) e i := by
  rw [logs_line, padded_at, logSum_at]

theorem rounded_line (c : Dev nD) : V m c main_v103 = truncf (F := Ideal) .bf16 (V m c main_v52 : (⟨S16384x512, .f32⟩ : BufTy).Contents (Elt Ideal)) bitsLt_bf16_f32 := by
  unfold V
  after_reads_simp

theorem rounded_at (c : Dev nD) (i : Fin 16384) (h : Fin 8) (d : Fin 64) : V m c main_v103 (ix2 i (lane h d))
    = output (xq m c) (xk m c) (xv m c) (xb m c) h i d := by
  rw [rounded_line]
  exact output_at m c i h d

end Cert.DqIdeal.Point
-- ==== Proof.AttHalves.lean ====
module

public import proofs.«01_k».proof.Proof.AttWords

/-! # Two heads in one tile

  The kernels handle two heads of 64 columns in one tile of 128: a product's other half is replaced by zeros. -/

@[expose] public section

noncomputable section

namespace Cert.Attention

open Idealize.ShloMosaic

theorem lower_word (x : Fin 128) : IntOp.cmpi .slt (BitVec.ofNat 32 x.val) 64#32 = 1 ↔ x.val < 64 :=
  slt_eq_one (by have := x.isLt; omega) (by omega)

theorem upper_word (x : Fin 128) : IntOp.cmpi .sge (BitVec.ofNat 32 x.val) 64#32 = 1 ↔ 64 ≤ x.val :=
  sge_eq_one (by have := x.isLt; omega) (by omega)

theorem zero_word : (((0#32 : BitVec 32).toInt : ℝ) : EReal) = 0 := by simp

theorem sum_halves (f : Fin 128 → EReal) :
    ∑ x, f x = ∑ d : Fin 64, f ⟨d.val, by omega⟩ + ∑ d : Fin 64, f ⟨64 + d.val, by omega⟩ :=
  Fin.sum_univ_add (a := 64) (b := 64) f

/-- A product over a tile whose upper half is zeros. -/
theorem sum_lower (a b : Fin 128 → EReal) :
    ∑ x : Fin 128, Scalar.select (IntOp.cmpi .slt (BitVec.ofNat 32 x.val) 64#32) (a x) (((0#32 : BitVec 32).toInt : ℝ) : EReal) * b x
      = ∑ d : Fin 64, a ⟨0 + d.val, by omega⟩ * b ⟨0 + d.val, by omega⟩ := by
  simp only [pick_of_iff (lower_word _), zero_word]
  rw [sum_halves]
  have e : ∀ d : Fin 64, (if (64 + d.val) < 64 then a ⟨64 + d.val, by omega⟩ else 0) * b ⟨64 + d.val, by omega⟩ = 0 := fun d => by
    rw [if_neg (by omega), zero_mul]
  simp only [e, Finset.sum_const_zero, add_zero, if_pos (Fin.isLt _), Nat.zero_add]

/-- A product over a tile whose lower half is zeros. -/
theorem sum_upper (a b : Fin 128 → EReal) :
    ∑ x : Fin 128, Scalar.select (IntOp.cmpi .sge (BitVec.ofNat 32 x.val) 64#32) (a x) (((0#32 : BitVec 32).toInt : ℝ) : EReal) * b x
      = ∑ d : Fin 64, a ⟨64 + d.val, by omega⟩ * b ⟨64 + d.val, by omega⟩ := by
  simp only [pick_of_iff (upper_word _), zero_word]
  rw [sum_halves]
  have e : ∀ d : Fin 64, (if 64 ≤ d.val then a ⟨d.val, by omega⟩ else 0) * b ⟨d.val, by omega⟩ = 0 := fun d => by
    rw [if_neg (by omega), zero_mul]
  simp only [e, Finset.sum_const_zero, zero_add, if_pos (Nat.le_add_right _ _)]

/-- A column of the sum of the two heads' products is that of the head the column is in. -/
theorem pick_head {n : Nat} (p p' b : Fin n → EReal) (x : Fin 128) :
    ∑ c, p c * Scalar.select (IntOp.cmpi .slt (BitVec.ofNat 32 x.val) 64#32) (b c) (((0#32 : BitVec 32).toInt : ℝ) : EReal)
      + ∑ c, p' c * Scalar.select (IntOp.cmpi .sge (BitVec.ofNat 32 x.val) 64#32) (b c) (((0#32 : BitVec 32).toInt : ℝ) : EReal)
      = if x.val < 64 then ∑ c, p c * b c else ∑ c, p' c * b c := by
  simp only [pick_of_iff (lower_word _), pick_of_iff (upper_word _), zero_word]
  by_cases h : x.val < 64
  · simp [h, not_le.mpr h]
  · simp [h, not_lt.mp h]

/-- A half's sum of a tile with the other half set to zero. -/
theorem halfSum_lower (a : Fin 128 → EReal) :
    ∑ x : Fin 128, Scalar.select (IntOp.cmpi .slt (BitVec.ofNat 32 x.val) 64#32) (a x) 0 = ∑ d : Fin 64, a ⟨0 + d.val, by omega⟩ := by
  simp only [pick_of_iff (lower_word _)]
  rw [sum_halves]
  have e : ∀ d : Fin 64, (if (64 + d.val) < 64 then a ⟨64 + d.val, by omega⟩ else 0) = 0 := fun d => if_neg (by omega)
  simp only [e, Finset.sum_const_zero, add_zero, if_pos (Fin.isLt _), Nat.zero_add]

theorem halfSum_upper (a : Fin 128 → EReal) :
    ∑ x : Fin 128, Scalar.select (IntOp.cmpi .sge (BitVec.ofNat 32 x.val) 64#32) (a x) 0 = ∑ d : Fin 64, a ⟨64 + d.val, by omega⟩ := by
  simp only [pick_of_iff (upper_word _)]
  rw [sum_halves]
  have e : ∀ d : Fin 64, (if 64 ≤ d.val then a ⟨d.val, by omega⟩ else 0) = 0 := fun d => if_neg (by omega)
  simp only [e, Finset.sum_const_zero, zero_add, if_pos (Nat.le_add_right _ _)]

/-- A column of the sum of the two heads' scaled products is that of the head the column is in. -/
theorem pick_part {n : Nat} (p p' b : Fin n → EReal) (x : Fin 128) :
    (∑ c, p c * Scalar.select (IntOp.cmpi .slt (BitVec.ofNat 32 x.val) 64#32) (b c) (((0#32 : BitVec 32).toInt : ℝ) : EReal)) * scale
      + (∑ c, p' c * Scalar.select (IntOp.cmpi .sge (BitVec.ofNat 32 x.val) 64#32) (b c) (((0#32 : BitVec 32).toInt : ℝ) : EReal)) * scale
      = if x.val < 64 then (∑ c, p c * b c) * scale else (∑ c, p' c * b c) * scale := by
  simp only [pick_of_iff (lower_word _), pick_of_iff (upper_word _), zero_word]
  by_cases h : x.val < 64
  · simp [h, not_le.mpr h]
  · simp [h, not_lt.mp h]

end Cert.Attention

end
-- ==== Proof.AttWindow.lean ====
module

public import proofs.«01_k».proof.Proof.AttWords
public import proofs.«01_k».proof.Proof.AttMath
public import Idealize.ShloMosaic.Lib.ValueIdx

/-! # Three neighbouring blocks -/

@[expose] public section

noncomputable section

namespace Cert.Attention

open Idealize.ShloMosaic Idealize.ShloMosaic.ValueIdx

/-- Row `q` of the 768 rows that three neighbouring blocks hold. -/
def window3 {n : Nat} (a b e : (⟨2, ![256, n]⟩ : Shape).Idx → EReal) (q : Fin 768) (k : Fin n) : EReal :=
  if h : q.val < 256 then a (ix2 ⟨q.val, h⟩ k)
  else if h' : q.val - 256 < 256 then b (ix2 ⟨q.val - 256, h'⟩ k) else e (ix2 ⟨q.val - 256 - 256, by omega⟩ k)

/-- The same of 768 columns. -/
def window3' {n : Nat} (a b e : (⟨2, ![n, 256]⟩ : Shape).Idx → EReal) (k : Fin n) (q : Fin 768) : EReal :=
  if h : q.val < 256 then a (ix2 k ⟨q.val, h⟩)
  else if h' : q.val - 256 < 256 then b (ix2 k ⟨q.val - 256, h'⟩) else e (ix2 k ⟨q.val - 256 - 256, by omega⟩)

/-- A sum over the whole array whose terms outside a window of 768 rows vanish. -/
theorem sum_window {f : Fin 768 → ℝ} {g : Fin 16384 → ℝ} (w : Fin 768 → Fin 16384) (ok : Fin 768 → Prop) (hf : ∀ q, ¬ ok q → f q = 0)
    (hfg : ∀ q, ok q → f q = g (w q)) (inj : ∀ q q', ok q → ok q' → w q = w q' → q = q') (hg : ∀ i, (∀ q, ok q → w q ≠ i) → g i = 0) :
    ∑ q, f q = ∑ i, g i := by
  classical
  have h1 : ∑ q, f q = ∑ q ∈ Finset.univ.filter ok, g (w q) := by
    rw [Finset.sum_filter]
    refine Finset.sum_congr rfl fun q _ => ?_
    split
    · exact hfg q ‹_›
    · exact hf q ‹_›
  rw [h1, ← Finset.sum_image (f := g) (g := w)]
  · refine Finset.sum_subset (Finset.subset_univ _) fun i _ hi => hg i fun q hq e => hi ?_
    exact Finset.mem_image.mpr ⟨q, Finset.mem_filter.mpr ⟨Finset.mem_univ _, hq⟩, e⟩
  · intro q hq q' hq' e
    exact inj q q' (Finset.mem_filter.mp hq).2 (Finset.mem_filter.mp hq').2 e

/-- The share from the score's parts, where a row isn't attended to as well. -/
theorem exp_share (q k : Fin 16384 → Fin 512 → ℝ) (b : Fin 8 → Fin 16384 → Fin 16384 → ℝ) (s : ℝ) (p : Prop) [Decidable p] (e : Fin 8) (i j : Fin 16384)
    (hs : s = (∑ d, q i (lane e d) * k j (lane e d)) * (1 / 8)) (hp : p → seen i.val j.val) :
    Ideal.exp ((s : EReal) + (if p then ((b e i j : ℝ) : EReal) else ⊥) - logSum (up q) (up k) (up3 b) e i)
      = ((if p then share q k b e i j else 0 : ℝ) : EReal) := by
  by_cases h : p
  · have g := exp_sub_logSum q k b e i j
    rw [if_pos (hp h)] at g
    rw [if_pos h, if_pos h, ← g, ← EReal.coe_add, hs, rscore]
  · rw [if_neg h, if_neg h, EReal.add_bot, logSum_real, EReal.bot_sub]
    rfl

end Cert.Attention

end
-- ==== Proof.DqWindows.lean ====
module

public import proofs.«01_k».proof.Proof.Gen.DqIdeal.Value
public import proofs.«01_k».proof.Proof.AttHalves
public import proofs.«01_k».proof.Proof.AttWindow
public import Idealize.ShloMosaic.Lib.Pipeline.ValueKit
public import Idealize.ShloMosaic.Lib.Pointwise

/-! # What a block of query rows' gradients is computed from

  One grid point of the kernel takes 256 query rows and the 768 rows of keys and values they may attend to. -/

@[expose] public section

set_option maxRecDepth 16384

noncomputable section

namespace Cert.DqIdeal.Point

open Cert.DqIdeal Cert.DqIdeal.Gen Idealize.ShloMosaic Idealize.ShloMosaic.TcCoe Idealize.SL.Sem
open Idealize.ShloMosaic.Pipeline (Dat)
open Cert.Attention

variable (m : (ℓ : Loc nD τ sig) → Buf (Elt Ideal) ℓ)

abbrev queryBlock (c : Dev nD) (t : Fin cfg0.N) (r : Fin 256) (k : Fin 512) : EReal := X0_0 m c t (ix2 r k)
abbrev keys (c : Dev nD) (t : Fin cfg0.N) : Fin 768 → Fin 512 → EReal := window3 (X0_1 m c t) (X0_2 m c t) (X0_3 m c t)
abbrev values (c : Dev nD) (t : Fin cfg0.N) : Fin 768 → Fin 512 → EReal := window3 (X0_4 m c t) (X0_5 m c t) (X0_6 m c t)
abbrev biasBlock (c : Dev nD) (t : Fin cfg0.N) (e : Fin 8) (r : Fin 256) (n : Fin 768) : EReal := iblk m c 7 t (ix4 0 e r n)
abbrev logSumBlock (c : Dev nD) (t : Fin cfg0.N) (r : Fin 256) (e : Fin 8) : EReal := iblk m c 8 t (ix2 r (⟨e.val, by omega⟩ : Fin 128))
abbrev cotangentBlock (c : Dev nD) (t : Fin cfg0.N) (r : Fin 256) (k : Fin 512) : EReal := iblk m c 9 t (ix2 r k)
abbrev outputBlock (c : Dev nD) (t : Fin cfg0.N) (r : Fin 256) (k : Fin 512) : EReal := iblk m c 10 t (ix2 r k)

/-- A query's share of a key, as the kernel computes it from the scores' logarithm. -/
def blockShare (c : Dev nD) (t : Fin cfg0.N) (e : Fin 8) (r : Fin 256) (n : Fin 768) : EReal :=
  Ideal.exp (∑ d, queryBlock m c t r (lane e d) * scale * keys m c t n (lane e d) + biasBlock m c t e r n - logSumBlock m c t r e)

/-- A row's sum of cotangent times output. -/
def blockDelta (c : Dev nD) (t : Fin cfg0.N) (e : Fin 8) (r : Fin 256) : EReal :=
  ∑ d, cotangentBlock m c t r (lane e d) * outputBlock m c t r (lane e d)

/-- The gradient of a query row that the kernel computes. -/
def blockDquery (c : Dev nD) (t : Fin cfg0.N) (e : Fin 8) (r : Fin 256) (d : Fin 64) : EReal :=
  (∑ n, blockShare m c t e r n * (∑ k, cotangentBlock m c t r (lane e k) * values m c t n (lane e k) - blockDelta m c t e r)
    * keys m c t n (lane e d)) * scale

end Cert.DqIdeal.Point
-- ==== Proof.DqReads.lean ====
module

public import proofs.«01_k».proof.Proof.DqSaved
public import proofs.«01_k».proof.Proof.DqWindows

/-! # What a grid point's blocks hold

  Each block, read at an index, is a row of an argument, of the saved values or of the table of biases. -/

@[expose] public section

set_option maxRecDepth 16384

noncomputable section

namespace Cert.DqIdeal.Point

open Cert.DqIdeal Cert.DqIdeal.Gen Idealize.ShloMosaic Idealize.ShloMosaic.TcCoe Idealize.SL.Sem
open Idealize.ShloMosaic.Pipeline (Dat)
open Cert.Attention

variable (m : (ℓ : Loc nD τ sig) → Buf (Elt Ideal) ℓ)

/-- Row `r` of grid point `t`'s block of queries. -/
def row (t : Fin cfg0.N) (r : Fin 256) : Fin 16384 := ⟨256 * t.val + r.val, by have := r.isLt; have : t.val < 64 := t.isLt; omega⟩

/-- Row `r` of the block `o` blocks back, the first block standing for those before it. -/
def near (t : Fin cfg0.N) (o : Nat) (r : Fin 256) : Fin 16384 :=
  ⟨256 * (t.val - o) + r.val, by have := r.isLt; have : t.val < 64 := t.isLt; omega⟩

theorem idx0 : ∀ t : Fin cfg0.N, win0_0.index t = ![t.val, 9] := (by decide +kernel : ∀ t : Fin grid0.N, win0_0.index t = ![t.val, 9])
theorem idx1 : ∀ t : Fin cfg0.N, win0_1.index t = ![t.val - 2, 4] := (by decide +kernel : ∀ t : Fin grid0.N, win0_1.index t = ![t.val - 2, 4])
theorem idx2 : ∀ t : Fin cfg0.N, win0_2.index t = ![t.val - 1, 4] := (by decide +kernel : ∀ t : Fin grid0.N, win0_2.index t = ![t.val - 1, 4])
theorem idx3 : ∀ t : Fin cfg0.N, win0_3.index t = ![t.val - 0, 4] := (by decide +kernel : ∀ t : Fin grid0.N, win0_3.index t = ![t.val - 0, 4])
theorem idx4 : ∀ t : Fin cfg0.N, win0_4.index t = ![t.val - 2, 5] := (by decide +kernel : ∀ t : Fin grid0.N, win0_4.index t = ![t.val - 2, 5])
theorem idx5 : ∀ t : Fin cfg0.N, win0_5.index t = ![t.val - 1, 5] := (by decide +kernel : ∀ t : Fin grid0.N, win0_5.index t = ![t.val - 1, 5])
theorem idx6 : ∀ t : Fin cfg0.N, win0_6.index t = ![t.val - 0, 5] := (by decide +kernel : ∀ t : Fin grid0.N, win0_6.index t = ![t.val - 0, 5])
theorem idx7 : ∀ t : Fin cfg0.N, win0_7.index t = ![min t.val 2, 0, 0, 0] := (by decide +kernel : ∀ t : Fin grid0.N, win0_7.index t = ![min t.val 2, 0, 0, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])

/-- The packed projection as the call receives it: keys, values and queries in the kernel's columns, zero elsewhere. -/
theorem packed (c : Dev nD) : V m c main_v59 = concatenate S16384x5760 1
    [⟨S16384x2048, broadcastInDim S16384x2048 ![] bcast_S_S16384x2048 (constant (F := Ideal) S_ .f32 0x00000000#32)⟩,
    ⟨S16384x512, (V m c main_arg1 : (⟨S16384x512, .f32⟩ : BufTy).Contents (Elt Ideal))⟩,
    ⟨S16384x512, (V m c main_arg2 : (⟨S16384x512, .f32⟩ : BufTy).Contents (Elt Ideal))⟩,
    ⟨S16384x1536, broadcastInDim S16384x1536 ![] bcast_S_S16384x1536 (constant (F := Ideal) S_ .f32 0x00000000#32)⟩,
    ⟨S16384x512, (V m c main_arg0 : (⟨S16384x512, .f32⟩ : BufTy).Contents (Elt Ideal))⟩,
    ⟨S16384x640, broadcastInDim S16384x640 ![] bcast_S_S16384x640 (constant (F := Ideal) S_ .f32 0x00000000#32)⟩]
    concatenates_S16384x2048_S16384x512_S16384x512_S16384x1536_S16384x512_S16384x640_S16384x5760_d1 := by
  unfold V
  after_reads_simp
  rfl

theorem packed_keys (c : Dev nD) (i : Fin 16384) (n : Fin 512) : V m c main_v59 (ix2 i ⟨2048 + n.val, by omega⟩) = xk m c i n := by
  rw [packed]
  refine (concatenate_apply_piece 1 _ _ (ix2 i (⟨2048 + n.val, by omega⟩ : Fin 5760)) 1 (by show 1 < 6; omega) S16384x512 _ rfl rfl 2048 rfl (ix2 i n) ?_ (by simp)).trans ?_
  · intro b hb
    fin_cases b
    · rfl
    · exact absurd rfl hb
  · entry_read
    rfl

theorem packed_values (c : Dev nD) (i : Fin 16384) (n : Fin 512) : V m c main_v59 (ix2 i ⟨2560 + n.val, by omega⟩) = xv m c i n := by
  rw [packed]
  refine (concatenate_apply_piece 1 _ _ (ix2 i (⟨2560 + n.val, by omega⟩ : Fin 5760)) 2 (by show 2 < 6; omega) S16384x512 _ rfl rfl 2560 rfl (ix2 i n) ?_ (by simp)).trans ?_
  · intro b hb
    fin_cases b
    · rfl
    · exact absurd rfl hb
  · entry_read
    rfl

theorem packed_queries (c : Dev nD) (i : Fin 16384) (n : Fin 512) : V m c main_v59 (ix2 i ⟨4608 + n.val, by omega⟩) = xq m c i n := by
  rw [packed]
  refine (concatenate_apply_piece 1 _ _ (ix2 i (⟨4608 + n.val, by omega⟩ : Fin 5760)) 4 (by show 4 < 6; omega) S16384x512 _ rfl rfl 4608 rfl (ix2 i n) ?_ (by simp)).trans ?_
  · intro b hb
    fin_cases b
    · rfl
    · exact absurd rfl hb
  · entry_read
    rfl

theorem read0 (c : Dev nD) (t : Fin cfg0.N) (r : Fin 256) (k : Fin 512) : X0_0 m c t (ix2 r k) = xq m c (row t r) k := by
  unfold X0_0 Pipeline.Window.fill
  rw [dif_pos (moved0_0 t _)]
  refine Eq.trans (b := V m c main_v59 (ix2 (row t r) ⟨4608 + k.val, by have := k.isLt; omega⟩)) ?_ (packed_queries m c _ k)
  blk_simp [iblk]
  blk_ext [idx0 t, row, near]

theorem read1 (c : Dev nD) (t : Fin cfg0.N) (r : Fin 256) (k : Fin 512) : X0_1 m c t (ix2 r k) = xk m c (near t 2 r) k := by
  unfold X0_1 Pipeline.Window.fill
  rw [dif_pos (moved0_1 t _)]
  refine Eq.trans (b := V m c main_v59 (ix2 (near t 2 r) ⟨2048 + k.val, by have := k.isLt; omega⟩)) ?_ (packed_keys m c _ k)
  blk_simp [iblk]
  blk_ext [idx1 t, row, near]

theorem read2 (c : Dev nD) (t : Fin cfg0.N) (r : Fin 256) (k : Fin 512) : X0_2 m c t (ix2 r k) = xk m c (near t 1 r) k := by
  unfold X0_2 Pipeline.Window.fill
  rw [dif_pos (moved0_2 t _)]
  refine Eq.trans (b := V m c main_v59 (ix2 (near t 1 r) ⟨2048 + k.val, by have := k.isLt; omega⟩)) ?_ (packed_keys m c _ k)
  blk_simp [iblk]
  blk_ext [idx2 t, row, near]

theorem read3 (c : Dev nD) (t : Fin cfg0.N) (r : Fin 256) (k : Fin 512) : X0_3 m c t (ix2 r k) = xk m c (near t 0 r) k := by
  unfold X0_3 Pipeline.Window.fill
  rw [dif_pos (moved0_3 t _)]
  refine Eq.trans (b := V m c main_v59 (ix2 (near t 0 r) ⟨2048 + k.val, by have := k.isLt; omega⟩)) ?_ (packed_keys m c _ k)
  blk_simp [iblk]
  blk_ext [idx3 t, row, near]

theorem read4 (c : Dev nD) (t : Fin cfg0.N) (r : Fin 256) (k : Fin 512) : X0_4 m c t (ix2 r k) = xv m c (near t 2 r) k := by
  unfold X0_4 Pipeline.Window.fill
  rw [dif_pos (moved0_4 t _)]
  refine Eq.trans (b := V m c main_v59 (ix2 (near t 2 r) ⟨2560 + k.val, by have := k.isLt; omega⟩)) ?_ (packed_values m c _ k)
  blk_simp [iblk]
  blk_ext [idx4 t, row, near]

theorem read5 (c : Dev nD) (t : Fin cfg0.N) (r : Fin 256) (k : Fin 512) : X0_5 m c t (ix2 r k) = xv m c (near t 1 r) k := by
  unfold X0_5 Pipeline.Window.fill
  rw [dif_pos (moved0_5 t _)]
  refine Eq.trans (b := V m c main_v59 (ix2 (near t 1 r) ⟨2560 + k.val, by have := k.isLt; omega⟩)) ?_ (packed_values m c _ k)
  blk_simp [iblk]
  blk_ext [idx5 t, row, near]

theorem read6 (c : Dev nD) (t : Fin cfg0.N) (r : Fin 256) (k : Fin 512) : X0_6 m c t (ix2 r k) = xv m c (near t 0 r) k := by
  unfold X0_6 Pipeline.Window.fill
  rw [dif_pos (moved0_6 t _)]
  refine Eq.trans (b := V m c main_v59 (ix2 (near t 0 r) ⟨2560 + k.val, by have := k.isLt; omega⟩)) ?_ (packed_values m c _ k)
  blk_simp [iblk]
  blk_ext [idx6 t, row, near]

theorem take8 (x : (⟨S16384x128, .f32⟩ : BufTy).Contents (Elt Ideal)) (t : Fin cfg0.N) (r : Fin 256) (e : Fin 128) :
    ((cfg0.win 8).blk t).view.read (Elt Ideal) x (ix2 r e) = x (ix2 (row t r) e) := by
  blk_simp
  blk_ext [idx8 t, row]

theorem read8 (c : Dev nD) (t : Fin cfg0.N) (r : Fin 256) (e : Fin 8) : logSumBlock m c t r e = logSum (xq m c) (xk m c) (xb m c) e (row t r) :=
  (take8 (V m c main_v55) t r _).trans (logs_at m c _ e)

theorem read9 (c : Dev nD) (t : Fin cfg0.N) (r : Fin 256) (k : Fin 512) : iblk m c 9 t (ix2 r k) = xg m c (row t r) k := by
  blk_simp [iblk]
  entry_read
  blk_ext [idx9 t, row]

theorem take10 (x : (⟨S16384x512, .bf16⟩ : BufTy).Contents (Elt Ideal)) (t : Fin cfg0.N) (r : Fin 256) (k : Fin 512) :
    ((cfg0.win 10).blk t).view.read (Elt Ideal) x (ix2 r k) = x (ix2 (row t r) k) := by
  blk_simp
  blk_ext [idx10 t, row]

theorem read10 (c : Dev nD) (t : Fin cfg0.N) (r : Fin 256) (e : Fin 8) (d : Fin 64) :
    outputBlock m c t r (lane e d) = output (xq m c) (xk m c) (xv m c) (xb m c) e (row t r) d :=
  (take10 (V m c main_v103) t r _).trans (rounded_at m c _ e d)

end Cert.DqIdeal.Point
-- ==== Proof.DqBias.lean ====
module

public import proofs.«01_k».proof.Proof.DqReads

/-! # The biases of a grid point's queries and keys

  The table of biases that the host lays out for three positions of a block, `⊥` where a query doesn't attend to a key. -/

@[expose] public section

set_option maxRecDepth 16384

noncomputable section

namespace Cert.DqIdeal.Point

open Cert.DqIdeal Cert.DqIdeal.Gen Idealize.ShloMosaic Idealize.ShloMosaic.TcCoe Idealize.SL.Sem
open Idealize.ShloMosaic.Pipeline (Dat)
open Cert.Attention

variable (m : (ℓ : Loc nD τ sig) → Buf (Elt Ideal) ℓ)

theorem lookup_block (x : (⟨S8x257, .f32⟩ : BufTy).Contents (Elt Ideal)) (idx : IVec S256x768x1 32) (h : Fin 8) (a : Fin 256) (b : Fin 768) :
    Host.gather gather_S8x257_S256x768x1_S8x256x768_0_1_n_n_1_2_81 x idx (ix3 h a b)
      = x (ix2 h ⟨min (idx (ix3 a b 0)).toInt.toNat 256, by omega⟩) :=
  Cert.TableLookup.gather_columns _ rfl rfl rfl rfl rfl (by decide) x idx h a b

theorem word_limit (v : Fin 3) : IntOp.muli (IntOp.subi 2#32 (BitVec.ofNat 32 v.val)) 256#32 = BitVec.ofNat 32 ((2 - v.val) * 256) := by
  revert v; decide

theorem word_far (r : Fin 256) : IntOp.addi 512#32 (BitVec.ofNat 32 r.val) = BitVec.ofNat 32 (512 + r.val) :=
  BitVec.eq_of_toNat_eq (by simp [IntOp.addi])

theorem pick_band {α : Type} (v : Fin 3) (r : Fin 256) (q : Fin 768) (x y : α) :
    Scalar.select (IntOp.andi (IntOp.andi
        (IntOp.cmpi .sge (IntOp.divsi ArithUnit.host (BitVec.ofNat 32 q.val) 64#32) (IntOp.divsi ArithUnit.host (BitVec.ofNat 32 r.val) 64#32))
        (IntOp.cmpi .sle (IntOp.divsi ArithUnit.host (BitVec.ofNat 32 q.val) 64#32)
          (IntOp.addi (IntOp.divsi ArithUnit.host (BitVec.ofNat 32 r.val) 64#32) 8#32)))
        (IntOp.cmpi .sge (BitVec.ofNat 32 q.val) (IntOp.muli (IntOp.subi 2#32 (BitVec.ofNat 32 v.val)) 256#32))) x y
      = if seen q.val r.val ∧ (2 - v.val) * 256 ≤ q.val then x else y := by
  refine pick_of_iff ?_ x y
  have := r.isLt
  have := q.isLt
  have := v.isLt
  rw [chunk_word (by omega), chunk_word (by omega), chunk_add, word_limit, and_eq_one, and_eq_one, sge_eq_one (by omega) (by omega), sle_eq_one (by omega) (by omega),
    sge_eq_one (by omega) (by omega)]

theorem bias_at (c : Dev nD) (v : Fin 3) (h : Fin 8) (r : Fin 256) (q : Fin 768) : V m c main_v102 (ix4 v h r q)
    = if seen q.val r.val ∧ (2 - v.val) * 256 ≤ q.val then table m c (ix2 h (tableRow (apart (512 + r.val) q.val))) else ⊥ := by
  unfold V
  after_reads_simp
  simp only [StableHlo.TRef.toBuf, StableHlo.TRef.ofBuf, cast_eq, id_eq]
  pointwise
  rw [lookup_block]
  pointwise
  rw [pick_band]
  refine if_congr Iff.rfl ?_ neg_inf
  exact Eq.trans (b := table m c (ix2 h (tableRow (IntOp.subi (IntOp.addi 512#32 (BitVec.ofNat 32 r.val)) (BitVec.ofNat 32 q.val))))) rfl
    (congrArg (fun w => table m c (ix2 h (tableRow (IntOp.subi w (BitVec.ofNat 32 q.val))))) (word_far r))

theorem take7 (x : (⟨S3x8x256x768, .f32⟩ : BufTy).Contents (Elt Ideal)) (t : Fin cfg0.N) (e : Fin 8) (r : Fin 256) (q : Fin 768) :
    ((cfg0.win 7).blk t).view.read (Elt Ideal) x (ix4 0 e r q) = x (ix4 ⟨min t.val 2, by omega⟩ e r q) := by
  blk_simp
  blk_ext [idx7 t]

/-- The row of the whole array that row `q` of a grid point's three blocks is. -/
def wrow (t : Fin cfg0.N) (q : Fin 768) : Fin 16384 := ⟨256 * (t.val - (2 - q.val / 256)) + q.val % 256, by have : t.val < 64 := t.isLt; omega⟩

theorem wrow_val (t : Fin cfg0.N) (q : Fin 768) (h : 512 ≤ 256 * t.val + q.val) : (wrow t q).val + 512 = 256 * t.val + q.val := by
  show 256 * (t.val - (2 - q.val / 256)) + q.val % 256 + 512 = _
  have := q.isLt
  omega

/-- The key row lies in the array and the query row attends to it. -/
abbrev meets (t : Fin cfg0.N) (r : Fin 256) (q : Fin 768) : Prop := 512 ≤ 256 * t.val + q.val ∧ seen (row t r).val (256 * t.val + q.val - 512)

theorem biases_at (c : Dev nD) (t : Fin cfg0.N) (e : Fin 8) (r : Fin 256) (q : Fin 768) : biasBlock m c t e r q
    = if meets t r q then xb m c e (row t r) (wrow t q) else ⊥ := by
  refine (take7 (V m c main_v102) t e r q).trans ((bias_at m c _ e r q).trans ?_)
  have ht : t.val < 64 := t.isLt
  have := q.isLt
  have := r.isLt
  by_cases h : meets t r q
  · obtain ⟨h1, h2, h3⟩ := h
    have h2 : (256 * t.val + q.val - 512) / 64 ≤ (256 * t.val + r.val) / 64 := h2
    have h3 : (256 * t.val + r.val) / 64 ≤ (256 * t.val + q.val - 512) / 64 + 8 := h3
    rw [if_pos ⟨⟨by omega, by omega⟩, by simp only; omega⟩, if_pos ⟨h1, h2, h3⟩]
    show table m c (ix2 e (tableRow (apart (512 + r.val) q.val))) = table m c (ix2 e (tableRow (apart (256 * t.val + r.val) (wrow t q).val)))
    rw [← apart_add 512 (256 * t.val + r.val), ← apart_add (256 * t.val) (512 + r.val), ← wrow_val t q h1]
    refine congrArg (fun x => table m c (ix2 e (tableRow x))) (congrArg₂ apart ?_ ?_) <;> omega
  · rw [if_neg h, if_neg]
    rintro ⟨⟨h1, h2⟩, h3⟩
    simp only at h3
    refine h ⟨by omega, ?_, ?_⟩
    · show (256 * t.val + q.val - 512) / 64 ≤ (256 * t.val + r.val) / 64
      omega
    · show (256 * t.val + r.val) / 64 ≤ (256 * t.val + q.val - 512) / 64 + 8
      omega

theorem row3 {n : Nat} (f : Fin 16384 → Fin n → EReal) (a b e : (⟨2, ![256, n]⟩ : Shape).Idx → EReal) (t : Fin cfg0.N)
    (ha : ∀ r k, a (ix2 r k) = f (near t 2 r) k) (hb : ∀ r k, b (ix2 r k) = f (near t 1 r) k) (he : ∀ r k, e (ix2 r k) = f (near t 0 r) k)
    (q : Fin 768) (k : Fin n) : window3 a b e q k = f (wrow t q) k := by
  have := q.isLt
  unfold window3
  split
  · refine (ha _ k).trans (congrArg (f · k) (Fin.ext ?_))
    show 256 * (t.val - 2) + q.val = 256 * (t.val - (2 - q.val / 256)) + q.val % 256
    rw [Nat.div_eq_of_lt (by omega), Nat.mod_eq_of_lt (by omega)]
  · split
    · refine (hb _ k).trans (congrArg (f · k) (Fin.ext ?_))
      show 256 * (t.val - 1) + (q.val - 256) = 256 * (t.val - (2 - q.val / 256)) + q.val % 256
      rw [show q.val / 256 = 1 by omega, show q.val % 256 = q.val - 256 by omega]
    · refine (he _ k).trans (congrArg (f · k) (Fin.ext ?_))
      show 256 * (t.val - 0) + (q.val - 256 - 256) = 256 * (t.val - (2 - q.val / 256)) + q.val % 256
      rw [show q.val / 256 = 2 by omega, show q.val % 256 = q.val - 256 - 256 by omega]

theorem keys_at (c : Dev nD) (t : Fin cfg0.N) (q : Fin 768) (k : Fin 512) : keys m c t q k = xk m c (wrow t q) k :=
  row3 (xk m c) _ _ _ t (read1 m c t) (read2 m c t) (read3 m c t) q k

theorem values_at (c : Dev nD) (t : Fin cfg0.N) (q : Fin 768) (k : Fin 512) : values m c t q k = xv m c (wrow t q) k :=
  row3 (xv m c) _ _ _ t (read4 m c t) (read5 m c t) (read6 m c t) q k

theorem blockDelta_at (c : Dev nD) (t : Fin cfg0.N) (e : Fin 8) (r : Fin 256) :
    blockDelta m c t e r = delta (xq m c) (xk m c) (xv m c) (xg m c) (xb m c) e (row t r) := by
  unfold blockDelta delta
  refine congrArg (fun f : Fin 64 → EReal => ∑ d, f d) (funext fun d => ?_)
  exact congrArg₂ (fun x y : EReal => x * y) (read9 m c t r _) (read10 m c t r e d)

end Cert.DqIdeal.Point
-- ==== Proof.DqReal.lean ====
module

public import proofs.«01_k».proof.Proof.DqBias
public import proofs.«01_k».proof.Proof.AttWindow
public import proofs.«01_k».proof.Proof.AttMath

/-! # A block of gradients over finite arguments

  With every argument finite, the block's gradients are the sums over all key rows: the queries don't attend to those outside the three blocks. -/

@[expose] public section

set_option maxRecDepth 16384

noncomputable section

namespace Cert.DqIdeal.Point

open Cert.DqIdeal Cert.DqIdeal.Gen Idealize.ShloMosaic Idealize.ShloMosaic.TcCoe Idealize.SL.Sem
open Idealize.ShloMosaic.Pipeline (Dat)
open Cert.Attention

variable (m : (ℓ : Loc nD τ sig) → Buf (Elt Ideal) ℓ)

variable (q k v g : Fin 16384 → Fin 512 → ℝ) (b : Fin 8 → Fin 16384 → Fin 16384 → ℝ)

theorem meets_seen {t : Fin cfg0.N} {r : Fin 256} {n : Fin 768} (h : meets t r n) : seen (row t r).val (wrow t n).val := by
  rw [show (wrow t n).val = 256 * t.val + n.val - 512 from by have := wrow_val t n h.1; omega]
  exact h.2

theorem blockShare_real (c : Dev nD) (hq : xq m c = up q) (hk : xk m c = up k) (hb : xb m c = up3 b)
    (t : Fin cfg0.N) (e : Fin 8) (r : Fin 256) (n : Fin 768) :
    blockShare m c t e r n = ((if meets t r n then share q k b e (row t r) (wrow t n) else 0 : ℝ) : EReal) := by
  unfold blockShare
  rw [biases_at, read8, hq, hk, hb,
    show (∑ d, queryBlock m c t r (lane e d) * scale * keys m c t n (lane e d))
      = ((∑ d, q (row t r) (lane e d) * (1 / 8) * k (wrow t n) (lane e d) : ℝ) : EReal) from ?_]
  · refine exp_share q k b _ _ e (row t r) (wrow t n) ?_ meets_seen
    rw [Finset.sum_mul]
    exact Finset.sum_congr rfl fun d _ => by ring
  · rw [coe_sum]
    refine Finset.sum_congr rfl fun d _ => ?_
    rw [keys_at, show queryBlock m c t r (lane e d) = xq m c (row t r) (lane e d) from read0 m c t r _, hq, hk, scale_eq, EReal.coe_mul, EReal.coe_mul]

/-- A sum over the window's keys is the sum over all keys. -/
theorem sum_keys (t : Fin cfg0.N) (r : Fin 256) (f : Fin 16384 → ℝ) (hf : ∀ j : Fin 16384, ¬ seen (row t r).val j.val → f j = 0) :
    ∑ n : Fin 768, (if meets t r n then f (wrow t n) else 0) = ∑ j, f j := by
  have ht : t.val < 64 := t.isLt
  have hr := r.isLt
  refine sum_window (wrow t) (meets t r) (fun n h => if_neg h) (fun n h => if_pos h) (fun n n' h h' e => ?_) (fun j h => hf j fun hs => ?_)
  · have e := congrArg Fin.val e
    have := wrow_val t n h.1
    have := wrow_val t n' h'.1
    exact Fin.ext (by omega)
  · obtain ⟨h1, h2⟩ := hs
    have h1 : j.val / 64 ≤ (256 * t.val + r.val) / 64 := h1
    have h2 : (256 * t.val + r.val) / 64 ≤ j.val / 64 + 8 := h2
    have hj := j.isLt
    have hp : 256 * t.val + (j.val + 512 - 256 * t.val) = j.val + 512 := by omega
    have hm : meets t r ⟨j.val + 512 - 256 * t.val, by omega⟩ := ⟨by show 512 ≤ 256 * t.val + (j.val + 512 - 256 * t.val); omega, by
      show seen (256 * t.val + r.val) (256 * t.val + (j.val + 512 - 256 * t.val) - 512)
      rw [hp, Nat.add_sub_cancel]
      exact ⟨h1, h2⟩⟩
    exact h _ hm (Fin.ext (Nat.add_right_cancel ((wrow_val t _ hm.1).trans hp)))

theorem blockDquery_real (c : Dev nD) (hq : xq m c = up q) (hk : xk m c = up k) (hv : xv m c = up v) (hg : xg m c = up g) (hb : xb m c = up3 b)
    (t : Fin cfg0.N) (e : Fin 8) (r : Fin 256) (d : Fin 64) :
    blockDquery m c t e r d = dquery (xq m c) (xk m c) (xv m c) (xg m c) (xb m c) e (row t r) d := by
  rw [hq, hk, hv, hg, hb, dquery_real, ← sum_keys t r _ (fun j h => by rw [rdscore_of_not_seen q k v g b h]; ring)]
  unfold blockDquery
  have hn : ∀ n, blockShare m c t e r n * (∑ x, cotangentBlock m c t r (lane e x) * values m c t n (lane e x) - blockDelta m c t e r) * keys m c t n (lane e d)
      = (((if meets t r n then rdscore q k v g b e (row t r) (wrow t n) else 0) * k (wrow t n) (lane e d) : ℝ) : EReal) := fun n => by
    have hd : ∑ x, cotangentBlock m c t r (lane e x) * values m c t n (lane e x) = ((rdshare v g e (row t r) (wrow t n) : ℝ) : EReal) := by
      rw [rdshare, coe_sum]
      refine Finset.sum_congr rfl fun x _ => ?_
      rw [values_at, show cotangentBlock m c t r (lane e x) = xg m c (row t r) (lane e x) from read9 m c t r _, hg, hv, EReal.coe_mul]
    rw [blockShare_real m q k b c hq hk hb, hd, blockDelta_at, keys_at, hq, hk, hv, hg, hb, delta_real, ← EReal.coe_sub, ← EReal.coe_mul, ← EReal.coe_mul]
    refine congrArg _ ?_
    split
    · rw [rdscore]
    · ring
  rw [Finset.sum_congr rfl fun n _ => hn n, ← coe_sum, scale_eq, ← EReal.coe_mul]
  refine congrArg _ ?_
  rw [Finset.sum_mul]
  refine Finset.sum_congr rfl fun n _ => ?_
  split <;> ring

end Cert.DqIdeal.Point
-- ==== Proof.DqTile.lean ====
module

public import proofs.«01_k».proof.Proof.DqWindows

/-! # The operations of one tile

  A tile of the kernel works on two heads, one in each half of its 128 lanes. Every lemma reads one entry of a group of its operations over arbitrary arrays. -/

@[expose] public section

set_option maxRecDepth 16384

noncomputable section

namespace Cert.DqIdeal.Point

open Cert.DqIdeal Cert.DqIdeal.Gen Idealize.ShloMosaic Idealize.ShloMosaic.TcCoe Idealize.SL.Sem
open Idealize.ShloMosaic.Pipeline (Dat)
open Cert.Attention

variable (m : (ℓ : Loc nD τ sig) → Buf (Elt Ideal) ℓ)

abbrev Q128 := FVec Ideal S256x128 .bf16
abbrev K128 := FVec Ideal S768x128 .bf16
abbrev Scores := FVec Ideal S256x768 .f32

/-- The lanes of a tile's first head. -/
abbrev lowerLanes : IVec S1x128 1 := cmpi .slt (iota .tc S1x128 32 [1] iota_S1x128_d1_w32) (broadcast S1x128 64#32)
/-- The lanes of its second head. -/
abbrev upperLanes : IVec S1x128 1 := cmpi .sge (iota .tc S1x128 32 [1] iota_S1x128_d1_w32) (broadcast S1x128 64#32)

/-- A tile where only some lanes are kept. -/
abbrev kept {φ : FTy} (mask : IVec S1x128 1) (x : FVec Ideal S256x128 φ) (z : Ideal φ) : FVec Ideal S256x128 φ :=
  select (broadcastTo S256x128 (shapeCast S1x128 mask shapeCasts_S1x128_S1x128) broadcasts_S1x128_S256x128) x (broadcast S256x128 z)

/-- The same of the keys' tile. -/
abbrev keptKeys (mask : IVec S1x128 1) (x : K128) (z : Ideal .bf16) : K128 :=
  select (broadcastTo S768x128 (shapeCast S1x128 mask shapeCasts_S1x128_S1x128) broadcasts_S1x128_S768x128) x (broadcast S768x128 z)

/-- The products of a head's rows with the window's rows. -/
abbrev products (mask : IVec S1x128 1) (x : Q128) (y : K128) : Scores :=
  matmul (F := Ideal) dot_S256x128_S768x128_S256x768_1_1_0_0_n_n none (kept mask x (Scalar.sitofp .bf16 0#32)) y (constant S256x768 .f32 0x00000000#32)

/-- A head's sums of a row's lanes. -/
abbrev laneSums (mask : IVec S1x128 1) (x : FVec Ideal S256x128 .f32) : FVec Ideal S256x1 .f32 :=
  shapeCast S256x1 (multiReduction (F := Ideal) .add [1] S256 (kept mask x (Scalar.ofBits .f32 0x00000000#32)) 0x00000000#32 reduces_S256x128_S256 (.inl rfl) rfl) shapeCasts_S256_S256x1

/-- The gradient of the scores. -/
abbrev scoreGrads (s b : Scores) (l : FVec Ideal S256x1 .f32) (p : Scores) (e : FVec Ideal S256x1 .f32) : Scores :=
  mulf (exp (subf (addf s b) (broadcastTo S256x768 l broadcasts_S256x1_S256x768))) (subf p (broadcastTo S256x768 e broadcasts_S256x1_S256x768))

/-- A head's part of the tile's gradient. -/
abbrev part (mask : IVec S1x128 1) (g : Scores) (y : K128) : FVec Ideal S256x128 .f32 :=
  mulf (matmul (F := Ideal) dot_S256x768_S768x128_S256x128_1_0_0_1_n_n none (truncf .bf16 g bitsLt_bf16_f32) (keptKeys mask y (Scalar.sitofp .bf16 0#32))
    (constant S256x128 .f32 0x00000000#32)) (broadcast S256x128 (Scalar.ofBits .f32 0x3E000000#32))

/-- The tile. -/
abbrev tile (g g' : Scores) (y : K128) : Q128 :=
  truncf .bf16 (addf (addf (broadcast S256x128 (Scalar.ofBits .f32 0x00000000#32)) (part lowerLanes g y)) (part upperLanes g' y)) bitsLt_bf16_f32

theorem products_lower (x : Q128) (y : K128) (r : Fin 256) (n : Fin 768) : products lowerLanes x y (ix2 r n)
    = ∑ d : Fin 64, x (ix2 r (⟨0 + d.val, by omega⟩ : Fin 128)) * y (ix2 n (⟨0 + d.val, by omega⟩ : Fin 128)) := by
  pointwise
  rw [sum_lower]
  simp only [Nat.zero_add]

theorem laneSums_lower (x : FVec Ideal S256x128 .f32) (r : Fin 256) : laneSums lowerLanes x (ix2 r 0)
    = ∑ d : Fin 64, x (ix2 r (⟨0 + d.val, by omega⟩ : Fin 128)) := by
  pointwise
  exact halfSum_lower fun k => x (ix2 r k)

theorem products_upper (x : Q128) (y : K128) (r : Fin 256) (n : Fin 768) : products upperLanes x y (ix2 r n)
    = ∑ d : Fin 64, x (ix2 r (⟨64 + d.val, by omega⟩ : Fin 128)) * y (ix2 n (⟨64 + d.val, by omega⟩ : Fin 128)) := by
  pointwise
  rw [sum_upper]

theorem laneSums_upper (x : FVec Ideal S256x128 .f32) (r : Fin 256) : laneSums upperLanes x (ix2 r 0)
    = ∑ d : Fin 64, x (ix2 r (⟨64 + d.val, by omega⟩ : Fin 128)) := by
  pointwise
  exact halfSum_upper fun k => x (ix2 r k)

theorem scoreGrads_at (s b : Scores) (l : FVec Ideal S256x1 .f32) (p : Scores) (e : FVec Ideal S256x1 .f32) (r : Fin 256) (n : Fin 768) :
    scoreGrads s b l p e (ix2 r n) = Ideal.exp (s (ix2 r n) + b (ix2 r n) - l (ix2 r 0)) * (p (ix2 r n) - e (ix2 r 0)) := by
  pointwise

theorem tile_at (g g' : Scores) (y : K128) (r : Fin 256) (k : Fin 128) : tile g g' y (ix2 r k)
    = if k.val < 64 then (∑ n, g (ix2 r n) * y (ix2 n k)) * scale else (∑ n, g' (ix2 r n) * y (ix2 n k)) * scale := by
  pointwise
  exact pick_part _ _ _ k

end Cert.DqIdeal.Point
-- ==== Proof.DqBlocks.lean ====
module

public import proofs.«01_k».proof.Proof.DqTile

/-! # The blocks of query gradients

  Every tile the kernel stores, two heads each, as the sums of `blockDquery`. -/

@[expose] public section

set_option maxRecDepth 16384

noncomputable section

namespace Cert.DqIdeal.Point

open Cert.DqIdeal Cert.DqIdeal.Gen Idealize.ShloMosaic Idealize.ShloMosaic.TcCoe Idealize.SL.Sem
open Idealize.ShloMosaic.Pipeline (Dat)
open Cert.Attention

variable (m : (ℓ : Loc nD τ sig) → Buf (Elt Ideal) ℓ)

/-- A head's part of a tile's entry, from what the entries of its operands are. -/
theorem entry_of (g : Scores) (y : K128) (c : Dev nD) (t : Fin cfg0.N) (e : Fin 8) (r : Fin 256) (d : Fin 64) (k : Fin 128)
    (hg : ∀ n, g (ix2 r n) = blockShare m c t e r n * (∑ j, cotangentBlock m c t r (lane e j) * values m c t n (lane e j) - blockDelta m c t e r))
    (hy : ∀ n, y (ix2 n k) = keys m c t n (lane e d)) :
    (∑ n, g (ix2 r n) * y (ix2 n k)) * scale = blockDquery m c t e r d := by
  unfold blockDquery
  simp only [hg, hy]

/-- The scores' gradient, from what the entries of its operands are. -/
theorem grads_of (s b : Scores) (l : FVec Ideal S256x1 .f32) (p : Scores) (u : FVec Ideal S256x1 .f32) (c : Dev nD) (t : Fin cfg0.N)
    (e : Fin 8) (r : Fin 256) (n : Fin 768)
    (hs : s (ix2 r n) = ∑ d, queryBlock m c t r (lane e d) * scale * keys m c t n (lane e d)) (hb : b (ix2 r n) = biasBlock m c t e r n)
    (hl : l (ix2 r 0) = logSumBlock m c t r e)
    (hp : p (ix2 r n) = ∑ d, cotangentBlock m c t r (lane e d) * values m c t n (lane e d)) (hu : u (ix2 r 0) = blockDelta m c t e r) :
    scoreGrads s b l p u (ix2 r n)
      = blockShare m c t e r n * (∑ j, cotangentBlock m c t r (lane e j) * values m c t n (lane e j) - blockDelta m c t e r) := by
  rw [scoreGrads_at, hs, hb, hl, hp, hu]
  rfl

theorem lane_zero (d : Fin 64) : lane 0 d = ⟨d.val, by omega⟩ := Fin.ext (by show 0 * 64 + d.val = d.val; omega)

set_option maxHeartbeats 8000000 in
theorem block11 (c : Dev nD) (t : Fin cfg0.N) (y : S256x512.Idx) (r : Fin 256) (e : Fin 8) (d : Fin 64) (hr : (y 0).val = r.val)
    (hd : (y 1).val = 64 * e.val + d.val) : (outsAt0 m c t).1 y = blockDquery m c t e r d := by
  unfold outsAt0
  frame_out
  obtain ⟨e, he⟩ := e
  canon_tiles x h
  all_goals
    obtain ⟨a, k, hx⟩ : ∃ a k, x = ix2 a k := ⟨x 0, x 1, ValueIdx.eq_ix2 x⟩
    have hk : (x 1).val = k.val := by rw [hx]; rfl
    subst hx
    obtain rfl : r = a := Fin.ext (hr.symm.trans h0)
    unfold_payloads
    refine (tile_at _ _ _ _ _).trans ?_
    split
    · next hx =>
      obtain rfl : k = ⟨0 + d.val, by have := d.isLt; clear * - this; omega⟩ := Fin.ext (by show k.val = 0 + d.val; dsimp only at hd; omega)
      interval_cases e <;> first
        | (exfalso; dsimp only at hd hk; omega)
        | (refine entry_of m _ _ c t _ r d _ (fun n => grads_of m _ _ _ _ _ c t _ r n ((products_lower _ _ _ _).trans ?_) ?_ ?_
            ((products_lower _ _ _ _).trans ?_) ((laneSums_lower _ _).trans ?_)) fun n => ?_
           all_goals pointwise
           all_goals (try simp only [← Nat.add_assoc, Nat.reduceAdd])
           all_goals (try unfold blockDelta)
           all_goals (try simp only [lane_zero])
           all_goals rfl)
    · next hx =>
      obtain rfl : k = ⟨64 + d.val, by have := d.isLt; clear * - this; omega⟩ := Fin.ext (by show k.val = 64 + d.val; dsimp only at hd; omega)
      interval_cases e <;> first
        | (exfalso; dsimp only at hd hk; omega)
        | (refine entry_of m _ _ c t _ r d _ (fun n => grads_of m _ _ _ _ _ c t _ r n ((products_upper _ _ _ _).trans ?_) ?_ ?_
            ((products_upper _ _ _ _).trans ?_) ((laneSums_upper _ _).trans ?_)) fun n => ?_
           all_goals pointwise
           all_goals (try simp only [← Nat.add_assoc, Nat.reduceAdd])
           all_goals (try unfold blockDelta)
           all_goals (try simp only [lane_zero])
           all_goals rfl)

end Cert.DqIdeal.Point
-- ==== Proof.DqRefRead.lean ====
module

public import proofs.«01_k».proof.Proof.Gen.DqRefIdeal.Read
public import proofs.«01_k».proof.Proof.AttWords
public import proofs.«01_k».proof.Proof.TableLookup
public import Idealize.ShloMosaic.Lib.Pipeline.ValueKit
public import Idealize.ShloMosaic.Lib.Pointwise

/-! # The attention's reference, read off

  The lines of the reference before its results are the terms of `Cert.Attention` on the arguments' rows. -/

@[expose] public section

set_option maxRecDepth 16384

noncomputable section

namespace Cert.DqRefIdeal.Point

open Cert.DqRefIdeal Cert.DqRefIdeal.Read Idealize.ShloMosaic Idealize.ShloMosaic.TcCoe Idealize.SL.Sem
open Cert.Attention

variable (x0 x1 x2 : (⟨S16384x512, .f32⟩ : BufTy).Contents (Elt Ideal)) (x3 : (⟨S8x257, .f32⟩ : BufTy).Contents (Elt Ideal)) (x4 : (⟨S16384x512, .f32⟩ : BufTy).Contents (Elt Ideal))

/-- An argument's rows. -/
abbrev rows (x : (⟨S16384x512, .f32⟩ : BufTy).Contents (Elt Ideal)) : Fin 16384 → Fin 512 → EReal := fun i n => x (ix2 i n)

/-- The bias of a head between two rows. -/
abbrev biases (x : (⟨S8x257, .f32⟩ : BufTy).Contents (Elt Ideal)) : Fin 8 → Fin 16384 → Fin 16384 → EReal :=
  fun h i j => x (ix2 h (tableRow (apart i.val j.val)))

theorem lookup (x : (⟨S8x257, .f32⟩ : BufTy).Contents (Elt Ideal)) (idx : IVec S16384x16384x1 32) (h : Fin 8) (a b : Fin 16384) :
    Host.gather gather_S8x257_S16384x16384x1_S8x16384x16384_0_1_n_n_1_2_81 x idx (ix3 h a b)
      = x (ix2 h ⟨min (idx (ix3 a b 0)).toInt.toNat 256, by omega⟩) :=
  Cert.TableLookup.gather_columns _ rfl rfl rfl rfl rfl (by decide) x idx h a b

theorem score_at (h : Fin 8) (i j : Fin 16384) :
    val_main_v36_0 (F := Ideal) x0 x1 x3 (ix3 h i j) = score (rows x0) (rows x1) (biases x3) h i j := by
  pointwise [val_main_v0, val_main_v1, val_main_v2, val_main_v3, val_main_v4, val_main_cst, val_main_v5, val_main_v6,
      val_main_v7, val_main_c, val_main_v8, val_main_v9, val_main_c_0, val_main_v10, val_main_v11, val_main_c_1,
      val_main_v12, val_main_v13, val_main_c_2, val_main_v14, val_main_v15, val_main_c_3, val_main_v16, val_main_v17,
      val_main_v18, val_main_v19, val_main_v20, val_main_v21, val_main_c_4, val_main_v22, val_main_v23, val_main_c_5,
      val_main_v24, val_main_v25, val_main_v26, val_main_c_6, val_main_v27, val_main_v28, val_main_c_7, val_main_v29,
      val_main_v30, val_main_c_8, val_main_v31, val_main_v32, val_main_v33, val_main_v34, val_main_v35,
      val_main_cst_9, val_main_call0_v0, val_main_v36_1, val_main_call0_v2, val_main_v36_0]
  rw [lookup]
  pointwise
  rw [pick_seen i.isLt j.isLt]
  unfold score
  refine if_congr Iff.rfl ?_ neg_inf
  refine congrArg _ ?_
  rfl

theorem greatest_fold (h : Fin 8) (i : Fin 16384) : val_main_v37 (F := Ideal) x0 x1 x3 (ix2 h i)
    = Finset.fold max (val_main_cst_10 (F := Ideal) (Shape.Idx.first Gen.h_S_))
        (fun j => val_main_v36_0 (F := Ideal) x0 x1 x3 (ix3 h i j)) Finset.univ := by
  pointwise [val_main_v37]

theorem least_at : val_main_cst_10 (F := Ideal) (Shape.Idx.first Gen.h_S_) = (⊥ : EReal) := neg_inf

theorem greatest_at (h : Fin 8) (i : Fin 16384) :
    val_main_v37 (F := Ideal) x0 x1 x3 (ix2 h i) = top (rows x0) (rows x1) (biases x3) h i := by
  rw [greatest_fold, least_at]
  unfold top
  refine congrArg (fun f => Finset.fold max ⊥ f Finset.univ) ?_
  funext j
  exact score_at x0 x1 x3 h i j

theorem maximumf_at (a b : FVec Ideal S8x16384 .f32) (i : S8x16384.Idx) : maximumf a b i = max (a i) (b i) := rfl

theorem bound_at (h : Fin 8) (i : Fin 16384) : val_main_v43 (F := Ideal) (ix2 h i) = (⊥ : EReal) := by
  pointwise [val_main_v43, val_main_cst_12]
  exact neg_inf

theorem top_at (h : Fin 8) (i : Fin 16384) : val_main_v44 (F := Ideal) x0 x1 x3 (ix2 h i) = top (rows x0) (rows x1) (biases x3) h i := by
  unfold val_main_v44
  rw [maximumf_at, bound_at, greatest_at]
  exact max_eq_right bot_le

theorem weight_at (h : Fin 8) (i j : Fin 16384) :
    val_main_v57 (F := Ideal) x0 x1 x3 (ix3 h i j) = weight (rows x0) (rows x1) (biases x3) h i j := by
  pointwise [val_main_v54, val_main_v55, val_main_v56, val_main_v57]
  rw [score_at, top_at]
  rfl

theorem total_at (h : Fin 8) (i : Fin 16384) : val_main_v58 (F := Ideal) x0 x1 x3 (ix2 h i) = total (rows x0) (rows x1) (biases x3) h i := by
  pointwise [val_main_cst_18, val_main_v58]
  simp only [weight_at]
  rfl

theorem dshare_at (h : Fin 8) (i j : Fin 16384) : val_main_v71 (F := Ideal) x2 x4 (ix3 h i j) = dshare (rows x2) (rows x4) h i j := by
  pointwise [val_main_v65, val_main_v69, val_main_v70, val_main_v71]
  rfl

theorem dscore_at (h : Fin 8) (i j : Fin 16384) : val_main_v84 (F := Ideal) x0 x1 x2 x3 x4 (ix3 h i j)
    = dscore (rows x0) (rows x1) (rows x2) (rows x4) (biases x3) h i j := by
  pointwise [val_main_v36_1, val_main_v2, val_main_v3, val_main_c_4, val_main_v22, val_main_v23, val_main_c_5, val_main_v24, val_main_v25, val_main_v26, val_main_c_6,
      val_main_v27, val_main_v28, val_main_c_7, val_main_v29, val_main_v30, val_main_c_8, val_main_v31, val_main_v32,
      val_main_v33, val_main_v34, val_main_v35,
      val_main_v59, val_main_v62, val_main_v63, val_main_cst_19, val_main_v64,
      val_main_v72, val_main_v73, val_main_v74, val_main_cst_20, val_main_v75, val_main_v76, val_main_v77,
      val_main_v78, val_main_v79, val_main_cst_21, val_main_v80, val_main_v81, val_main_v82, val_main_v83,
      val_main_call1_cst, val_main_call1_v0, val_main_v84]
  simp only [dshare_at, total_at, weight_at]
  rw [pick_seen i.isLt j.isLt, Fin.sum_univ_one]
  rfl

theorem dquery_at (i : Fin 16384) (h : Fin 8) (d : Fin 64) : val_main_v88 (F := Ideal) x0 x1 x2 x3 x4 (ix3 i h d)
    = dquery (rows x0) (rows x1) (rows x2) (rows x4) (biases x3) h i d := by
  pointwise [val_main_v1, val_main_cst_22, val_main_v85, val_main_v86, val_main_v87, val_main_v88]
  simp only [dscore_at]
  rfl

/-- The reference's result: the queries' gradients in their columns, zero elsewhere. -/
theorem result_at (i : Fin 16384) (n : Fin 5760) : val_main_v91 (F := Ideal) x0 x1 x2 x3 x4 (ix2 i n)
    = if h : 4608 ≤ n.val ∧ n.val - 4608 < 512 then dquery (rows x0) (rows x1) (rows x2) (rows x4) (biases x3)
          ⟨(n.val - 4608) / 64, by omega⟩ i ⟨(n.val - 4608) % 64, by omega⟩
      else 0 := by
  pointwise [val_main_v89, val_main_v90, val_main_c_23, val_main_call2_v0, val_main_v91]
  simp only [dquery_at]
  split
  · rfl
  · exact sitofp_zero

end Cert.DqRefIdeal.Point
-- ==== Proof.AttFinite.lean ====
module

public import proofs.«01_k».proof.Defs
public import proofs.«01_k».proof.Proof.AttMath
public import Idealize.ShloMosaic.Lib.ReduceAll
public import Idealize.ShloMosaic.Lib.StableHlo.Predicate
public import Idealize.ShloMosaic.Lib.Pointwise

/-! # Finite arguments are real

  The precondition, read at an index of each argument. -/

@[expose] public section

set_option maxRecDepth 16384

noncomputable section

namespace Cert.AttFinite

open Idealize.ShloMosaic Cert.Pre_finite_arguments

theorem pre_facts : Cert.Pre_finite_arguments.Facts := ⟨by decide, by decide, by decide, by decide, by decide⟩

theorem real_of_lt (x : EReal) (h : FloatOps.cmpf (F := Ideal) (φ := .f32) .olt (FloatOps.absf (F := Ideal) (φ := .f32) x) (Ideal.ofBits .f32 0x7F800000#32) = 1#1) :
    ∃ y : ℝ, x = (y : EReal) := by
  have e : Ideal.ofBits .f32 0x7F800000#32 = ⊤ := by simp [Ideal.ofBits, Ideal.ieee]
  rw [e] at h
  induction x using EReal.rec with
  | bot => exact absurd h (by simp [FloatOps.cmpf, FloatOps.absf, Ideal.cmp])
  | top => exact absurd h (by simp [FloatOps.cmpf, FloatOps.absf, Ideal.cmp])
  | coe y => exact ⟨y, rfl⟩

/-- Every entry of every argument is a real number. -/
theorem real_entries (x0 x1 x2 : FVec Ideal S16384x512 .f32) (x3 : FVec Ideal S8x257 .f32) (x4 : FVec Ideal S16384x512 .f32) (j)
    (h : @Cert.Pre_finite_arguments.fn pre_facts Ideal _ x0 x1 x2 x3 x4 j = 1#1) :
    (∀ i, ∃ y : ℝ, x0 i = (y : EReal)) ∧ (∀ i, ∃ y : ℝ, x1 i = (y : EReal)) ∧ (∀ i, ∃ y : ℝ, x2 i = (y : EReal))
      ∧ (∀ i, ∃ y : ℝ, x3 i = (y : EReal)) ∧ (∀ i, ∃ y : ℝ, x4 i = (y : EReal)) := by
  have : Subsingleton S_.Idx := ⟨fun a b => by funext i; exact i.elim0⟩
  unfold Cert.Pre_finite_arguments.fn Cert.Pre_finite_arguments.fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_lt _ (Host.reduce_andi_all _ _ _ _ j h0 i), fun i => real_of_lt _ (Host.reduce_andi_all _ _ _ _ j h1 i),
    fun i => real_of_lt _ (Host.reduce_andi_all _ _ _ _ j h2 i), fun i => real_of_lt _ (Host.reduce_andi_all _ _ _ _ j h3 i),
    fun i => real_of_lt _ (Host.reduce_andi_all _ _ _ _ j h4 i)⟩

end Cert.AttFinite

end
-- ==== Proof.DqEq.lean ====
module

public import proofs.«01_k».proof.Proof.DqReal
public import proofs.«01_k».proof.Proof.DqBlocks
public import proofs.«01_k».proof.Proof.DqRefRead
public import proofs.«01_k».proof.Proof.AttFinite
public import proofs.«01_k».proof.Proof.Gen.DqRefIdeal.Run

/-! # Kernel and reference agree: the gradient of the queries

  The call's array against the reference's, entry by entry: the kernel writes the columns of the queries, and the rest stays zero. -/

@[expose] public section

set_option maxRecDepth 16384

noncomputable section

namespace Cert.DqIdeal.Point

open Cert.DqIdeal Cert.DqIdeal.Gen Idealize.ShloMosaic Idealize.ShloMosaic.TcCoe Idealize.SL.Sem
open Idealize.ShloMosaic.Pipeline (Dat)
open Cert.Attention

variable (m : (ℓ : Loc nD τ sig) → Buf (Elt Ideal) ℓ)

open Cert.DqRefIdeal.Read (val_main_v91 val_main_v91_eq)

/-- The gradient of the queries at row `i` and column `n` of the array. -/
def gradient (c : Dev nD) (i : Fin 16384) (n : Nat) : EReal :=
  dquery (xq m c) (xk m c) (xv m c) (xg m c) (xb m c) ⟨(n - 4608) / 64 % 8, Nat.mod_lt _ (by decide)⟩ i ⟨(n - 4608) % 64, Nat.mod_lt _ (by decide)⟩

/-- Every argument's entries are real numbers. -/
structure Real (c : Dev nD) where
  q : Fin 16384 → Fin 512 → ℝ
  k : Fin 16384 → Fin 512 → ℝ
  v : Fin 16384 → Fin 512 → ℝ
  g : Fin 16384 → Fin 512 → ℝ
  b : Fin 8 → Fin 16384 → Fin 16384 → ℝ
  hq : xq m c = up q
  hk : xk m c = up k
  hv : xv m c = up v
  hg : xg m c = up g
  hb : xb m c = up3 b

theorem real_of_pre (h : @Cert.Pre_DqIdeal_finite_arguments Cert.AttFinite.pre_facts m) (c : Dev nD) : Nonempty (Real m c) := by
  obtain ⟨h0, h1, h2, h3, h4⟩ := Cert.AttFinite.real_entries _ _ _ _ _ _ (congrFun (h c) (fun a => a.elim0))
  choose f0 h0 using h0
  choose f1 h1 using h1
  choose f2 h2 using h2
  choose f3 h3 using h3
  choose f4 h4 using h4
  exact ⟨⟨fun i n => f0 (ix2 i n), fun i n => f1 (ix2 i n), fun i n => f2 (ix2 i n), fun i n => f4 (ix2 i n),
    fun h i j => f3 (ix2 h (tableRow (apart i.val j.val))), by funext i n; exact h0 _, by funext i n; exact h1 _, by funext i n; exact h2 _,
    by funext i n; exact h4 _, by funext h i j; exact h3 _⟩⟩

variable {m}

theorem block_gradient {c : Dev nD} (R : Real m c) (t : Fin cfg0.N) (y : S256x512.Idx) :
    (outsAt0 m c t).1 y = gradient m c (row t (y 0)) (4608 + (y 1).val) := by
  have hy : (y 1).val < 512 := (y 1).isLt
  refine (block11 m c t y (y 0) ⟨(y 1).val / 64, by omega⟩ ⟨(y 1).val % 64, by omega⟩ rfl (by show (y 1).val = 64 * ((y 1).val / 64) + (y 1).val % 64; omega)).trans ?_
  unfold gradient
  refine (blockDquery_real m R.q R.k R.v R.g R.b c R.hq R.hk R.hv R.hg R.hb t _ (y 0) _).trans ?_
  refine congrArg₂ (fun e d => dquery (xq m c) (xk m c) (xv m c) (xg m c) (xb m c) e (row t (y 0)) d) (Fin.ext ?_) (Fin.ext ?_)
  · show (y 1).val / 64 = (4608 + (y 1).val - 4608) / 64 % 8
    omega
  · show (y 1).val % 64 = (4608 + (y 1).val - 4608) % 64
    omega

theorem idx11 : ∀ t : Fin cfg0.N, win0_11.index t = ![t.val, 9] := (by decide +kernel : ∀ t : Fin grid0.N, win0_11.index t = ![t.val, 9])

theorem out11 {c : Dev nD} (R : Real m c) : (dats m 0 c).arrAt 11 cfg0.N
    = fun i => if (i 1).val / 512 = 9 then gradient m c (i 0) (i 1).val else V m c main_v104 i := by
  refine (dats m 0 c).arrAt_eq_of_coversWhere 11 (fun i => gradient m c (i 0) (i 1).val) (fun β => β 1 = 9) (by decide +kernel) (fun t hf y => ?_) (fun j => Iff.rfl)
  rw [after0_11]
  refine (block_gradient R t ((cfg0.win 11).xinj (cfg0.grid.coords t) y)).trans ?_
  refine congrArg₂ (gradient m c) ?_ ?_
  · refine Fin.ext ?_
    blk_simp
    rw [idx11 t]
    show 256 * t.val + (y 0).val = t.val * 256 + (y 0).val
    omega
  · show 4608 + (y 1).val = win0_11.index t 1 * 512 + 1 * (y 1).val
    rw [idx11 t]
    show 4608 + (y 1).val = 9 * 512 + 1 * (y 1).val
    omega

theorem rest_line (c : Dev nD) : V m c main_v104 = broadcastInDim S16384x5760 ![] bcast_S_S16384x5760 (constant (F := Ideal) S_ .bf16 0x0000#16) := by
  unfold V
  after_reads_simp

theorem rest_zero (c : Dev nD) (i : S16384x5760.Idx) : V m c main_v104 i = (0 : EReal) := by
  rw [rest_line]
  pointwise

/-- The call's array is the reference's. -/
theorem dq_eq {c : Dev nD} (R : Real m c) : (dats m 0 c).arrAt 11 cfg0.N
    = val_main_v91 (m ((c : Thread nD τ).loc main_arg0)) (m ((c : Thread nD τ).loc main_arg1)) (m ((c : Thread nD τ).loc main_arg2))
      (m ((c : Thread nD τ).loc main_arg3)) (m ((c : Thread nD τ).loc main_arg4)) := by
  rw [out11 R]
  funext i
  obtain ⟨r, n, rfl⟩ : ∃ (r : Fin 16384) (n : Fin 5760), i = ix2 r n := ⟨i 0, i 1, ValueIdx.eq_ix2 i⟩
  refine Eq.trans ?_ (Cert.DqRefIdeal.Point.result_at _ _ _ _ _ r n).symm
  show (if n.val / 512 = 9 then gradient m c r n.val else V m c main_v104 (ix2 r n)) = _
  by_cases h : n.val / 512 = 9
  · rw [if_pos h, dif_pos (by omega)]
    unfold gradient
    refine congrArg₂ (fun e d => dquery (xq m c) (xk m c) (xv m c) (xg m c) (xb m c) e r d) (Fin.ext ?_) rfl
    show (n.val - 4608) / 64 % 8 = (n.val - 4608) / 64
    omega
  · rw [if_neg h, dif_neg (by omega), rest_zero]

set_option maxHeartbeats 1000000 in
/-- The kernel computes the reference's gradient of the queries, from memories that agree on finite arguments. -/
theorem agree : @Cert.algebraic_DqIdeal_DqRefIdeal_pre_finite_arguments Cert.DqIdeal.Gen.facts Cert.DqRefIdeal.Gen.facts Cert.AttFinite.pre_facts := by
  intro m g m' g' hpre hargs
  refine ⟨fun c => (dats m 0 c).arrAt 11 cfg0.N, ?_, ?_⟩
  · exact (θ_run _ _ _).mono (fun r h c => ⟨(h c).1, (h c).2.2⟩) (Cert.DqIdeal.Value.run_blocks (F := Ideal) m g)
  · refine (θ_run _ _ _).mono (fun r h c => ?_) (Cert.DqRefIdeal.Value.run (F := Ideal) m' g')
    obtain ⟨h0, hk⟩ := h c
    obtain ⟨a0, a1, a2, a3, a4⟩ := hargs c
    obtain ⟨R⟩ := real_of_pre m hpre c
    refine ⟨(h0.trans (val_main_v91_eq _ _)).trans ?_, hk⟩
    rw [a0, a1, a2, a3, a4]
    exact (dq_eq R).symm

end Cert.DqIdeal.Point
-- ==== Proof.DkvSaved.lean ====
module

public import proofs.«01_k».proof.Proof.Gen.DkvIdeal.Value
public import proofs.«01_k».proof.Proof.AttWords
public import proofs.«01_k».proof.Proof.TableLookup
public import Idealize.ShloMosaic.Lib.Pipeline.ValueKit
public import Idealize.ShloMosaic.Lib.Pointwise
public import Idealize.ShloMosaic.Lib.StableHlo.RunRead

/-! # The values saved by the forward lines

  The rows' logarithms of summed exponentials and the output, which the host computes before the call, are the terms of `Cert.Attention`. -/

@[expose] public section

set_option maxRecDepth 16384

noncomputable section

namespace Cert.DkvIdeal.Point

open Cert.DkvIdeal Cert.DkvIdeal.Gen Idealize.ShloMosaic Idealize.ShloMosaic.TcCoe Idealize.SL.Sem
open Idealize.ShloMosaic.Pipeline (Dat)
open Cert.Attention

variable (m : (ℓ : Loc nD τ sig) → Buf (Elt Ideal) ℓ)

/-- The arguments' rows. -/
abbrev xq (c : Dev nD) (i : Fin 16384) (n : Fin 512) : EReal := (m ((c : Thread nD τ).loc main_arg0) : (⟨S16384x512, .f32⟩ : BufTy).Contents (Elt Ideal)) (ix2 i n)
abbrev xk (c : Dev nD) (i : Fin 16384) (n : Fin 512) : EReal := (m ((c : Thread nD τ).loc main_arg1) : (⟨S16384x512, .f32⟩ : BufTy).Contents (Elt Ideal)) (ix2 i n)
abbrev xv (c : Dev nD) (i : Fin 16384) (n : Fin 512) : EReal := (m ((c : Thread nD τ).loc main_arg2) : (⟨S16384x512, .f32⟩ : BufTy).Contents (Elt Ideal)) (ix2 i n)
abbrev xg (c : Dev nD) (i : Fin 16384) (n : Fin 512) : EReal := (m ((c : Thread nD τ).loc main_arg4) : (⟨S16384x512, .f32⟩ : BufTy).Contents (Elt Ideal)) (ix2 i n)
/-- The table of biases. -/
abbrev table (c : Dev nD) : (⟨S8x257, .f32⟩ : BufTy).Contents (Elt Ideal) := m ((c : Thread nD τ).loc main_arg3)
/-- The bias of a head between two rows. -/
abbrev xb (c : Dev nD) (h : Fin 8) (i j : Fin 16384) : EReal := table m c (ix2 h (tableRow (apart i.val j.val)))

theorem lookup (x : (⟨S8x257, .f32⟩ : BufTy).Contents (Elt Ideal)) (idx : IVec S16384x16384x1 32) (h : Fin 8) (a b : Fin 16384) :
    Host.gather gather_S8x257_S16384x16384x1_S8x16384x16384_0_1_n_n_1_2_81 x idx (ix3 h a b)
      = x (ix2 h ⟨min (idx (ix3 a b 0)).toInt.toNat 256, by omega⟩) :=
  Cert.TableLookup.gather_columns _ rfl rfl rfl rfl rfl (by decide) x idx h a b

theorem score_at (c : Dev nD) (h : Fin 8) (i j : Fin 16384) : V m c main_v36 (ix3 h i j) = score (xq m c) (xk m c) (xb m c) h i j := by
  unfold V
  after_reads_simp
  simp only [StableHlo.TRef.toBuf, StableHlo.TRef.ofBuf, cast_eq, id_eq]
  pointwise
  rw [lookup]
  pointwise
  rw [pick_seen i.isLt j.isLt]
  unfold score
  refine if_congr Iff.rfl ?_ neg_inf
  refine congrArg _ ?_
  rfl

theorem top_line (c : Dev nD) : V m c main_v37 = Host.reduce (FloatOps.maximumf (F := Ideal) (φ := .f32)) (V m c main_v36) (constant (F := Ideal) S_ .f32 0xFF800000#32)
    reducesTo_S8x16384x16384_S8x16384_d2 h_S_ := by
  unfold V
  after_reads_simp

theorem fold_at (x : (⟨S8x16384x16384, .f32⟩ : BufTy).Contents (Elt Ideal)) (v : (⟨S_, .f32⟩ : BufTy).Contents (Elt Ideal)) (h : Fin 8) (i : Fin 16384) :
    Host.reduce (FloatOps.maximumf (F := Ideal) (φ := .f32)) x v reducesTo_S8x16384x16384_S8x16384_d2 h_S_ (ix2 h i)
      = Finset.fold max (v (Shape.Idx.first h_S_)) (fun j => x (ix3 h i j)) Finset.univ := by
  pointwise

theorem least_at : constant (F := Ideal) S_ .f32 0xFF800000#32 (Shape.Idx.first h_S_) = (⊥ : EReal) := neg_inf

theorem top_at (c : Dev nD) (h : Fin 8) (i : Fin 16384) : V m c main_v37 (ix2 h i) = top (xq m c) (xk m c) (xb m c) h i := by
  rw [top_line, fold_at, least_at]
  unfold top
  refine congrArg (fun f : Fin 16384 → EReal => Finset.fold max (⊥ : EReal) f Finset.univ) ?_
  funext j
  exact score_at m c h i j

abbrev SS := (⟨S8x16384x16384, .f32⟩ : BufTy).Contents (Elt Ideal)
abbrev HR := (⟨S8x16384, .f32⟩ : BufTy).Contents (Elt Ideal)

theorem weight_line (c : Dev nD) : V m c main_v41 = Host.exp (F := Ideal) (φ := .f32) (subf (F := Ideal) (φ := .f32) (V m c main_v36)
    (broadcastInDim S8x16384x16384 ![0, 1, 2] bcast_S8x16384x1_S8x16384x16384_0_1_2
      (broadcastInDim S8x16384x1 ![0, 1] bcast_S8x16384_S8x16384x1_0_1 (V m c main_v37 : HR)))) := by
  unfold V
  after_reads_simp

theorem exp_sub_at (x : SS) (y : HR) (h : Fin 8) (i j : Fin 16384) : Host.exp (F := Ideal) (φ := .f32) (subf (F := Ideal) (φ := .f32) x
    (broadcastInDim S8x16384x16384 ![0, 1, 2] bcast_S8x16384x1_S8x16384x16384_0_1_2
      (broadcastInDim S8x16384x1 ![0, 1] bcast_S8x16384_S8x16384x1_0_1 y))) (ix3 h i j) = Ideal.exp (x (ix3 h i j) - y (ix2 h i)) := by
  pointwise

theorem weight_at (c : Dev nD) (h : Fin 8) (i j : Fin 16384) : V m c main_v41 (ix3 h i j) = weight (xq m c) (xk m c) (xb m c) h i j := by
  rw [weight_line, exp_sub_at, score_at, top_at]
  rfl

theorem total_line (c : Dev nD) : V m c main_v42 = Host.reduceAdd (F := Ideal) (φ := .f32) (V m c main_v41) (constant (F := Ideal) S_ .f32 0x00000000#32)
    reducesTo_S8x16384x16384_S8x16384_d2 h_S_ := by
  unfold V
  after_reads_simp

theorem sum_at (x : SS) (h : Fin 8) (i : Fin 16384) : Host.reduceAdd (F := Ideal) (φ := .f32) x (constant (F := Ideal) S_ .f32 0x00000000#32)
    reducesTo_S8x16384x16384_S8x16384_d2 h_S_ (ix2 h i) = ∑ j, x (ix3 h i j) := by
  pointwise

theorem total_at (c : Dev nD) (h : Fin 8) (i : Fin 16384) : V m c main_v42 (ix2 h i) = total (xq m c) (xk m c) (xb m c) h i := by
  rw [total_line, sum_at]
  exact congrArg (fun f : Fin 16384 → EReal => ∑ j, f j) (funext fun j => weight_at m c h i j)

theorem logSum_line (c : Dev nD) : V m c main_v51 = shapeCast S8x16384 (addf (F := Ideal) (φ := .f32)
    (broadcastInDim S8x16384x1 ![0, 1] bcast_S8x16384_S8x16384x1_0_1 (V m c main_v37 : HR))
    (Host.log (F := Ideal) (φ := .f32) (broadcastInDim S8x16384x1 ![0, 1] bcast_S8x16384_S8x16384x1_0_1 (V m c main_v42 : HR)))) shapeCasts_S8x16384x1_S8x16384 := by
  unfold V
  after_reads_simp
  rfl

theorem add_log_at (x y : HR) (h : Fin 8) (i : Fin 16384) : shapeCast S8x16384 (addf (F := Ideal) (φ := .f32)
    (broadcastInDim S8x16384x1 ![0, 1] bcast_S8x16384_S8x16384x1_0_1 x)
    (Host.log (F := Ideal) (φ := .f32) (broadcastInDim S8x16384x1 ![0, 1] bcast_S8x16384_S8x16384x1_0_1 y))) shapeCasts_S8x16384x1_S8x16384 (ix2 h i)
      = x (ix2 h i) + Ideal.log (y (ix2 h i)) := by
  pointwise

theorem logSum_at (c : Dev nD) (h : Fin 8) (i : Fin 16384) : V m c main_v51 (ix2 h i) = logSum (xq m c) (xk m c) (xb m c) h i := by
  rw [logSum_line, add_log_at, top_at, total_at]
  rfl

theorem output_line (c : Dev nD) : V m c main_v52 = shapeCast S16384x512 (transpose S16384x8x64 [2, 0, 1]
    (Host.dotGeneral (F := Ideal) (φ₁ := .f32) (φ₂ := .f32) dot_S16384x8x64_S8x16384x16384_S8x64x16384_0_2_2_1_1_0 none
      (shapeCast S16384x8x64 (V m c main_arg2 : (⟨S16384x512, .f32⟩ : BufTy).Contents (Elt Ideal)) shapeCasts_S16384x512_S16384x8x64)
      (Host.divf (F := Ideal) (φ := .f32) (V m c main_v41) (broadcastInDim S8x16384x16384 ![0, 1, 2] bcast_S8x16384x1_S8x16384x16384_0_1_2
      (broadcastInDim S8x16384x1 ![0, 1] bcast_S8x16384_S8x16384x1_0_1 (V m c main_v42 : HR))))) transposes_S8x64x16384_S16384x8x64_2_0_1)
    shapeCasts_S16384x8x64_S16384x512 := by
  unfold V
  after_reads_simp
  rfl

theorem weighted_row (v : (⟨S16384x512, .f32⟩ : BufTy).Contents (Elt Ideal)) (x : SS) (y : HR) (i : Fin 16384) (n : Fin 512) :
    shapeCast S16384x512 (transpose S16384x8x64 [2, 0, 1]
    (Host.dotGeneral (F := Ideal) (φ₁ := .f32) (φ₂ := .f32) dot_S16384x8x64_S8x16384x16384_S8x64x16384_0_2_2_1_1_0 none
      (shapeCast S16384x8x64 v shapeCasts_S16384x512_S16384x8x64)
      (Host.divf (F := Ideal) (φ := .f32) x (broadcastInDim S8x16384x16384 ![0, 1, 2] bcast_S8x16384x1_S8x16384x16384_0_1_2
      (broadcastInDim S8x16384x1 ![0, 1] bcast_S8x16384_S8x16384x1_0_1 y)))) transposes_S8x64x16384_S16384x8x64_2_0_1)
    shapeCasts_S16384x8x64_S16384x512 (ix2 i n)
      = ∑ j, v (ix2 j n) * Ideal.div (x (ix3 ⟨n.val / 64, by omega⟩ i j)) (y (ix2 ⟨n.val / 64, by omega⟩ i)) := by
  pointwise

theorem output_at (c : Dev nD) (i : Fin 16384) (h : Fin 8) (d : Fin 64) : V m c main_v52 (ix2 i (lane h d))
    = output (xq m c) (xk m c) (xv m c) (xb m c) h i d := by
  refine (congrFun (output_line m c) _).trans ((weighted_row _ _ _ i (lane h d)).trans ?_)
  have hh : (⟨(lane h d).val / 64, by have := (lane h d).isLt; omega⟩ : Fin 8) = h := Fin.ext (by show (h.val * 64 + d.val) / 64 = h.val; omega)
  refine congrArg (fun f : Fin 16384 → EReal => ∑ j, f j) (funext fun j => congrArg₂ (fun x y : EReal => x * y) (by entry_read; rfl)
    (congrArg₂ Ideal.div ((weight_at m c _ i j).trans (congrArg (fun h => weight (xq m c) (xk m c) (xb m c) h i j) hh))
      ((total_at m c _ i).trans (congrArg (fun h => total (xq m c) (xk m c) (xb m c) h i) hh))))

theorem delta_line (c : Dev nD) : V m c main_v56 = transpose S8x16384 [1, 0] (Host.reduceAdd (F := Ideal) (φ := .f32)
    (shapeCast S16384x8x64 (mulf (F := Ideal) (φ := .f32) (V m c main_arg4) (V m c main_v52 : (⟨S16384x512, .f32⟩ : BufTy).Contents (Elt Ideal))) shapeCasts_S16384x512_S16384x8x64)
    (constant (F := Ideal) S_ .f32 0x00000000#32) reducesTo_S16384x8x64_S16384x8_d2 h_S_) transposes_S16384x8_S8x16384_1_0 := by
  unfold V
  after_reads_simp
  rfl

theorem row_sum_at (x y : (⟨S16384x512, .f32⟩ : BufTy).Contents (Elt Ideal)) (h : Fin 8) (i : Fin 16384) : transpose S8x16384 [1, 0] (Host.reduceAdd (F := Ideal) (φ := .f32)
    (shapeCast S16384x8x64 (mulf (F := Ideal) (φ := .f32) x y) shapeCasts_S16384x512_S16384x8x64)
    (constant (F := Ideal) S_ .f32 0x00000000#32) reducesTo_S16384x8x64_S16384x8_d2 h_S_) transposes_S16384x8_S8x16384_1_0 (ix2 h i)
      = ∑ d, x (ix2 i (lane h d)) * y (ix2 i (lane h d)) := by
  pointwise
  rfl

theorem delta_at (c : Dev nD) (h : Fin 8) (i : Fin 16384) : V m c main_v56 (ix2 h i)
    = delta (xq m c) (xk m c) (xv m c) (xg m c) (xb m c) h i := by
  rw [delta_line, row_sum_at]
  refine congrArg (fun f : Fin 64 → EReal => ∑ d, f d) (funext fun d => ?_)
  rw [output_at]
  refine congrArg (fun x : EReal => x * _) ?_
  entry_read
  rfl

end Cert.DkvIdeal.Point
-- ==== Proof.DkvWindows.lean ====
module

public import proofs.«01_k».proof.Proof.Gen.DkvIdeal.Value
public import proofs.«01_k».proof.Proof.AttHalves
public import proofs.«01_k».proof.Proof.AttWindow
public import Idealize.ShloMosaic.Lib.Pipeline.ValueKit
public import Idealize.ShloMosaic.Lib.Pointwise

/-! # What a block of key rows' gradients is computed from

  One grid point of the kernel takes 256 rows of keys and values and the 768 query rows that may attend to them. -/

@[expose] public section

set_option maxRecDepth 16384

noncomputable section

namespace Cert.DkvIdeal.Point

open Cert.DkvIdeal Cert.DkvIdeal.Gen Idealize.ShloMosaic Idealize.ShloMosaic.TcCoe Idealize.SL.Sem
open Idealize.ShloMosaic.Pipeline (Dat)
open Cert.Attention

variable (m : (ℓ : Loc nD τ sig) → Buf (Elt Ideal) ℓ)

abbrev keyBlock (c : Dev nD) (t : Fin cfg0.N) (r : Fin 256) (k : Fin 512) : EReal := X0_0 m c t (ix2 r k)
abbrev valueBlock (c : Dev nD) (t : Fin cfg0.N) (r : Fin 256) (k : Fin 512) : EReal := X0_1 m c t (ix2 r k)
abbrev queries (c : Dev nD) (t : Fin cfg0.N) : Fin 768 → Fin 512 → EReal := window3 (X0_2 m c t) (X0_3 m c t) (X0_4 m c t)
abbrev cotangents (c : Dev nD) (t : Fin cfg0.N) : Fin 768 → Fin 512 → EReal := window3 (iblk m c 5 t) (iblk m c 6 t) (iblk m c 7 t)
abbrev logSums (c : Dev nD) (t : Fin cfg0.N) : Fin 8 → Fin 768 → EReal := window3' (iblk m c 8 t) (iblk m c 9 t) (iblk m c 10 t)
abbrev deltas (c : Dev nD) (t : Fin cfg0.N) : Fin 8 → Fin 768 → EReal := window3' (iblk m c 11 t) (iblk m c 12 t) (iblk m c 13 t)
abbrev biasBlock (c : Dev nD) (t : Fin cfg0.N) (e : Fin 8) (r : Fin 256) (q : Fin 768) : EReal := iblk m c 14 t (ix4 0 e r q)

/-- A query's share of a key, as the kernel computes it from the scores' logarithm. -/
def blockShare (c : Dev nD) (t : Fin cfg0.N) (e : Fin 8) (r : Fin 256) (q : Fin 768) : EReal :=
  Ideal.exp (∑ d, keyBlock m c t r (lane e d) * (queries m c t q (lane e d) * scale) + biasBlock m c t e r q - logSums m c t e q)

/-- The gradient of a value row that the kernel computes. -/
def blockDvalue (c : Dev nD) (t : Fin cfg0.N) (e : Fin 8) (r : Fin 256) (d : Fin 64) : EReal :=
  ∑ q, blockShare m c t e r q * cotangents m c t q (lane e d)

/-- The gradient of a key row that the kernel computes. -/
def blockDkey (c : Dev nD) (t : Fin cfg0.N) (e : Fin 8) (r : Fin 256) (d : Fin 64) : EReal :=
  ∑ q, blockShare m c t e r q * (∑ k, valueBlock m c t r (lane e k) * cotangents m c t q (lane e k) - deltas m c t e q)
    * (queries m c t q (lane e d) * scale)

/-- The output block's columns: eight heads of keys, then eight of values. -/
def blockOut (c : Dev nD) (t : Fin cfg0.N) (e : Fin 16) (r : Fin 256) (d : Fin 64) : EReal :=
  if h : e.val < 8 then blockDkey m c t ⟨e.val, h⟩ r d else blockDvalue m c t ⟨e.val - 8, by omega⟩ r d

end Cert.DkvIdeal.Point
-- ==== Proof.DkvReads.lean ====
module

public import proofs.«01_k».proof.Proof.DkvSaved
public import proofs.«01_k».proof.Proof.DkvWindows

/-! # What a grid point's blocks hold

  Each block, read at an index, is a row of an argument, of the saved values or of the table of biases. -/

@[expose] public section

set_option maxRecDepth 16384

noncomputable section

namespace Cert.DkvIdeal.Point

open Cert.DkvIdeal Cert.DkvIdeal.Gen Idealize.ShloMosaic Idealize.ShloMosaic.TcCoe Idealize.SL.Sem
open Idealize.ShloMosaic.Pipeline (Dat)
open Cert.Attention

variable (m : (ℓ : Loc nD τ sig) → Buf (Elt Ideal) ℓ)

/-- Row `r` of grid point `t`'s block of keys. -/
def row (t : Fin cfg0.N) (r : Fin 256) : Fin 16384 := ⟨256 * t.val + r.val, by have := r.isLt; have : t.val < 64 := t.isLt; omega⟩

/-- Row `r` of the block `o` blocks on, the last block standing for those past the end. -/
def near (t : Fin cfg0.N) (o : Nat) (r : Fin 256) : Fin 16384 :=
  ⟨256 * min (t.val + o) 63 + r.val, by have := r.isLt; omega⟩

theorem idx0 : ∀ t : Fin cfg0.N, win0_0.index t = ![t.val, 4] := (by decide +kernel : ∀ t : Fin grid0.N, win0_0.index t = ![t.val, 4])
theorem idx1 : ∀ t : Fin cfg0.N, win0_1.index t = ![t.val, 5] := (by decide +kernel : ∀ t : Fin grid0.N, win0_1.index t = ![t.val, 5])
theorem idx2 : ∀ t : Fin cfg0.N, win0_2.index t = ![min (t.val + 0) 63, 9] := (by decide +kernel : ∀ t : Fin grid0.N, win0_2.index t = ![min (t.val + 0) 63, 9])
theorem idx3 : ∀ t : Fin cfg0.N, win0_3.index t = ![min (t.val + 1) 63, 9] := (by decide +kernel : ∀ t : Fin grid0.N, win0_3.index t = ![min (t.val + 1) 63, 9])
theorem idx4 : ∀ t : Fin cfg0.N, win0_4.index t = ![min (t.val + 2) 63, 9] := (by decide +kernel : ∀ t : Fin grid0.N, win0_4.index t = ![min (t.val + 2) 63, 9])
theorem idx5 : ∀ t : Fin cfg0.N, win0_5.index t = ![min (t.val + 0) 63, 0] := (by decide +kernel : ∀ t : Fin grid0.N, win0_5.index t = ![min (t.val + 0) 63, 0])
theorem idx6 : ∀ t : Fin cfg0.N, win0_6.index t = ![min (t.val + 1) 63, 0] := (by decide +kernel : ∀ t : Fin grid0.N, win0_6.index t = ![min (t.val + 1) 63, 0])
theorem idx7 : ∀ t : Fin cfg0.N, win0_7.index t = ![min (t.val + 2) 63, 0] := (by decide +kernel : ∀ t : Fin grid0.N, win0_7.index t = ![min (t.val + 2) 63, 0])
theorem idx8 : ∀ t : Fin cfg0.N, win0_8.index t = ![0, min (t.val + 0) 63] := (by decide +kernel : ∀ t : Fin grid0.N, win0_8.index t = ![0, min (t.val + 0) 63])
theorem idx9 : ∀ t : Fin cfg0.N, win0_9.index t = ![0, min (t.val + 1) 63] := (by decide +kernel : ∀ t : Fin grid0.N, win0_9.index t = ![0, min (t.val + 1) 63])
theorem idx10 : ∀ t : Fin cfg0.N, win0_10.index t = ![0, min (t.val + 2) 63] := (by decide +kernel : ∀ t : Fin grid0.N, win0_10.index t = ![0, min (t.val + 2) 63])
theorem idx11 : ∀ t : Fin cfg0.N, win0_11.index t = ![0, min (t.val + 0) 63] := (by decide +kernel : ∀ t : Fin grid0.N, win0_11.index t = ![0, min (t.val + 0) 63])
theorem idx12 : ∀ t : Fin cfg0.N, win0_12.index t = ![0, min (t.val + 1) 63] := (by decide +kernel : ∀ t : Fin grid0.N, win0_12.index t = ![0, min (t.val + 1) 63])
theorem idx13 : ∀ t : Fin cfg0.N, win0_13.index t = ![0, min (t.val + 2) 63] := (by decide +kernel : ∀ t : Fin grid0.N, win0_13.index t = ![0, min (t.val + 2) 63])
theorem idx14 : ∀ t : Fin cfg0.N, win0_14.index t = ![min (63 - t.val) 2, 0, 0, 0] := (by decide +kernel : ∀ t : Fin grid0.N, win0_14.index t = ![min (63 - t.val) 2, 0, 0, 0])

/-- The packed projection as the call receives it: keys, values and queries in the kernel's columns, zero elsewhere. -/
theorem packed (c : Dev nD) : V m c main_v60 = concatenate S16384x5760 1
    [⟨S16384x2048, broadcastInDim S16384x2048 ![] bcast_S_S16384x2048 (constant (F := Ideal) S_ .f32 0x00000000#32)⟩,
    ⟨S16384x512, (V m c main_arg1 : (⟨S16384x512, .f32⟩ : BufTy).Contents (Elt Ideal))⟩,
    ⟨S16384x512, (V m c main_arg2 : (⟨S16384x512, .f32⟩ : BufTy).Contents (Elt Ideal))⟩,
    ⟨S16384x1536, broadcastInDim S16384x1536 ![] bcast_S_S16384x1536 (constant (F := Ideal) S_ .f32 0x00000000#32)⟩,
    ⟨S16384x512, (V m c main_arg0 : (⟨S16384x512, .f32⟩ : BufTy).Contents (Elt Ideal))⟩,
    ⟨S16384x640, broadcastInDim S16384x640 ![] bcast_S_S16384x640 (constant (F := Ideal) S_ .f32 0x00000000#32)⟩]
    concatenates_S16384x2048_S16384x512_S16384x512_S16384x1536_S16384x512_S16384x640_S16384x5760_d1 := by
  unfold V
  after_reads_simp
  rfl

theorem packed_keys (c : Dev nD) (i : Fin 16384) (n : Fin 512) : V m c main_v60 (ix2 i ⟨2048 + n.val, by omega⟩) = xk m c i n := by
  rw [packed]
  refine (concatenate_apply_piece 1 _ _ (ix2 i (⟨2048 + n.val, by omega⟩ : Fin 5760)) 1 (by show 1 < 6; omega) S16384x512 _ rfl rfl 2048 rfl (ix2 i n) ?_ (by simp)).trans ?_
  · intro b hb
    fin_cases b
    · rfl
    · exact absurd rfl hb
  · entry_read
    rfl

theorem packed_values (c : Dev nD) (i : Fin 16384) (n : Fin 512) : V m c main_v60 (ix2 i ⟨2560 + n.val, by omega⟩) = xv m c i n := by
  rw [packed]
  refine (concatenate_apply_piece 1 _ _ (ix2 i (⟨2560 + n.val, by omega⟩ : Fin 5760)) 2 (by show 2 < 6; omega) S16384x512 _ rfl rfl 2560 rfl (ix2 i n) ?_ (by simp)).trans ?_
  · intro b hb
    fin_cases b
    · rfl
    · exact absurd rfl hb
  · entry_read
    rfl

theorem packed_queries (c : Dev nD) (i : Fin 16384) (n : Fin 512) : V m c main_v60 (ix2 i ⟨4608 + n.val, by omega⟩) = xq m c i n := by
  rw [packed]
  refine (concatenate_apply_piece 1 _ _ (ix2 i (⟨4608 + n.val, by omega⟩ : Fin 5760)) 4 (by show 4 < 6; omega) S16384x512 _ rfl rfl 4608 rfl (ix2 i n) ?_ (by simp)).trans ?_
  · intro b hb
    fin_cases b
    · rfl
    · exact absurd rfl hb
  · entry_read
    rfl

theorem read0 (c : Dev nD) (t : Fin cfg0.N) (r : Fin 256) (k : Fin 512) : X0_0 m c t (ix2 r k) = xk m c (row t r) k := by
  unfold X0_0 Pipeline.Window.fill
  rw [dif_pos (moved0_0 t _)]
  refine Eq.trans (b := V m c main_v60 (ix2 (row t r) ⟨2048 + k.val, by have := k.isLt; omega⟩)) ?_ (packed_keys m c _ k)
  blk_simp [iblk]
  blk_ext [idx0 t, row, near]

theorem read1 (c : Dev nD) (t : Fin cfg0.N) (r : Fin 256) (k : Fin 512) : X0_1 m c t (ix2 r k) = xv m c (row t r) k := by
  unfold X0_1 Pipeline.Window.fill
  rw [dif_pos (moved0_1 t _)]
  refine Eq.trans (b := V m c main_v60 (ix2 (row t r) ⟨2560 + k.val, by have := k.isLt; omega⟩)) ?_ (packed_values m c _ k)
  blk_simp [iblk]
  blk_ext [idx1 t, row, near]

theorem read2 (c : Dev nD) (t : Fin cfg0.N) (r : Fin 256) (k : Fin 512) : X0_2 m c t (ix2 r k) = xq m c (near t 0 r) k := by
  unfold X0_2 Pipeline.Window.fill
  rw [dif_pos (moved0_2 t _)]
  refine Eq.trans (b := V m c main_v60 (ix2 (near t 0 r) ⟨4608 + k.val, by have := k.isLt; omega⟩)) ?_ (packed_queries m c _ k)
  blk_simp [iblk]
  blk_ext [idx2 t, row, near]

theorem read3 (c : Dev nD) (t : Fin cfg0.N) (r : Fin 256) (k : Fin 512) : X0_3 m c t (ix2 r k) = xq m c (near t 1 r) k := by
  unfold X0_3 Pipeline.Window.fill
  rw [dif_pos (moved0_3 t _)]
  refine Eq.trans (b := V m c main_v60 (ix2 (near t 1 r) ⟨4608 + k.val, by have := k.isLt; omega⟩)) ?_ (packed_queries m c _ k)
  blk_simp [iblk]
  blk_ext [idx3 t, row, near]

theorem read4 (c : Dev nD) (t : Fin cfg0.N) (r : Fin 256) (k : Fin 512) : X0_4 m c t (ix2 r k) = xq m c (near t 2 r) k := by
  unfold X0_4 Pipeline.Window.fill
  rw [dif_pos (moved0_4 t _)]
  refine Eq.trans (b := V m c main_v60 (ix2 (near t 2 r) ⟨4608 + k.val, by have := k.isLt; omega⟩)) ?_ (packed_queries m c _ k)
  blk_simp [iblk]
  blk_ext [idx4 t, row, near]

theorem read5 (c : Dev nD) (t : Fin cfg0.N) (r : Fin 256) (k : Fin 512) : iblk m c 5 t (ix2 r k) = xg m c (near t 0 r) k := by
  blk_simp [iblk]
  entry_read
  blk_ext [idx5 t, near]

theorem read6 (c : Dev nD) (t : Fin cfg0.N) (r : Fin 256) (k : Fin 512) : iblk m c 6 t (ix2 r k) = xg m c (near t 1 r) k := by
  blk_simp [iblk]
  entry_read
  blk_ext [idx6 t, near]

theorem read7 (c : Dev nD) (t : Fin cfg0.N) (r : Fin 256) (k : Fin 512) : iblk m c 7 t (ix2 r k) = xg m c (near t 2 r) k := by
  blk_simp [iblk]
  entry_read
  blk_ext [idx7 t, near]

theorem take8 (x : HR) (t : Fin cfg0.N) (e : Fin 8) (r : Fin 256) :
    ((cfg0.win 8).blk t).view.read (Elt Ideal) x (ix2 e r) = x (ix2 e (near t 0 r)) := by
  blk_simp
  blk_ext [idx8 t, near]

theorem read8 (c : Dev nD) (t : Fin cfg0.N) (e : Fin 8) (r : Fin 256) : iblk m c 8 t (ix2 e r)
    = logSum (xq m c) (xk m c) (xb m c) e (near t 0 r) :=
  (take8 (V m c main_v51) t e r).trans (logSum_at m c e _)

theorem take9 (x : HR) (t : Fin cfg0.N) (e : Fin 8) (r : Fin 256) :
    ((cfg0.win 9).blk t).view.read (Elt Ideal) x (ix2 e r) = x (ix2 e (near t 1 r)) := by
  blk_simp
  blk_ext [idx9 t, near]

theorem read9 (c : Dev nD) (t : Fin cfg0.N) (e : Fin 8) (r : Fin 256) : iblk m c 9 t (ix2 e r)
    = logSum (xq m c) (xk m c) (xb m c) e (near t 1 r) :=
  (take9 (V m c main_v51) t e r).trans (logSum_at m c e _)

theorem take10 (x : HR) (t : Fin cfg0.N) (e : Fin 8) (r : Fin 256) :
    ((cfg0.win 10).blk t).view.read (Elt Ideal) x (ix2 e r) = x (ix2 e (near t 2 r)) := by
  blk_simp
  blk_ext [idx10 t, near]

theorem read10 (c : Dev nD) (t : Fin cfg0.N) (e : Fin 8) (r : Fin 256) : iblk m c 10 t (ix2 e r)
    = logSum (xq m c) (xk m c) (xb m c) e (near t 2 r) :=
  (take10 (V m c main_v51) t e r).trans (logSum_at m c e _)

theorem take11 (x : HR) (t : Fin cfg0.N) (e : Fin 8) (r : Fin 256) :
    ((cfg0.win 11).blk t).view.read (Elt Ideal) x (ix2 e r) = x (ix2 e (near t 0 r)) := by
  blk_simp
  blk_ext [idx11 t, near]

theorem read11 (c : Dev nD) (t : Fin cfg0.N) (e : Fin 8) (r : Fin 256) : iblk m c 11 t (ix2 e r)
    = delta (xq m c) (xk m c) (xv m c) (xg m c) (xb m c) e (near t 0 r) :=
  (take11 (V m c main_v56) t e r).trans (delta_at m c e _)

theorem take12 (x : HR) (t : Fin cfg0.N) (e : Fin 8) (r : Fin 256) :
    ((cfg0.win 12).blk t).view.read (Elt Ideal) x (ix2 e r) = x (ix2 e (near t 1 r)) := by
  blk_simp
  blk_ext [idx12 t, near]

theorem read12 (c : Dev nD) (t : Fin cfg0.N) (e : Fin 8) (r : Fin 256) : iblk m c 12 t (ix2 e r)
    = delta (xq m c) (xk m c) (xv m c) (xg m c) (xb m c) e (near t 1 r) :=
  (take12 (V m c main_v56) t e r).trans (delta_at m c e _)

theorem take13 (x : HR) (t : Fin cfg0.N) (e : Fin 8) (r : Fin 256) :
    ((cfg0.win 13).blk t).view.read (Elt Ideal) x (ix2 e r) = x (ix2 e (near t 2 r)) := by
  blk_simp
  blk_ext [idx13 t, near]

theorem read13 (c : Dev nD) (t : Fin cfg0.N) (e : Fin 8) (r : Fin 256) : iblk m c 13 t (ix2 e r)
    = delta (xq m c) (xk m c) (xv m c) (xg m c) (xb m c) e (near t 2 r) :=
  (take13 (V m c main_v56) t e r).trans (delta_at m c e _)

end Cert.DkvIdeal.Point
-- ==== Proof.DkvBias.lean ====
module

public import proofs.«01_k».proof.Proof.DkvReads

/-! # The biases of a grid point's queries and keys

  The table of biases that the host lays out for three positions of a block, `⊥` where a query doesn't attend to a key. -/

@[expose] public section

set_option maxRecDepth 16384

noncomputable section

namespace Cert.DkvIdeal.Point

open Cert.DkvIdeal Cert.DkvIdeal.Gen Idealize.ShloMosaic Idealize.ShloMosaic.TcCoe Idealize.SL.Sem
open Idealize.ShloMosaic.Pipeline (Dat)
open Cert.Attention

variable (m : (ℓ : Loc nD τ sig) → Buf (Elt Ideal) ℓ)

theorem lookup_block (x : (⟨S8x257, .f32⟩ : BufTy).Contents (Elt Ideal)) (idx : IVec S256x768x1 32) (h : Fin 8) (a : Fin 256) (b : Fin 768) :
    Host.gather gather_S8x257_S256x768x1_S8x256x768_0_1_n_n_1_2_81 x idx (ix3 h a b)
      = x (ix2 h ⟨min (idx (ix3 a b 0)).toInt.toNat 256, by omega⟩) :=
  Cert.TableLookup.gather_columns _ rfl rfl rfl rfl rfl (by decide) x idx h a b

theorem word_limit (v : Fin 3) : IntOp.muli (IntOp.addi (BitVec.ofNat 32 v.val) 1#32) 256#32 = BitVec.ofNat 32 ((v.val + 1) * 256) := by
  revert v; decide

theorem pick_band {α : Type} (v : Fin 3) (r : Fin 256) (q : Fin 768) (x y : α) :
    Scalar.select (IntOp.andi (IntOp.andi
        (IntOp.cmpi .sge (IntOp.divsi ArithUnit.host (BitVec.ofNat 32 q.val) 64#32) (IntOp.divsi ArithUnit.host (BitVec.ofNat 32 r.val) 64#32))
        (IntOp.cmpi .sle (IntOp.divsi ArithUnit.host (BitVec.ofNat 32 q.val) 64#32)
          (IntOp.addi (IntOp.divsi ArithUnit.host (BitVec.ofNat 32 r.val) 64#32) 8#32)))
        (IntOp.cmpi .slt (BitVec.ofNat 32 q.val) (IntOp.muli (IntOp.addi (BitVec.ofNat 32 v.val) 1#32) 256#32))) x y
      = if seen q.val r.val ∧ q.val < (v.val + 1) * 256 then x else y := by
  refine pick_of_iff ?_ x y
  have := r.isLt
  have := q.isLt
  have := v.isLt
  rw [chunk_word (by omega), chunk_word (by omega), chunk_add, word_limit, and_eq_one, and_eq_one, sge_eq_one (by omega) (by omega), sle_eq_one (by omega) (by omega),
    slt_eq_one (by omega) (by omega)]

theorem bias_at (c : Dev nD) (v : Fin 3) (h : Fin 8) (r : Fin 256) (q : Fin 768) : V m c main_v101 (ix4 v h r q)
    = if seen q.val r.val ∧ q.val < (v.val + 1) * 256 then table m c (ix2 h (tableRow (apart q.val r.val))) else ⊥ := by
  unfold V
  after_reads_simp
  simp only [StableHlo.TRef.toBuf, StableHlo.TRef.ofBuf, cast_eq, id_eq]
  pointwise
  rw [lookup_block]
  pointwise
  rw [pick_band]
  exact if_congr Iff.rfl rfl neg_inf

theorem take14 (x : (⟨S3x8x256x768, .f32⟩ : BufTy).Contents (Elt Ideal)) (t : Fin cfg0.N) (e : Fin 8) (r : Fin 256) (q : Fin 768) :
    ((cfg0.win 14).blk t).view.read (Elt Ideal) x (ix4 0 e r q) = x (ix4 ⟨min (63 - t.val) 2, by omega⟩ e r q) := by
  blk_simp
  blk_ext [idx14 t]

/-- The row of the whole array that row `q` of a grid point's three blocks is. -/
def wrow (t : Fin cfg0.N) (q : Fin 768) : Fin 16384 := ⟨256 * min (t.val + q.val / 256) 63 + q.val % 256, by omega⟩

theorem wrow_val (t : Fin cfg0.N) (q : Fin 768) (h : 256 * t.val + q.val < 16384) : (wrow t q).val = 256 * t.val + q.val := by
  show 256 * min (t.val + q.val / 256) 63 + q.val % 256 = _
  omega

theorem biases_at (c : Dev nD) (t : Fin cfg0.N) (e : Fin 8) (r : Fin 256) (q : Fin 768) : biasBlock m c t e r q
    = if 256 * t.val + q.val < 16384 ∧ seen (256 * t.val + q.val) (row t r).val then xb m c e (wrow t q) (row t r) else ⊥ := by
  refine (take14 (V m c main_v101) t e r q).trans ((bias_at m c _ e r q).trans ?_)
  have ht : t.val < 64 := t.isLt
  have := q.isLt
  have := r.isLt
  by_cases h : 256 * t.val + q.val < 16384 ∧ seen (256 * t.val + q.val) (row t r).val
  · obtain ⟨h1, h2, h3⟩ := h
    have h2 : (256 * t.val + r.val) / 64 ≤ (256 * t.val + q.val) / 64 := h2
    have h3 : (256 * t.val + q.val) / 64 ≤ (256 * t.val + r.val) / 64 + 8 := h3
    rw [if_pos ⟨⟨by omega, by omega⟩, by simp only; omega⟩, if_pos ⟨h1, h2, h3⟩]
    show table m c (ix2 e (tableRow (apart q.val r.val))) = table m c (ix2 e (tableRow (apart (wrow t q).val (256 * t.val + r.val))))
    rw [wrow_val t q h1, apart_add]
  · rw [if_neg h, if_neg]
    rintro ⟨⟨h1, h2⟩, h3⟩
    simp only at h3
    refine h ⟨by omega, ?_, ?_⟩
    · show (256 * t.val + r.val) / 64 ≤ (256 * t.val + q.val) / 64
      omega
    · show (256 * t.val + q.val) / 64 ≤ (256 * t.val + r.val) / 64 + 8
      omega

theorem row3 {n : Nat} (f : Fin 16384 → Fin n → EReal) (a b e : (⟨2, ![256, n]⟩ : Shape).Idx → EReal) (t : Fin cfg0.N)
    (ha : ∀ r k, a (ix2 r k) = f (near t 0 r) k) (hb : ∀ r k, b (ix2 r k) = f (near t 1 r) k) (he : ∀ r k, e (ix2 r k) = f (near t 2 r) k)
    (q : Fin 768) (k : Fin n) : window3 a b e q k = f (wrow t q) k := by
  have := q.isLt
  unfold window3
  split
  · refine (ha _ k).trans (congrArg (f · k) (Fin.ext ?_))
    show 256 * min (t.val + 0) 63 + q.val = 256 * min (t.val + q.val / 256) 63 + q.val % 256
    rw [Nat.div_eq_of_lt (by omega), Nat.mod_eq_of_lt (by omega)]
  · split
    · refine (hb _ k).trans (congrArg (f · k) (Fin.ext ?_))
      show 256 * min (t.val + 1) 63 + (q.val - 256) = 256 * min (t.val + q.val / 256) 63 + q.val % 256
      rw [show q.val / 256 = 1 by omega, show q.val % 256 = q.val - 256 by omega]
    · refine (he _ k).trans (congrArg (f · k) (Fin.ext ?_))
      show 256 * min (t.val + 2) 63 + (q.val - 256 - 256) = 256 * min (t.val + q.val / 256) 63 + q.val % 256
      rw [show q.val / 256 = 2 by omega, show q.val % 256 = q.val - 256 - 256 by omega]

theorem col3 {n : Nat} (f : Fin n → Fin 16384 → EReal) (a b e : (⟨2, ![n, 256]⟩ : Shape).Idx → EReal) (t : Fin cfg0.N)
    (ha : ∀ k r, a (ix2 k r) = f k (near t 0 r)) (hb : ∀ k r, b (ix2 k r) = f k (near t 1 r)) (he : ∀ k r, e (ix2 k r) = f k (near t 2 r))
    (k : Fin n) (q : Fin 768) : window3' a b e k q = f k (wrow t q) := by
  have := q.isLt
  unfold window3'
  split
  · refine (ha k _).trans (congrArg (f k) (Fin.ext ?_))
    show 256 * min (t.val + 0) 63 + q.val = 256 * min (t.val + q.val / 256) 63 + q.val % 256
    rw [Nat.div_eq_of_lt (by omega), Nat.mod_eq_of_lt (by omega)]
  · split
    · refine (hb k _).trans (congrArg (f k) (Fin.ext ?_))
      show 256 * min (t.val + 1) 63 + (q.val - 256) = 256 * min (t.val + q.val / 256) 63 + q.val % 256
      rw [show q.val / 256 = 1 by omega, show q.val % 256 = q.val - 256 by omega]
    · refine (he k _).trans (congrArg (f k) (Fin.ext ?_))
      show 256 * min (t.val + 2) 63 + (q.val - 256 - 256) = 256 * min (t.val + q.val / 256) 63 + q.val % 256
      rw [show q.val / 256 = 2 by omega, show q.val % 256 = q.val - 256 - 256 by omega]

theorem queries_at (c : Dev nD) (t : Fin cfg0.N) (q : Fin 768) (k : Fin 512) : queries m c t q k = xq m c (wrow t q) k :=
  row3 (xq m c) _ _ _ t (read2 m c t) (read3 m c t) (read4 m c t) q k

theorem cotangents_at (c : Dev nD) (t : Fin cfg0.N) (q : Fin 768) (k : Fin 512) : cotangents m c t q k = xg m c (wrow t q) k :=
  row3 (xg m c) _ _ _ t (read5 m c t) (read6 m c t) (read7 m c t) q k

theorem logSums_at (c : Dev nD) (t : Fin cfg0.N) (e : Fin 8) (q : Fin 768) :
    logSums m c t e q = logSum (xq m c) (xk m c) (xb m c) e (wrow t q) :=
  col3 (logSum (xq m c) (xk m c) (xb m c)) _ _ _ t (read8 m c t) (read9 m c t) (read10 m c t) e q

theorem deltas_at (c : Dev nD) (t : Fin cfg0.N) (e : Fin 8) (q : Fin 768) :
    deltas m c t e q = delta (xq m c) (xk m c) (xv m c) (xg m c) (xb m c) e (wrow t q) :=
  col3 (delta (xq m c) (xk m c) (xv m c) (xg m c) (xb m c)) _ _ _ t (read11 m c t) (read12 m c t) (read13 m c t) e q

end Cert.DkvIdeal.Point
-- ==== Proof.DkvReal.lean ====
module

public import proofs.«01_k».proof.Proof.DkvBias
public import proofs.«01_k».proof.Proof.AttWindow
public import proofs.«01_k».proof.Proof.AttMath

/-! # A block of gradients over finite arguments

  With every argument finite, the block's gradients are the sums over all query rows: those outside the three blocks don't attend to the keys. -/

@[expose] public section

set_option maxRecDepth 16384

noncomputable section

namespace Cert.DkvIdeal.Point

open Cert.DkvIdeal Cert.DkvIdeal.Gen Idealize.ShloMosaic Idealize.ShloMosaic.TcCoe Idealize.SL.Sem
open Idealize.ShloMosaic.Pipeline (Dat)
open Cert.Attention

variable (m : (ℓ : Loc nD τ sig) → Buf (Elt Ideal) ℓ)

variable (q k v g : Fin 16384 → Fin 512 → ℝ) (b : Fin 8 → Fin 16384 → Fin 16384 → ℝ)

/-- The query row lies in the array and attends to the key row. -/
abbrev meets (t : Fin cfg0.N) (r : Fin 256) (n : Fin 768) : Prop :=
  256 * t.val + n.val < 16384 ∧ seen (256 * t.val + n.val) (row t r).val

theorem meets_seen {t : Fin cfg0.N} {r : Fin 256} {n : Fin 768} (h : meets t r n) : seen (wrow t n).val (row t r).val := by
  rw [wrow_val t n h.1]
  exact h.2

theorem blockShare_real (c : Dev nD) (hq : xq m c = up q) (hk : xk m c = up k) (hb : xb m c = up3 b)
    (t : Fin cfg0.N) (e : Fin 8) (r : Fin 256) (n : Fin 768) :
    blockShare m c t e r n = ((if meets t r n then share q k b e (wrow t n) (row t r) else 0 : ℝ) : EReal) := by
  unfold blockShare
  rw [biases_at, logSums_at, hq, hk, hb,
    show (∑ d, keyBlock m c t r (lane e d) * (queries m c t n (lane e d) * scale))
      = ((∑ d, k (row t r) (lane e d) * (q (wrow t n) (lane e d) * (1 / 8)) : ℝ) : EReal) from ?_]
  · refine exp_share q k b _ _ e (wrow t n) (row t r) ?_ meets_seen
    rw [Finset.sum_mul]
    exact Finset.sum_congr rfl fun d _ => by ring
  · rw [coe_sum]
    refine Finset.sum_congr rfl fun d _ => ?_
    rw [queries_at, show keyBlock m c t r (lane e d) = xk m c (row t r) (lane e d) from read0 m c t r _, hq, hk, scale_eq, EReal.coe_mul, EReal.coe_mul]

/-- A sum over the window's queries is the sum over all queries. -/
theorem sum_queries (t : Fin cfg0.N) (r : Fin 256) (f : Fin 16384 → ℝ) (hf : ∀ i : Fin 16384, ¬ seen i.val (row t r).val → f i = 0) :
    ∑ n : Fin 768, (if meets t r n then f (wrow t n) else 0) = ∑ i, f i := by
  have ht : t.val < 64 := t.isLt
  have hr := r.isLt
  refine sum_window (wrow t) (meets t r) (fun n h => if_neg h) (fun n h => if_pos h) (fun n n' h h' e => ?_) (fun i h => hf i fun hs => ?_)
  · have e := congrArg Fin.val e
    rw [wrow_val t n h.1, wrow_val t n' h'.1] at e
    exact Fin.ext (by omega)
  · obtain ⟨h1, h2⟩ := hs
    have h1 : (256 * t.val + r.val) / 64 ≤ i.val / 64 := h1
    have h2 : i.val / 64 ≤ (256 * t.val + r.val) / 64 + 8 := h2
    have hi := i.isLt
    have hp : 256 * t.val + (i.val - 256 * t.val) = i.val := by omega
    have hm : meets t r ⟨i.val - 256 * t.val, by omega⟩ := ⟨by show 256 * t.val + (i.val - 256 * t.val) < 16384; omega, by
      show seen (256 * t.val + (i.val - 256 * t.val)) (256 * t.val + r.val)
      rw [hp]
      exact ⟨h1, h2⟩⟩
    exact h _ hm (Fin.ext ((wrow_val t _ hm.1).trans hp))

theorem blockDvalue_real (c : Dev nD) (hq : xq m c = up q) (hk : xk m c = up k) (hg : xg m c = up g) (hb : xb m c = up3 b)
    (t : Fin cfg0.N) (e : Fin 8) (r : Fin 256) (d : Fin 64) :
    blockDvalue m c t e r d = dvalue (xq m c) (xk m c) (xg m c) (xb m c) e (row t r) d := by
  rw [hq, hk, hg, hb, dvalue_real, ← sum_queries t r _ (fun i h => by rw [share_of_not_seen q k b h, mul_zero]), coe_sum]
  unfold blockDvalue
  refine Finset.sum_congr rfl fun n _ => ?_
  rw [blockShare_real m q k b c hq hk hb, cotangents_at, hg, ← EReal.coe_mul]
  refine congrArg _ ?_
  split
  · exact mul_comm _ _
  · exact zero_mul _

theorem blockDkey_real (c : Dev nD) (hq : xq m c = up q) (hk : xk m c = up k) (hv : xv m c = up v) (hg : xg m c = up g) (hb : xb m c = up3 b)
    (t : Fin cfg0.N) (e : Fin 8) (r : Fin 256) (d : Fin 64) :
    blockDkey m c t e r d = dkey (xq m c) (xk m c) (xv m c) (xg m c) (xb m c) e (row t r) d := by
  rw [hq, hk, hv, hg, hb, dkey_real, ← sum_queries t r _ (fun i h => by rw [rdscore_of_not_seen q k v g b h]; ring), coe_sum]
  unfold blockDkey
  refine Finset.sum_congr rfl fun n _ => ?_
  have hd : ∑ x, valueBlock m c t r (lane e x) * cotangents m c t n (lane e x) = ((rdshare v g e (wrow t n) (row t r) : ℝ) : EReal) := by
    rw [rdshare, coe_sum]
    refine Finset.sum_congr rfl fun x _ => ?_
    rw [cotangents_at, show valueBlock m c t r (lane e x) = xv m c (row t r) (lane e x) from read1 m c t r _, hg, hv, mul_comm, EReal.coe_mul]
  rw [blockShare_real m q k b c hq hk hb, hd, deltas_at, queries_at, hq, hk, hv, hg, hb, delta_real, scale_eq, ← EReal.coe_sub, ← EReal.coe_mul,
    ← EReal.coe_mul, ← EReal.coe_mul]
  refine congrArg _ ?_
  split
  · rw [rdscore]
    ring
  · ring

end Cert.DkvIdeal.Point
-- ==== Proof.DkvBlocks.lean ====
module

public import proofs.«01_k».proof.Proof.DkvWindows

/-! # The blocks of key and value gradients

  Every tile the kernel stores, two heads each, as the sums of `blockDkey` and `blockDvalue`. -/

@[expose] public section

set_option maxRecDepth 16384

noncomputable section

namespace Cert.DkvIdeal.Point

open Cert.DkvIdeal Cert.DkvIdeal.Gen Idealize.ShloMosaic Idealize.ShloMosaic.TcCoe Idealize.SL.Sem
open Idealize.ShloMosaic.Pipeline (Dat)
open Cert.Attention

variable (m : (ℓ : Loc nD τ sig) → Buf (Elt Ideal) ℓ)

set_option maxHeartbeats 8000000 in
theorem block15 (c : Dev nD) (t : Fin cfg0.N) (y : S256x1024.Idx) (r : Fin 256) (e : Fin 16) (d : Fin 64) (hr : (y 0).val = r.val)
    (hd : (y 1).val = 64 * e.val + d.val) : outsAt0 m c t y = blockOut m c t e r d := by
  unfold outsAt0
  frame_out
  obtain ⟨e, he⟩ := e
  canon_tiles x h
  all_goals
    obtain ⟨a, k, hx⟩ : ∃ a k, x = ix2 a k := ⟨x 0, x 1, ValueIdx.eq_ix2 x⟩
    have hk : (x 1).val = k.val := by rw [hx]; rfl
    subst hx
    obtain rfl : r = a := Fin.ext (hr.symm.trans h0)
    unfold_payloads
    pointwise
    simp only [sum_lower, sum_upper, zero_add (M := EReal)]
    refine (pick_head _ _ _ _).trans ?_
    split
    · next hx =>
      obtain rfl : k = ⟨0 + d.val, by have := d.isLt; clear * - this; omega⟩ := Fin.ext (by show k.val = 0 + d.val; dsimp only at hd; omega)
      simp only [← Nat.add_assoc, Nat.reduceAdd]
      interval_cases e <;> first | (exfalso; dsimp only at hd hk; omega) | rfl
    · next hx =>
      obtain rfl : k = ⟨64 + d.val, by have := d.isLt; clear * - this; omega⟩ := Fin.ext (by show k.val = 64 + d.val; dsimp only at hd; omega)
      simp only [← Nat.add_assoc, Nat.reduceAdd]
      interval_cases e <;> first | (exfalso; dsimp only at hd hk; omega) | rfl

end Cert.DkvIdeal.Point
-- ==== Proof.DkvRefRead.lean ====
module

public import proofs.«01_k».proof.Proof.Gen.DkvRefIdeal.Read
public import proofs.«01_k».proof.Proof.AttWords
public import proofs.«01_k».proof.Proof.TableLookup
public import Idealize.ShloMosaic.Lib.Pipeline.ValueKit
public import Idealize.ShloMosaic.Lib.Pointwise

/-! # The attention's reference, read off

  The lines of the reference before its results are the terms of `Cert.Attention` on the arguments' rows. -/

@[expose] public section

set_option maxRecDepth 16384

noncomputable section

namespace Cert.DkvRefIdeal.Point

open Cert.DkvRefIdeal Cert.DkvRefIdeal.Read Idealize.ShloMosaic Idealize.ShloMosaic.TcCoe Idealize.SL.Sem
open Cert.Attention

variable (x0 x1 x2 : (⟨S16384x512, .f32⟩ : BufTy).Contents (Elt Ideal)) (x3 : (⟨S8x257, .f32⟩ : BufTy).Contents (Elt Ideal)) (x4 : (⟨S16384x512, .f32⟩ : BufTy).Contents (Elt Ideal))

/-- An argument's rows. -/
abbrev rows (x : (⟨S16384x512, .f32⟩ : BufTy).Contents (Elt Ideal)) : Fin 16384 → Fin 512 → EReal := fun i n => x (ix2 i n)

/-- The bias of a head between two rows. -/
abbrev biases (x : (⟨S8x257, .f32⟩ : BufTy).Contents (Elt Ideal)) : Fin 8 → Fin 16384 → Fin 16384 → EReal :=
  fun h i j => x (ix2 h (tableRow (apart i.val j.val)))

theorem lookup (x : (⟨S8x257, .f32⟩ : BufTy).Contents (Elt Ideal)) (idx : IVec S16384x16384x1 32) (h : Fin 8) (a b : Fin 16384) :
    Host.gather gather_S8x257_S16384x16384x1_S8x16384x16384_0_1_n_n_1_2_81 x idx (ix3 h a b)
      = x (ix2 h ⟨min (idx (ix3 a b 0)).toInt.toNat 256, by omega⟩) :=
  Cert.TableLookup.gather_columns _ rfl rfl rfl rfl rfl (by decide) x idx h a b

theorem score_at (h : Fin 8) (i j : Fin 16384) :
    val_main_v36_0 (F := Ideal) x0 x1 x3 (ix3 h i j) = score (rows x0) (rows x1) (biases x3) h i j := by
  pointwise [val_main_v0, val_main_v1, val_main_v2, val_main_v3, val_main_v4, val_main_cst, val_main_v5, val_main_v6,
      val_main_v7, val_main_c, val_main_v8, val_main_v9, val_main_c_0, val_main_v10, val_main_v11, val_main_c_1,
      val_main_v12, val_main_v13, val_main_c_2, val_main_v14, val_main_v15, val_main_c_3, val_main_v16, val_main_v17,
      val_main_v18, val_main_v19, val_main_v20, val_main_v21, val_main_c_4, val_main_v22, val_main_v23, val_main_c_5,
      val_main_v24, val_main_v25, val_main_v26, val_main_c_6, val_main_v27, val_main_v28, val_main_c_7, val_main_v29,
      val_main_v30, val_main_c_8, val_main_v31, val_main_v32, val_main_v33, val_main_v34, val_main_v35,
      val_main_cst_9, val_main_call0_v0, val_main_v36_1, val_main_call0_v2, val_main_v36_0]
  rw [lookup]
  pointwise
  rw [pick_seen i.isLt j.isLt]
  unfold score
  refine if_congr Iff.rfl ?_ neg_inf
  refine congrArg _ ?_
  rfl

theorem greatest_fold (h : Fin 8) (i : Fin 16384) : val_main_v37 (F := Ideal) x0 x1 x3 (ix2 h i)
    = Finset.fold max (val_main_cst_10 (F := Ideal) (Shape.Idx.first Gen.h_S_))
        (fun j => val_main_v36_0 (F := Ideal) x0 x1 x3 (ix3 h i j)) Finset.univ := by
  pointwise [val_main_v37]

theorem least_at : val_main_cst_10 (F := Ideal) (Shape.Idx.first Gen.h_S_) = (⊥ : EReal) := neg_inf

theorem greatest_at (h : Fin 8) (i : Fin 16384) :
    val_main_v37 (F := Ideal) x0 x1 x3 (ix2 h i) = top (rows x0) (rows x1) (biases x3) h i := by
  rw [greatest_fold, least_at]
  unfold top
  refine congrArg (fun f => Finset.fold max ⊥ f Finset.univ) ?_
  funext j
  exact score_at x0 x1 x3 h i j

theorem maximumf_at (a b : FVec Ideal S8x16384 .f32) (i : S8x16384.Idx) : maximumf a b i = max (a i) (b i) := rfl

theorem bound_at (h : Fin 8) (i : Fin 16384) : val_main_v43 (F := Ideal) (ix2 h i) = (⊥ : EReal) := by
  pointwise [val_main_v43, val_main_cst_12]
  exact neg_inf

theorem top_at (h : Fin 8) (i : Fin 16384) : val_main_v44 (F := Ideal) x0 x1 x3 (ix2 h i) = top (rows x0) (rows x1) (biases x3) h i := by
  unfold val_main_v44
  rw [maximumf_at, bound_at, greatest_at]
  exact max_eq_right bot_le

theorem weight_at (h : Fin 8) (i j : Fin 16384) :
    val_main_v57 (F := Ideal) x0 x1 x3 (ix3 h i j) = weight (rows x0) (rows x1) (biases x3) h i j := by
  pointwise [val_main_v54, val_main_v55, val_main_v56, val_main_v57]
  rw [score_at, top_at]
  rfl

theorem total_at (h : Fin 8) (i : Fin 16384) : val_main_v58 (F := Ideal) x0 x1 x3 (ix2 h i) = total (rows x0) (rows x1) (biases x3) h i := by
  pointwise [val_main_cst_18, val_main_v58]
  simp only [weight_at]
  rfl

theorem dshare_at (h : Fin 8) (i j : Fin 16384) : val_main_v71 (F := Ideal) x2 x4 (ix3 h i j) = dshare (rows x2) (rows x4) h i j := by
  pointwise [val_main_v65, val_main_v69, val_main_v70, val_main_v71]
  rfl

theorem dscore_at (h : Fin 8) (i j : Fin 16384) : val_main_v87 (F := Ideal) x0 x1 x2 x3 x4 (ix3 h i j)
    = dscore (rows x0) (rows x1) (rows x2) (rows x4) (biases x3) h i j := by
  pointwise [val_main_v36_1, val_main_v2, val_main_v3, val_main_c_4, val_main_v22, val_main_v23, val_main_c_5, val_main_v24, val_main_v25, val_main_v26, val_main_c_6,
      val_main_v27, val_main_v28, val_main_c_7, val_main_v29, val_main_v30, val_main_c_8, val_main_v31, val_main_v32,
      val_main_v33, val_main_v34, val_main_v35,
      val_main_v59, val_main_v62, val_main_v63, val_main_cst_19, val_main_v64,
      val_main_v75, val_main_v76, val_main_v77, val_main_cst_20, val_main_v78, val_main_v79, val_main_v80,
      val_main_v81, val_main_v82, val_main_cst_21, val_main_v83, val_main_v84, val_main_v85, val_main_v86,
      val_main_call1_cst, val_main_call1_v0, val_main_v87]
  simp only [dshare_at, total_at, weight_at]
  rw [pick_seen i.isLt j.isLt, Fin.sum_univ_one]
  rfl

theorem dvalue_at (j : Fin 16384) (h : Fin 8) (d : Fin 64) : val_main_v73 (F := Ideal) x0 x1 x3 x4 (ix3 j h d)
    = dvalue (rows x0) (rows x1) (rows x4) (biases x3) h j d := by
  pointwise [val_main_v69, val_main_v70, val_main_v59, val_main_v60, val_main_v61, val_main_v72, val_main_v73]
  simp only [total_at, weight_at]
  rfl

theorem dkey_at (j : Fin 16384) (h : Fin 8) (d : Fin 64) : val_main_v91 (F := Ideal) x0 x1 x2 x3 x4 (ix3 j h d)
    = dkey (rows x0) (rows x1) (rows x2) (rows x4) (biases x3) h j d := by
  pointwise [val_main_v0, val_main_cst_22, val_main_v88, val_main_v89, val_main_v90, val_main_v91]
  simp only [dscore_at]
  rfl

/-- The reference's result: the gradients of keys and values in their columns, zero elsewhere. -/
theorem result_at (i : Fin 16384) (n : Fin 5760) : val_main_v95 (F := Ideal) x0 x1 x2 x3 x4 (ix2 i n)
    = if h : 2048 ≤ n.val ∧ n.val - 2048 < 1024 then
        if h' : n.val - 2048 < 512 then dkey (rows x0) (rows x1) (rows x2) (rows x4) (biases x3)
          ⟨(n.val - 2048) / 64, by omega⟩ i ⟨(n.val - 2048) % 64, by omega⟩
        else dvalue (rows x0) (rows x1) (rows x4) (biases x3) ⟨(n.val - 2048 - 512) / 64, by omega⟩ i ⟨(n.val - 2048 - 512) % 64, by omega⟩
      else 0 := by
  pointwise [val_main_v92, val_main_v74, val_main_v93, val_main_v94, val_main_c_23, val_main_call2_v0, val_main_v95]
  simp only [dkey_at, dvalue_at]
  split
  · rfl
  · exact sitofp_zero

end Cert.DkvRefIdeal.Point
-- ==== Proof.DkvEq.lean ====
module

public import proofs.«01_k».proof.Proof.DkvReal
public import proofs.«01_k».proof.Proof.DkvBlocks
public import proofs.«01_k».proof.Proof.DkvRefRead
public import proofs.«01_k».proof.Proof.AttFinite
public import proofs.«01_k».proof.Proof.Gen.DkvRefIdeal.Run

/-! # Kernel and reference agree: the gradients of keys and values

  The call's array against the reference's, entry by entry: the kernel writes the columns of keys and values, and the rest stays zero. -/

@[expose] public section

set_option maxRecDepth 16384

noncomputable section

namespace Cert.DkvIdeal.Point

open Cert.DkvIdeal Cert.DkvIdeal.Gen Idealize.ShloMosaic Idealize.ShloMosaic.TcCoe Idealize.SL.Sem
open Idealize.ShloMosaic.Pipeline (Dat)
open Cert.Attention

variable (m : (ℓ : Loc nD τ sig) → Buf (Elt Ideal) ℓ)

open Cert.DkvRefIdeal.Read (val_main_v95 val_main_v95_eq)

/-- The gradients of keys and values at row `i` and column `n` of the array. -/
def gradient (c : Dev nD) (i : Fin 16384) (n : Nat) : EReal :=
  if n - 2048 < 512 then dkey (xq m c) (xk m c) (xv m c) (xg m c) (xb m c) ⟨(n - 2048) / 64 % 8, Nat.mod_lt _ (by decide)⟩ i ⟨(n - 2048) % 64, Nat.mod_lt _ (by decide)⟩
  else dvalue (xq m c) (xk m c) (xg m c) (xb m c) ⟨(n - 2048 - 512) / 64 % 8, Nat.mod_lt _ (by decide)⟩ i ⟨(n - 2048 - 512) % 64, Nat.mod_lt _ (by decide)⟩

/-- Every argument's entries are real numbers. -/
structure Real (c : Dev nD) where
  q : Fin 16384 → Fin 512 → ℝ
  k : Fin 16384 → Fin 512 → ℝ
  v : Fin 16384 → Fin 512 → ℝ
  g : Fin 16384 → Fin 512 → ℝ
  b : Fin 8 → Fin 16384 → Fin 16384 → ℝ
  hq : xq m c = up q
  hk : xk m c = up k
  hv : xv m c = up v
  hg : xg m c = up g
  hb : xb m c = up3 b

theorem real_of_pre (h : @Cert.Pre_DkvIdeal_finite_arguments Cert.AttFinite.pre_facts m) (c : Dev nD) : Nonempty (Real m c) := by
  obtain ⟨h0, h1, h2, h3, h4⟩ := Cert.AttFinite.real_entries _ _ _ _ _ _ (congrFun (h c) (fun a => a.elim0))
  choose f0 h0 using h0
  choose f1 h1 using h1
  choose f2 h2 using h2
  choose f3 h3 using h3
  choose f4 h4 using h4
  exact ⟨⟨fun i n => f0 (ix2 i n), fun i n => f1 (ix2 i n), fun i n => f2 (ix2 i n), fun i n => f4 (ix2 i n),
    fun h i j => f3 (ix2 h (tableRow (apart i.val j.val))), by funext i n; exact h0 _, by funext i n; exact h1 _, by funext i n; exact h2 _,
    by funext i n; exact h4 _, by funext h i j; exact h3 _⟩⟩

variable {m}

theorem block_gradient {c : Dev nD} (R : Real m c) (t : Fin cfg0.N) (y : S256x1024.Idx) :
    outsAt0 m c t y = gradient m c (row t (y 0)) (2048 + (y 1).val) := by
  have hy : (y 1).val < 1024 := (y 1).isLt
  refine (block15 m c t y (y 0) ⟨(y 1).val / 64, by omega⟩ ⟨(y 1).val % 64, by omega⟩ rfl (by show (y 1).val = 64 * ((y 1).val / 64) + (y 1).val % 64; omega)).trans ?_
  unfold blockOut gradient
  by_cases h : (y 1).val < 512
  · rw [dif_pos (by show (y 1).val / 64 < 8; omega), if_pos (by omega)]
    refine (blockDkey_real m R.q R.k R.v R.g R.b c R.hq R.hk R.hv R.hg R.hb t _ (y 0) _).trans ?_
    refine congrArg₂ (fun e d => dkey (xq m c) (xk m c) (xv m c) (xg m c) (xb m c) e (row t (y 0)) d) (Fin.ext ?_) (Fin.ext ?_)
    · show (y 1).val / 64 = (2048 + (y 1).val - 2048) / 64 % 8
      omega
    · show (y 1).val % 64 = (2048 + (y 1).val - 2048) % 64
      omega
  · rw [dif_neg (by show ¬ (y 1).val / 64 < 8; omega), if_neg (by omega)]
    refine (blockDvalue_real m R.q R.k R.g R.b c R.hq R.hk R.hg R.hb t _ (y 0) _).trans ?_
    refine congrArg₂ (fun e d => dvalue (xq m c) (xk m c) (xg m c) (xb m c) e (row t (y 0)) d) (Fin.ext ?_) (Fin.ext ?_)
    · show (y 1).val / 64 - 8 = (2048 + (y 1).val - 2048 - 512) / 64 % 8
      omega
    · show (y 1).val % 64 = (2048 + (y 1).val - 2048 - 512) % 64
      omega

theorem idx15 : ∀ t : Fin cfg0.N, win0_15.index t = ![t.val, 2] := (by decide +kernel : ∀ t : Fin grid0.N, win0_15.index t = ![t.val, 2])

theorem out15 {c : Dev nD} (R : Real m c) : (dats m 0 c).arrAt 15 cfg0.N
    = fun i => if (i 1).val / 1024 = 2 then gradient m c (i 0) (i 1).val else V m c main_v103 i := by
  refine (dats m 0 c).arrAt_eq_of_coversWhere 15 (fun i => gradient m c (i 0) (i 1).val) (fun β => β 1 = 2) (by decide +kernel) (fun t hf y => ?_) (fun j => Iff.rfl)
  rw [after0_15]
  refine (block_gradient R t ((cfg0.win 15).xinj (cfg0.grid.coords t) y)).trans ?_
  refine congrArg₂ (gradient m c) ?_ ?_
  · refine Fin.ext ?_
    blk_simp
    rw [idx15 t]
    show 256 * t.val + (y 0).val = t.val * 256 + (y 0).val
    omega
  · show 2048 + (y 1).val = win0_15.index t 1 * 1024 + 1 * (y 1).val
    rw [idx15 t]
    show 2048 + (y 1).val = 2 * 1024 + 1 * (y 1).val
    omega

theorem rest_line (c : Dev nD) : V m c main_v103 = broadcastInDim S16384x5760 ![] bcast_S_S16384x5760 (constant (F := Ideal) S_ .bf16 0x0000#16) := by
  unfold V
  after_reads_simp
  rfl

theorem rest_zero (c : Dev nD) (i : S16384x5760.Idx) : V m c main_v103 i = (0 : EReal) := by
  rw [rest_line]
  pointwise

/-- The call's array is the reference's. -/
theorem dkv_eq {c : Dev nD} (R : Real m c) : (dats m 0 c).arrAt 15 cfg0.N
    = val_main_v95 (m ((c : Thread nD τ).loc main_arg0)) (m ((c : Thread nD τ).loc main_arg1)) (m ((c : Thread nD τ).loc main_arg2))
      (m ((c : Thread nD τ).loc main_arg3)) (m ((c : Thread nD τ).loc main_arg4)) := by
  rw [out15 R]
  funext i
  obtain ⟨r, n, rfl⟩ : ∃ (r : Fin 16384) (n : Fin 5760), i = ix2 r n := ⟨i 0, i 1, ValueIdx.eq_ix2 i⟩
  refine Eq.trans ?_ (Cert.DkvRefIdeal.Point.result_at _ _ _ _ _ r n).symm
  show (if n.val / 1024 = 2 then gradient m c r n.val else V m c main_v103 (ix2 r n)) = _
  by_cases h : n.val / 1024 = 2
  · rw [if_pos h, dif_pos (by omega)]
    unfold gradient
    by_cases h' : n.val - 2048 < 512
    · rw [if_pos h', dif_pos h']
      refine congrArg₂ (fun e d => dkey (xq m c) (xk m c) (xv m c) (xg m c) (xb m c) e r d) (Fin.ext ?_) rfl
      show (n.val - 2048) / 64 % 8 = (n.val - 2048) / 64
      omega
    · rw [if_neg h', dif_neg h']
      refine congrArg₂ (fun e d => dvalue (xq m c) (xk m c) (xg m c) (xb m c) e r d) (Fin.ext ?_) rfl
      show (n.val - 2048 - 512) / 64 % 8 = (n.val - 2048 - 512) / 64
      omega
  · rw [if_neg h, dif_neg (by omega), rest_zero]

set_option maxHeartbeats 1000000 in
/-- The kernel computes the reference's gradients of keys and values, from memories that agree on finite arguments. -/
theorem agree : @Cert.algebraic_DkvIdeal_DkvRefIdeal_pre_finite_arguments Cert.DkvIdeal.Gen.facts Cert.DkvRefIdeal.Gen.facts Cert.AttFinite.pre_facts := by
  intro m g m' g' hpre hargs
  refine ⟨fun c => (dats m 0 c).arrAt 15 cfg0.N, ?_, ?_⟩
  · exact Cert.DkvIdeal.Value.run_blocks (F := Ideal) m g
  · refine (θ_run _ _ _).mono (fun r h c => ?_) (Cert.DkvRefIdeal.Value.run (F := Ideal) m' g')
    obtain ⟨h0, hk⟩ := h c
    obtain ⟨a0, a1, a2, a3, a4⟩ := hargs c
    obtain ⟨R⟩ := real_of_pre m hpre c
    refine ⟨(h0.trans (val_main_v95_eq _ _)).trans ?_, hk⟩
    rw [a0, a1, a2, a3, a4]
    exact (dkv_eq R).symm

end Cert.DkvIdeal.Point
-- ==== Proof.ConvMath.lean ====
module

public import proofs.«01_k».proof.Proof.Sigmoid
public import proofs.«01_k».proof.Proof.AttMath

/-! # The short convolution's gradient over the extended reals

  The kernel's formulas for one row: `y` is a row of the convolution's results, `d` a row of the cotangent. -/

@[expose] public section

set_option maxRecDepth 16384

noncomputable section

namespace Cert.ShortConv

open Idealize.ShloMosaic Cert.Sigmoid

/-- The constant added to a head's sum of squares. -/
abbrev eps : EReal := Ideal.ofBits .f32 0x358637BD#32

/-- One over a head's norm. -/
def scaleOf (f : Fin 128 → EReal) : EReal := Ideal.rsqrt (∑ l, f l * f l + eps)

/-- The gradient of a normalised head, as the kernel computes it. -/
def headGrad (f d : Fin 128 → EReal) (l : Fin 128) : EReal :=
  scaleOf f * (d l - f l * scaleOf f * ∑ n, d n * (f n * scaleOf f))

/-- The gradient through `x * sigmoid x`, as the kernel computes it. -/
def siluGrad (y d : EReal) : EReal := d * sigmoid y * (1 + y * (1 - sigmoid y))

/-- Column `l` of head `h`. -/
def lane (h : Fin 4) (l : Fin 128) : Fin 512 := ⟨128 * h.val + l.val, by omega⟩

/-- The head of a column and its place in it. -/
def headOf (k : Fin 512) : Fin 4 := ⟨k.val / 128, by omega⟩
def laneOf (k : Fin 512) : Fin 128 := ⟨k.val % 128, by omega⟩

theorem lane_of (k : Fin 512) : lane (headOf k) (laneOf k) = k := Fin.ext (Nat.div_add_mod k.val 128)

/-- The gradient of a row of the convolution's results, through the normalised heads. -/
def normGrad (y d : Fin 512 → EReal) (k : Fin 512) : EReal :=
  siluGrad (y k) (headGrad (fun l => y (lane (headOf k) l) * sigmoid (y (lane (headOf k) l))) (fun l => d (lane (headOf k) l)) (laneOf k))

end Cert.ShortConv
-- ==== Proof.ConvTile.lean ====
module

public import proofs.«01_k».proof.Proof.Gen.ConvIdeal.Value
public import proofs.«01_k».proof.Proof.ConvMath
public import Idealize.ShloMosaic.Lib.Pipeline.ValueKit
public import Idealize.ShloMosaic.Lib.Pointwise

/-! # The operations of one grid point

  The kernel extends a block of 512 rows by the 8 rows after it, and works on the three groups of columns one after another. Every
  lemma reads one entry of a group of its operations over arbitrary arrays. -/

@[expose] public section

set_option maxRecDepth 16384

noncomputable section

namespace Cert.ConvIdeal.Point

open Cert.ConvIdeal Cert.ConvIdeal.Gen Idealize.ShloMosaic Idealize.ShloMosaic.TcCoe Idealize.SL.Sem
open Idealize.ShloMosaic.Pipeline (Dat)
open Cert.ShortConv Cert.Sigmoid

abbrev Ext := FVec Ideal S520x512 .f32
abbrev Block := FVec Ideal S512x512 .f32
abbrev Head := FVec Ideal S520x128 .f32

/-- A block and the rows after it, zeros where there are none. -/
abbrev extended (b : BitVec 1) (x : Block) (z : FVec Ideal S8x512 .f32) : Ext :=
  concatenate S520x512 0 [⟨S512x512, x⟩, ⟨S8x512, Scalar.select b (broadcast S8x512 (Scalar.ofBits .f32 0x00000000#32)) z⟩]
    concatenates_S512x512_S8x512_S520x512_d0

/-- The sigmoid. -/
abbrev sigmoids (y : Ext) : Ext :=
  addf (mulf (broadcast S520x512 (Scalar.ofBits .f32 0x3F000000#32)) (tanh (mulf (broadcast S520x512 (Scalar.ofBits .f32 0x3F000000#32)) y)))
    (broadcast S520x512 (Scalar.ofBits .f32 0x3F000000#32))

/-- A head's sums over its lanes, in every lane. -/
abbrev laneSums (a : Head) : FVec Ideal S520x1 .f32 :=
  shapeCast S520x1 (multiReduction (F := Ideal) .add [1] S520 a 0x00000000#32 reduces_S520x128_S520 (.inl rfl) rfl) shapeCasts_S520_S520x1

/-- One over a head's norms. -/
abbrev scales (a : Head) : FVec Ideal S520x1 .f32 :=
  rsqrt (addf (laneSums (mulf a a)) (broadcast S520x1 (Scalar.ofBits .f32 0x358637BD#32)))

abbrev spread (x : FVec Ideal S520x1 .f32) : Head := broadcastTo S520x128 x broadcasts_S520x1_S520x128

/-- The gradient of a normalised head. -/
abbrev headGrads (a d : Head) : Head :=
  mulf (spread (scales a)) (subf d (mulf (mulf a (spread (scales a))) (spread (laneSums (mulf d (mulf a (spread (scales a))))))))

/-- The gradient through `x * sigmoid x`. -/
abbrev siluGrads (y d : Ext) : Ext :=
  mulf (mulf d (sigmoids y)) (addf (broadcast S520x512 (Scalar.ofBits .f32 0x3F800000#32))
    (mulf y (subf (broadcast S520x512 (Scalar.ofBits .f32 0x3F800000#32)) (sigmoids y))))

/-- Four heads side by side. -/
abbrev joined (a b c d : Head) : Ext :=
  concatenate S520x512 1 [⟨S520x128, a⟩, ⟨S520x128, b⟩, ⟨S520x128, c⟩, ⟨S520x128, d⟩] concatenates_S520x128_S520x128_S520x128_S520x128_S520x512_d1

abbrev head0 (a : Ext) : Head := extractStridedSlice S520x128 ![0, 0] a slices_S520x512_o0_0_S520x128
abbrev head1 (a : Ext) : Head := extractStridedSlice S520x128 ![0, 128] a slices_S520x512_o0_128_S520x128
abbrev head2 (a : Ext) : Head := extractStridedSlice S520x128 ![0, 256] a slices_S520x512_o0_256_S520x128
abbrev head3 (a : Ext) : Head := extractStridedSlice S520x128 ![0, 384] a slices_S520x512_o0_384_S520x128

/-- The gradient through the normalised heads. -/
abbrev normGrads (y d : Ext) : Ext :=
  siluGrads y (joined (headGrads (head0 (mulf y (sigmoids y))) (head0 d)) (headGrads (head1 (mulf y (sigmoids y))) (head1 d))
    (headGrads (head2 (mulf y (sigmoids y))) (head2 d)) (headGrads (head3 (mulf y (sigmoids y))) (head3 d)))

theorem sigmoids_at (y : Ext) (j : Fin 520) (k : Fin 512) : sigmoids y (ix2 j k) = sigmoid (y (ix2 j k)) := by
  pointwise [half_tanh]

theorem headGrads_at (a d : Head) (j : Fin 520) (l : Fin 128) :
    headGrads a d (ix2 j l) = headGrad (fun n => a (ix2 j n)) (fun n => d (ix2 j n)) l := by
  pointwise
  rfl

theorem siluGrads_at (y d : Ext) (j : Fin 520) (k : Fin 512) : siluGrads y d (ix2 j k) = siluGrad (y (ix2 j k)) (d (ix2 j k)) := by
  pointwise [half_tanh]
  rfl

theorem joined_at (f : Fin 4 → Head) (j : Fin 520) (k : Fin 512) :
    joined (f 0) (f 1) (f 2) (f 3) (ix2 j k) = f (headOf k) (ix2 j (laneOf k)) := by
  obtain ⟨h, l, rfl⟩ : ∃ h l, k = lane h l := ⟨_, _, (lane_of k).symm⟩
  have eh : headOf (lane h l) = h := Fin.ext (by show (128 * h.val + l.val) / 128 = h.val; omega)
  have el : laneOf (lane h l) = l := Fin.ext (by show (128 * h.val + l.val) % 128 = l.val; omega)
  rw [eh, el]
  match h with
  | 0 => exact concatenate_apply_piece 1 _ _ (ix2 j (lane 0 l)) 0 (by show 0 < 4; omega) S520x128 (f 0) rfl rfl 0 rfl (ix2 j l) (by
      intro b hb; fin_cases b; · rfl
      · exact absurd rfl hb) (by simp [lane])
  | 1 => exact concatenate_apply_piece 1 _ _ (ix2 j (lane 1 l)) 1 (by show 1 < 4; omega) S520x128 (f 1) rfl rfl 128 rfl (ix2 j l) (by
      intro b hb; fin_cases b; · rfl
      · exact absurd rfl hb) (by simp [lane])
  | 2 => exact concatenate_apply_piece 1 _ _ (ix2 j (lane 2 l)) 2 (by show 2 < 4; omega) S520x128 (f 2) rfl rfl 256 rfl (ix2 j l) (by
      intro b hb; fin_cases b; · rfl
      · exact absurd rfl hb) (by simp [lane])
  | 3 => exact concatenate_apply_piece 1 _ _ (ix2 j (lane 3 l)) 3 (by show 3 < 4; omega) S520x128 (f 3) rfl rfl 384 rfl (ix2 j l) (by
      intro b hb; fin_cases b; · rfl
      · exact absurd rfl hb) (by simp [lane])

/-- A head of an array of four. -/
abbrev headAt (a : Ext) (h : Fin 4) : Head := match h with
  | 0 => head0 a
  | 1 => head1 a
  | 2 => head2 a
  | 3 => head3 a

theorem headAt_at (a : Ext) (h : Fin 4) (j : Fin 520) (l : Fin 128) : headAt a h (ix2 j l) = a (ix2 j (lane h l)) := by
  match h with
  | 0 => unfold headAt; pointwise; exact congrArg (fun k => a (ix2 j k)) (Fin.ext (by simp [lane]))
  | 1 => unfold headAt; pointwise; exact congrArg (fun k => a (ix2 j k)) (Fin.ext (by simp [lane]))
  | 2 => unfold headAt; pointwise; exact congrArg (fun k => a (ix2 j k)) (Fin.ext (by simp [lane]))
  | 3 => unfold headAt; pointwise; exact congrArg (fun k => a (ix2 j k)) (Fin.ext (by simp [lane]))

theorem normGrads_at (y d : Ext) (j : Fin 520) (k : Fin 512) :
    normGrads y d (ix2 j k) = normGrad (fun n => y (ix2 j n)) (fun n => d (ix2 j n)) k := by
  refine (siluGrads_at _ _ j k).trans (congrArg (siluGrad (y (ix2 j k))) ?_)
  refine (joined_at (fun h => headGrads (headAt (mulf y (sigmoids y)) h) (headAt d h)) j k).trans ?_
  rw [headGrads_at]
  simp only [headAt_at]
  congr 1
  funext n
  show y _ * sigmoids y _ = _
  rw [sigmoids_at]

/-- The block's rows of an extended array, and the rows one, two and three further on. -/
abbrev taps3 (x : Ext) : Block := extractStridedSlice S512x512 ![0, 0] (dynamicRotate 0 517#32 none x rotates_S520x512_d0) slices_S520x512_o0_0_S512x512
abbrev taps2 (x : Ext) : Block := extractStridedSlice S512x512 ![0, 0] (dynamicRotate 0 518#32 none x rotates_S520x512_d0) slices_S520x512_o0_0_S512x512
abbrev taps1 (x : Ext) : Block := extractStridedSlice S512x512 ![0, 0] (dynamicRotate 0 519#32 none x rotates_S520x512_d0) slices_S520x512_o0_0_S512x512
abbrev taps0 (x : Ext) : Block := extractStridedSlice S512x512 ![0, 0] x slices_S520x512_o0_0_S512x512

theorem taps3_at (x : Ext) (r k : Fin 512) : taps3 x (ix2 r k) = x (ix2 (⟨r.val + 3, by omega⟩ : Fin 520) k) := by
  pointwise
  exact congrArg (fun i => x (ix2 i k)) (Fin.ext (by simp; omega))
theorem taps2_at (x : Ext) (r k : Fin 512) : taps2 x (ix2 r k) = x (ix2 (⟨r.val + 2, by omega⟩ : Fin 520) k) := by
  pointwise
  exact congrArg (fun i => x (ix2 i k)) (Fin.ext (by simp; omega))
theorem taps1_at (x : Ext) (r k : Fin 512) : taps1 x (ix2 r k) = x (ix2 (⟨r.val + 1, by omega⟩ : Fin 520) k) := by
  pointwise
  exact congrArg (fun i => x (ix2 i k)) (Fin.ext (by simp; omega))
theorem taps0_at (x : Ext) (r k : Fin 512) : taps0 x (ix2 r k) = x (ix2 (⟨r.val + 0, by omega⟩ : Fin 520) k) := by
  pointwise

/-- A row of the four weights, down a block. -/
abbrev weightRows (o : Fin 2 → Nat) (w : FVec Ideal S4x512 .f32) (h : S4x512.Slices o S1x512) : Block :=
  broadcastTo S512x512 (extractStridedSlice S1x512 o w h) broadcasts_S1x512_S512x512

/-- The gradient of the convolution's argument. -/
abbrev argGrads (w : FVec Ideal S4x512 .f32) (x : Ext) : FVec Ideal S512x512 .bf16 :=
  truncf .bf16 (addf (addf (addf (mulf (weightRows ![0, 0] w slices_S4x512_o0_0_S1x512) (taps3 x))
    (mulf (weightRows ![1, 0] w slices_S4x512_o1_0_S1x512) (taps2 x))) (mulf (weightRows ![2, 0] w slices_S4x512_o2_0_S1x512) (taps1 x)))
    (mulf (weightRows ![3, 0] w slices_S4x512_o3_0_S1x512) (taps0 x))) bitsLt_bf16_f32

theorem argGrads_at (w : FVec Ideal S4x512 .f32) (x : Ext) (r k : Fin 512) : argGrads w x (ix2 r k)
    = w (ix2 0 k) * x (ix2 (⟨r.val + 3, by omega⟩ : Fin 520) k) + w (ix2 1 k) * x (ix2 (⟨r.val + 2, by omega⟩ : Fin 520) k)
      + w (ix2 2 k) * x (ix2 (⟨r.val + 1, by omega⟩ : Fin 520) k) + w (ix2 3 k) * x (ix2 (⟨r.val + 0, by omega⟩ : Fin 520) k) := by
  have e3 : (r.val + 520 - 517) % 520 = r.val + 3 := by omega
  have e2 : (r.val + 520 - 518) % 520 = r.val + 2 := by omega
  have e1 : (r.val + 520 - 519) % 520 = r.val + 1 := by omega
  pointwise
  simp only [e3, e2, e1, Nat.add_zero]

/-- A weight row's gradient, the block's part added. -/
abbrev added (old : FVec Ideal S1x512 .f32) (x y : Block) : FVec Ideal S1x512 .f32 :=
  addf (shapeCast S1x512 old shapeCasts_S1x512_S1x512) (shapeCast S1x512 (multiReduction (F := Ideal) .add [0] S512 (mulf x y) 0x00000000#32
    reduces_S512x512_S512 (.inl rfl) rfl) shapeCasts_S512_S1x512)

theorem added_at (old : FVec Ideal S1x512 .f32) (x y : Block) (k : Fin 512) :
    added old x y (ix2 0 k) = old (ix2 0 k) + ∑ r : Fin 512, x (ix2 r k) * y (ix2 r k) := by
  pointwise

theorem extended_at (b : BitVec 1) (x : Block) (z : FVec Ideal S8x512 .f32) (j : Fin 520) (k : Fin 512) :
    extended b x z (ix2 j k) = if h : j.val < 512 then x (ix2 ⟨j.val, h⟩ k) else if b = 1#1 then 0 else z (ix2 (⟨j.val - 512, by omega⟩ : Fin 8) k) := by
  pointwise
  rfl

end Cert.ConvIdeal.Point
-- ==== Proof.ConvPoint.lean ====
module

public import proofs.«01_k».proof.Proof.ConvTile

/-! # What a grid point computes

  Grid point `t` takes 512 rows and the 8 rows after them, which count as zeros at the last point. -/

@[expose] public section

set_option maxRecDepth 16384

noncomputable section

namespace Cert.ConvIdeal.Point

open Cert.ConvIdeal Cert.ConvIdeal.Gen Idealize.ShloMosaic Idealize.ShloMosaic.TcCoe Idealize.SL.Sem
open Idealize.ShloMosaic.Pipeline (Dat)
open Cert.ShortConv

variable (m : (ℓ : Loc nD τ sig) → Buf (Elt Ideal) ℓ)

/-- The last grid point, as the kernel asks for it. -/
abbrev isLast (t : Fin cfg0.N) : BitVec 1 := Scalar.cmpi .eq (BitVec.ofNat 32 (grid0.coords t 0).val) 31#32

/-- Column `k` of the columns' group `q`. -/
def col (q : Fin 3) (k : Fin 512) : Fin 1536 := ⟨512 * q.val + k.val, by omega⟩

theorem col_zero (k : Fin 512) : col 0 k = ⟨k.val, by omega⟩ := Fin.ext (by show 512 * 0 + k.val = k.val; omega)

/-- The convolution's results, extended. -/
def yExt (c : Dev nD) (t : Fin cfg0.N) (j : Fin 520) (k : Fin 1536) : EReal :=
  if h : j.val < 512 then iblk m c 3 t (ix2 (⟨j.val, h⟩ : Fin 512) k)
  else Scalar.select (isLast t) 0 (iblk m c 4 t (ix2 (⟨j.val - 512, by omega⟩ : Fin 8) k))

/-- A group's cotangent, extended. -/
def dExt (c : Dev nD) (t : Fin cfg0.N) (q : Fin 3) (j : Fin 520) (k : Fin 512) : EReal :=
  match q with
  | 0 => if h : j.val < 512 then iblk m c 5 t (ix2 (⟨j.val, h⟩ : Fin 512) k)
    else Scalar.select (isLast t) 0 (iblk m c 8 t (ix2 (⟨j.val - 512, by omega⟩ : Fin 8) k))
  | 1 => if h : j.val < 512 then iblk m c 6 t (ix2 (⟨j.val, h⟩ : Fin 512) k)
    else Scalar.select (isLast t) 0 (iblk m c 9 t (ix2 (⟨j.val - 512, by omega⟩ : Fin 8) k))
  | 2 => if h : j.val < 512 then iblk m c 7 t (ix2 (⟨j.val, h⟩ : Fin 512) k)
    else Scalar.select (isLast t) 0 (iblk m c 10 t (ix2 (⟨j.val - 512, by omega⟩ : Fin 8) k))

/-- The gradient of the convolution's results, extended. -/
def dyExt (c : Dev nD) (t : Fin cfg0.N) (q : Fin 3) (j : Fin 520) (k : Fin 512) : EReal :=
  if q = 2 then siluGrad (yExt m c t j (col q k)) (dExt m c t q j k)
  else normGrad (fun n => yExt m c t j (col q n)) (fun n => dExt m c t q j n) k

/-- The convolution's argument. -/
def xBlk (c : Dev nD) (t : Fin cfg0.N) (q : Fin 3) (r k : Fin 512) : EReal :=
  match q with
  | 0 => X0_0 m c t (ix2 r k)
  | 1 => X0_1 m c t (ix2 r k)
  | 2 => X0_2 m c t (ix2 r k)

/-- The weights. -/
def wBlk (c : Dev nD) (t : Fin cfg0.N) (o : Fin 4) (k : Fin 1536) : EReal := iblk m c 11 t (ix2 o k)

/-- The gradient of the convolution's argument. -/
def dxBlk (c : Dev nD) (t : Fin cfg0.N) (q : Fin 3) (r k : Fin 512) : EReal :=
  wBlk m c t 0 (col q k) * dyExt m c t q (⟨r.val + 3, by omega⟩ : Fin 520) k
    + wBlk m c t 1 (col q k) * dyExt m c t q (⟨r.val + 2, by omega⟩ : Fin 520) k
    + wBlk m c t 2 (col q k) * dyExt m c t q (⟨r.val + 1, by omega⟩ : Fin 520) k
    + wBlk m c t 3 (col q k) * dyExt m c t q (⟨r.val + 0, by omega⟩ : Fin 520) k

/-- What the block adds to a weight's gradient. -/
def dwBlk (c : Dev nD) (t : Fin cfg0.N) (o : Fin 4) (q : Fin 3) (k : Fin 512) : EReal :=
  ∑ r : Fin 512, dyExt m c t q (⟨r.val + (3 - o.val), by omega⟩ : Fin 520) k * xBlk m c t q r k

theorem norm_of (y d : Ext) (c : Dev nD) (t : Fin cfg0.N) (q : Fin 3) (hq : q ≠ 2) (j : Fin 520) (k : Fin 512)
    (hy : ∀ j n, y (ix2 j n) = yExt m c t j (col q n)) (hd : ∀ j n, d (ix2 j n) = dExt m c t q j n) :
    normGrads y d (ix2 j k) = dyExt m c t q j k := by
  rw [normGrads_at, dyExt, if_neg hq]
  simp only [hy, hd]

theorem silu_of (y d : Ext) (c : Dev nD) (t : Fin cfg0.N) (q : Fin 3) (hq : q = 2) (j : Fin 520) (k : Fin 512)
    (hy : ∀ j n, y (ix2 j n) = yExt m c t j (col q n)) (hd : ∀ j n, d (ix2 j n) = dExt m c t q j n) :
    siluGrads y d (ix2 j k) = dyExt m c t q j k := by
  rw [siluGrads_at, dyExt, if_pos hq, hy, hd]

theorem arg_of (w : FVec Ideal S4x512 .f32) (x : Ext) (c : Dev nD) (t : Fin cfg0.N) (q : Fin 3) (r k : Fin 512)
    (hw : ∀ o, w (ix2 o k) = wBlk m c t o (col q k)) (hx : ∀ j, x (ix2 j k) = dyExt m c t q j k) : argGrads w x (ix2 r k) = dxBlk m c t q r k := by
  rw [argGrads_at]
  simp only [hw, hx]
  rfl

/-- A row of a weight's gradient after the block, from what it was before. -/
theorem added_of (old : FVec Ideal S1x512 .f32) (tap x : Block) (c : Dev nD) (t : Fin cfg0.N) (o : Fin 4) (q : Fin 3) (k : Fin 512) (z : EReal)
    (ho : old (ix2 0 k) = z) (ht : ∀ r, tap (ix2 r k) = dyExt m c t q (⟨r.val + (3 - o.val), by omega⟩ : Fin 520) k)
    (hx : ∀ r, x (ix2 r k) = xBlk m c t q r k) : added old tap x (ix2 0 k) = z + dwBlk m c t o q k := by
  rw [added_at, ho]
  simp only [ht, hx]
  rfl

end Cert.ConvIdeal.Point
-- ==== Proof.ConvReads.lean ====
module

public import proofs.«01_k».proof.Proof.ConvPoint
public import Idealize.ShloMosaic.Lib.Pipeline.ValueKit
public import Idealize.ShloMosaic.Lib.Pointwise
public import Idealize.ShloMosaic.Lib.StableHlo.RunRead

/-! # What the blocks hold

  A grid point reads 512 rows of each array and the eight rows after them; the kernel puts zeros where the array has ended. -/

@[expose] public section

set_option maxRecDepth 16384

noncomputable section

namespace Cert.ConvIdeal.Point

open Cert.ConvIdeal Cert.ConvIdeal.Gen Idealize.ShloMosaic Idealize.ShloMosaic.TcCoe Idealize.SL.Sem
open Idealize.ShloMosaic.Pipeline (Dat)
open Cert.ShortConv

variable (m : (ℓ : Loc nD τ sig) → Buf (Elt Ideal) ℓ)

/-- Row `r` of grid point `t`'s blocks. -/
def row (t : Fin cfg0.N) (r : Fin 512) : Fin 16384 := ⟨512 * t.val + r.val, by have := r.isLt; have : t.val < 32 := t.isLt; omega⟩

/-- The row `r` after those blocks. -/
def after (t : Fin cfg0.N) (h : t.val < 31) (r : Fin 8) : Fin 16384 := ⟨512 * t.val + 512 + r.val, by have := r.isLt; omega⟩

/-- The arguments and the saved results of the convolution, at their shapes. -/
abbrev qkv (c : Dev nD) : (⟨S16384x1536, .f32⟩ : BufTy).Contents (Elt Ideal) := m ((c : Thread nD τ).loc main_arg0)
abbrev wt (c : Dev nD) : (⟨S4x1536, .f32⟩ : BufTy).Contents (Elt Ideal) := m ((c : Thread nD τ).loc main_arg1)
abbrev dq (c : Dev nD) : (⟨S16384x512, .f32⟩ : BufTy).Contents (Elt Ideal) := m ((c : Thread nD τ).loc main_arg2)
abbrev dk (c : Dev nD) : (⟨S16384x512, .f32⟩ : BufTy).Contents (Elt Ideal) := m ((c : Thread nD τ).loc main_arg3)
abbrev dv (c : Dev nD) : (⟨S16384x512, .f32⟩ : BufTy).Contents (Elt Ideal) := m ((c : Thread nD τ).loc main_arg4)
abbrev yv (c : Dev nD) : (⟨S16384x1536, .f32⟩ : BufTy).Contents (Elt Ideal) := V m c main_v31

/-- A group's cotangent. -/
def dOf (c : Dev nD) (q : Fin 3) (r : Fin 16384) (k : Fin 512) : EReal :=
  match q with
  | 0 => dq m c (ix2 r k)
  | 1 => dk m c (ix2 r k)
  | 2 => dv m c (ix2 r k)

theorem idx0 : ∀ t : Fin cfg0.N, win0_0.index t = ![t.val, 6] := (by decide +kernel : ∀ t : Fin grid0.N, win0_0.index t = ![t.val, 6])
theorem idx1 : ∀ t : Fin cfg0.N, win0_1.index t = ![t.val, 7] := (by decide +kernel : ∀ t : Fin grid0.N, win0_1.index t = ![t.val, 7])
theorem idx2 : ∀ t : Fin cfg0.N, win0_2.index t = ![t.val, 8] := (by decide +kernel : ∀ t : Fin grid0.N, win0_2.index t = ![t.val, 8])
theorem idx3 : ∀ t : Fin cfg0.N, win0_3.index t = ![t.val, 0] := (by decide +kernel : ∀ t : Fin grid0.N, win0_3.index t = ![t.val, 0])
theorem idx4 : ∀ t : Fin cfg0.N, win0_4.index t = ![min (64 * (t.val + 1)) 2047, 0] := (by decide +kernel : ∀ t : Fin grid0.N, win0_4.index t = ![min (64 * (t.val + 1)) 2047, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![min (64 * (t.val + 1)) 2047, 0] := (by decide +kernel : ∀ t : Fin grid0.N, win0_8.index t = ![min (64 * (t.val + 1)) 2047, 0])
theorem idx9 : ∀ t : Fin cfg0.N, win0_9.index t = ![min (64 * (t.val + 1)) 2047, 0] := (by decide +kernel : ∀ t : Fin grid0.N, win0_9.index t = ![min (64 * (t.val + 1)) 2047, 0])
theorem idx10 : ∀ t : Fin cfg0.N, win0_10.index t = ![min (64 * (t.val + 1)) 2047, 0] := (by decide +kernel : ∀ t : Fin grid0.N, win0_10.index t = ![min (64 * (t.val + 1)) 2047, 0])
theorem idx11 : ∀ t : Fin cfg0.N, win0_11.index t = ![0, 0] := (by decide +kernel : ∀ t : Fin grid0.N, win0_11.index t = ![0, 0])

/-- The packed projection as the call receives it. -/
theorem packed (c : Dev nD) : V m c main_v2 = concatenate S16384x5760 1
    [⟨S16384x3072, broadcastInDim S16384x3072 ![] bcast_S_S16384x3072 (constant (F := Ideal) S_ .f32 0x00000000#32)⟩,
    ⟨S16384x1536, (V m c main_arg0 : (⟨S16384x1536, .f32⟩ : BufTy).Contents (Elt Ideal))⟩,
    ⟨S16384x1152, broadcastInDim S16384x1152 ![] bcast_S_S16384x1152 (constant (F := Ideal) S_ .f32 0x00000000#32)⟩]
    concatenates_S16384x3072_S16384x1536_S16384x1152_S16384x5760_d1 := by
  unfold V
  after_reads_simp
  rfl

theorem packed_qkv (c : Dev nD) (i : Fin 16384) (n : Fin 1536) : V m c main_v2 (ix2 i ⟨3072 + n.val, by omega⟩) = qkv m c (ix2 i n) := by
  rw [packed]
  refine (concatenate_apply_piece 1 _ _ (ix2 i (⟨3072 + n.val, by omega⟩ : Fin 5760)) 1 (by show 1 < 3; omega) S16384x1536 _ rfl rfl 3072 rfl (ix2 i n) ?_ (by simp)).trans ?_
  · intro b hb
    fin_cases b
    · rfl
    · exact absurd rfl hb
  · entry_read
    rfl

theorem arg0 (c : Dev nD) (t : Fin cfg0.N) (r k : Fin 512) : X0_0 m c t (ix2 r k) = qkv m c (ix2 (row t r) (col 0 k)) := by
  unfold X0_0 Pipeline.Window.fill
  rw [dif_pos (moved0_0 t _)]
  refine Eq.trans (b := V m c main_v2 (ix2 (row t r) ⟨3072 + (col 0 k).val, by have := (col 0 k).isLt; omega⟩)) ?_ (packed_qkv m c _ _)
  blk_simp [iblk]
  blk_ext [idx0 t, row, col]

theorem arg1 (c : Dev nD) (t : Fin cfg0.N) (r k : Fin 512) : X0_1 m c t (ix2 r k) = qkv m c (ix2 (row t r) (col 1 k)) := by
  unfold X0_1 Pipeline.Window.fill
  rw [dif_pos (moved0_1 t _)]
  refine Eq.trans (b := V m c main_v2 (ix2 (row t r) ⟨3072 + (col 1 k).val, by have := (col 1 k).isLt; omega⟩)) ?_ (packed_qkv m c _ _)
  blk_simp [iblk]
  blk_ext [idx1 t, row, col]

theorem arg2 (c : Dev nD) (t : Fin cfg0.N) (r k : Fin 512) : X0_2 m c t (ix2 r k) = qkv m c (ix2 (row t r) (col 2 k)) := by
  unfold X0_2 Pipeline.Window.fill
  rw [dif_pos (moved0_2 t _)]
  refine Eq.trans (b := V m c main_v2 (ix2 (row t r) ⟨3072 + (col 2 k).val, by have := (col 2 k).isLt; omega⟩)) ?_ (packed_qkv m c _ _)
  blk_simp [iblk]
  blk_ext [idx2 t, row, col]

theorem arg_of_block (c : Dev nD) (t : Fin cfg0.N) (q : Fin 3) (r k : Fin 512) : xBlk m c t q r k = qkv m c (ix2 (row t r) (col q k)) :=
  match q with
  | 0 => arg0 m c t r k
  | 1 => arg1 m c t r k
  | 2 => arg2 m c t r k

theorem weights (c : Dev nD) (t : Fin cfg0.N) (o : Fin 4) (k : Fin 1536) : wBlk m c t o k = wt m c (ix2 o k) := by
  unfold wBlk
  blk_simp [iblk]
  entry_read
  pointwise
  blk_ext [idx11 t]

theorem at3 (c : Dev nD) (t : Fin cfg0.N) (r : Fin 512) (k : Fin 1536) : iblk m c 3 t (ix2 r k) = yv m c (ix2 (row t r) k) := by
  blk_simp [iblk]
  blk_ext [idx3 t, row]

theorem at5 (c : Dev nD) (t : Fin cfg0.N) (r : Fin 512) (k : Fin 512) : iblk m c 5 t (ix2 r k) = dq m c (ix2 (row t r) k) := by
  blk_simp [iblk]
  entry_read
  pointwise
  blk_ext [idx5 t, row]

theorem at6 (c : Dev nD) (t : Fin cfg0.N) (r : Fin 512) (k : Fin 512) : iblk m c 6 t (ix2 r k) = dk m c (ix2 (row t r) k) := by
  blk_simp [iblk]
  entry_read
  pointwise
  blk_ext [idx6 t, row]

theorem at7 (c : Dev nD) (t : Fin cfg0.N) (r : Fin 512) (k : Fin 512) : iblk m c 7 t (ix2 r k) = dv m c (ix2 (row t r) k) := by
  blk_simp [iblk]
  entry_read
  pointwise
  blk_ext [idx7 t, row]

theorem at4 (c : Dev nD) (t : Fin cfg0.N) (h : t.val < 31) (r : Fin 8) (k : Fin 1536) : iblk m c 4 t (ix2 r k) = yv m c (ix2 (after t h r) k) := by
  have hm : min (64 * (t.val + 1)) 2047 = 64 * (t.val + 1) := by omega
  blk_simp [iblk]
  blk_ext [idx4 t, hm, after]

theorem at8 (c : Dev nD) (t : Fin cfg0.N) (h : t.val < 31) (r : Fin 8) (k : Fin 512) : iblk m c 8 t (ix2 r k) = dq m c (ix2 (after t h r) k) := by
  have hm : min (64 * (t.val + 1)) 2047 = 64 * (t.val + 1) := by omega
  blk_simp [iblk]
  entry_read
  pointwise
  blk_ext [idx8 t, hm, after]

theorem at9 (c : Dev nD) (t : Fin cfg0.N) (h : t.val < 31) (r : Fin 8) (k : Fin 512) : iblk m c 9 t (ix2 r k) = dk m c (ix2 (after t h r) k) := by
  have hm : min (64 * (t.val + 1)) 2047 = 64 * (t.val + 1) := by omega
  blk_simp [iblk]
  entry_read
  pointwise
  blk_ext [idx9 t, hm, after]

theorem at10 (c : Dev nD) (t : Fin cfg0.N) (h : t.val < 31) (r : Fin 8) (k : Fin 512) : iblk m c 10 t (ix2 r k) = dv m c (ix2 (after t h r) k) := by
  have hm : min (64 * (t.val + 1)) 2047 = 64 * (t.val + 1) := by omega
  blk_simp [iblk]
  entry_read
  pointwise
  blk_ext [idx10 t, hm, after]

/-- Whether a grid point is the last. -/
theorem isLast_eq : ∀ t : Fin cfg0.N, isLast t = if t.val < 31 then 0#1 else 1#1 :=
  (by decide +kernel : ∀ t : Fin grid0.N, Scalar.cmpi .eq (BitVec.ofNat 32 (grid0.coords t 0).val) 31#32 = if t.val < 31 then 0#1 else 1#1)

/-- A block and the rows after it are consecutive rows of one array, zeros after its end. -/
theorem rows_of (a : Fin 16384 → EReal) (u : Fin 512 → EReal) (v : Fin 8 → EReal) (t : Fin cfg0.N) (j : Fin 520)
    (hu : ∀ r, u r = a (row t r)) (hv : ∀ (h : t.val < 31) r, v r = a (after t h r)) :
    (if h : j.val < 512 then u ⟨j.val, h⟩ else Scalar.select (isLast t) 0 (v ⟨j.val - 512, by omega⟩)) =
      if h : 512 * t.val + j.val < 16384 then a ⟨512 * t.val + j.val, h⟩ else 0 := by
  have ht : t.val < 32 := t.isLt
  by_cases hj : j.val < 512
  · rw [dif_pos hj, dif_pos (by omega), hu]
    rfl
  · rw [dif_neg hj, isLast_eq]
    by_cases hl : t.val < 31
    · rw [if_pos hl, ValueIdx.select_zero, dif_pos (by omega), hv hl]
      exact congrArg a (Fin.ext (by simp only [after]; omega))
    · rw [if_neg hl, ValueIdx.select_one, dif_neg (by omega)]

/-- The gradient of the convolution's results in a row of the arrays. -/
def dyRow (c : Dev nD) (q : Fin 3) (r : Fin 16384) (k : Fin 512) : EReal :=
  if q = 2 then siluGrad (yv m c (ix2 r (col q k))) (dOf m c q r k)
  else normGrad (fun n => yv m c (ix2 r (col q n))) (fun n => dOf m c q r n) k

/-- The same, zero after the arrays' end. -/
def dyAt (c : Dev nD) (q : Fin 3) (n : Nat) (k : Fin 512) : EReal := if h : n < 16384 then dyRow m c q ⟨n, h⟩ k else 0

theorem y_ext (c : Dev nD) (t : Fin cfg0.N) (j : Fin 520) (k : Fin 1536) :
    yExt m c t j k = if h : 512 * t.val + j.val < 16384 then yv m c (ix2 ⟨512 * t.val + j.val, h⟩ k) else 0 :=
  rows_of (fun r => yv m c (ix2 r k)) _ _ t j (fun r => at3 m c t r k) fun h r => at4 m c t h r k

theorem d_ext (c : Dev nD) (t : Fin cfg0.N) (q : Fin 3) (j : Fin 520) (k : Fin 512) :
    dExt m c t q j k = if h : 512 * t.val + j.val < 16384 then dOf m c q ⟨512 * t.val + j.val, h⟩ k else 0 :=
  match q with
  | 0 => rows_of (fun r => dq m c (ix2 r k)) (fun r => iblk m c 5 t (ix2 r k)) (fun r => iblk m c 8 t (ix2 r k)) t j (fun r => at5 m c t r k) fun h r => at8 m c t h r k
  | 1 => rows_of (fun r => dk m c (ix2 r k)) (fun r => iblk m c 6 t (ix2 r k)) (fun r => iblk m c 9 t (ix2 r k)) t j (fun r => at6 m c t r k) fun h r => at9 m c t h r k
  | 2 => rows_of (fun r => dv m c (ix2 r k)) (fun r => iblk m c 7 t (ix2 r k)) (fun r => iblk m c 10 t (ix2 r k)) t j (fun r => at7 m c t r k) fun h r => at10 m c t h r k

theorem silu_zero : siluGrad 0 0 = 0 := by simp [siluGrad]

theorem norm_zero (k : Fin 512) : normGrad (fun _ => 0) (fun _ => 0) k = 0 := by simp [normGrad, headGrad, siluGrad]

theorem dy_ext (c : Dev nD) (t : Fin cfg0.N) (q : Fin 3) (j : Fin 520) (k : Fin 512) :
    dyExt m c t q j k = dyAt m c q (512 * t.val + j.val) k := by
  unfold dyExt dyAt dyRow
  simp only [y_ext, d_ext]
  by_cases h : 512 * t.val + j.val < 16384
  · simp only [dif_pos h]
  · simp only [dif_neg h, silu_zero, norm_zero, ite_self]

end Cert.ConvIdeal.Point
-- ==== Proof.ConvPay.lean ====
module

public import proofs.«01_k».proof.Proof.ConvTile

/-! # The kernel's stored values by name

  Each stored value of the kernel is one of the operations above, of blocks that stay arbitrary here. -/

@[expose] public section

set_option maxRecDepth 16384

noncomputable section

namespace Cert.ConvIdeal.Point

open Cert.ConvIdeal Cert.ConvIdeal.Gen Idealize.ShloMosaic Idealize.ShloMosaic.TcCoe Idealize.SL.Sem
open Idealize.ShloMosaic.Pipeline (Dat)

abbrev Near := FVec Ideal S8x512 .f32

/-- A block as it is loaded. -/
abbrev loaded (x : Block) : Block := shapeCast S512x512 x shapeCasts_S512x512_S512x512
abbrev loadedNear (x : Near) : Near := shapeCast S8x512 x shapeCasts_S8x512_S8x512

abbrev lastOf (i : grid0.Coords) : BitVec 1 := Scalar.cmpi .eq (BitVec.ofNat 32 (i 0).val) 31#32

/-- The first group's gradient. -/
theorem grads0 (i : grid0.Coords) (y d : Block) (z u : Near) :
    k0_pay22 (F := Ideal) (k0_pay6 i y z) (k0_pay7 i y z) (k0_pay15 (k0_pay11 i y z) (k0_pay12 i y z) (k0_pay13 i d u) (k0_pay14 i y z d u))
      (k0_pay16 (k0_pay8 i y z) (k0_pay9 i d u)) (k0_pay17 (k0_pay8 i y z) (k0_pay9 i d u)) (k0_pay19 (k0_pay8 i y z)) (k0_pay20 (k0_pay8 i y z))
      (k0_pay21 (k0_pay9 i d u))
      = normGrads (extended (lastOf i) (loaded y) (loadedNear z)) (extended (lastOf i) d u) := rfl

/-- The second group's. -/
theorem grads1 (b : BitVec 1) (y d : Block) (z u : Near) :
    k0_pay43 (F := Ideal) (k0_pay34 b y z) (k0_pay35 (k0_pay34 b y z)) (k0_pay36 (k0_pay34 b y z)) (k0_pay37 b d u) (k0_pay38 b (k0_pay34 b y z) d u)
      (k0_pay40 (k0_pay34 b y z)) (k0_pay41 b d u) (k0_pay42 b (k0_pay34 b y z) d u)
      = normGrads (extended b (loaded y) (loadedNear z)) (extended b d u) := rfl

/-- The third group's. -/
theorem grads2 (b : BitVec 1) (y d : Block) (z u : Near) :
    k0_pay60 (F := Ideal) (k0_pay56 b y z) (k0_pay58 b y z d u) (k0_pay59 b y z) = siluGrads (extended b (loaded y) (loadedNear z)) (extended b d u) := rfl

section Stores

variable (w : FVec Ideal S4x512 .f32) (a1 a2 : Ext) (a3 a4 a5 : Head) (a6 : FVec Ideal S520x1 .f32) (a7 a8 : Head) (g e f : Ext) (x : Block)
  (old : FVec Ideal S1x512 .f32)

/-! The argument's gradient, of the three groups. -/

theorem store0 : k0_pay33 (F := Ideal) w (k0_pay22 a1 a2 a3 a4 a5 a6 a7 a8) (k0_pay27 w a1 a2 a3 a4 a5 a6 a7 a8) = argGrads w (k0_pay22 (F := Ideal) a1 a2 a3 a4 a5 a6 a7 a8) := rfl
theorem store1 : k0_pay55 (F := Ideal) (k0_pay50 w g 517#32) (k0_pay52 g) (k0_pay53 w) = argGrads w g := rfl
theorem store2 : k0_pay4 (F := Ideal) w (k0_pay60 g e f) (k0_pay67 w g e f) = argGrads w (k0_pay60 (F := Ideal) g e f) := rfl

/-! The weights' gradients, four rows of three groups. -/

theorem add00 : k0_pay25 (F := Ideal) a1 a2 a3 a4 a5 a6 a7 a8 x old = added old (taps3 (k0_pay22 (F := Ideal) a1 a2 a3 a4 a5 a6 a7 a8)) (loaded x) := rfl
theorem add01 : k0_pay28 (F := Ideal) a1 a2 a3 a4 a5 a6 a7 a8 x old = added old (taps2 (k0_pay22 (F := Ideal) a1 a2 a3 a4 a5 a6 a7 a8)) (loaded x) := rfl
theorem add02 : k0_pay30 (F := Ideal) g (k0_pay23 x) old = added old (taps1 g) (loaded x) := rfl
theorem add03 : k0_pay32 (F := Ideal) g (k0_pay23 x) old = added old (taps0 g) (loaded x) := rfl
theorem add10 : k0_pay46 (F := Ideal) g (k0_pay44 x) 517#32 old = added old (taps3 g) (loaded x) := rfl
theorem add11 : k0_pay48 (F := Ideal) g (k0_pay44 x) old = added old (taps2 g) (loaded x) := rfl
theorem add12 : k0_pay51 (F := Ideal) g (k0_pay44 x) old = added old (taps1 g) (loaded x) := rfl
theorem add13 : k0_pay54 (F := Ideal) (k0_pay44 x) (k0_pay52 g) old = added old (taps0 g) (loaded x) := rfl
theorem add20 : k0_pay63 (F := Ideal) g e f x old = added old (taps3 (k0_pay60 (F := Ideal) g e f)) (loaded x) := rfl
theorem add21 : k0_pay65 (F := Ideal) g e f x old = added old (taps2 (k0_pay60 (F := Ideal) g e f)) (loaded x) := rfl
theorem add22 : k0_pay1 (F := Ideal) (k0_pay68 old) (k0_pay69 g e f x) = added old (taps1 (k0_pay60 (F := Ideal) g e f)) (loaded x) := rfl
theorem add23 : k0_pay3 (F := Ideal) (k0_pay60 g e f) (k0_pay61 x) old = added old (taps0 (k0_pay60 (F := Ideal) g e f)) (loaded x) := rfl

end Stores

end Cert.ConvIdeal.Point
-- ==== Proof.ConvBlocks.lean ====
module

public import proofs.«01_k».proof.Proof.ConvPoint
public import proofs.«01_k».proof.Proof.ConvPay

/-! # The argument's gradient in a block

  Every tile the kernel stores, one per group of columns. -/

@[expose] public section

set_option maxRecDepth 16384

noncomputable section

namespace Cert.ConvIdeal.Point

open Cert.ConvIdeal Cert.ConvIdeal.Gen Idealize.ShloMosaic Idealize.ShloMosaic.TcCoe Idealize.SL.Sem
open Idealize.ShloMosaic.Pipeline (Dat)
open Cert.ShortConv

variable (m : (ℓ : Loc nD τ sig) → Buf (Elt Ideal) ℓ)

set_option maxHeartbeats 8000000 in
theorem block12 (c : Dev nD) (t : Fin cfg0.N) (y : S512x1536.Idx) (q : Fin 3) (r k : Fin 512) (hr : (y 0).val = r.val)
    (hk : (y 1).val = 512 * q.val + k.val) : (outsAt0 m c t.val t.isLt).1 y = dxBlk m c t q r k := by
  obtain ⟨q, hq⟩ := q
  by_cases hA : t.val % 32 = 0
  all_goals
    first | rw [outsAt0_A m c t hA] | rw [outsAt0_B m c t hA]
    frame_out
    canon_tiles x h
    all_goals
      obtain ⟨a, b, hx⟩ : ∃ a b, x = ix2 a b := ⟨x 0, x 1, ValueIdx.eq_ix2 x⟩
      have hb : (x 1).val = b.val := by rw [hx]; rfl
      subst hx
      obtain rfl : r = a := Fin.ext (hr.symm.trans h0)
      interval_cases q <;> first
        | (exfalso; dsimp only at hk hb; omega)
        | (obtain rfl : k = b := Fin.ext (by dsimp only at hk hb; omega)
           first
             | (rw [store0, grads0]
                refine arg_of m _ _ c t 0 r k (fun o => ?_) fun j => norm_of m _ _ c t 0 (by decide) j k (fun j n => ?_) fun j n => ?_)
             | (rw [store1, grads1]
                refine arg_of m _ _ c t 1 r k (fun o => ?_) fun j => norm_of m _ _ c t 1 (by decide) j k (fun j n => ?_) fun j n => ?_)
             | (rw [store2, grads2]
                refine arg_of m _ _ c t 2 r k (fun o => ?_) fun j => silu_of m _ _ c t 2 rfl j k (fun j n => ?_) fun j n => ?_)
           all_goals pointwise
           all_goals (try simp only [col_zero])
           all_goals rfl)

end Cert.ConvIdeal.Point
-- ==== Proof.ConvOut.lean ====
module

public import proofs.«01_k».proof.Proof.ConvReads
public import proofs.«01_k».proof.Proof.ConvBlocks

/-! # The gradient of the convolution's argument, as the kernel writes it

  Each grid point writes its 512 rows of the three groups' columns; the other columns keep the zeros they held. -/

@[expose] public section

set_option maxRecDepth 16384

noncomputable section

namespace Cert.ConvIdeal.Point

open Cert.ConvIdeal Cert.ConvIdeal.Gen Idealize.ShloMosaic Idealize.ShloMosaic.TcCoe Idealize.SL.Sem
open Idealize.ShloMosaic.Pipeline (Dat)
open Cert.ShortConv

variable (m : (ℓ : Loc nD τ sig) → Buf (Elt Ideal) ℓ)

/-- The gradient of the convolution's argument. -/
def dxAt (c : Dev nD) (q : Fin 3) (r : Nat) (k : Fin 512) : EReal :=
  wt m c (ix2 0 (col q k)) * dyAt m c q (r + 3) k + wt m c (ix2 1 (col q k)) * dyAt m c q (r + 2) k
    + wt m c (ix2 2 (col q k)) * dyAt m c q (r + 1) k + wt m c (ix2 3 (col q k)) * dyAt m c q r k

theorem dx_block (c : Dev nD) (t : Fin cfg0.N) (q : Fin 3) (r k : Fin 512) : dxBlk m c t q r k = dxAt m c q (512 * t.val + r.val) k := by
  unfold dxBlk dxAt
  simp only [weights, dy_ext]
  rfl

/-- The same at a column of the packed array. -/
def gradient (c : Dev nD) (i : Fin 16384) (n : Nat) : EReal :=
  dxAt m c ⟨(n - 3072) / 512 % 3, Nat.mod_lt _ (by decide)⟩ i.val ⟨(n - 3072) % 512, Nat.mod_lt _ (by decide)⟩

theorem block_gradient (c : Dev nD) (t : Fin cfg0.N) (y : S512x1536.Idx) :
    (outsAt0 m c t.val t.isLt).1 y = gradient m c (row t (y 0)) (3072 + (y 1).val) := by
  have hy : (y 1).val < 1536 := (y 1).isLt
  refine (block12 m c t y ⟨(y 1).val / 512, by omega⟩ (y 0) ⟨(y 1).val % 512, by omega⟩ rfl (by show (y 1).val = 512 * ((y 1).val / 512) + (y 1).val % 512; omega)).trans ?_
  refine (dx_block m c t _ _ _).trans ?_
  unfold gradient
  refine congrArg₂ (fun q k => dxAt m c q (row t (y 0)).val k) (Fin.ext ?_) (Fin.ext ?_)
  · show (y 1).val / 512 = (3072 + (y 1).val - 3072) / 512 % 3
    omega
  · show (y 1).val % 512 = (3072 + (y 1).val - 3072) % 512
    omega

theorem idx12 : ∀ t : Fin cfg0.N, win0_12.index t = ![t.val, 2] := (by decide +kernel : ∀ t : Fin grid0.N, win0_12.index t = ![t.val, 2])

theorem out12 (c : Dev nD) : (dats m 0 c).arrAt 12 cfg0.N
    = fun i => if (i 1).val / 1536 = 2 then gradient m c (i 0) (i 1).val else V m c main_v32 i := by
  refine (dats m 0 c).arrAt_eq_of_coversWhere 12 (fun i => gradient m c (i 0) (i 1).val) (fun β => β 1 = 2) (by decide +kernel) (fun t hf y => ?_) (fun j => Iff.rfl)
  rw [after0_12]
  refine (block_gradient m c t ((cfg0.win 12).xinj (cfg0.grid.coords t) y)).trans ?_
  refine congrArg₂ (gradient m c) ?_ ?_
  · refine Fin.ext ?_
    blk_simp
    rw [idx12 t]
    show 512 * t.val + (y 0).val = t.val * 512 + (y 0).val
    omega
  · show 3072 + (y 1).val = win0_12.index t 1 * 1536 + 1 * (y 1).val
    rw [idx12 t]
    show 3072 + (y 1).val = 2 * 1536 + 1 * (y 1).val
    omega

theorem rest_line (c : Dev nD) : V m c main_v32 = broadcastInDim S16384x5760 ![] bcast_S_S16384x5760 (constant (F := Ideal) S_ .bf16 0x0000#16) := by
  unfold V
  after_reads_simp

theorem rest_zero (c : Dev nD) (i : S16384x5760.Idx) : V m c main_v32 i = (0 : EReal) := by
  rw [rest_line]
  pointwise

end Cert.ConvIdeal.Point
-- ==== Proof.ConvRows.lean ====
module

public import proofs.«01_k».proof.Proof.ConvPoint
public import proofs.«01_k».proof.Proof.ConvPay
public import Idealize.ShloMosaic.Lib.WritesUnit

/-! # The weights' gradients in a block

  The kernel adds to each of the four weight rows of each group of columns, and leaves the other rows alone. -/

@[expose] public section

set_option maxRecDepth 16384

noncomputable section

namespace Cert.ConvIdeal.Point

open Cert.ConvIdeal Cert.ConvIdeal.Gen Idealize.ShloMosaic Idealize.ShloMosaic.TcCoe Idealize.SL.Sem
open Idealize.ShloMosaic.Pipeline (Dat)
open Cert.ShortConv

variable (m : (ℓ : Loc nD τ sig) → Buf (Elt Ideal) ℓ)

theorem col_first (h : 0 < 3) (k : Fin 512) : col (⟨0, h⟩ : Fin 3) k = ⟨k.val, by omega⟩ := col_zero k

theorem show_taps (x : FVec Ideal S520x512 .f32) : k0_pay2 x = taps0 x := rfl

theorem show_loaded (x : FVec Ideal S512x512 .bf16) : k0_pay61 x = loaded x := rfl

set_option maxHeartbeats 8000000 in
theorem block13 (c : Dev nD) (t : Fin cfg0.N) (hB : ¬ t.val % 32 = 0) (o : Fin 4) (q : Fin 3) (k : Fin 512) (z : EReal)
    (hz : (outsAt0 m c (t.val - 1) (by omega)).2 (ix2 (⟨o.val, by omega⟩ : Fin 8) (col q k)) = z) :
    (outsAt0 m c t.val t.isLt).2 (ix2 (⟨o.val, by omega⟩ : Fin 8) (col q k)) = z + dwBlk m c t o q k := by
  rw [outsAt0_B m c t hB]
  frame_out
  obtain ⟨o, ho⟩ := o
  have hk := k.isLt
  clear hB
  obtain ⟨q, hq⟩ := q
  interval_cases o <;> interval_cases q
  all_goals
    repeat first
      | (rw [View.read_writes_cons_unit_of_not_mem _ _ _ _ _ _ rfl 1]; rotate_left
         solve | (clear * - hk; simp [col]; done) | (clear * - hk; simp [col]; omega))
      | (rw [View.read_writes_cons_unit_of_not_mem _ _ _ _ _ _ rfl 0]; rotate_left
         solve | (clear * -; simp; done))
      | fail
    refine (View.read_writes_cons_unit_of_mem _ _ _ _ _ _ ?x rfl ?h).trans ?_
    case x => exact ix2 (0 : Fin 1) k
    case h => intro a; fin_cases a <;> simp [col]
    simp only [add00, add01, add02, add03, add10, add11, add12, add13, add20, add21, add22, add23, grads0, grads1, grads2]
    refine added_of m _ _ _ c t _ _ k z ?_ (fun r => ?_) fun r => ?_
    · pointwise
      try simp only [col_first] at hz
      exact hz
    · try with_reducible refine (congrFun (show_taps _) _).trans ?_
      first
        | with_reducible refine (taps1_at _ _ _).trans ?_
        | with_reducible refine (taps2_at _ _ _).trans ?_
        | with_reducible refine (taps3_at _ _ _).trans ?_
        | with_reducible refine (taps0_at _ _ _).trans ?_
        | fail
      first
        | with_reducible refine Eq.trans (silu_of m _ _ c t ⟨_, hq⟩ rfl _ k (fun j n => ?_) fun j n => ?_) ?_
        | with_reducible refine Eq.trans (norm_of m _ _ c t ⟨_, hq⟩ (by simp) _ k (fun j n => ?_) fun j n => ?_) ?_
        | fail
      · (try rw [col_first])
        pointwise
        rfl
      · pointwise
        rfl
      · exact congrArg (fun j => dyExt m c t _ j k) (Fin.ext (by simp))
    · try with_reducible refine (congrFun (show_loaded _) _).trans ?_
      pointwise
      rfl

end Cert.ConvIdeal.Point
-- ==== Proof.ConvFirst.lean ====
module

public import proofs.«01_k».proof.Proof.ConvRows
public import Idealize.ShloMosaic.Lib.WritesUnit

/-! # The weights' gradients in the first block

  The first grid point fills the array with zeros and then adds as every other does. -/

@[expose] public section

set_option maxRecDepth 16384

noncomputable section

namespace Cert.ConvIdeal.Point

open Cert.ConvIdeal Cert.ConvIdeal.Gen Idealize.ShloMosaic Idealize.ShloMosaic.TcCoe Idealize.SL.Sem
open Idealize.ShloMosaic.Pipeline (Dat)
open Cert.ShortConv

variable (m : (ℓ : Loc nD τ sig) → Buf (Elt Ideal) ℓ)

theorem canon_off {off size : Fin S8x1536.rank → ℕ} (inb : ∀ a, off a + size a ≤ S8x1536.size a)
    (w : (Rect.unit off size inb).shape.Idx → Elt Ideal .f32) (L : List (View.Piece (Elt Ideal) S8x1536 .f32)) (y : S8x1536.Idx) (a : Fin S8x1536.rank)
    (ha : (y a).val < off a ∨ off a + size a ≤ (y a).val) :
    View.canon ((⟨Rect.unit off size inb, w⟩ : View.Piece (Elt Ideal) S8x1536 .f32) :: L) y = View.canon L y := by
  refine View.canon_cons_of_not_mem _ _ fun h => ?_
  have e : y ∈ (Rect.unit off size inb).set := h
  rw [Rect.mem_set_unit] at e
  have := e a
  omega

theorem canon_on {off size : Fin S8x1536.rank → ℕ} (inb : ∀ a, off a + size a ≤ S8x1536.size a)
    (w : (Rect.unit off size inb).shape.Idx → Elt Ideal .f32) (L : List (View.Piece (Elt Ideal) S8x1536 .f32)) (y : S8x1536.Idx)
    (x : (Rect.unit off size inb).shape.Idx) (h : ∀ a, (y a).val = off a + (x a).val) :
    View.canon ((⟨Rect.unit off size inb, w⟩ : View.Piece (Elt Ideal) S8x1536 .f32) :: L) y = w x := by
  obtain rfl : y = (Rect.unit off size inb).emb x := by
    funext a
    refine Fin.ext ((h a).trans ?_)
    show off a + (x a).val = off a + 1 * (x a).val
    omega
  exact View.canon_cons_emb _ _ _ _

theorem loaded_at {κ : Kind} {sp : Space} (v : View sig κ sp S8x1536 .f32) (L : List (View.Piece (Elt Ideal) S8x1536 .f32)) (B : LoadRect S8x1536) (j : B.shape.Idx) :
    v.readCov L B j = View.canon L (B.idx j) := congrFun (View.readCov_eq_canon' v L B) j

theorem four_lt : 4 < 8 := by decide

theorem zero_fill (j : S8x1536.Idx) : k0_pay5 (F := Ideal) j = (0 : EReal) := by
  unfold k0_pay5
  pointwise

set_option maxHeartbeats 8000000 in
theorem first13 (c : Dev nD) (t : Fin cfg0.N) (hA : t.val % 32 = 0) (o : Fin 4) (q : Fin 3) (k : Fin 512) :
    (outsAt0 m c t.val t.isLt).2 (ix2 (⟨o.val, by omega⟩ : Fin 8) (col q k)) = 0 + dwBlk m c t o q k := by
  rw [outsAt0_A m c t hA]
  frame_out
  obtain ⟨o, ho⟩ := o
  have hk := k.isLt
  clear hA
  obtain ⟨q, hq⟩ := q
  interval_cases o <;> interval_cases q
  all_goals
    repeat first
      | (refine (canon_off _ _ _ _ 1 ?_).trans ?_
         · solve | (clear * - hk; simp [col]; done) | (clear * - hk; simp [col]; omega))
      | (refine (canon_off _ _ _ _ 0 ?_).trans ?_
         · solve | (clear * -; simp; done))
      | fail
    refine (canon_on _ _ _ _ (ix2 (0 : Fin 1) k) ?_).trans ?_
    · intro a; fin_cases a <;> simp [col]
    simp only [add00, add01, add02, add03, add10, add11, add12, add13, add20, add21, add22, add23, grads0, grads1, grads2]
    refine added_of m _ _ _ c t _ _ k 0 ?_ (fun r => ?_) fun r => ?_
    · refine (loaded_at _ _ _ _).trans ?_
      refine (congrArg (View.canon _) (?_ : _ = ix2 (⟨_, lt_trans ho four_lt⟩ : Fin 8) (col ⟨_, hq⟩ k))).trans ?_
      · funext a; fin_cases a <;> exact Fin.ext (by simp [col])
      repeat first
        | (refine (canon_off _ _ _ _ 1 ?_).trans ?_
           · solve | (clear * - hk; simp [col]; done) | (clear * - hk; simp [col]; omega))
        | (refine (canon_off _ _ _ _ 0 ?_).trans ?_
           · solve | (clear * -; simp; done))
        | fail
      refine (canon_on _ _ _ _ (ix2 (⟨_, lt_trans ho four_lt⟩ : Fin 8) (col ⟨_, hq⟩ k)) ?_).trans ?_
      · intro a; fin_cases a <;> simp
      exact zero_fill _
    · try with_reducible refine (congrFun (show_taps _) _).trans ?_
      first
        | with_reducible refine (taps1_at _ _ _).trans ?_
        | with_reducible refine (taps2_at _ _ _).trans ?_
        | with_reducible refine (taps3_at _ _ _).trans ?_
        | with_reducible refine (taps0_at _ _ _).trans ?_
        | fail
      first
        | with_reducible refine Eq.trans (silu_of m _ _ c t ⟨_, hq⟩ rfl _ k (fun j n => ?_) fun j n => ?_) ?_
        | with_reducible refine Eq.trans (norm_of m _ _ c t ⟨_, hq⟩ (by simp) _ k (fun j n => ?_) fun j n => ?_) ?_
        | fail
      · (try rw [col_first])
        pointwise
        rfl
      · pointwise
        rfl
      · exact congrArg (fun j => dyExt m c t _ j k) (Fin.ext (by simp))
    · try with_reducible refine (congrFun (show_loaded _) _).trans ?_
      pointwise
      rfl

end Cert.ConvIdeal.Point
-- ==== Proof.ConvRest.lean ====
module

public import proofs.«01_k».proof.Proof.ConvFirst

/-! # The rows past the weights

  The array of the weights' gradients has eight rows, the weights four: the other rows stay as they were. -/

@[expose] public section

set_option maxRecDepth 16384

noncomputable section

namespace Cert.ConvIdeal.Point

open Cert.ConvIdeal Cert.ConvIdeal.Gen Idealize.ShloMosaic Idealize.ShloMosaic.TcCoe Idealize.SL.Sem
open Idealize.ShloMosaic.Pipeline (Dat)
open Cert.ShortConv

variable (m : (ℓ : Loc nD τ sig) → Buf (Elt Ideal) ℓ)

theorem unset {κ : Kind} {sp : Space} (v : View sig κ sp S8x1536 .f32) (f : v.ty.Contents (Elt Ideal)) {off size : Fin S8x1536.rank → ℕ} (inb : ∀ a, off a + size a ≤ S8x1536.size a)
    (w : (Rect.unit off size inb).shape.Idx → Elt Ideal .f32) (L : List (View.Piece (Elt Ideal) S8x1536 .f32)) (y : S8x1536.Idx) (a : Fin S8x1536.rank)
    (ha : (y a).val < off a ∨ off a + size a ≤ (y a).val) :
    v.read (Elt Ideal) (v.writes (Elt Ideal) f ((⟨Rect.unit off size inb, w⟩ : View.Piece (Elt Ideal) S8x1536 .f32) :: L)) y
      = v.read (Elt Ideal) (v.writes (Elt Ideal) f L) y :=
  View.read_writes_cons_unit_of_not_mem v f inb w L y rfl a ha

set_option maxHeartbeats 2000000 in
theorem first_rest (c : Dev nD) (t : Fin cfg0.N) (hA : t.val % 32 = 0) (o : Fin 8) (n : Fin 1536) (ho : 4 ≤ o.val) :
    (outsAt0 m c t.val t.isLt).2 (ix2 o n) = 0 := by
  rw [outsAt0_A m c t hA]
  frame_out
  repeat first
    | (refine (canon_off _ _ _ _ 0 ?_).trans ?_
       · solve | (clear * - ho; simp; omega))
    | fail
  refine (canon_on _ _ _ _ (ix2 o n) ?_).trans ?_
  · intro a; fin_cases a <;> simp
  exact zero_fill _

set_option maxHeartbeats 2000000 in
theorem block_rest (c : Dev nD) (t : Fin cfg0.N) (hB : ¬ t.val % 32 = 0) (o : Fin 8) (n : Fin 1536) (ho : 4 ≤ o.val) :
    (outsAt0 m c t.val t.isLt).2 (ix2 o n) = (outsAt0 m c (t.val - 1) (by omega)).2 (ix2 o n) := by
  rw [outsAt0_B m c t hB]
  frame_out
  repeat first
    | (refine (unset _ _ _ _ _ _ 0 ?_).trans ?_
       · solve | (clear * - ho; simp; omega))
    | fail
  rw [View.writes_nil]
  exact congrFun ((hs0_13 t).read_unread _) _

end Cert.ConvIdeal.Point
-- ==== Proof.ConvSum.lean ====
module

public import proofs.«01_k».proof.Proof.ConvRest
public import proofs.«01_k».proof.Proof.ConvReads

/-! # The weights' gradients, accumulated over the grid

  A sum over the grid points and a block's rows is a sum over all rows. -/

@[expose] public section

set_option maxRecDepth 16384

noncomputable section

namespace Cert.ConvIdeal.Point

open Cert.ConvIdeal Cert.ConvIdeal.Gen Idealize.ShloMosaic Idealize.ShloMosaic.TcCoe Idealize.SL.Sem
open Idealize.ShloMosaic.Pipeline (Dat)
open Cert.ShortConv

variable (m : (ℓ : Loc nD τ sig) → Buf (Elt Ideal) ℓ)

/-- The last grid point, which writes the accumulated array out. -/
def last : Fin cfg0.N := ⟨31, by decide⟩

theorem sum_rows (f : Fin 16384 → EReal) : ∑ t : Fin cfg0.N, ∑ r : Fin 512, f (row t r) = ∑ r : Fin 16384, f r := by
  refine Fin.sum_mul_add_congr (S := 32) (n := 512) (fun s k hl => congrArg f (Fin.ext ?_))
  show 512 * s.val + k.val = s.val * 512 + k.val
  omega

/-- The group and the place of a column. -/
def groupOf (n : Fin 1536) : Fin 3 := ⟨n.val / 512, by omega⟩
def placeOf (n : Fin 1536) : Fin 512 := ⟨n.val % 512, Nat.mod_lt _ (by decide)⟩

theorem col_of (n : Fin 1536) : col (groupOf n) (placeOf n) = n := Fin.ext (Nat.div_add_mod n.val 512)

/-- Row `r`'s part of a weight's gradient. -/
def part (c : Dev nD) (o : Fin 8) (n : Fin 1536) (r : Fin 16384) : EReal :=
  if o.val < 4 then dyAt m c (groupOf n) (r.val + (3 - o.val)) (placeOf n) * qkv m c (ix2 r n) else 0

theorem dw_rows (c : Dev nD) (t : Fin cfg0.N) (o : Fin 4) (n : Fin 1536) :
    dwBlk m c t o (groupOf n) (placeOf n) = ∑ r : Fin 512, part m c ⟨o.val, lt_trans o.isLt four_lt⟩ n (row t r) := by
  unfold dwBlk
  refine Finset.sum_congr rfl fun r _ => ?_
  unfold part
  rw [if_pos o.isLt, dy_ext, arg_of_block, col_of]
  exact congrArg (fun j => dyAt m c _ j _ * _) (Nat.add_assoc _ _ _).symm

theorem first_at (c : Dev nD) (t : Fin cfg0.N) (hA : t.val % 32 = 0) (o : Fin 8) (n : Fin 1536) :
    (outsAt0 m c t.val t.isLt).2 (ix2 o n) = 0 + ∑ r : Fin 512, part m c o n (row t r) := by
  by_cases ho : o.val < 4
  · have e := first13 m c t hA ⟨o.val, ho⟩ (groupOf n) (placeOf n)
    rw [dw_rows, col_of] at e
    exact e
  · rw [first_rest m c t hA o n (by omega)]
    simp only [part, if_neg ho, Finset.sum_const_zero, add_zero]

theorem later_at (c : Dev nD) (t : Fin cfg0.N) (hB : ¬ t.val % 32 = 0) (o : Fin 8) (n : Fin 1536) :
    (outsAt0 m c t.val t.isLt).2 (ix2 o n) = (outsAt0 m c (t.val - 1) (by omega)).2 (ix2 o n) + ∑ r : Fin 512, part m c o n (row t r) := by
  by_cases ho : o.val < 4
  · have e := block13 m c t hB ⟨o.val, ho⟩ (groupOf n) (placeOf n) _ rfl
    rw [dw_rows, col_of] at e
    exact e
  · rw [block_rest m c t hB o n (by omega)]
    simp only [part, if_neg ho, Finset.sum_const_zero, add_zero]

theorem out13 (c : Dev nD) : (dats m 0 c).arrAt 13 cfg0.N = fun i => ∑ r : Fin 16384, part m c (i 0) (i 1) r := by
  refine (dats m 0 c).arrAt_eq_of_after_last 13 last (by decide +kernel) _ fun i => ?_
  rw [after0_13]
  refine (Pipeline.eq_sum_fin_of_reset_step_apply_last (fun n h => (outsAt0 m c n h).2) 32 (fun _ => 0)
    (fun t i => ∑ r : Fin 512, part m c (i 0) (i 1) (row t r)) (fun t h0 i => ?_) (fun t h0 i => ?_) (le_of_eq N_0) last rfl i).trans ?_
  · obtain ⟨o, n, rfl⟩ : ∃ (o : Fin 8) (n : Fin 1536), i = ix2 o n := ⟨i 0, i 1, ValueIdx.eq_ix2 i⟩
    exact first_at m c t h0 o n
  · obtain ⟨o, n, rfl⟩ : ∃ (o : Fin 8) (n : Fin 1536), i = ix2 o n := ⟨i 0, i 1, ValueIdx.eq_ix2 i⟩
    exact later_at m c t h0 o n
  · exact (zero_add _).trans (sum_rows (part m c (i 0) (i 1)))

end Cert.ConvIdeal.Point
-- ==== Proof.ConvReal.lean ====
module

public import proofs.«01_k».proof.Proof.ConvMath

/-! # The two forms of the gradient agree on real numbers

  The reference's formulas are the derivatives of `x * sigmoid x` and of a head over its norm as they come; the kernel's have their
  terms gathered. -/

@[expose] public section

set_option maxRecDepth 16384

noncomputable section

namespace Cert.ShortConv

open Idealize.ShloMosaic Cert.Sigmoid Cert.Attention

/-- The cotangent of a head's sum of squares, as the reference computes it. -/
def slopeOf (f d : Fin 128 → EReal) : EReal :=
  (∑ n, f n * d n) * (Ideal.ofBits .f32 0xBF000000#32 * Ideal.div (scaleOf f) (∑ l, f l * f l + eps))

/-- The gradient of a normalised head, as the reference computes it. -/
def headGradRef (f d : Fin 128 → EReal) (l : Fin 128) : EReal := d l * scaleOf f + f l * slopeOf f d + slopeOf f d * f l

/-- The gradient through `x * sigmoid x`, as the reference computes it. -/
def siluGradRef (y d : EReal) : EReal := d * sigmoid y + y * d * (sigmoid y * (1 - sigmoid y))

theorem eps_real : ∃ e : ℝ, 0 < e ∧ eps = (e : EReal) := by
  refine ⟨8796093 * 2 ^ (-43 : ℤ), by positivity, ?_⟩
  simp [eps, Ideal.ofBits, Ideal.ieee, -EReal.coe_mul]

theorem minus_half : Ideal.ofBits .f32 0xBF000000#32 = ((-(1 / 2) : ℝ) : EReal) := by
  simp [Ideal.ofBits, Ideal.ieee, -EReal.coe_mul]
  norm_num

theorem sigmoid_real (x : ℝ) : sigmoid (x : EReal) = ((1 / (1 + Real.exp (-x)) : ℝ) : EReal) := by
  have h : (1 + Real.exp (-x) : ℝ) ≠ 0 := by have := Real.exp_pos (-x); positivity
  unfold sigmoid
  rw [← EReal.coe_one, ← EReal.coe_neg, Ideal.exp_coe, ← EReal.coe_add, div_real h]

theorem silu_real (y d : ℝ) : siluGrad (y : EReal) (d : EReal) = siluGradRef (y : EReal) (d : EReal) := by
  unfold siluGrad siluGradRef
  rw [sigmoid_real, ← EReal.coe_one]
  simp only [← EReal.coe_mul, ← EReal.coe_sub, ← EReal.coe_add]
  refine congrArg _ ?_
  ring

theorem head_real (f d : Fin 128 → ℝ) (l : Fin 128) :
    ∃ r : ℝ, headGrad (fun n => (f n : EReal)) (fun n => (d n : EReal)) l = (r : EReal)
      ∧ headGradRef (fun n => (f n : EReal)) (fun n => (d n : EReal)) l = (r : EReal) := by
  obtain ⟨e, he, hE⟩ := eps_real
  have hs : 0 < ∑ n, f n * f n + e := add_pos_of_nonneg_of_pos (Finset.sum_nonneg fun n _ => mul_self_nonneg _) he
  have hS : (∑ n, (f n : EReal) * (f n : EReal) + eps) = ((∑ n, f n * f n + e : ℝ) : EReal) := by
    rw [hE]
    simp only [← EReal.coe_mul, ← coe_sum, ← EReal.coe_add]
  have hr : scaleOf (fun n => (f n : EReal)) = (((Real.sqrt (∑ n, f n * f n + e))⁻¹ : ℝ) : EReal) := by
    unfold scaleOf
    rw [hS, Ideal.rsqrt_coe, if_neg hs.not_gt, if_neg hs.ne']
  unfold headGrad headGradRef slopeOf
  rw [hS, hr, div_real hs.ne', minus_half]
  simp only [← EReal.coe_mul, ← coe_sum, ← EReal.coe_sub, ← EReal.coe_add]
  refine ⟨_, rfl, congrArg _ ?_⟩
  have hq : (Real.sqrt (∑ n, f n * f n + e))⁻¹ / (∑ n, f n * f n + e)
      = (Real.sqrt (∑ n, f n * f n + e))⁻¹ * (Real.sqrt (∑ n, f n * f n + e))⁻¹ * (Real.sqrt (∑ n, f n * f n + e))⁻¹ := by
    rw [mul_assoc, ← mul_inv, Real.mul_self_sqrt hs.le, div_eq_mul_inv]
  rw [hq]
  have ht : ∑ n, d n * (f n * (Real.sqrt (∑ n, f n * f n + e))⁻¹) = (∑ n, f n * d n) * (Real.sqrt (∑ n, f n * f n + e))⁻¹ := by
    rw [Finset.sum_mul]
    exact Finset.sum_congr rfl fun n _ => by ring
  rw [ht]
  ring

end Cert.ShortConv
-- ==== Proof.ConvRefRead.lean ====
module

public import proofs.«01_k».proof.Proof.Gen.ConvRefIdeal.Read
public import proofs.«01_k».proof.Proof.ConvReal
public import Idealize.ShloMosaic.Lib.Pipeline.ValueKit
public import Idealize.ShloMosaic.Lib.Pointwise

/-! # The convolution's reference, read off

  The lines of the reference after the convolution, entry by entry, over its results. -/

@[expose] public section

set_option maxRecDepth 16384

noncomputable section

namespace Cert.ConvRefIdeal.Point

open Cert.ConvRefIdeal Cert.ConvRefIdeal.Read Idealize.ShloMosaic Idealize.ShloMosaic.TcCoe Idealize.SL.Sem
open Cert.ShortConv Cert.Sigmoid

variable (x0 : (⟨S16384x1536, .f32⟩ : BufTy).Contents (Elt Ideal)) (x1 : (⟨S4x1536, .f32⟩ : BufTy).Contents (Elt Ideal))
  (x2 x3 x4 : (⟨S16384x512, .f32⟩ : BufTy).Contents (Elt Ideal))

/-- The convolution's results. -/
abbrev conv : Fin 16384 → Fin 1536 → EReal := fun r n => val_main_v32 (F := Ideal) x0 x1 (ix2 r n)

theorem one_word : Ideal.ofBits .f32 0x3F800000#32 = (1 : EReal) := by
  simp [Ideal.ofBits, Ideal.ieee, -EReal.coe_mul]
  norm_num

theorem sigmoid_at (r : Fin 16384) (n : Fin 1536) : val_main_v33_2 (F := Ideal) x0 x1 (ix2 r n) = sigmoid (conv x0 x1 r n) := by
  pointwise [val_main_call0_v0, val_main_call0_v1, val_main_call0_cst, val_main_call0_v2, val_main_call0_v3, val_main_call0_cst_0,
    val_main_call0_v4, val_main_v33_2]
  rfl

theorem silu_at (r : Fin 16384) (n : Fin 1536) :
    val_main_v33_0 (F := Ideal) x0 x1 (ix2 r n) = conv x0 x1 r n * sigmoid (conv x0 x1 r n) := by
  pointwise [val_main_v33_0]
  rw [sigmoid_at]

theorem slope_at (r : Fin 16384) (n : Fin 1536) :
    val_main_v33_1 (F := Ideal) x0 x1 (ix2 r n) = sigmoid (conv x0 x1 r n) * (1 - sigmoid (conv x0 x1 r n)) := by
  pointwise [val_main_v33_1, val_main_call0_v7, val_main_call0_v6, val_main_call0_cst_1]
  rw [sigmoid_at]

/-- A column of a group. -/
def col (q : Fin 3) (k : Fin 512) : Fin 1536 := ⟨512 * q.val + k.val, by omega⟩

/-- The reference's place of a head's column. -/
theorem lane_mul (h : Fin 4) (l : Fin 128) (p : h.val * 128 + l.val < 512) : (⟨h.val * 128 + l.val, p⟩ : Fin 512) = lane h l :=
  Fin.ext (by simp only [lane]; omega)

/-- A head of a row, after the convolution and `x * sigmoid x`. -/
abbrev headOfRow (q : Fin 3) (r : Fin 16384) (h : Fin 4) : Fin 128 → EReal :=
  fun l => conv x0 x1 r (col q (lane h l)) * sigmoid (conv x0 x1 r (col q (lane h l)))

theorem head0_at (r : Fin 16384) (h : Fin 4) (l : Fin 128) : val_main_v35 (F := Ideal) x0 x1 (ix3 r h l) = headOfRow x0 x1 0 r h l := by
  pointwise [val_main_v34, val_main_v35]
  refine (silu_at x0 x1 _ _).trans ?_
  refine congrArg (fun n => conv x0 x1 r n * sigmoid (conv x0 x1 r n)) (Fin.ext ?_)
  simp only [col, lane]
  omega

theorem head1_at (r : Fin 16384) (h : Fin 4) (l : Fin 128) : val_main_v49 (F := Ideal) x0 x1 (ix3 r h l) = headOfRow x0 x1 1 r h l := by
  pointwise [val_main_v48, val_main_v49]
  refine (silu_at x0 x1 _ _).trans ?_
  refine congrArg (fun n => conv x0 x1 r n * sigmoid (conv x0 x1 r n)) (Fin.ext ?_)
  simp only [col, lane]
  omega

theorem scale0_at (r : Fin 16384) (h : Fin 4) : val_main_v41 (F := Ideal) x0 x1 (ix3 r h 0) = scaleOf (headOfRow x0 x1 0 r h) := by
  pointwise [val_main_v36, val_main_v37, val_main_cst_8, val_main_v38, val_main_v39, val_main_cst_9, val_main_v40, val_main_v41]
  simp only [head0_at]
  rfl

theorem scale1_at (r : Fin 16384) (h : Fin 4) : val_main_v55 (F := Ideal) x0 x1 (ix3 r h 0) = scaleOf (headOfRow x0 x1 1 r h) := by
  pointwise [val_main_v50, val_main_v51, val_main_cst_11, val_main_v52, val_main_v53, val_main_cst_12, val_main_v54, val_main_v55]
  simp only [head1_at]
  rfl

theorem pull0_at (r : Fin 16384) (h : Fin 4) : val_main_v87 (F := Ideal) x0 x1 x2 (ix2 r h)
    = slopeOf (headOfRow x0 x1 0 r h) (fun l => x2 (ix2 r (lane h l))) := by
  pointwise [val_main_v36, val_main_v37, val_main_cst_8, val_main_v38, val_main_v39, val_main_cst_9, val_main_v40, val_main_v42,
    val_main_v43, val_main_cst_10, val_main_v44, val_main_v80, val_main_v81, val_main_v82, val_main_cst_18, val_main_v83, val_main_v86,
    val_main_v87, val_main_cst_19]
  simp only [head0_at, lane_mul]
  rw [Fin.sum_univ_one, scale0_at]
  rfl

theorem pull1_at (r : Fin 16384) (h : Fin 4) : val_main_v71 (F := Ideal) x0 x1 x3 (ix2 r h)
    = slopeOf (headOfRow x0 x1 1 r h) (fun l => x3 (ix2 r (lane h l))) := by
  pointwise [val_main_v50, val_main_v51, val_main_cst_11, val_main_v52, val_main_v53, val_main_cst_12, val_main_v54, val_main_v56,
    val_main_v57, val_main_cst_13, val_main_v58, val_main_v64, val_main_v65, val_main_v66, val_main_cst_15, val_main_v67, val_main_v70,
    val_main_v71, val_main_cst_16]
  simp only [head1_at, lane_mul]
  rw [Fin.sum_univ_one, scale1_at]
  rfl

theorem dhead0_at (r : Fin 16384) (h : Fin 4) (l : Fin 128) : val_main_v92 (F := Ideal) x0 x1 x2 (ix3 r h l)
    = headGradRef (headOfRow x0 x1 0 r h) (fun l => x2 (ix2 r (lane h l))) l := by
  pointwise [val_main_v80, val_main_v84, val_main_v85, val_main_v88, val_main_v89, val_main_v90, val_main_v91, val_main_v92]
  rw [head0_at, scale0_at, pull0_at, lane_mul]
  rfl

theorem dhead1_at (r : Fin 16384) (h : Fin 4) (l : Fin 128) : val_main_v76 (F := Ideal) x0 x1 x3 (ix3 r h l)
    = headGradRef (headOfRow x0 x1 1 r h) (fun l => x3 (ix2 r (lane h l))) l := by
  pointwise [val_main_v64, val_main_v68, val_main_v69, val_main_v72, val_main_v73, val_main_v74, val_main_v75, val_main_v76]
  rw [head1_at, scale1_at, pull1_at, lane_mul]
  rfl

/-- The cotangent of the activated convolution. -/
def activeGrad (q : Fin 3) (r : Fin 16384) (k : Fin 512) : EReal :=
  match q with
  | 0 => headGradRef (headOfRow x0 x1 0 r (headOf k)) (fun l => x2 (ix2 r (lane (headOf k) l))) (laneOf k)
  | 1 => headGradRef (headOfRow x0 x1 1 r (headOf k)) (fun l => x3 (ix2 r (lane (headOf k) l))) (laneOf k)
  | 2 => x4 (ix2 r k)

theorem zero_word : Ideal.ofBits .f32 0x00000000#32 = (0 : EReal) := Ideal.ofBits_zero_f32

theorem active_at (q : Fin 3) (r : Fin 16384) (k : Fin 512) :
    val_main_v95 (F := Ideal) x0 x1 x2 x3 x4 (ix2 r (col q k)) = activeGrad x0 x1 x2 x3 x4 q r k := by
  have hk := k.isLt
  match q with
  | 0 =>
    pointwise [val_main_v63, val_main_cst_14, val_main_v77, val_main_v78, val_main_cst_17, val_main_v79, val_main_v93, val_main_v94,
      val_main_cst_20, val_main_v95]
    simp only [dhead0_at, dhead1_at]
    simp only [activeGrad]
    rw [dif_neg (by show ¬ (1024 ≤ 512 * 0 + k.val ∧ 512 * 0 + k.val - 1024 < 512); omega), dif_neg (by show ¬ (512 ≤ 512 * 0 + k.val ∧ 512 * 0 + k.val - 512 < 512); omega), dif_pos (by show 512 * 0 + k.val < 512; omega)]
    rw [zero_add, zero_add]
    refine congrArg₂ (fun h l => headGradRef (headOfRow x0 x1 0 r h) (fun l => x2 (ix2 r (lane h l))) l) (Fin.ext ?_) (Fin.ext ?_)
    · show (512 * 0 + k.val) / 128 = k.val / 128
      omega
    · show (512 * 0 + k.val) % 128 = k.val % 128
      omega
  | 1 =>
    pointwise [val_main_v63, val_main_cst_14, val_main_v77, val_main_v78, val_main_cst_17, val_main_v79, val_main_v93, val_main_v94,
      val_main_cst_20, val_main_v95]
    simp only [dhead0_at, dhead1_at]
    simp only [activeGrad]
    rw [dif_neg (by show ¬ (1024 ≤ 512 * 1 + k.val ∧ 512 * 1 + k.val - 1024 < 512); omega), dif_pos (by show (512 ≤ 512 * 1 + k.val ∧ 512 * 1 + k.val - 512 < 512); omega), dif_neg (by show ¬ 512 * 1 + k.val < 512; omega)]
    rw [zero_add, add_zero]
    refine congrArg₂ (fun h l => headGradRef (headOfRow x0 x1 1 r h) (fun l => x3 (ix2 r (lane h l))) l) (Fin.ext ?_) (Fin.ext ?_)
    · show (512 * 1 + k.val - 512) / 128 = k.val / 128
      omega
    · show (512 * 1 + k.val - 512) % 128 = k.val % 128
      omega
  | 2 =>
    pointwise [val_main_v63, val_main_cst_14, val_main_v77, val_main_v78, val_main_cst_17, val_main_v79, val_main_v93, val_main_v94,
      val_main_cst_20, val_main_v95]
    simp only [dhead0_at, dhead1_at]
    simp only [activeGrad]
    rw [dif_pos (by show (1024 ≤ 512 * 2 + k.val ∧ 512 * 2 + k.val - 1024 < 512); omega), dif_neg (by show ¬ (512 ≤ 512 * 2 + k.val ∧ 512 * 2 + k.val - 512 < 512); omega), dif_neg (by show ¬ 512 * 2 + k.val < 512; omega)]
    rw [add_zero, add_zero]
    refine congrArg (fun n => x4 (ix2 r n)) (Fin.ext ?_)
    show 512 * 2 + k.val - 1024 = k.val
    omega

/-- The gradient of the convolution's results. -/
def convGrad (q : Fin 3) (r : Fin 16384) (k : Fin 512) : EReal :=
  siluGradRef (conv x0 x1 r (col q k)) (activeGrad x0 x1 x2 x3 x4 q r k)

theorem conv_at (q : Fin 3) (r : Fin 16384) (k : Fin 512) :
    val_main_v96 (F := Ideal) x0 x1 x2 x3 x4 (ix2 r (col q k)) = convGrad x0 x1 x2 x3 x4 q r k := by
  pointwise [val_main_call1_v0, val_main_call1_v1, val_main_call1_v2, val_main_v96]
  rw [active_at, sigmoid_at, slope_at]
  rfl

/-- The same, zero after the arrays' end. -/
def convGradAt (q : Fin 3) (n : Nat) (k : Fin 512) : EReal := if h : n < 16384 then convGrad x0 x1 x2 x3 x4 q ⟨n, h⟩ k else 0

theorem tap (a : EReal) (q : Fin 3) (n : Nat) (k : Fin 512) {P : Prop} [Decidable P] (f : P → EReal) (hP : P ↔ n < 16384)
    (hf : ∀ h : P, f h = a * convGrad x0 x1 x2 x3 x4 q ⟨n, hP.mp h⟩ k) :
    (if h : P then f h else 0) = a * convGradAt x0 x1 x2 x3 x4 q n k := by
  unfold convGradAt
  by_cases h : P
  · rw [dif_pos h, dif_pos (hP.mp h), hf]
  · rw [dif_neg h, dif_neg (fun e => h (hP.mpr e)), mul_zero]

theorem dx_at (q : Fin 3) (r : Fin 16384) (k : Fin 512) : val_main_v139 (F := Ideal) x0 x1 x2 x3 x4 (ix2 r (col q k))
    = x1 (ix2 3 (col q k)) * convGradAt x0 x1 x2 x3 x4 q r.val k + x1 (ix2 2 (col q k)) * convGradAt x0 x1 x2 x3 x4 q (r.val + 1) k
      + x1 (ix2 1 (col q k)) * convGradAt x0 x1 x2 x3 x4 q (r.val + 2) k + x1 (ix2 0 (col q k)) * convGradAt x0 x1 x2 x3 x4 q (r.val + 3) k := by
  pointwise [val_main_v0, val_main_v9, val_main_v17, val_main_v25, val_main_v97, val_main_v98, val_main_v102, val_main_cst_22, val_main_v104,
    val_main_v106, val_main_v107, val_main_v111, val_main_cst_25, val_main_v113, val_main_v114,
    val_main_v117, val_main_v118, val_main_v122, val_main_cst_28, val_main_v124, val_main_v125,
    val_main_v128, val_main_v129, val_main_v133, val_main_cst_31, val_main_v135, val_main_v136, val_main_v139]
  refine congrArg₂ (· + ·) (congrArg₂ (· + ·) (congrArg₂ (· + ·) ?_ ?_) ?_) ?_
  · rw [conv_at, convGradAt, dif_pos r.isLt]
  · refine tap x0 x1 x2 x3 x4 _ q (r.val + 1) k _ (by omega) fun h => ?_
    rw [conv_at]
    exact congrArg (fun n => _ * convGrad x0 x1 x2 x3 x4 q n k) (Fin.ext (by show 3 + r.val - 2 = r.val + 1; omega))
  · refine tap x0 x1 x2 x3 x4 _ q (r.val + 2) k _ (by omega) fun h => ?_
    rw [conv_at]
    exact congrArg (fun n => _ * convGrad x0 x1 x2 x3 x4 q n k) (Fin.ext (by show 3 + r.val - 1 = r.val + 2; omega))
  · refine tap x0 x1 x2 x3 x4 _ q (r.val + 3) k _ (by omega) fun h => ?_
    rw [conv_at]
    exact congrArg (fun n => _ * convGrad x0 x1 x2 x3 x4 q n k) (Fin.ext (by show 3 + r.val = r.val + 3; omega))

theorem sitofp_zero : (FloatOps.sitofp FTy.bf16 0#32 : Ideal .bf16) = (0 : EReal) := by
  show (((0#32 : BitVec 32).toInt : ℝ) : EReal) = 0
  simp

theorem sitofp_zero_single : (FloatOps.sitofp FTy.f32 0#32 : Ideal .f32) = (0 : EReal) := by
  show (((0#32 : BitVec 32).toInt : ℝ) : EReal) = 0
  simp

theorem result0_at (i : Fin 16384) (n : Fin 5760) : val_main_v140 (F := Ideal) x0 x1 x2 x3 x4 (ix2 i n)
    = if h : 3072 ≤ n.val ∧ n.val - 3072 < 1536 then val_main_v139 (F := Ideal) x0 x1 x2 x3 x4 (ix2 i ⟨n.val - 3072, h.2⟩) else 0 := by
  pointwise [val_main_v140, val_main_c, val_main_call2_v0]
  split
  · rfl
  · exact sitofp_zero

/-- The convolution's argument as weight `o` sees it from row `x`: rows before the first are zero. -/
def past (o : Nat) (x : Fin 16384) (n : Fin 1536) : EReal :=
  if h : 3 ≤ x.val + o ∧ x.val + o - 3 < 16384 then x0 (ix2 ⟨x.val + o - 3, h.2⟩ n) else 0

theorem past_of (o : Nat) (x : Fin 16384) (n : Fin 1536) {P : Prop} [Decidable P] (f : ¬ P → EReal) (hP : P ↔ ¬ (3 ≤ x.val + o ∧ x.val + o - 3 < 16384))
    (hf : ∀ h : ¬ P, f h = x0 (ix2 ⟨x.val + o - 3, (not_not.mp fun e => h (hP.mpr e)).2⟩ n)) : (if h : P then 0 else f h) = past x0 o x n := by
  unfold past
  by_cases h : P
  · rw [dif_pos h, dif_neg (hP.mp h)]
  · rw [dif_neg h, dif_pos (not_not.mp fun e => h (hP.mpr e)), hf]

theorem past0_at (x : Fin 16384) (n : Fin 1536) : val_main_v4 (F := Ideal) x0 (ix2 x n) = past x0 0 x n := by
  pointwise [val_main_cst, val_main_v1, val_main_v2, val_main_v4]
  refine past_of x0 0 x n _ (by omega) fun h => ?_
  exact congrArg (fun r => x0 (ix2 r n)) (Fin.ext (by show x.val - 3 = x.val + 0 - 3; omega))

theorem past1_at (x : Fin 16384) (n : Fin 1536) : val_main_v13 (F := Ideal) x0 (ix2 x n) = past x0 1 x n := by
  pointwise [val_main_cst_2, val_main_v10, val_main_v11, val_main_v13]
  refine past_of x0 1 x n _ (by omega) fun h => ?_
  exact congrArg (fun r => x0 (ix2 r n)) (Fin.ext (by show 1 + x.val - 3 = x.val + 1 - 3; omega))

theorem past2_at (x : Fin 16384) (n : Fin 1536) : val_main_v21 (F := Ideal) x0 (ix2 x n) = past x0 2 x n := by
  pointwise [val_main_cst_4, val_main_v18, val_main_v19, val_main_v21]
  refine past_of x0 2 x n _ (by omega) fun h => ?_
  exact congrArg (fun r => x0 (ix2 r n)) (Fin.ext (by show 2 + x.val - 3 = x.val + 2 - 3; omega))

theorem past3_at (x : Fin 16384) (n : Fin 1536) : val_main_v29 (F := Ideal) x0 (ix2 x n) = past x0 3 x n := by
  pointwise [val_main_cst_6, val_main_v26, val_main_v27, val_main_v29]
  unfold past
  rw [dif_pos (by omega)]
  rfl

/-- A weight's gradient: the gradient of the results times the argument as the weight sees it, summed over the rows. -/
def weightGrad (o : Nat) (q : Fin 3) (k : Fin 512) : EReal := ∑ x, convGrad x0 x1 x2 x3 x4 q x k * past x0 o x (col q k)

theorem pick (o : Nat) (s : Nat → EReal) (z : EReal) (hz : z = 0) :
    (if h : o < 4 then (((if h : 3 ≤ o ∧ o - 3 < 1 then s 3 else 0) + if h : 2 ≤ o ∧ o - 2 < 1 then s 2 else 0)
        + if h : 1 ≤ o ∧ o - 1 < 1 then s 1 else 0) + if h : o < 1 then s 0 else 0 else z)
      = if o < 4 then s o else 0 := by
  by_cases h : o < 4
  · interval_cases o <;> simp
  · rw [dif_neg h, if_neg h, hz]

theorem result1_at (o : Fin 8) (q : Fin 3) (k : Fin 512) : val_main_v141 (F := Ideal) x0 x1 x2 x3 x4 (ix2 o (col q k))
    = if o.val < 4 then weightGrad x0 x1 x2 x3 x4 o.val q k else 0 := by
  pointwise [val_main_v99, val_main_v100, val_main_cst_21, val_main_v101, val_main_v105, val_main_cst_23,
    val_main_v108, val_main_v109, val_main_cst_24, val_main_v110, val_main_v115, val_main_cst_26, val_main_v116,
    val_main_v119, val_main_v120, val_main_cst_27, val_main_v121, val_main_v126, val_main_cst_29, val_main_v127,
    val_main_v130, val_main_v131, val_main_cst_30, val_main_v132, val_main_v137, val_main_cst_32, val_main_v138,
    val_main_v141, val_main_c_33, val_main_call3_v0]
  simp only [conv_at, past0_at, past1_at, past2_at, past3_at]
  exact pick o.val (fun p => weightGrad x0 x1 x2 x3 x4 p q k) _ sitofp_zero_single

end Cert.ConvRefIdeal.Point
-- ==== Proof.ConvRefReal.lean ====
module

public import proofs.«01_k».proof.Proof.ConvRefRead

/-! # The convolution on real arguments

  Its results are real numbers; a sum over the rows may be counted from the row a weight sees. -/

@[expose] public section

set_option maxRecDepth 16384

noncomputable section

namespace Cert.ConvRefIdeal.Point

open Cert.ConvRefIdeal Cert.ConvRefIdeal.Read Idealize.ShloMosaic Idealize.ShloMosaic.TcCoe Idealize.SL.Sem
open Cert.ShortConv Cert.Sigmoid

variable (x0 : (⟨S16384x1536, .f32⟩ : BufTy).Contents (Elt Ideal)) (x1 : (⟨S4x1536, .f32⟩ : BufTy).Contents (Elt Ideal))

theorem conv_sum (r : Fin 16384) (n : Fin 1536) : conv x0 x1 r n = x1 (ix2 0 n) * past x0 0 r n + x1 (ix2 1 n) * past x0 1 r n
    + x1 (ix2 2 n) * past x0 2 r n + x1 (ix2 3 n) * past x0 3 r n := by
  unfold conv
  pointwise [val_main_v0, val_main_v5, val_main_v6, val_main_cst_1, val_main_v7, val_main_v8, val_main_v9, val_main_v14, val_main_v15,
    val_main_v16, val_main_v17, val_main_v22, val_main_v23, val_main_v24, val_main_v25, val_main_v30, val_main_v31, val_main_v32]
  rw [past0_at, past1_at, past2_at, past3_at]

theorem past_real (X : S16384x1536.Idx → ℝ) (h0 : ∀ i, x0 i = (X i : EReal)) (o : Nat) (r : Fin 16384) (n : Fin 1536) :
    ∃ y : ℝ, past x0 o r n = (y : EReal) := by
  unfold past
  split
  · exact ⟨_, h0 _⟩
  · exact ⟨0, rfl⟩

theorem conv_real (X : S16384x1536.Idx → ℝ) (W : S4x1536.Idx → ℝ) (h0 : ∀ i, x0 i = (X i : EReal)) (h1 : ∀ i, x1 i = (W i : EReal))
    (r : Fin 16384) (n : Fin 1536) : ∃ y : ℝ, conv x0 x1 r n = (y : EReal) := by
  obtain ⟨a, ha⟩ := past_real x0 X h0 0 r n
  obtain ⟨b, hb⟩ := past_real x0 X h0 1 r n
  obtain ⟨c, hc⟩ := past_real x0 X h0 2 r n
  obtain ⟨d, hd⟩ := past_real x0 X h0 3 r n
  refine ⟨W (ix2 0 n) * a + W (ix2 1 n) * b + W (ix2 2 n) * c + W (ix2 3 n) * d, ?_⟩
  rw [conv_sum, ha, hb, hc, hd, h1, h1, h1, h1]
  simp only [EReal.coe_add, EReal.coe_mul]

/-- A sum of products of which one factor is `s` places ahead, counted from that factor's place. -/
theorem shifted (N s : Nat) (hs : s ≤ N) (f g : Nat → EReal) (hf : ∀ n, N ≤ n → f n = 0) :
    ∑ r : Fin N, f (r.val + s) * g r.val = ∑ x : Fin N, if s ≤ x.val then f x.val * g (x.val - s) else 0 := by
  rw [Fin.sum_univ_eq_sum_range (fun r => f (r + s) * g r) N, Fin.sum_univ_eq_sum_range (fun x => if s ≤ x then f x * g (x - s) else 0) N]
  obtain ⟨M, rfl⟩ := Nat.exists_eq_add_of_le hs
  rw [Finset.sum_range_add (fun x => if s ≤ x then f x * g (x - s) else 0) s M, add_comm s M,
    Finset.sum_range_add (fun r => f (r + s) * g r) M s]
  rw [Finset.sum_eq_zero (s := Finset.range s) (f := fun x => f (M + x + s) * g (M + x)) (fun x _ => by rw [hf _ (by omega), zero_mul]),
    Finset.sum_eq_zero (s := Finset.range s) (f := fun x => if s ≤ x then f x * g (x - s) else 0) (fun x hx => if_neg (by have := Finset.mem_range.mp hx; omega)), zero_add, add_zero]
  refine Finset.sum_congr rfl fun x _ => ?_
  rw [if_pos (by omega), Nat.add_sub_cancel_left, Nat.add_comm s x]

end Cert.ConvRefIdeal.Point
-- ==== Proof.ConvFinite.lean ====
module

public import proofs.«01_k».proof.Defs
public import proofs.«01_k».proof.Proof.AttFinite

/-! # The convolution's finite arguments are real

  The precondition, read at an index of each argument. -/

@[expose] public section

set_option maxRecDepth 16384

noncomputable section

namespace Cert.ConvFinite

open Idealize.ShloMosaic Cert.Pre_finite_conv Cert.AttFinite

theorem pre_facts : Cert.Pre_finite_conv.Facts := ⟨by decide, by decide, by decide, by decide, by decide, by decide, by decide⟩

/-- Every entry of every argument is a real number. -/
theorem real_entries (x0 : FVec Ideal S16384x1536 .f32) (x1 : FVec Ideal S4x1536 .f32) (x2 x3 x4 : FVec Ideal S16384x512 .f32) (j)
    (h : @Cert.Pre_finite_conv.fn pre_facts Ideal _ x0 x1 x2 x3 x4 j = 1#1) :
    (∀ i, ∃ y : ℝ, x0 i = (y : EReal)) ∧ (∀ i, ∃ y : ℝ, x1 i = (y : EReal)) ∧ (∀ i, ∃ y : ℝ, x2 i = (y : EReal))
      ∧ (∀ i, ∃ y : ℝ, x3 i = (y : EReal)) ∧ (∀ i, ∃ y : ℝ, x4 i = (y : EReal)) := by
  have : Subsingleton S_.Idx := ⟨fun a b => by funext i; exact i.elim0⟩
  unfold Cert.Pre_finite_conv.fn Cert.Pre_finite_conv.fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_lt _ (Host.reduce_andi_all _ _ _ _ j h0 i), fun i => real_of_lt _ (Host.reduce_andi_all _ _ _ _ j h1 i),
    fun i => real_of_lt _ (Host.reduce_andi_all _ _ _ _ j h2 i), fun i => real_of_lt _ (Host.reduce_andi_all _ _ _ _ j h3 i),
    fun i => real_of_lt _ (Host.reduce_andi_all _ _ _ _ j h4 i)⟩

end Cert.ConvFinite

end
-- ==== Proof.ConvEq.lean ====
module

public import proofs.«01_k».proof.Proof.ConvOut
public import proofs.«01_k».proof.Proof.ConvSum
public import proofs.«01_k».proof.Proof.ConvRefReal
public import proofs.«01_k».proof.Proof.ConvFinite
public import proofs.«01_k».proof.Proof.Gen.ConvIdeal.Value
public import proofs.«01_k».proof.Proof.Gen.ConvRefIdeal.Run

/-! # Kernel and reference agree: the short convolution's gradients

  The call's arrays against the reference's, entry by entry. -/

@[expose] public section

set_option maxRecDepth 16384

noncomputable section

namespace Cert.ConvIdeal.Point

open Cert.ConvIdeal Cert.ConvIdeal.Gen Idealize.ShloMosaic Idealize.ShloMosaic.TcCoe Idealize.SL.Sem
open Idealize.ShloMosaic.Pipeline (Dat)
open Cert.ShortConv

variable (m : (ℓ : Loc nD τ sig) → Buf (Elt Ideal) ℓ)

open Cert.Sigmoid
open Cert.ConvRefIdeal.Read (val_main_v32 val_main_v139 val_main_v140 val_main_v140_eq val_main_v141 val_main_v141_eq)
open Cert.ConvRefIdeal.Point (conv convGrad convGradAt activeGrad past weightGrad)

/-- The saved results of the convolution are the reference's own. -/
theorem saved (c : Dev nD) : yv m c = val_main_v32 (F := Ideal) (qkv m c) (wt m c) := by
  unfold yv V
  after_reads_simp
  rfl

/-- Every argument's entries are real numbers. -/
structure Real (c : Dev nD) where
  x : S16384x1536.Idx → ℝ
  w : S4x1536.Idx → ℝ
  d : Fin 3 → Fin 16384 → Fin 512 → ℝ
  hx : ∀ i, qkv m c i = (x i : EReal)
  hw : ∀ i, wt m c i = (w i : EReal)
  hd : ∀ q r k, dOf m c q r k = (d q r k : EReal)

theorem real_of_pre (h : @Cert.Pre_ConvIdeal_finite_conv Cert.ConvFinite.pre_facts m) (c : Dev nD) : Nonempty (Real m c) := by
  obtain ⟨h0, h1, h2, h3, h4⟩ := Cert.ConvFinite.real_entries _ _ _ _ _ _ (congrFun (h c) (fun a => a.elim0))
  choose f0 h0 using h0
  choose f1 h1 using h1
  choose f2 h2 using h2
  choose f3 h3 using h3
  choose f4 h4 using h4
  exact ⟨⟨f0, f1, fun q r k => match q with | 0 => f2 (ix2 r k) | 1 => f3 (ix2 r k) | 2 => f4 (ix2 r k), h0, h1, fun q r k =>
    match q with | 0 => h2 _ | 1 => h3 _ | 2 => h4 _⟩⟩

variable {m}

/-- The reference's cotangent of the convolution, at this memory's arguments. -/
abbrev refConv (m : (ℓ : Loc nD τ sig) → Buf (Elt Ideal) ℓ) (c : Dev nD) (q : Fin 3) (r : Fin 16384) (k : Fin 512) : EReal :=
  convGrad (qkv m c) (wt m c) (dq m c) (dk m c) (dv m c) q r k

theorem head_of (Y : Fin 1536 → EReal) (hY : ∀ n, ∃ y : ℝ, Y n = (y : EReal)) {c : Dev nD} (R : Real m c) (q : Fin 3) (r : Fin 16384) (k : Fin 512) :
    normGrad (fun n => Y (col q n)) (fun n => dOf m c q r n) k
      = siluGradRef (Y (col q k)) (headGradRef (fun l => Y (col q (lane (headOf k) l)) * sigmoid (Y (col q (lane (headOf k) l))))
          (fun l => dOf m c q r (lane (headOf k) l)) (laneOf k)) := by
  choose y hY using hY
  unfold normGrad
  simp only [hY, R.hd, sigmoid_real, ← EReal.coe_mul]
  obtain ⟨g, h1, h2⟩ := head_real (fun l => y (col q (lane (headOf k) l)) * (1 / (1 + Real.exp (-(y (col q (lane (headOf k) l)))))))
    (fun l => R.d q r (lane (headOf k) l)) (laneOf k)
  rw [h1, h2, silu_real]

theorem ref0 (c : Dev nD) (r : Fin 16384) (k : Fin 512) : refConv m c 0 r k = siluGradRef (conv (qkv m c) (wt m c) r (col 0 k))
    (headGradRef (fun l => conv (qkv m c) (wt m c) r (col 0 (lane (headOf k) l)) * sigmoid (conv (qkv m c) (wt m c) r (col 0 (lane (headOf k) l))))
      (fun l => dOf m c 0 r (lane (headOf k) l)) (laneOf k)) := rfl

theorem ref1 (c : Dev nD) (r : Fin 16384) (k : Fin 512) : refConv m c 1 r k = siluGradRef (conv (qkv m c) (wt m c) r (col 1 k))
    (headGradRef (fun l => conv (qkv m c) (wt m c) r (col 1 (lane (headOf k) l)) * sigmoid (conv (qkv m c) (wt m c) r (col 1 (lane (headOf k) l))))
      (fun l => dOf m c 1 r (lane (headOf k) l)) (laneOf k)) := rfl

theorem ref2 (c : Dev nD) (r : Fin 16384) (k : Fin 512) : refConv m c 2 r k = siluGradRef (conv (qkv m c) (wt m c) r (col 2 k)) (dOf m c 2 r k) := rfl

theorem dy_row {c : Dev nD} (R : Real m c) (q : Fin 3) (r : Fin 16384) (k : Fin 512) : dyRow m c q r k = refConv m c q r k := by
  have hy := Cert.ConvRefIdeal.Point.conv_real (qkv m c) (wt m c) R.x R.w R.hx R.hw r
  have e : ∀ n, yv m c (ix2 r n) = conv (qkv m c) (wt m c) r n := fun n => congrFun (saved m c) _
  unfold dyRow
  simp only [e]
  match q with
  | 0 => rw [if_neg (by decide), ref0]; exact head_of _ hy R 0 r k
  | 1 => rw [if_neg (by decide), ref1]; exact head_of _ hy R 1 r k
  | 2 =>
    rw [if_pos rfl, ref2]
    obtain ⟨y, hy⟩ := hy (col 2 k)
    rw [hy, R.hd, silu_real]

theorem dy_at {c : Dev nD} (R : Real m c) (q : Fin 3) (n : Nat) (k : Fin 512) :
    dyAt m c q n k = convGradAt (qkv m c) (wt m c) (dq m c) (dk m c) (dv m c) q n k := by
  unfold dyAt convGradAt
  by_cases h : n < 16384
  · rw [dif_pos h, dif_pos h, dy_row R]
  · rw [dif_neg h, dif_neg h]

theorem dx_eq {c : Dev nD} (R : Real m c) (q : Fin 3) (r : Fin 16384) (k : Fin 512) : dxAt m c q r.val k
    = val_main_v139 (F := Ideal) (qkv m c) (wt m c) (dq m c) (dk m c) (dv m c) (ix2 r (col q k)) := by
  refine Eq.trans ?_ (Cert.ConvRefIdeal.Point.dx_at _ _ _ _ _ q r k).symm
  unfold dxAt
  simp only [dy_at R]
  show _ = wt m c (ix2 3 (col q k)) * _ + wt m c (ix2 2 (col q k)) * _ + wt m c (ix2 1 (col q k)) * _ + wt m c (ix2 0 (col q k)) * _
  abel

theorem arg_eq {c : Dev nD} (R : Real m c) : (dats m 0 c).arrAt 12 cfg0.N = val_main_v140 (F := Ideal) (qkv m c) (wt m c) (dq m c) (dk m c) (dv m c) := by
  rw [out12 m c]
  funext i
  obtain ⟨r, n, rfl⟩ : ∃ (r : Fin 16384) (n : Fin 5760), i = ix2 r n := ⟨i 0, i 1, ValueIdx.eq_ix2 i⟩
  refine Eq.trans ?_ (Cert.ConvRefIdeal.Point.result0_at _ _ _ _ _ r n).symm
  show (if n.val / 1536 = 2 then gradient m c r n.val else V m c main_v32 (ix2 r n)) = _
  by_cases h : n.val / 1536 = 2
  · rw [if_pos h, dif_pos (by omega)]
    refine (dx_eq R _ r _).trans (congrArg (fun k => val_main_v139 (F := Ideal) _ _ _ _ _ (ix2 r k)) (Fin.ext ?_))
    show 512 * ((n.val - 3072) / 512 % 3) + (n.val - 3072) % 512 = n.val - 3072
    omega
  · rw [if_neg h, dif_neg (by omega), rest_zero]

/-- The convolution's argument at a row, zero past the end. -/
def argAt (c : Dev nD) (j : Fin 1536) (n : Nat) : EReal := if h : n < 16384 then qkv m c (ix2 ⟨n, h⟩ j) else 0

theorem weight_eq {c : Dev nD} (R : Real m c) : (dats m 0 c).arrAt 13 cfg0.N = val_main_v141 (F := Ideal) (qkv m c) (wt m c) (dq m c) (dk m c) (dv m c) := by
  rw [out13 m c]
  funext i
  obtain ⟨o, n, rfl⟩ : ∃ (o : Fin 8) (n : Fin 1536), i = ix2 o n := ⟨i 0, i 1, ValueIdx.eq_ix2 i⟩
  refine Eq.trans ?_ ((Cert.ConvRefIdeal.Point.result1_at _ _ _ _ _ o (groupOf n) (placeOf n)).symm.trans (congrArg (fun j => val_main_v141 (F := Ideal) _ _ _ _ _ (ix2 o j)) (col_of n)))
  show ∑ r : Fin 16384, part m c o n r = _
  unfold part
  by_cases ho : o.val < 4
  · rw [if_pos ho]
    simp only [if_pos ho, dy_at R]
    have e := Cert.ConvRefIdeal.Point.shifted 16384 (3 - o.val) (by omega) (fun j => convGradAt (qkv m c) (wt m c) (dq m c) (dk m c) (dv m c) (groupOf n) j (placeOf n))
      (argAt (m := m) c n) (fun j hj => dif_neg (by omega))
    refine Eq.trans ?_ (e.trans ?_)
    · refine Finset.sum_congr rfl fun r _ => ?_
      exact congrArg (_ * ·) (by unfold argAt; rw [dif_pos r.isLt])
    · refine Finset.sum_congr rfl fun x _ => ?_
      have hx := x.isLt
      unfold past
      by_cases h : 3 - o.val ≤ x.val
      · rw [if_pos h, dif_pos (by omega)]
        refine congrArg₂ (· * ·) (dif_pos hx) ((dif_pos (by omega)).trans ?_)
        refine congrArg₂ (fun r j => qkv m c (ix2 r j)) (Fin.ext ?_) (col_of n).symm
        show x.val - (3 - o.val) = x.val + o.val - 3
        omega
      · rw [if_neg h, dif_neg (by omega), mul_zero]
  · rw [if_neg ho]
    simp only [if_neg ho, Finset.sum_const_zero]

set_option maxHeartbeats 1000000 in
/-- The kernel computes the reference's gradients of the convolution's argument and of its weights, from memories that agree on finite
arguments. -/
theorem agree : @Cert.algebraic_ConvIdeal_ConvRefIdeal_pre_finite_conv Cert.ConvIdeal.Gen.facts Cert.ConvRefIdeal.Gen.facts Cert.ConvFinite.pre_facts := by
  intro m g m' g' hpre hargs
  refine ⟨fun c => (dats m 0 c).arrAt 12 cfg0.N, fun c => (dats m 0 c).arrAt 13 cfg0.N, ?_, ?_⟩
  · exact (θ_run _ _ _).mono (fun r h c => h c) (Cert.ConvIdeal.Value.run_blocks (F := Ideal) m g)
  · refine (θ_run _ _ _).mono (fun r h c => ?_) (Cert.ConvRefIdeal.Value.run (F := Ideal) m' g')
    obtain ⟨h0, h1, hk⟩ := h c
    obtain ⟨a0, a1, a2, a3, a4⟩ := hargs c
    obtain ⟨R⟩ := real_of_pre m hpre c
    refine ⟨(h0.trans (val_main_v140_eq _)).trans ?_, (h1.trans (val_main_v141_eq _)).trans ?_, hk⟩
    · show val_main_v140 (F := Ideal) (m' (c.tc.loc Cert.ConvRefIdeal.main_arg0)) (m' (c.tc.loc Cert.ConvRefIdeal.main_arg1))
        (m' (c.tc.loc Cert.ConvRefIdeal.main_arg2)) (m' (c.tc.loc Cert.ConvRefIdeal.main_arg3)) (m' (c.tc.loc Cert.ConvRefIdeal.main_arg4)) = _
      rw [a0, a1, a2, a3, a4]
      exact (arg_eq R).symm
    · show val_main_v141 (F := Ideal) (m' (c.tc.loc Cert.ConvRefIdeal.main_arg0)) (m' (c.tc.loc Cert.ConvRefIdeal.main_arg1))
        (m' (c.tc.loc Cert.ConvRefIdeal.main_arg2)) (m' (c.tc.loc Cert.ConvRefIdeal.main_arg3)) (m' (c.tc.loc Cert.ConvRefIdeal.main_arg4)) = _
      rw [a0, a1, a2, a3, a4]
      exact (weight_eq R).symm

end Cert.ConvIdeal.Point
-- ==== Proof.RmsMath.lean ====
module

public import proofs.«01_k».proof.Proof.Sigmoid
public import proofs.«01_k».proof.Proof.AttMath

/-! # The two forms of the root-mean-square norm's gradient agree on real numbers

  The kernel subtracts the mean of the gradient's part along the normalised row; the reference adds the cotangent of the row's
  mean square twice, once for each factor of the square. -/

@[expose] public section

set_option maxRecDepth 16384

noncomputable section

namespace Cert.RowNorm

open Idealize.ShloMosaic Cert.Sigmoid Cert.Attention

/-- The number of entries of a row, and the constant added to their mean square. -/
def width : EReal := Ideal.ofBits .f32 0x44800000#32
def small : EReal := Ideal.ofBits .f32 0x358637BD#32

/-- One over the root of a row's mean square. -/
def scaleOf (f : Fin 1024 → EReal) : EReal := Ideal.rsqrt (Ideal.div (∑ n, f n * f n) width + small)

/-- The gradient of row `f` from the norm's cotangent `h` and its weights `w`, as the kernel computes it. -/
def rowGrad (f h w : Fin 1024 → EReal) (d : Fin 1024) : EReal :=
  scaleOf f * (h d * w d - f d * scaleOf f * Ideal.div (∑ n, h n * w n * (f n * scaleOf f)) width)

/-- A share of the cotangent of a row's sum of squares, as the reference computes it. -/
def slopeOf (f h w : Fin 1024 → EReal) : EReal :=
  Ideal.div ((∑ n, f n * (h n * w n)) * (Ideal.ofBits .f32 0xBF000000#32 * Ideal.div (scaleOf f) (Ideal.div (∑ n, f n * f n) width + small))) width

/-- The gradient of a row, as the reference computes it. -/
def rowGradRef (f h w : Fin 1024 → EReal) (d : Fin 1024) : EReal :=
  h d * w d * scaleOf f + f d * slopeOf f h w + slopeOf f h w * f d

theorem small_real : ∃ e : ℝ, 0 < e ∧ small = (e : EReal) := by
  refine ⟨8796093 * 2 ^ (-43 : ℤ), by positivity, ?_⟩
  simp [small, Ideal.ofBits, Ideal.ieee, -EReal.coe_mul]

theorem width_real : width = ((1024 : ℝ) : EReal) := by
  simp [width, Ideal.ofBits, Ideal.ieee, -EReal.coe_mul]
  norm_num

theorem minus_half : Ideal.ofBits .f32 0xBF000000#32 = ((-(1 / 2) : ℝ) : EReal) := by
  simp [Ideal.ofBits, Ideal.ieee, -EReal.coe_mul]
  norm_num

theorem row_real (f h w : Fin 1024 → ℝ) (d : Fin 1024) :
    rowGrad (fun n => (f n : EReal)) (fun n => (h n : EReal)) (fun n => (w n : EReal)) d
      = rowGradRef (fun n => (f n : EReal)) (fun n => (h n : EReal)) (fun n => (w n : EReal)) d := by
  obtain ⟨e, he, hE⟩ := small_real
  have hs : 0 < (∑ n, f n * f n) / 1024 + e := add_pos_of_nonneg_of_pos (div_nonneg (Finset.sum_nonneg fun n _ => mul_self_nonneg _) (by norm_num)) he
  have h1024 : (1024 : ℝ) ≠ 0 := by norm_num
  have hS : Ideal.div (∑ n, (f n : EReal) * (f n : EReal)) width + small = (((∑ n, f n * f n) / 1024 + e : ℝ) : EReal) := by
    rw [hE, width_real]
    simp only [← EReal.coe_mul, ← coe_sum]
    rw [div_real h1024, EReal.coe_add]
  have hr : scaleOf (fun n => (f n : EReal)) = (((Real.sqrt ((∑ n, f n * f n) / 1024 + e))⁻¹ : ℝ) : EReal) := by
    unfold scaleOf
    rw [hS, Ideal.rsqrt_coe, if_neg hs.not_gt, if_neg hs.ne']
  unfold rowGrad rowGradRef slopeOf
  rw [hS, hr, div_real hs.ne', minus_half, width_real]
  simp only [← EReal.coe_mul, ← coe_sum, div_real h1024, ← EReal.coe_sub, ← EReal.coe_add]
  refine congrArg _ ?_
  have hq : (Real.sqrt ((∑ n, f n * f n) / 1024 + e))⁻¹ / ((∑ n, f n * f n) / 1024 + e)
      = (Real.sqrt ((∑ n, f n * f n) / 1024 + e))⁻¹ * (Real.sqrt ((∑ n, f n * f n) / 1024 + e))⁻¹ * (Real.sqrt ((∑ n, f n * f n) / 1024 + e))⁻¹ := by
    rw [mul_assoc, ← mul_inv, Real.mul_self_sqrt hs.le, div_eq_mul_inv]
  rw [hq]
  have ht : ∑ n, h n * w n * (f n * (Real.sqrt ((∑ n, f n * f n) / 1024 + e))⁻¹)
      = (∑ n, f n * (h n * w n)) * (Real.sqrt ((∑ n, f n * f n) / 1024 + e))⁻¹ := by
    rw [Finset.sum_mul]
    exact Finset.sum_congr rfl fun n _ => by ring
  rw [ht]
  ring

end Cert.RowNorm
-- ==== Proof.RmsBlocks.lean ====
module

public import proofs.«01_k».proof.Proof.RmsMath
public import proofs.«01_k».proof.Proof.Gen.RmsIdeal.Value
public import Idealize.ShloMosaic.Lib.Pipeline.ValueKit
public import Idealize.ShloMosaic.Lib.Pointwise
public import Idealize.ShloMosaic.Lib.WritesUnit
public import Idealize.ShloMosaic.Lib.Pipeline.ReadBack

/-! # What each grid point leaves behind in the norm's backward kernel

  Five points in turn add one column tile's product each; the fifth writes the rows' gradient and adds to the weights' gradient. -/

@[expose] public section

set_option maxRecDepth 16384

noncomputable section

namespace Cert.RmsIdeal.Point

open Cert.RmsIdeal Cert.RmsIdeal.Gen Idealize.ShloMosaic Idealize.ShloMosaic.TcCoe Idealize.SL.Sem
open Idealize.ShloMosaic.Pipeline (Dat)
open Cert.RowNorm

variable (m : (ℓ : Loc nD τ sig) → Buf (Elt Ideal) ℓ)

/-- A grid point's blocks, at their shapes: the packed cotangent, the packed weights, the rows, the norm's weights and the gradient
that reaches the rows past the norm. -/
abbrev dBlk (c : Dev nD) (t : Fin cfg0.N) : S1024x1152.Idx → EReal := iblk m c 0 t
abbrev wBlk (c : Dev nD) (t : Fin cfg0.N) : S1152x1024.Idx → EReal := iblk m c 1 t
abbrev xBlk (c : Dev nD) (t : Fin cfg0.N) : S1024x1024.Idx → EReal := iblk m c 2 t
abbrev nBlk (c : Dev nD) (t : Fin cfg0.N) : S1x1024.Idx → EReal := iblk m c 3 t
abbrev pBlk (c : Dev nD) (t : Fin cfg0.N) : S1024x1024.Idx → EReal := iblk m c 4 t

/-- The product of a grid point's two blocks. -/
def tile (c : Dev nD) (t : Fin cfg0.N) (r d : Fin 1024) : EReal := ∑ k : Fin 1152, dBlk m c t (ix2 r k) * wBlk m c t (ix2 k d)

/-- What is left in the accumulator. -/
def held (c : Dev nD) (n : Nat) (h : n < cfg0.N) (r d : Fin 1024) : EReal := (outsAt0 m c n h).2.2.2 (ix2 r d)

theorem held_first (c : Dev nD) (t : Fin cfg0.N) (h1 : t.val % 5 = 0) (r d : Fin 1024) : held m c t.val t.isLt r d = 0 + tile m c t r d := by
  unfold held tile
  by_cases h0 : t.val % 80 = 0
  · rw [outsAt0_A m c t h0 h1 (by omega)]
    frame_out
    unfold_payloads
    pointwise
  · rw [outsAt0_D m c t h0 h1 (by omega)]
    frame_out
    unfold_payloads
    pointwise

theorem held_next (c : Dev nD) (t : Fin cfg0.N) (h1 : ¬ t.val % 5 = 0) (r d : Fin 1024) :
    held m c t.val t.isLt r d = held m c (t.val - 1) (by omega) r d + tile m c t r d := by
  unfold held tile
  by_cases h2 : t.val % 5 = 4
  · rw [outsAt0_C m c t (by omega) h1 h2]
    frame_out
    unfold_payloads
    pointwise [read_unread_whole]
  · rw [outsAt0_B m c t (by omega) h1 h2]
    frame_out
    unfold_payloads
    pointwise [read_unread_whole]

/-- The row gradient a fifth point writes. -/
theorem rows_at (c : Dev nD) (t : Fin cfg0.N) (h2 : t.val % 5 = 4) (r d : Fin 1024) :
    (outsAt0 m c t.val t.isLt).1 (ix2 r d) = pBlk m c t (ix2 r d)
      + rowGrad (fun n => xBlk m c t (ix2 r n)) (fun n => held m c t.val t.isLt r n) (fun n => nBlk m c t (ix2 0 n)) d := by
  simp only [held_next m c t (by omega)]
  unfold held tile rowGrad scaleOf width small
  rw [outsAt0_C m c t (by omega) (by omega) h2]
  frame_out
  unfold_payloads
  pointwise [read_unread_whole]

theorem rounded_at (c : Dev nD) (t : Fin cfg0.N) (h2 : t.val % 5 = 4) (r d : Fin 1024) :
    (outsAt0 m c t.val t.isLt).2.1 (ix2 r d) = pBlk m c t (ix2 r d)
      + rowGrad (fun n => xBlk m c t (ix2 r n)) (fun n => held m c t.val t.isLt r n) (fun n => nBlk m c t (ix2 0 n)) d := by
  simp only [held_next m c t (by omega)]
  unfold held tile rowGrad scaleOf width small
  rw [outsAt0_C m c t (by omega) (by omega) h2]
  frame_out
  unfold_payloads
  pointwise [read_unread_whole]

/-- What is left in the weights' gradient. -/
def sums (c : Dev nD) (n : Nat) (h : n < cfg0.N) (o : Fin 8) (d : Fin 1024) : EReal := (outsAt0 m c n h).2.2.1 (ix2 o d)

theorem sums_first (c : Dev nD) (t : Fin cfg0.N) (h0 : t.val % 80 = 0) (o : Fin 8) (d : Fin 1024) : sums m c t.val t.isLt o d = 0 := by
  unfold sums
  rw [outsAt0_A m c t h0 (by omega) (by omega)]
  frame_out
  unfold_payloads
  pointwise

theorem sums_kept (c : Dev nD) (t : Fin cfg0.N) (h0 : ¬ t.val % 80 = 0) (h2 : ¬ t.val % 5 = 4) (o : Fin 8) (d : Fin 1024) :
    sums m c t.val t.isLt o d = sums m c (t.val - 1) (by omega) o d := by
  unfold sums
  by_cases h1 : t.val % 5 = 0
  · rw [outsAt0_D m c t h0 h1 h2]
    rfl
  · rw [outsAt0_B m c t h0 h1 h2]
    rfl

/-- The first row gains the block's rows. -/
theorem sums_added (c : Dev nD) (t : Fin cfg0.N) (h2 : t.val % 5 = 4) (d : Fin 1024) : sums m c t.val t.isLt 0 d
    = sums m c (t.val - 1) (by omega) 0 d + ∑ r : Fin 1024, held m c t.val t.isLt r d * (xBlk m c t (ix2 r d) * scaleOf (fun n => xBlk m c t (ix2 r n))) := by
  simp only [held_next m c t (by omega)]
  unfold sums held tile scaleOf width small
  rw [outsAt0_C m c t (by omega) (by omega) h2]
  frame_out
  refine (View.read_writes_cons_unit_of_mem _ _ _ _ _ _ (ix2 (0 : Fin 1) d) rfl ?_).trans ?_
  · intro a; fin_cases a <;> simp
  unfold_payloads
  pointwise [read_unread_whole]

/-- The other rows stay. -/
theorem sums_rest (c : Dev nD) (t : Fin cfg0.N) (h2 : t.val % 5 = 4) (o : Fin 8) (ho : o.val ≠ 0) (d : Fin 1024) :
    sums m c t.val t.isLt o d = sums m c (t.val - 1) (by omega) o d := by
  unfold sums
  rw [outsAt0_C m c t (by omega) (by omega) h2]
  frame_out
  refine (View.read_writes_cons_unit_of_not_mem _ _ _ _ _ _ rfl 0 ?_).trans ?_
  · simp
    omega
  rw [View.writes_nil]
  exact congrFun ((hs0_7 t).read_unread _) _

end Cert.RmsIdeal.Point
-- ==== Proof.RmsColumns.lean ====
module

public import Idealize.ShloMosaic.Lib.Pipeline.ValueKit
public import Idealize.ShloMosaic.Lib.Pointwise

/-! # The packed projection's columns in the kernel's order

  The kernel's product runs over the columns in an order of its own, filled up with zeros; a sum of products over them is the
  sum over the columns as they come. -/

@[expose] public section

set_option maxRecDepth 16384

noncomputable section

namespace Cert.PackedColumns

open Idealize.ShloMosaic

/-- Entry `n` of a row. -/
def pick (f : Fin 5640 → EReal) (n : Nat) : EReal := if h : n < 5640 then f ⟨n, h⟩ else 0

/-- Entry `n` of a row in the kernel's order: six groups of columns, then zeros. -/
def ordered (f : Fin 5640 → EReal) (n : Nat) : EReal :=
  if n < 2048 then pick f (3592 + n)
  else if n < 3072 then pick f (2568 + (n - 2048))
  else if n < 4608 then pick f (0 + (n - 3072))
  else if n < 5120 then pick f (2056 + (n - 4608))
  else if n < 5632 then pick f (1536 + (n - 5120))
  else if n < 5640 then pick f (2048 + (n - 5632))
  else 0

theorem pick_mul (f g : Fin 5640 → EReal) (n : Nat) : pick f n * pick g n = pick (fun j => f j * g j) n := by
  unfold pick
  split
  · rfl
  · exact mul_zero 0

theorem ordered_mul (f g : Fin 5640 → EReal) (n : Nat) : ordered f n * ordered g n = ordered (fun j => f j * g j) n := by
  unfold ordered
  simp only [← pick_mul]
  split_ifs
  all_goals first | rfl | exact mul_zero 0

/-- A group of columns: `w` of them from place `s` on are the row's from `o` on. -/
theorem group (f : Fin 5640 → EReal) (s o w : Nat) (h : ∀ n < w, ordered f (s + n) = pick f (o + n)) :
    ∑ n ∈ Finset.range w, ordered f (s + n) = ∑ n ∈ Finset.range w, pick f (o + n) :=
  Finset.sum_congr rfl fun n hn => h n (Finset.mem_range.mp hn)

theorem groups (a : Nat → EReal) : ∑ n ∈ Finset.range 5640, a n
    = ∑ n ∈ Finset.range 1536, a (0 + n) + ∑ n ∈ Finset.range 512, a (1536 + n) + ∑ n ∈ Finset.range 8, a (2048 + n)
      + ∑ n ∈ Finset.range 512, a (2056 + n) + ∑ n ∈ Finset.range 1024, a (2568 + n) + ∑ n ∈ Finset.range 2048, a (3592 + n) := by
  simp only [Nat.zero_add]
  rw [Finset.sum_range_add a 3592 2048, Finset.sum_range_add a 2568 1024, Finset.sum_range_add a 2056 512, Finset.sum_range_add a 2048 8,
    Finset.sum_range_add a 1536 512]

theorem placed (a : Nat → EReal) : ∑ n ∈ Finset.range 5760, a n
    = ∑ n ∈ Finset.range 2048, a (0 + n) + ∑ n ∈ Finset.range 1024, a (2048 + n) + ∑ n ∈ Finset.range 1536, a (3072 + n)
      + ∑ n ∈ Finset.range 512, a (4608 + n) + ∑ n ∈ Finset.range 512, a (5120 + n) + ∑ n ∈ Finset.range 8, a (5632 + n)
      + ∑ n ∈ Finset.range 120, a (5640 + n) := by
  simp only [Nat.zero_add]
  rw [Finset.sum_range_add a 5640 120, Finset.sum_range_add a 5632 8, Finset.sum_range_add a 5120 512, Finset.sum_range_add a 4608 512,
    Finset.sum_range_add a 3072 1536, Finset.sum_range_add a 2048 1024]

theorem sum_ordered (f : Fin 5640 → EReal) : ∑ n : Fin 5760, ordered f n.val = ∑ j : Fin 5640, f j := by
  have hf : ∀ j : Fin 5640, f j = pick f j.val := fun j => by unfold pick; rw [dif_pos j.isLt]
  simp only [hf]
  rw [Fin.sum_univ_eq_sum_range (ordered f) 5760, Fin.sum_univ_eq_sum_range (pick f) 5640, placed, groups]
  rw [group f 0 3592 2048 (fun n hn => by unfold ordered; rw [if_pos (by omega)]; exact congrArg _ (by omega)),
    group f 2048 2568 1024 (fun n hn => by unfold ordered; rw [if_neg (by omega), if_pos (by omega)]; exact congrArg _ (by omega)),
    group f 3072 0 1536 (fun n hn => by unfold ordered; rw [if_neg (by omega), if_neg (by omega), if_pos (by omega)]; exact congrArg _ (by omega)),
    group f 4608 2056 512 (fun n hn => by
      unfold ordered; rw [if_neg (by omega), if_neg (by omega), if_neg (by omega), if_pos (by omega)]; exact congrArg _ (by omega)),
    group f 5120 1536 512 (fun n hn => by
      unfold ordered; rw [if_neg (by omega), if_neg (by omega), if_neg (by omega), if_neg (by omega), if_pos (by omega)]; exact congrArg _ (by omega)),
    group f 5632 2048 8 (fun n hn => by
      unfold ordered; rw [if_neg (by omega), if_neg (by omega), if_neg (by omega), if_neg (by omega), if_neg (by omega), if_pos (by omega)]
      exact congrArg _ (by omega)),
    Finset.sum_eq_zero (s := Finset.range 120) (fun n hn => by
      unfold ordered
      rw [if_neg (by omega), if_neg (by omega), if_neg (by omega), if_neg (by omega), if_neg (by omega), if_neg (by omega)])]
  abel

/-- A matrix's shape. -/
abbrev sh (R w : Nat) : Shape := ⟨2, ![R, w]⟩

variable {R : Nat}

theorem slice_at (x : (sh R 5640).Idx → EReal) (o w : Nat) (h : (sh R 5640).Slices ![0, o] (sh R w)) (r : Fin R) (k : Fin w) (hk : o + k.val < 5640) :
    extractStridedSlice (sh R w) ![0, o] x h (ix2 r k) = pick (fun j => x (ix2 r j)) (o + k.val) := by
  unfold pick
  rw [dif_pos hk]
  refine extractStridedSlice_apply _ _ _ _ _ fun a => ?_
  fin_cases a
  · exact (Nat.zero_add _).symm
  · rfl

/-- One group of the columns among the packed ones. -/
theorem packed_group (x : (sh R 5640).Idx → EReal) (xs : List ((s : Shape) × (s.Idx → EReal)))
    (h : Shape.Concatenates (xs.map (·.1)) (sh R 5760) 1) (p : Nat) (hp : p < xs.length) (s o w : Nat) (hs : (sh R 5640).Slices ![0, o] (sh R w))
    (hx : xs[p] = ⟨sh R w, extractStridedSlice (sh R w) ![0, o] x hs⟩)
    (hpre : (((xs.take p).map (·.1)).map fun u => if h : u.rank = (sh R 5760).rank then u.size ((1 : Fin 2).cast h.symm) else 0).sum = s)
    (r : Fin R) (K : Fin 5760) (h1 : s ≤ K.val) (h2 : K.val - s < w) (h3 : o + w ≤ 5640) :
    concatenate (sh R 5760) 1 xs h (ix2 r K) = pick (fun j => x (ix2 r j)) (o + (K.val - s)) := by
  refine (concatenate_apply_piece 1 xs h (ix2 r K) p hp (sh R w) _ hx rfl s hpre (ix2 r ⟨K.val - s, h2⟩) ?_ ?_).trans ?_
  · intro b hb
    fin_cases b
    · rfl
    · exact absurd rfl hb
  · show s + (K.val - s) = K.val
    omega
  · exact slice_at x o w hs r ⟨K.val - s, h2⟩ (by show o + (K.val - s) < 5640; omega)

/-- The packed columns: the six groups, then the filling. -/
abbrev pieces (x : (sh R 5640).Idx → EReal) (z : (sh R 120).Idx → EReal)
    (g0 : (sh R 5640).Slices ![0, 3592] (sh R 2048)) (g1 : (sh R 5640).Slices ![0, 2568] (sh R 1024)) (g2 : (sh R 5640).Slices ![0, 0] (sh R 1536))
    (g3 : (sh R 5640).Slices ![0, 2056] (sh R 512)) (g4 : (sh R 5640).Slices ![0, 1536] (sh R 512)) (g5 : (sh R 5640).Slices ![0, 2048] (sh R 8)) :
    List ((s : Shape) × (s.Idx → EReal)) :=
  [⟨sh R 2048, extractStridedSlice (sh R 2048) ![0, 3592] x g0⟩, ⟨sh R 1024, extractStridedSlice (sh R 1024) ![0, 2568] x g1⟩,
    ⟨sh R 1536, extractStridedSlice (sh R 1536) ![0, 0] x g2⟩, ⟨sh R 512, extractStridedSlice (sh R 512) ![0, 2056] x g3⟩,
    ⟨sh R 512, extractStridedSlice (sh R 512) ![0, 1536] x g4⟩, ⟨sh R 8, extractStridedSlice (sh R 8) ![0, 2048] x g5⟩, ⟨sh R 120, z⟩]

/-- The packed columns at an entry. -/
theorem packed_at (x : (sh R 5640).Idx → EReal) (z : (sh R 120).Idx → EReal) (hz : ∀ i, z i = 0)
    (g0 : (sh R 5640).Slices ![0, 3592] (sh R 2048)) (g1 : (sh R 5640).Slices ![0, 2568] (sh R 1024)) (g2 : (sh R 5640).Slices ![0, 0] (sh R 1536))
    (g3 : (sh R 5640).Slices ![0, 2056] (sh R 512)) (g4 : (sh R 5640).Slices ![0, 1536] (sh R 512)) (g5 : (sh R 5640).Slices ![0, 2048] (sh R 8))
    (h : Shape.Concatenates ((pieces x z g0 g1 g2 g3 g4 g5).map (·.1)) (sh R 5760) 1) (r : Fin R) (K : Fin 5760) :
    concatenate (sh R 5760) 1 (pieces x z g0 g1 g2 g3 g4 g5) h (ix2 r K) = ordered (fun j => x (ix2 r j)) K.val := by
  have hK := K.isLt
  unfold ordered
  split_ifs with h0 h1 h2 h3 h4 h5
  · exact packed_group x _ h 0 (by simp) 0 3592 2048 g0 rfl rfl r K (by omega) (by omega) (by omega)
  · exact packed_group x _ h 1 (by simp) 2048 2568 1024 g1 rfl rfl r K (by omega) (by omega) (by omega)
  · exact packed_group x _ h 2 (by simp) 3072 0 1536 g2 rfl rfl r K (by omega) (by omega) (by omega)
  · exact packed_group x _ h 3 (by simp) 4608 2056 512 g3 rfl rfl r K (by omega) (by omega) (by omega)
  · exact packed_group x _ h 4 (by simp) 5120 1536 512 g4 rfl rfl r K (by omega) (by omega) (by omega)
  · exact packed_group x _ h 5 (by simp) 5632 2048 8 g5 rfl rfl r K (by omega) (by omega) (by omega)
  · refine (concatenate_apply_piece 1 _ h (ix2 r K) 6 (by simp) (sh R 120) _ rfl rfl 5640 rfl (ix2 r ⟨K.val - 5640, by omega⟩) ?_ ?_).trans (hz _)
    · intro b hb
      fin_cases b
      · rfl
      · exact absurd rfl hb
    · show 5640 + (K.val - 5640) = K.val
      omega

end Cert.PackedColumns
-- ==== Proof.RmsReads.lean ====
module

public import proofs.«01_k».proof.Proof.RmsBlocks
public import proofs.«01_k».proof.Proof.RmsColumns
public import Idealize.ShloMosaic.Lib.StableHlo.RunRead

/-! # What the norm's backward kernel reads

  Grid point `t` reads rows `1024 (t / 5)` on and, of the packed cotangent and weights, column tile `t % 5`. -/

@[expose] public section

set_option maxRecDepth 16384

noncomputable section

namespace Cert.RmsIdeal.Point

open Cert.RmsIdeal Cert.RmsIdeal.Gen Idealize.ShloMosaic Idealize.ShloMosaic.TcCoe Idealize.SL.Sem
open Idealize.ShloMosaic.Pipeline (Dat)
open Cert.RowNorm Cert.PackedColumns

variable (m : (ℓ : Loc nD τ sig) → Buf (Elt Ideal) ℓ)

/-- The row of the whole array that is row `r` of grid point `t`'s blocks, and the packed column that is column `k` of its tile. -/
def row (t : Fin cfg0.N) (r : Fin 1024) : Fin 16384 := ⟨1024 * (t.val / 5) + r.val, by have := r.isLt; have : t.val < 80 := t.isLt; omega⟩
def column (t : Fin cfg0.N) (k : Fin 1152) : Fin 5760 := ⟨1152 * (t.val % 5) + k.val, by have := k.isLt; omega⟩

/-- The arguments, at their shapes. -/
abbrev xs (c : Dev nD) : (⟨S16384x1024, .f32⟩ : BufTy).Contents (Elt Ideal) := m ((c : Thread nD τ).loc main_arg0)
abbrev nw (c : Dev nD) : (⟨S1x1024, .f32⟩ : BufTy).Contents (Elt Ideal) := m ((c : Thread nD τ).loc main_arg1)
abbrev wi (c : Dev nD) : (⟨S1024x5640, .f32⟩ : BufTy).Contents (Elt Ideal) := m ((c : Thread nD τ).loc main_arg2)
abbrev dp (c : Dev nD) : (⟨S16384x5640, .f32⟩ : BufTy).Contents (Elt Ideal) := m ((c : Thread nD τ).loc main_arg3)
abbrev dr (c : Dev nD) : (⟨S16384x1024, .f32⟩ : BufTy).Contents (Elt Ideal) := m ((c : Thread nD τ).loc main_arg4)

theorem idx0 : ∀ t : Fin cfg0.N, win0_0.index t = ![t.val / 5, t.val % 5] := (by decide +kernel : ∀ t : Fin grid0.N, win0_0.index t = ![t.val / 5, t.val % 5])
theorem idx1 : ∀ t : Fin cfg0.N, win0_1.index t = ![t.val % 5, 0] := (by decide +kernel : ∀ t : Fin grid0.N, win0_1.index t = ![t.val % 5, 0])
theorem idx2 : ∀ t : Fin cfg0.N, win0_2.index t = ![t.val / 5, 0] := (by decide +kernel : ∀ t : Fin grid0.N, win0_2.index t = ![t.val / 5, 0])
theorem idx3 : ∀ t : Fin cfg0.N, win0_3.index t = ![0, 0] := (by decide +kernel : ∀ t : Fin grid0.N, win0_3.index t = ![0, 0])
theorem idx4 : ∀ t : Fin cfg0.N, win0_4.index t = ![t.val / 5, 0] := (by decide +kernel : ∀ t : Fin grid0.N, win0_4.index t = ![t.val / 5, 0])

theorem read2 (c : Dev nD) (t : Fin cfg0.N) (r k : Fin 1024) : xBlk m c t (ix2 r k) = xs m c (ix2 (row t r) k) := by
  unfold xBlk
  blk_simp [iblk]
  entry_read
  pointwise
  blk_ext [idx2 t, row]

theorem read3 (c : Dev nD) (t : Fin cfg0.N) (k : Fin 1024) : nBlk m c t (ix2 0 k) = nw m c (ix2 0 k) := by
  unfold nBlk
  blk_simp [iblk]
  entry_read
  pointwise
  blk_ext [idx3 t]

theorem read4 (c : Dev nD) (t : Fin cfg0.N) (r k : Fin 1024) : pBlk m c t (ix2 r k) = dr m c (ix2 (row t r) k) := by
  unfold pBlk
  blk_simp [iblk]
  entry_read
  pointwise
  blk_ext [idx4 t, row]

theorem packed_cotangent (c : Dev nD) (r : Fin 16384) (K : Fin 5760) : V m c main_v8 (ix2 r K) = ordered (fun j => dp m c (ix2 r j)) K.val := by
  refine Eq.trans ?_ (packed_at (dp m c) (broadcastInDim S16384x120 ![] bcast_S_S16384x120 (constant (F := Ideal) S_ .bf16 0x0000#16)) (fun i => by pointwise)
    slices_S16384x5640_S16384x2048_0_3592 slices_S16384x5640_S16384x1024_0_2568 slices_S16384x5640_S16384x1536_0_0 slices_S16384x5640_S16384x512_0_2056
    slices_S16384x5640_S16384x512_0_1536 slices_S16384x5640_S16384x8_0_2048
    concatenates_S16384x2048_S16384x1024_S16384x1536_S16384x512_S16384x512_S16384x8_S16384x120_S16384x5760_d1 r K)
  unfold V
  after_reads_simp
  rfl

/-- The packed weights before they are turned. -/
abbrev turnedFrom (c : Dev nD) : (sh 1024 5760).Idx → EReal := concatenate (sh 1024 5760) 1
  (pieces (wi m c) (broadcastInDim S1024x120 ![] bcast_S_S1024x120 (constant (F := Ideal) S_ .bf16 0x0000#16))
    slices_S1024x5640_S1024x2048_0_3592 slices_S1024x5640_S1024x1024_0_2568 slices_S1024x5640_S1024x1536_0_0 slices_S1024x5640_S1024x512_0_2056
    slices_S1024x5640_S1024x512_0_1536 slices_S1024x5640_S1024x8_0_2048)
  concatenates_S1024x2048_S1024x1024_S1024x1536_S1024x512_S1024x512_S1024x8_S1024x120_S1024x5760_d1

theorem turned (y : (sh 1024 5760).Idx → EReal) (K : Fin 5760) (d : Fin 1024) :
    transpose S5760x1024 [1, 0] y transposes_S1024x5760_S5760x1024_1_0 (ix2 K d) = y (ix2 d K) := by
  pointwise

theorem turned_weights (c : Dev nD) : V m c main_v18 = transpose S5760x1024 [1, 0] (turnedFrom m c) transposes_S1024x5760_S5760x1024_1_0 := by
  unfold V
  after_reads_simp
  rfl

theorem packed_weights (c : Dev nD) (d : Fin 1024) (K : Fin 5760) : V m c main_v18 (ix2 K d) = ordered (fun j => wi m c (ix2 d j)) K.val := by
  rw [turned_weights]
  exact (turned _ K d).trans (packed_at (wi m c) _ (fun i => by pointwise) _ _ _ _ _ _ _ d K)

theorem read0 (c : Dev nD) (t : Fin cfg0.N) (r : Fin 1024) (k : Fin 1152) :
    dBlk m c t (ix2 r k) = ordered (fun j => dp m c (ix2 (row t r) j)) (column t k).val := by
  refine Eq.trans (b := V m c main_v8 (ix2 (row t r) (column t k))) ?_ (packed_cotangent m c _ _)
  unfold dBlk
  blk_simp [iblk]
  blk_ext [idx0 t, row, column]

theorem read1 (c : Dev nD) (t : Fin cfg0.N) (k : Fin 1152) (d : Fin 1024) :
    wBlk m c t (ix2 k d) = ordered (fun j => wi m c (ix2 d j)) (column t k).val := by
  refine Eq.trans (b := V m c main_v18 (ix2 (column t k) d)) ?_ (packed_weights m c _ _)
  unfold wBlk
  blk_simp [iblk]
  blk_ext [idx1 t, column]

end Cert.RmsIdeal.Point
-- ==== Proof.RmsRefRead.lean ====
module

public import proofs.«01_k».proof.Proof.RmsMath
public import proofs.«01_k».proof.Proof.Gen.RmsRefIdeal.Read
public import Idealize.ShloMosaic.Lib.Pointwise

/-! # The reference's gradients of the norm before the packed projection

  Each result, read at an entry. -/

@[expose] public section

set_option maxRecDepth 16384

noncomputable section

namespace Cert.RmsRefIdeal.Point

open Cert.RmsRefIdeal Cert.RmsRefIdeal.Read Idealize.ShloMosaic Idealize.ShloMosaic.TcCoe Idealize.SL.Sem
open Cert.RowNorm

variable (x0 : (⟨S16384x1024, .f32⟩ : BufTy).Contents (Elt Ideal)) (x1 : (⟨S1x1024, .f32⟩ : BufTy).Contents (Elt Ideal))
  (x2 : (⟨S1024x5640, .f32⟩ : BufTy).Contents (Elt Ideal)) (x3 : (⟨S16384x5640, .f32⟩ : BufTy).Contents (Elt Ideal))
  (x4 : (⟨S16384x1024, .f32⟩ : BufTy).Contents (Elt Ideal))

/-- The cotangent of the normalised rows. -/
def hidden (r : Fin 16384) (d : Fin 1024) : EReal := ∑ k : Fin 5640, x3 (ix2 r k) * x2 (ix2 d k)

/-- The gradient of a row, with the gradient that reaches it past the norm. -/
def rowTotal (r : Fin 16384) (d : Fin 1024) : EReal :=
  x4 (ix2 r d) + rowGradRef (fun n => x0 (ix2 r n)) (fun n => hidden x2 x3 r n) (fun n => x1 (ix2 0 n)) d

/-- The gradient of a weight of the norm. -/
def weightTotal (d : Fin 1024) : EReal := ∑ r : Fin 16384, x0 (ix2 r d) * scaleOf (fun n => x0 (ix2 r n)) * hidden x2 x3 r d

theorem hidden_at (r : Fin 16384) (d : Fin 1024) : val_main_v16 (F := Ideal) x2 x3 (ix2 r d) = hidden x2 x3 r d := by
  unfold hidden
  pointwise [val_main_v16]

theorem scale_at (r : Fin 16384) : val_main_v7 (F := Ideal) x0 (ix2 r 0) = scaleOf (fun n => x0 (ix2 r n)) := by
  unfold scaleOf width small
  pointwise [val_main_v0, val_main_v1, val_main_cst, val_main_v2, val_main_cst_0, val_main_v3, val_main_v4, val_main_cst_1, val_main_v5, val_main_v6, val_main_v7]

theorem slope_at (r : Fin 16384) : val_main_v29 (F := Ideal) x0 x1 x2 x3 (ix2 r 0)
    = slopeOf (fun n => x0 (ix2 r n)) (fun n => hidden x2 x3 r n) (fun n => x1 (ix2 0 n)) := by
  unfold slopeOf
  simp only [← hidden_at, ← scale_at]
  unfold width small
  pointwise [val_main_v0, val_main_v1, val_main_cst, val_main_v2, val_main_cst_0, val_main_v3, val_main_v4, val_main_cst_1, val_main_v5, val_main_v6, val_main_v8,
    val_main_cst_2, val_main_v9, val_main_v10, val_main_v20, val_main_v21, val_main_v22, val_main_cst_4, val_main_v23, val_main_v24, val_main_v27, val_main_cst_5, val_main_v28, val_main_v29]

theorem result0_at (r : Fin 16384) (d : Fin 1024) : val_main_v36 (F := Ideal) x0 x1 x2 x3 x4 (ix2 r d) = rowTotal x0 x1 x2 x3 x4 r d := by
  unfold rowTotal rowGradRef
  simp only [← slope_at]
  simp only [← hidden_at, ← scale_at]
  pointwise [val_main_v20, val_main_v21, val_main_v25, val_main_v26, val_main_cst_6, val_main_v30, val_main_v31, val_main_v32, val_main_v33, val_main_v34, val_main_v35, val_main_v36]
  simp only [Fin.sum_univ_one]

theorem result1_at (r : Fin 16384) (d : Fin 1024) : val_main_v37 (F := Ideal) x0 x1 x2 x3 x4 (ix2 r d) = rowTotal x0 x1 x2 x3 x4 r d :=
  result0_at x0 x1 x2 x3 x4 r d

theorem weight_at (d : Fin 1024) : val_main_v19 (F := Ideal) x0 x2 x3 (ix2 0 d) = weightTotal x0 x2 x3 d := by
  unfold weightTotal
  simp only [← hidden_at, ← scale_at]
  pointwise [val_main_v11, val_main_v12, val_main_v17, val_main_cst_3, val_main_v18, val_main_v19]

theorem result2_at (o : Fin 8) (d : Fin 1024) : val_main_v39 (F := Ideal) x0 x2 x3 (ix2 o d) = if o.val = 0 then weightTotal x0 x2 x3 d else 0 := by
  unfold val_main_v39
  by_cases h : o.val = 0
  · rw [if_pos h]
    refine (concatenate_apply_piece 0 _ _ (ix2 o d) 0 (by simp) S1x1024 _ rfl rfl 0 rfl (ix2 0 d) ?_ (by simp [h])).trans (weight_at x0 x2 x3 d)
    intro b hb
    fin_cases b
    · exact absurd rfl hb
    · rfl
  · rw [if_neg h]
    refine (concatenate_apply_piece 0 _ _ (ix2 o d) 1 (by simp) S7x1024 _ rfl rfl 1 rfl (ix2 ⟨o.val - 1, by omega⟩ d) ?_ ?_).trans ?_
    · intro b hb
      fin_cases b
      · exact absurd rfl hb
      · rfl
    · show 1 + (o.val - 1) = o.val
      omega
    · pointwise [val_main_v38, val_main_cst_7]

end Cert.RmsRefIdeal.Point
-- ==== Proof.RmsOut.lean ====
module

public import proofs.«01_k».proof.Proof.RmsReads
public import proofs.«01_k».proof.Proof.RmsRefRead

/-! # The arrays the norm's backward kernel leaves

  The accumulator holds the product over the columns seen so far; after five points it holds the norm's cotangent. -/

@[expose] public section

set_option maxRecDepth 16384

noncomputable section

namespace Cert.RmsIdeal.Point

open Cert.RmsIdeal Cert.RmsIdeal.Gen Idealize.ShloMosaic Idealize.ShloMosaic.TcCoe Idealize.SL.Sem
open Idealize.ShloMosaic.Pipeline (Dat)
open Cert.RowNorm Cert.PackedColumns

open Cert.RmsRefIdeal.Point (hidden)

variable (m : (ℓ : Loc nD τ sig) → Buf (Elt Ideal) ℓ)

/-- The product of a row of the cotangent and a row of the weights, column by column in the kernel's order. -/
def term (c : Dev nD) (q : Fin 16384) (d : Fin 1024) (n : Nat) : EReal := ordered (fun j => dp m c (ix2 q j) * wi m c (ix2 d j)) n

theorem tile_at (c : Dev nD) (t : Fin cfg0.N) (r d : Fin 1024) :
    tile m c t r d = ∑ k : Fin 1152, term m c (row t r) d (1152 * (t.val % 5) + k.val) := by
  unfold tile term
  refine Finset.sum_congr rfl fun k _ => ?_
  rw [read0, read1, ordered_mul]
  rfl

theorem held_at (c : Dev nD) (r d : Fin 1024) : ∀ (n : Nat) (h : n < cfg0.N),
    held m c n h r d = ∑ s ∈ Finset.range (n % 5 + 1), ∑ k : Fin 1152, term m c (row ⟨n, h⟩ r) d (1152 * s + k.val)
  | 0, h => by
    rw [held_first m c ⟨0, h⟩ rfl, tile_at, zero_add, show 0 % 5 + 1 = 1 from rfl, Finset.sum_range_one]
    rfl
  | n + 1, h => by
    by_cases h1 : (n + 1) % 5 = 0
    · rw [held_first m c ⟨n + 1, h⟩ h1, tile_at, zero_add]
      simp only [h1, zero_add, Finset.sum_range_one]
    · have e : row ⟨n, Nat.lt_of_succ_lt h⟩ r = row ⟨n + 1, h⟩ r := Fin.ext (by simp only [row]; omega)
      have e5 : (n + 1) % 5 = n % 5 + 1 := by omega
      rw [held_next m c ⟨n + 1, h⟩ h1, tile_at]
      refine (congrArg (· + _) (held_at c r d n (Nat.lt_of_succ_lt h))).trans ?_
      rw [e, e5, Finset.sum_range_succ _ (n % 5 + 1)]

theorem held_whole (c : Dev nD) (t : Fin cfg0.N) (h2 : t.val % 5 = 4) (r d : Fin 1024) :
    held m c t.val t.isLt r d = hidden (wi m c) (dp m c) (row t r) d := by
  rw [held_at, h2, Finset.sum_range]
  refine Eq.trans ?_ (sum_ordered _)
  refine Fin.sum_mul_add_congr (S := 5) (n := 1152) (fun s k hl => congrArg (term m c (row t r) d) ?_)
  show 1152 * s.val + k.val = s.val * 1152 + k.val
  omega

/-- The row gradient as the kernel computes it. -/
def rowOut (c : Dev nD) (q : Fin 16384) (d : Fin 1024) : EReal := dr m c (ix2 q d)
  + rowGrad (fun n => xs m c (ix2 q n)) (fun n => hidden (wi m c) (dp m c) q n) (fun n => nw m c (ix2 0 n)) d

theorem idx5 : ∀ t : Fin cfg0.N, win0_5.index t = ![t.val / 5, 0] := (by decide +kernel : ∀ t : Fin grid0.N, win0_5.index t = ![t.val / 5, 0])
theorem idx6 : ∀ t : Fin cfg0.N, win0_6.index t = ![t.val / 5, 0] := (by decide +kernel : ∀ t : Fin grid0.N, win0_6.index t = ![t.val / 5, 0])
theorem flush5 : ∀ t : Fin cfg0.N, (cfg0.win 5).flush t = true → t.val % 5 = 4 := by decide +kernel
theorem flush6 : ∀ t : Fin cfg0.N, (cfg0.win 6).flush t = true → t.val % 5 = 4 := by decide +kernel

theorem out5 (c : Dev nD) : (dats m 0 c).arrAt 5 cfg0.N = fun i => rowOut m c (i 0) (i 1) := by
  refine (dats m 0 c).arrAt_eq_of_covers 5 _ (by decide +kernel) fun t hf y => ?_
  have e : ((View.whole main_v19_0).slice (win0_5.rect t)).emb y = ix2 (row t (y 0)) (y 1) := by blk_ext [idx5 t, row]
  have h2 := flush5 t hf
  blk_simp
  rw [after0_5, e]
  obtain ⟨r, d, rfl⟩ : ∃ (r d : Fin 1024), y = ix2 r d := ⟨y 0, y 1, ValueIdx.eq_ix2 y⟩
  refine (rows_at m c t h2 r d).trans ?_
  simp only [read2, read3, read4, held_whole m c t h2]
  rfl

theorem out6 (c : Dev nD) : (dats m 0 c).arrAt 6 cfg0.N = fun i => rowOut m c (i 0) (i 1) := by
  refine (dats m 0 c).arrAt_eq_of_covers 6 _ (by decide +kernel) fun t hf y => ?_
  have e : ((View.whole main_v19_1).slice (win0_6.rect t)).emb y = ix2 (row t (y 0)) (y 1) := by blk_ext [idx6 t, row]
  have h2 := flush6 t hf
  blk_simp
  rw [after0_6, e]
  obtain ⟨r, d, rfl⟩ : ∃ (r d : Fin 1024), y = ix2 r d := ⟨y 0, y 1, ValueIdx.eq_ix2 y⟩
  refine (rounded_at m c t h2 r d).trans ?_
  simp only [read2, read3, read4, held_whole m c t h2]
  rfl

/-- A row's part of the weights' gradient. -/
def share (c : Dev nD) (d : Fin 1024) (q : Fin 16384) : EReal :=
  hidden (wi m c) (dp m c) q d * (xs m c (ix2 q d) * scaleOf (fun n => xs m c (ix2 q n)))

/-- The rows of block `s`. -/
def blockShare (c : Dev nD) (d : Fin 1024) (s : Nat) : EReal := if h : s < 16 then ∑ r : Fin 1024, share m c d ⟨1024 * s + r.val, by omega⟩ else 0

theorem sums_at (c : Dev nD) (d : Fin 1024) : ∀ (n : Nat) (h : n < cfg0.N),
    sums m c n h 0 d = ∑ s ∈ Finset.range ((n + 1) / 5), blockShare m c d s
  | 0, h => sums_first m c ⟨0, h⟩ rfl 0 d
  | n + 1, h => by
    have hN : n + 1 < 80 := h
    have ih := sums_at c d n (Nat.lt_of_succ_lt h)
    by_cases h2 : (n + 1) % 5 = 4
    · refine (sums_added m c ⟨n + 1, h⟩ h2 d).trans ?_
      rw [show (n + 1 + 1) / 5 = (n + 1) / 5 + 1 by omega, Finset.sum_range_succ]
      refine congrArg₂ (· + ·) ih ?_
      unfold blockShare
      rw [dif_pos (by omega)]
      refine Finset.sum_congr rfl fun r _ => ?_
      rw [held_whole m c ⟨n + 1, h⟩ h2]
      simp only [read2]
      rfl
    · refine (sums_kept m c ⟨n + 1, h⟩ (by show ¬ (n + 1) % 80 = 0; omega) h2 0 d).trans (ih.trans ?_)
      rw [show (n + 1 + 1) / 5 = (n + 1) / 5 by omega]

theorem sums_rows (c : Dev nD) (o : Fin 8) (ho : o.val ≠ 0) (d : Fin 1024) : ∀ (n : Nat) (h : n < cfg0.N), sums m c n h o d = 0
  | 0, h => sums_first m c ⟨0, h⟩ rfl o d
  | n + 1, h => by
    have hN : n + 1 < 80 := h
    have ih := sums_rows c o ho d n (Nat.lt_of_succ_lt h)
    by_cases h2 : (n + 1) % 5 = 4
    · exact (sums_rest m c ⟨n + 1, h⟩ h2 o ho d).trans ih
    · exact (sums_kept m c ⟨n + 1, h⟩ (by show ¬ (n + 1) % 80 = 0; omega) h2 o d).trans ih

/-- The last grid point, which writes the weights' gradient out. -/
def last : Fin cfg0.N := ⟨79, by decide⟩

theorem out7 (c : Dev nD) : (dats m 0 c).arrAt 7 cfg0.N = fun i => if (i 0).val = 0 then ∑ q : Fin 16384, share m c (i 1) q else 0 := by
  refine (dats m 0 c).arrAt_eq_of_after_last 7 last (by decide +kernel) _ fun i => ?_
  rw [after0_7]
  obtain ⟨o, d, rfl⟩ : ∃ (o : Fin 8) (d : Fin 1024), i = ix2 o d := ⟨i 0, i 1, ValueIdx.eq_ix2 i⟩
  show sums m c 79 last.isLt o d = if o.val = 0 then ∑ q : Fin 16384, share m c d q else 0
  by_cases ho : o.val = 0
  · obtain rfl : o = 0 := Fin.ext ho
    rw [if_pos ho]
    refine (sums_at m c d 79 last.isLt).trans ?_
    rw [show (79 + 1) / 5 = 16 from rfl, Finset.sum_range]
    have e : ∀ s : Fin 16, blockShare m c d s.val = ∑ r : Fin 1024, share m c d ⟨1024 * s.val + r.val, by omega⟩ := fun s => dif_pos s.isLt
    simp only [e]
    refine Fin.sum_mul_add_congr (S := 16) (n := 1024) (fun s k hl => congrArg (share m c d) (Fin.ext ?_))
    show 1024 * s.val + k.val = s.val * 1024 + k.val
    omega
  · rw [if_neg ho]
    exact sums_rows m c o ho d 79 last.isLt

end Cert.RmsIdeal.Point
-- ==== Proof.RmsFinite.lean ====
module

public import proofs.«01_k».proof.Defs
public import proofs.«01_k».proof.Proof.AttFinite

/-! # The norm's finite arguments are real

  The precondition, read at an index of each argument. -/

@[expose] public section

set_option maxRecDepth 16384

noncomputable section

namespace Cert.RmsFinite

open Idealize.ShloMosaic Cert.Pre_finite_norm Cert.AttFinite

theorem pre_facts : Cert.Pre_finite_norm.Facts := ⟨by decide, by decide, by decide, by decide, by decide, by decide, by decide, by decide, by decide⟩

/-- Every entry of the rows, the norm's weights, the projection's weights and its cotangent is a real number. -/
theorem real_entries (x0 : FVec Ideal S16384x1024 .f32) (x1 : FVec Ideal S1x1024 .f32) (x2 : FVec Ideal S1024x5640 .f32) (x3 : FVec Ideal S16384x5640 .f32)
    (x4 : FVec Ideal S16384x1024 .f32) (j) (h : @Cert.Pre_finite_norm.fn pre_facts Ideal _ x0 x1 x2 x3 x4 j = 1#1) :
    (∀ i, ∃ y : ℝ, x0 i = (y : EReal)) ∧ (∀ i, ∃ y : ℝ, x1 i = (y : EReal)) ∧ (∀ i, ∃ y : ℝ, x2 i = (y : EReal))
      ∧ (∀ i, ∃ y : ℝ, x3 i = (y : EReal)) := by
  have : Subsingleton S_.Idx := ⟨fun a b => by funext i; exact i.elim0⟩
  unfold Cert.Pre_finite_norm.fn Cert.Pre_finite_norm.fn_part1 at h
  obtain ⟨h, h3⟩ := IntOp.andi_eq_one.1 h
  obtain ⟨h, h2⟩ := IntOp.andi_eq_one.1 h
  obtain ⟨h0, h1⟩ := IntOp.andi_eq_one.1 h
  exact ⟨fun i => real_of_lt _ (Host.reduce_andi_all _ _ _ _ j h0 i), fun i => real_of_lt _ (Host.reduce_andi_all _ _ _ _ j h1 i),
    fun i => real_of_lt _ (Host.reduce_andi_all _ _ _ _ j h2 i), fun i => real_of_lt _ (Host.reduce_andi_all _ _ _ _ j h3 i)⟩

end Cert.RmsFinite

end
-- ==== Proof.RmsEq.lean ====
module

public import proofs.«01_k».proof.Proof.RmsOut
public import proofs.«01_k».proof.Proof.RmsFinite
public import proofs.«01_k».proof.Proof.Gen.RmsIdeal.Value
public import proofs.«01_k».proof.Proof.Gen.RmsRefIdeal.Run

/-! # Kernel and reference agree: the norm's gradients

  The call's arrays against the reference's, entry by entry. -/

@[expose] public section

set_option maxRecDepth 16384

noncomputable section

namespace Cert.RmsIdeal.Point

open Cert.RmsIdeal Cert.RmsIdeal.Gen Idealize.ShloMosaic Idealize.ShloMosaic.TcCoe Idealize.SL.Sem
open Idealize.ShloMosaic.Pipeline (Dat)
open Cert.RowNorm Cert.PackedColumns

open Cert.RmsRefIdeal.Read (val_main_v36 val_main_v36_eq val_main_v37 val_main_v37_eq val_main_v39 val_main_v39_eq)
open Cert.RmsRefIdeal.Point (hidden rowTotal weightTotal)

variable (m : (ℓ : Loc nD τ sig) → Buf (Elt Ideal) ℓ)

/-- The rows, the norm's weights, the projection's weights and its cotangent are real numbers. -/
structure Real (c : Dev nD) where
  x : S16384x1024.Idx → ℝ
  n : S1x1024.Idx → ℝ
  w : S1024x5640.Idx → ℝ
  d : S16384x5640.Idx → ℝ
  hx : ∀ i, xs m c i = (x i : EReal)
  hn : ∀ i, nw m c i = (n i : EReal)
  hw : ∀ i, wi m c i = (w i : EReal)
  hd : ∀ i, dp m c i = (d i : EReal)

theorem real_of_pre (h : @Cert.Pre_RmsIdeal_finite_norm Cert.RmsFinite.pre_facts m) (c : Dev nD) : Nonempty (Real m c) := by
  obtain ⟨h0, h1, h2, h3⟩ := Cert.RmsFinite.real_entries _ _ _ _ _ _ (congrFun (h c) (fun a => a.elim0))
  choose f0 h0 using h0
  choose f1 h1 using h1
  choose f2 h2 using h2
  choose f3 h3 using h3
  exact ⟨⟨f0, f1, f2, f3, h0, h1, h2, h3⟩⟩

variable {m}

theorem hidden_real {c : Dev nD} (R : Real m c) (q : Fin 16384) (d : Fin 1024) :
    hidden (wi m c) (dp m c) q d = ((∑ k : Fin 5640, R.d (ix2 q k) * R.w (ix2 d k) : ℝ) : EReal) := by
  unfold Cert.RmsRefIdeal.Point.hidden
  simp only [R.hw, R.hd, ← EReal.coe_mul, Cert.Attention.coe_sum]

theorem row_eq {c : Dev nD} (R : Real m c) (q : Fin 16384) (d : Fin 1024) :
    rowOut m c q d = rowTotal (xs m c) (nw m c) (wi m c) (dp m c) (dr m c) q d := by
  unfold rowOut rowTotal
  simp only [R.hx, R.hn, hidden_real R]
  rw [row_real]

theorem rows_eq {c : Dev nD} (R : Real m c) : (dats m 0 c).arrAt 5 cfg0.N = val_main_v36 (F := Ideal) (xs m c) (nw m c) (wi m c) (dp m c) (dr m c) := by
  rw [out5 m c]
  funext i
  obtain ⟨r, d, rfl⟩ : ∃ (r : Fin 16384) (d : Fin 1024), i = ix2 r d := ⟨i 0, i 1, ValueIdx.eq_ix2 i⟩
  exact (row_eq R r d).trans (Cert.RmsRefIdeal.Point.result0_at _ _ _ _ _ r d).symm

theorem rounded_eq {c : Dev nD} (R : Real m c) : (dats m 0 c).arrAt 6 cfg0.N = val_main_v37 (F := Ideal) (xs m c) (nw m c) (wi m c) (dp m c) (dr m c) := by
  rw [out6 m c]
  funext i
  obtain ⟨r, d, rfl⟩ : ∃ (r : Fin 16384) (d : Fin 1024), i = ix2 r d := ⟨i 0, i 1, ValueIdx.eq_ix2 i⟩
  exact (row_eq R r d).trans (Cert.RmsRefIdeal.Point.result1_at _ _ _ _ _ r d).symm

theorem weights_eq (c : Dev nD) : (dats m 0 c).arrAt 7 cfg0.N = val_main_v39 (F := Ideal) (xs m c) (wi m c) (dp m c) := by
  rw [out7 m c]
  funext i
  obtain ⟨o, d, rfl⟩ : ∃ (o : Fin 8) (d : Fin 1024), i = ix2 o d := ⟨i 0, i 1, ValueIdx.eq_ix2 i⟩
  refine Eq.trans ?_ (Cert.RmsRefIdeal.Point.result2_at _ _ _ o d).symm
  show (if o.val = 0 then ∑ q : Fin 16384, share m c d q else 0) = _
  refine if_congr Iff.rfl (Finset.sum_congr rfl fun q _ => ?_) rfl
  exact mul_comm _ _

set_option maxHeartbeats 1000000 in
/-- The kernel computes the reference's gradients of the rows, twice, and of the norm's weights, from memories that agree on finite
arguments. -/
theorem agree : @Cert.algebraic_RmsIdeal_RmsRefIdeal_pre_finite_norm Cert.RmsIdeal.Gen.facts Cert.RmsRefIdeal.Gen.facts Cert.RmsFinite.pre_facts := by
  intro m g m' g' hpre hargs
  refine ⟨fun c => (dats m 0 c).arrAt 5 cfg0.N, fun c => (dats m 0 c).arrAt 6 cfg0.N, fun c => (dats m 0 c).arrAt 7 cfg0.N, ?_, ?_⟩
  · exact (θ_run _ _ _).mono (fun r h c => h c) (Cert.RmsIdeal.Value.run_blocks (F := Ideal) m g)
  · refine (θ_run _ _ _).mono (fun r h c => ?_) (Cert.RmsRefIdeal.Value.run (F := Ideal) m' g')
    obtain ⟨h0, h1, h2, hk⟩ := h c
    obtain ⟨a0, a1, a2, a3, a4⟩ := hargs c
    obtain ⟨R⟩ := real_of_pre m hpre c
    refine ⟨(h0.trans (val_main_v36_eq _ _)).trans ?_, (h1.trans (val_main_v37_eq _ _)).trans ?_, (h2.trans (val_main_v39_eq _ _ _)).trans ?_, hk⟩
    · show val_main_v36 (F := Ideal) (m' (c.tc.loc Cert.RmsRefIdeal.main_arg0)) (m' (c.tc.loc Cert.RmsRefIdeal.main_arg1))
        (m' (c.tc.loc Cert.RmsRefIdeal.main_arg2)) (m' (c.tc.loc Cert.RmsRefIdeal.main_arg3)) (m' (c.tc.loc Cert.RmsRefIdeal.main_arg4)) = _
      rw [a0, a1, a2, a3, a4]
      exact (rows_eq R).symm
    · show val_main_v37 (F := Ideal) (m' (c.tc.loc Cert.RmsRefIdeal.main_arg0)) (m' (c.tc.loc Cert.RmsRefIdeal.main_arg1))
        (m' (c.tc.loc Cert.RmsRefIdeal.main_arg2)) (m' (c.tc.loc Cert.RmsRefIdeal.main_arg3)) (m' (c.tc.loc Cert.RmsRefIdeal.main_arg4)) = _
      rw [a0, a1, a2, a3, a4]
      exact (rounded_eq R).symm
    · show val_main_v39 (F := Ideal) (m' (c.tc.loc Cert.RmsRefIdeal.main_arg0)) (m' (c.tc.loc Cert.RmsRefIdeal.main_arg2))
        (m' (c.tc.loc Cert.RmsRefIdeal.main_arg3)) = _
      rw [a0, a2, a3]
      exact (weights_eq c).symm

end Cert.RmsIdeal.Point
-- ==== Proof.FfnTile.lean ====
module

public import proofs.«01_k».proof.Proof.Gen.FfnIdeal.Value
public import proofs.«01_k».proof.Proof.Sigmoid
public import Idealize.ShloMosaic.Lib.Pipeline.ValueKit
public import Idealize.ShloMosaic.Lib.Pointwise

/-! # The operations of one grid point of the channel mixer

  The gradient of the gated convolution's values over 128 rows, and of its argument from these and the 8 rows after them. -/

@[expose] public section

set_option maxRecDepth 16384

noncomputable section

namespace Cert.FfnIdeal.Point

open Cert.FfnIdeal Cert.FfnIdeal.Gen Idealize.ShloMosaic Idealize.ShloMosaic.TcCoe Idealize.SL.Sem
open Idealize.ShloMosaic.Pipeline (Dat)
open Cert.Sigmoid

/-- The gradient of a value of the convolution, from the cotangent `a` of the gated value: `u` holds the gates, then what they gate. -/
def gateGrad (a : Fin 2816 → EReal) (u : Fin 5632 → EReal) (n : Fin 5632) : EReal :=
  if h : n.val < 2816 then a ⟨n.val, h⟩ * u ⟨n.val + 2816, by omega⟩ * (sigmoid (u n) * (1 + u n * (1 - sigmoid (u n))))
  else a ⟨n.val - 2816, by omega⟩ * (u ⟨n.val - 2816, by omega⟩ * sigmoid (u ⟨n.val - 2816, by omega⟩))

theorem gates_at (a : FVec Ideal S128x1024 .bf16) (w : FVec Ideal S1024x2816 .bf16) (g p : FVec Ideal S128x2816 .f32) (u : Fin 128 → Fin 5632 → EReal)
    (hg : ∀ r k, g (ix2 r k) = u r ⟨k.val, by omega⟩) (hp : ∀ r k, p (ix2 r k) = u r ⟨k.val + 2816, by omega⟩) (r : Fin 128) (n : Fin 5632) :
    k0_pay6 (F := Ideal) a w g p (ix2 r n) = gateGrad (fun k => ∑ d : Fin 1024, a (ix2 r d) * w (ix2 d k)) (u r) n := by
  unfold gateGrad
  unfold_payloads
  pointwise [half_tanh]
  simp only [hg, hp]

/-- A row of the block, or of the rows after it. -/
def extended (x : FVec Ideal S128x5632 .f32) (z : FVec Ideal S8x5632 .f32) (j : Fin 136) (n : Fin 5632) : EReal :=
  if h : j.val < 128 then x (ix2 ⟨j.val, h⟩ n) else z (ix2 (⟨j.val - 128, by omega⟩ : Fin 8) n)

theorem two_on (x : FVec Ideal S128x5632 .f32) (z : FVec Ideal S8x5632 .f32) (r : Fin 128) (n : Fin 5632) :
    k0_pay10 (F := Ideal) x z (ix2 r n) = extended x z ⟨r.val + 2, by omega⟩ n := by
  have e : (r.val + 136 - 134) % 136 = r.val + 2 := by omega
  unfold extended
  unfold_payloads
  pointwise
  simp only [e]

theorem one_on (x : FVec Ideal S128x5632 .f32) (z : FVec Ideal S8x5632 .f32) (r : Fin 128) (n : Fin 5632) :
    k0_pay12 (F := Ideal) x z (ix2 r n) = extended x z ⟨r.val + 1, by omega⟩ n := by
  have e : (r.val + 136 - 135) % 136 = r.val + 1 := by omega
  unfold extended
  unfold_payloads
  pointwise
  simp only [e]

theorem taps_at (x : FVec Ideal S128x5632 .f32) (z w : FVec Ideal S8x5632 .f32) (r : Fin 128) (n : Fin 5632) :
    k0_pay14 (F := Ideal) x z w (ix2 r n) = w (ix2 0 n) * extended x z ⟨r.val + 2, by omega⟩ n + w (ix2 1 n) * extended x z ⟨r.val + 1, by omega⟩ n
      + w (ix2 2 n) * x (ix2 r n) := by
  rw [← two_on, ← one_on]
  unfold k0_pay14
  pointwise

end Cert.FfnIdeal.Point
-- ==== Proof.FfnBlocks.lean ====
module

public import proofs.«01_k».proof.Proof.FfnTile
public import proofs.«01_k».proof.Proof.RmsMath
public import Idealize.ShloMosaic.Lib.WritesUnit
public import Idealize.ShloMosaic.Lib.Pipeline.ReadBack

/-! # What a grid point of the channel mixer writes

  The blocks of one point; the rows' gradients of the convolution's values, of its argument, and of the normed rows. -/

@[expose] public section

set_option maxRecDepth 16384

noncomputable section

namespace Cert.FfnIdeal.Point

open Cert.FfnIdeal Cert.FfnIdeal.Gen Idealize.ShloMosaic Idealize.ShloMosaic.TcCoe Idealize.SL.Sem
open Idealize.ShloMosaic.Pipeline (Dat)
open Cert.RowNorm

variable (m : (ℓ : Loc nD τ sig) → Buf (Elt Ideal) ℓ)

/-- A grid point's blocks, at their shapes: the rounded cotangent, the second weights, the gated values, the convolution's values,
its weights, the first weights, the rows, the norm's weights and the gradient that reaches the rows past the norm. -/
abbrev gBlk (c : Dev nD) (t : Fin cfg0.N) : S128x1024.Idx → EReal := iblk m c 0 t
abbrev dnBlk (c : Dev nD) (t : Fin cfg0.N) : S1024x2816.Idx → EReal := iblk m c 1 t
abbrev upBlk (c : Dev nD) (t : Fin cfg0.N) : S128x5632.Idx → EReal := iblk m c 2 t
abbrev uBlk (c : Dev nD) (t : Fin cfg0.N) : S128x5632.Idx → EReal := iblk m c 3 t
abbrev cBlk (c : Dev nD) (t : Fin cfg0.N) : S8x5632.Idx → EReal := iblk m c 4 t
abbrev wBlk (c : Dev nD) (t : Fin cfg0.N) : S5632x1024.Idx → EReal := iblk m c 5 t
abbrev xBlk (c : Dev nD) (t : Fin cfg0.N) : S128x1024.Idx → EReal := iblk m c 6 t
abbrev nBlk (c : Dev nD) (t : Fin cfg0.N) : S1x1024.Idx → EReal := iblk m c 7 t
abbrev pBlk (c : Dev nD) (t : Fin cfg0.N) : S128x1024.Idx → EReal := iblk m c 8 t

/-- The gradient of the convolution's values in a point's rows. -/
def gates (c : Dev nD) (t : Fin cfg0.N) (r : Fin 128) (n : Fin 5632) : EReal :=
  gateGrad (fun k => ∑ d : Fin 1024, gBlk m c t (ix2 r d) * dnBlk m c t (ix2 d k)) (fun n => uBlk m c t (ix2 r n)) n

/-- What a point leaves for the one after it. -/
def left (c : Dev nD) (n : Nat) (h : n < cfg0.N) (o : Fin 8) (k : Fin 5632) : EReal := (outsAt0 m c n h).2.2.2.2.2 (ix2 o k)

/-- What a point finds. -/
def found (c : Dev nD) (t : Fin cfg0.N) : S8x5632.Idx → EReal :=
  fun i => if t.val % 128 = 0 then 0 else (outsAt0 m c (t.val - 1) (by omega)).2.2.2.2.2 i

/-- The gradient of the convolution's values in a point's rows and the rows after them. -/
def reach (c : Dev nD) (t : Fin cfg0.N) (j : Fin 136) (n : Fin 5632) : EReal :=
  if h : j.val < 128 then gates m c t ⟨j.val, h⟩ n else found m c t (ix2 (⟨j.val - 128, by omega⟩ : Fin 8) n)

/-- The gradient of the convolution's argument in a point's rows. -/
def args (c : Dev nD) (t : Fin cfg0.N) (r : Fin 128) (n : Fin 5632) : EReal :=
  cBlk m c t (ix2 0 n) * reach m c t ⟨r.val + 2, by omega⟩ n + cBlk m c t (ix2 1 n) * reach m c t ⟨r.val + 1, by omega⟩ n
    + cBlk m c t (ix2 2 n) * gates m c t r n

/-- The gradient of the convolution's values, as a point computes it from its blocks. -/
abbrev made (c : Dev nD) (t : Fin cfg0.N) : FVec Ideal S128x5632 .f32 :=
  k0_pay6 (iblk m c 0 t) (iblk m c 1 t) (View.ld (iblk m c 3 t) (Rect.unit ![0, 0] ![128, 2816] inb_S128x5632_S128x2816_0_0))
    (View.ld (iblk m c 3 t) (Rect.unit ![0, 2816] ![128, 2816] inb_S128x5632_S128x2816_0_2816))

theorem made_at (c : Dev nD) (t : Fin cfg0.N) (r : Fin 128) (n : Fin 5632) : made m c t (ix2 r n) = gates m c t r n := by
  refine gates_at _ _ _ _ (fun r n => uBlk m c t (ix2 r n)) (fun r k => ?_) (fun r k => ?_) r n
  · pointwise
  · pointwise
    exact congrArg (fun n => iblk m c 3 t (ix2 r n)) (Fin.ext (Nat.add_comm _ _))

theorem left_at (c : Dev nD) (t : Fin cfg0.N) (o : Fin 8) (k : Fin 5632) : left m c t.val t.isLt o k = gates m c t ⟨o.val, by omega⟩ k := by
  unfold left
  rw [← made_at]
  by_cases h0 : t.val % 128 = 0
  · rw [outsAt0_A m c t h0]
    frame_out
    unfold k0_pay19
    pointwise
    rfl
  · rw [outsAt0_B m c t h0]
    frame_out
    unfold k0_pay19
    pointwise
    rfl

theorem reach_of (c : Dev nD) (t : Fin cfg0.N) (z : FVec Ideal S8x5632 .f32) (hz : z = found m c t) (r : Fin 128) (n : Fin 5632) :
    k0_pay14 (F := Ideal) (made m c t) z (cBlk m c t) (ix2 r n) = args m c t r n := by
  rw [taps_at]
  unfold args reach extended
  simp only [made_at, hz]

theorem found_first (c : Dev nD) (t : Fin cfg0.N) (h0 : t.val % 128 = 0) : (k0_pay5 : FVec Ideal S8x5632 .f32) = found m c t := by
  funext i
  unfold found
  rw [if_pos h0]
  unfold k0_pay5
  pointwise

theorem args_at (c : Dev nD) (t : Fin cfg0.N) (r : Fin 128) (n : Fin 5632) : (outsAt0 m c t.val t.isLt).1 (ix2 r n) = args m c t r n := by
  by_cases h0 : t.val % 128 = 0
  · rw [outsAt0_A m c t h0]
    frame_out
    exact reach_of m c t _ (found_first m c t h0) r n
  · rw [outsAt0_B m c t h0]
    frame_out
    refine reach_of m c t _ ?_ r n
    funext i
    unfold found
    rw [if_neg h0, read_unread_whole]

theorem norm_at (x p : FVec Ideal S128x1024 .f32) (n : FVec Ideal S1x1024 .f32) (w : FVec Ideal S5632x1024 .bf16) (a : FVec Ideal S128x5632 .f32)
    (r : Fin 128) (d : Fin 1024) : k0_pay1 (F := Ideal) (k0_pay21 x) (k0_pay22 x) (k0_pay24 a w n) p (ix2 r d)
      = p (ix2 r d) + rowGrad (fun n => x (ix2 r n)) (fun d => ∑ k : Fin 5632, a (ix2 r k) * w (ix2 k d)) (fun d => n (ix2 0 d)) d := by
  unfold rowGrad scaleOf width small
  unfold_payloads
  pointwise

/-- The gradient that reaches the normed rows. -/
def normed (c : Dev nD) (t : Fin cfg0.N) (r : Fin 128) (d : Fin 1024) : EReal := ∑ k : Fin 5632, args m c t r k * wBlk m c t (ix2 k d)

theorem normed_of (c : Dev nD) (t : Fin cfg0.N) (z : FVec Ideal S8x5632 .f32) (hz : z = found m c t) (r : Fin 128) (d : Fin 1024) :
    k0_pay1 (F := Ideal) (k0_pay21 (xBlk m c t)) (k0_pay22 (xBlk m c t)) (k0_pay24 (k0_pay14 (made m c t) z (cBlk m c t)) (wBlk m c t) (nBlk m c t))
      (pBlk m c t) (ix2 r d) = pBlk m c t (ix2 r d)
      + rowGrad (fun n => xBlk m c t (ix2 r n)) (fun n => normed m c t r n) (fun n => nBlk m c t (ix2 0 n)) d := by
  rw [norm_at]
  simp only [reach_of m c t z hz]
  rfl

/-- The gradient of the rows. -/
theorem rows_at (c : Dev nD) (t : Fin cfg0.N) (r : Fin 128) (d : Fin 1024) : (outsAt0 m c t.val t.isLt).2.2.1 (ix2 r d) = pBlk m c t (ix2 r d)
    + rowGrad (fun n => xBlk m c t (ix2 r n)) (fun n => normed m c t r n) (fun n => nBlk m c t (ix2 0 n)) d := by
  by_cases h0 : t.val % 128 = 0
  · rw [outsAt0_A m c t h0]
    frame_out
    exact normed_of m c t _ (found_first m c t h0) r d
  · rw [outsAt0_B m c t h0]
    frame_out
    refine normed_of m c t _ ?_ r d
    funext i
    unfold found
    rw [if_neg h0, read_unread_whole]

theorem rounded_at (c : Dev nD) (t : Fin cfg0.N) (r : Fin 128) (d : Fin 1024) : (outsAt0 m c t.val t.isLt).2.2.2.1 (ix2 r d) = pBlk m c t (ix2 r d)
    + rowGrad (fun n => xBlk m c t (ix2 r n)) (fun n => normed m c t r n) (fun n => nBlk m c t (ix2 0 n)) d := by
  by_cases h0 : t.val % 128 = 0
  · rw [outsAt0_A m c t h0]
    frame_out
    exact normed_of m c t _ (found_first m c t h0) r d
  · rw [outsAt0_B m c t h0]
    frame_out
    refine normed_of m c t _ ?_ r d
    funext i
    unfold found
    rw [if_neg h0, read_unread_whole]

end Cert.FfnIdeal.Point
-- ==== Proof.FfnSums.lean ====
module

public import proofs.«01_k».proof.Proof.FfnBlocks

/-! # What a grid point of the channel mixer adds up

  The rows of the gradients of the convolution's weights and bias, and of the norm's weights. -/

@[expose] public section

set_option maxRecDepth 16384

noncomputable section

namespace Cert.FfnIdeal.Point

open Cert.FfnIdeal Cert.FfnIdeal.Gen Idealize.ShloMosaic Idealize.ShloMosaic.TcCoe Idealize.SL.Sem
open Idealize.ShloMosaic.Pipeline (Dat)
open Cert.RowNorm

variable (m : (ℓ : Loc nD τ sig) → Buf (Elt Ideal) ℓ)

theorem canon_off {s : Shape} {off size : Fin s.rank → ℕ} (inb : ∀ a, off a + size a ≤ s.size a)
    (w : (Rect.unit off size inb).shape.Idx → Elt Ideal .f32) (L : List (View.Piece (Elt Ideal) s .f32)) (y : s.Idx) (a : Fin s.rank)
    (ha : (y a).val < off a ∨ off a + size a ≤ (y a).val) :
    View.canon ((⟨Rect.unit off size inb, w⟩ : View.Piece (Elt Ideal) s .f32) :: L) y = View.canon L y := by
  refine View.canon_cons_of_not_mem _ _ fun h => ?_
  have e : y ∈ (Rect.unit off size inb).set := h
  rw [Rect.mem_set_unit] at e
  have := e a
  omega

theorem canon_on {s : Shape} {off size : Fin s.rank → ℕ} (inb : ∀ a, off a + size a ≤ s.size a)
    (w : (Rect.unit off size inb).shape.Idx → Elt Ideal .f32) (L : List (View.Piece (Elt Ideal) s .f32)) (y : s.Idx)
    (x : (Rect.unit off size inb).shape.Idx) (h : ∀ a, (y a).val = off a + (x a).val) :
    View.canon ((⟨Rect.unit off size inb, w⟩ : View.Piece (Elt Ideal) s .f32) :: L) y = w x := by
  obtain rfl : y = (Rect.unit off size inb).emb x := by
    funext a
    refine Fin.ext ((h a).trans ?_)
    show off a + (x a).val = off a + 1 * (x a).val
    omega
  exact View.canon_cons_emb _ _ _ _

theorem loaded_at {s : Shape} {κ : Kind} {sp : Space} (v : View sig κ sp s .f32) (L : List (View.Piece (Elt Ideal) s .f32)) (B : LoadRect s) (j : B.shape.Idx) :
    v.readCov L B j = View.canon L (B.idx j) := congrFun (View.readCov_eq_canon' v L B) j

theorem unset {s : Shape} {κ : Kind} {sp : Space} (v : View sig κ sp s .f32) (f : v.ty.Contents (Elt Ideal)) {off size : Fin s.rank → ℕ} (inb : ∀ a, off a + size a ≤ s.size a)
    (w : (Rect.unit off size inb).shape.Idx → Elt Ideal .f32) (L : List (View.Piece (Elt Ideal) s .f32)) (y : s.Idx) (a : Fin s.rank)
    (ha : (y a).val < off a ∨ off a + size a ≤ (y a).val) :
    v.read (Elt Ideal) (v.writes (Elt Ideal) f ((⟨Rect.unit off size inb, w⟩ : View.Piece (Elt Ideal) s .f32) :: L)) y
      = v.read (Elt Ideal) (v.writes (Elt Ideal) f L) y :=
  View.read_writes_cons_unit_of_not_mem v f inb w L y rfl a ha

/-- What a point adds to the gradients of the convolution's weights (rows 0 to 2) and of its bias (row 3). -/
def added (c : Dev nD) (t : Fin cfg0.N) (o : Fin 8) (n : Fin 5632) : EReal :=
  if o.val < 3 then ∑ r : Fin 128, reach m c t ⟨r.val + (2 - o.val), by omega⟩ n * upBlk m c t (ix2 r n)
  else if o.val = 3 then ∑ r : Fin 128, gates m c t r n else 0

theorem reach_ext (c : Dev nD) (t : Fin cfg0.N) (z : FVec Ideal S8x5632 .f32) (hz : z = found m c t) (j : Fin 136) (n : Fin 5632) :
    extended (made m c t) z j n = reach m c t j n := by
  unfold reach extended
  simp only [made_at, hz]

theorem add3 (c : Dev nD) (t : Fin cfg0.N) (y : FVec Ideal S1x5632 .f32) (n : Fin 5632) :
    k0_pay7 (F := Ideal) (iblk m c 0 t) (iblk m c 1 t) (View.ld (iblk m c 3 t) (Rect.unit ![0, 0] ![128, 2816] inb_S128x5632_S128x2816_0_0))
      (View.ld (iblk m c 3 t) (Rect.unit ![0, 2816] ![128, 2816] inb_S128x5632_S128x2816_0_2816)) y (ix2 0 n) = y (ix2 0 n) + added m c t 3 n := by
  have e : added m c t 3 n = ∑ r : Fin 128, made m c t (ix2 r n) := by simp only [made_at]; rfl
  rw [e]
  unfold k0_pay7
  pointwise

theorem add0 (c : Dev nD) (t : Fin cfg0.N) (z : FVec Ideal S8x5632 .f32) (hz : z = found m c t) (y : FVec Ideal S1x5632 .f32) (n : Fin 5632) :
    k0_pay11 (F := Ideal) (made m c t) z (upBlk m c t) y (ix2 0 n) = y (ix2 0 n) + added m c t 0 n := by
  have e : added m c t 0 n = ∑ r : Fin 128, k0_pay10 (F := Ideal) (made m c t) z (ix2 r n) * upBlk m c t (ix2 r n) := by
    simp only [two_on, reach_ext m c t z hz]; rfl
  rw [e]
  unfold k0_pay11 k0_pay9
  pointwise

theorem add1 (c : Dev nD) (t : Fin cfg0.N) (z : FVec Ideal S8x5632 .f32) (hz : z = found m c t) (y : FVec Ideal S1x5632 .f32) (n : Fin 5632) :
    k0_pay13 (F := Ideal) (made m c t) z (upBlk m c t) y (ix2 0 n) = y (ix2 0 n) + added m c t 1 n := by
  have e : added m c t 1 n = ∑ r : Fin 128, k0_pay12 (F := Ideal) (made m c t) z (ix2 r n) * upBlk m c t (ix2 r n) := by
    simp only [one_on, reach_ext m c t z hz]; rfl
  rw [e]
  unfold k0_pay13 k0_pay9
  pointwise

theorem reach_low (c : Dev nD) (t : Fin cfg0.N) (r : Fin 128) (n : Fin 5632) : reach m c t ⟨r.val + (2 - 2), by omega⟩ n = gates m c t r n := by
  unfold reach
  exact dif_pos r.isLt

theorem add2 (c : Dev nD) (t : Fin cfg0.N) (y : FVec Ideal S1x5632 .f32) (n : Fin 5632) :
    k0_pay17 (F := Ideal) (k0_pay15 y) (k0_pay16 (made m c t) (upBlk m c t)) (ix2 0 n) = y (ix2 0 n) + added m c t 2 n := by
  have e : added m c t 2 n = ∑ r : Fin 128, made m c t (ix2 r n) * upBlk m c t (ix2 r n) := by
    simp only [made_at, ← reach_low]; rfl
  rw [e]
  unfold k0_pay17 k0_pay15 k0_pay16 k0_pay9
  pointwise

theorem zero_fill (j : S8x5632.Idx) : k0_pay3 (F := Ideal) j = (0 : EReal) := by
  unfold k0_pay3
  pointwise

theorem canon_whole (w : S8x5632.Idx → Elt Ideal .f32) (j : S8x5632.Idx) :
    View.canon [(⟨Rect.unit ![0, 0] ![8, 5632] inb_S8x5632_S8x5632_0_0, w⟩ : View.Piece (Elt Ideal) S8x5632 .f32)] j = w j :=
  canon_on (s := S8x5632) inb_S8x5632_S8x5632_0_0 w [] j j (fun a => by fin_cases a <;> simp)

theorem acc_first (c : Dev nD) (t : Fin cfg0.N) (h0 : t.val % 128 = 0) (o : Fin 8) (n : Fin 5632) :
    (outsAt0 m c t.val t.isLt).2.1 (ix2 o n) = 0 + added m c t o n := by
  have hf := found_first m c t h0
  rw [outsAt0_A m c t h0]
  frame_out
  obtain ⟨o, h8⟩ := o
  by_cases ho : o < 4
  · interval_cases o
    all_goals
      repeat first
        | (refine (canon_off _ _ _ _ 0 ?_).trans ?_
           · solve | (clear * -; simp; done))
        | fail
      refine (canon_on _ _ _ _ (ix2 (0 : Fin 1) n) ?_).trans ?_
      · intro a; fin_cases a <;> simp
      first
        | (with_reducible show k0_pay11 _ _ _ _ _ = _
           refine (add0 m c t _ hf _ n).trans ?_)
        | (with_reducible show k0_pay13 _ _ _ _ _ = _
           refine (add1 m c t _ hf _ n).trans ?_)
        | (with_reducible show k0_pay17 _ _ _ = _
           refine (add2 m c t _ n).trans ?_)
        | (with_reducible show k0_pay7 _ _ _ _ _ _ = _
           refine (add3 m c t _ n).trans ?_)
        | fail
      refine congrArg (· + _) ((loaded_at _ _ _ _).trans ?_)
      refine (congrArg (View.canon _) (?_ : _ = ix2 (⟨_, h8⟩ : Fin 8) n)).trans ?_
      · funext a; fin_cases a <;> exact Fin.ext (by simp)
      repeat first
        | (refine (canon_off _ _ _ _ 0 ?_).trans ?_
           · solve | (clear * -; simp; done))
        | fail
      exact (canon_whole _ _).trans (zero_fill _)
  · have e : added m c t ⟨o, h8⟩ n = 0 := (if_neg (by show ¬ o < 3; omega)).trans (if_neg (by show ¬ o = 3; omega))
    rw [e, add_zero]
    repeat first
      | (refine (canon_off _ _ _ _ 0 ?_).trans ?_
         · solve | (clear * - ho; simp; omega))
      | fail
    exact (canon_whole _ _).trans (zero_fill _)

theorem acc_next (c : Dev nD) (t : Fin cfg0.N) (h0 : ¬ t.val % 128 = 0) (o : Fin 8) (n : Fin 5632) : (outsAt0 m c t.val t.isLt).2.1 (ix2 o n)
    = (outsAt0 m c (t.val - 1) (by omega)).2.1 (ix2 o n) + added m c t o n := by
  have hf : (outsAt0 m c (t.val - 1) (by omega)).2.2.2.2.2 = found m c t := by
    funext i
    unfold found
    rw [if_neg h0]
  rw [outsAt0_B m c t h0]
  frame_out
  obtain ⟨o, h8⟩ := o
  by_cases ho : o < 4
  · interval_cases o
    all_goals
      repeat first
        | (refine (unset _ _ _ _ _ _ 0 ?_).trans ?_
           · solve | (clear * -; simp; done))
        | fail
      refine (View.read_writes_cons_unit_of_mem _ _ _ _ _ _ (ix2 (0 : Fin 1) n) rfl ?_).trans ?_
      · intro a; fin_cases a <;> simp
      try simp only [read_unread_whole]
      first
        | (with_reducible show k0_pay11 _ _ _ _ _ = _
           refine (add0 m c t _ hf _ n).trans ?_)
        | (with_reducible show k0_pay13 _ _ _ _ _ = _
           refine (add1 m c t _ hf _ n).trans ?_)
        | (with_reducible show k0_pay17 _ _ _ = _
           refine (add2 m c t _ n).trans ?_)
        | (with_reducible show k0_pay7 _ _ _ _ _ _ = _
           refine (add3 m c t _ n).trans ?_)
        | fail
      pointwise
  · have e : added m c t ⟨o, h8⟩ n = 0 := (if_neg (by show ¬ o < 3; omega)).trans (if_neg (by show ¬ o = 3; omega))
    rw [e, add_zero]
    repeat first
      | (refine (unset _ _ _ _ _ _ 0 ?_).trans ?_
         · solve | (clear * - ho; simp; omega))
      | fail
    rw [View.writes_nil]
    exact congrFun ((hs0_10 t).read_unread _) _

theorem canon_norm (w : S8x1024.Idx → Elt Ideal .f32) (j : S8x1024.Idx) :
    View.canon [(⟨Rect.unit ![0, 0] ![8, 1024] inb_S8x1024_S8x1024_0_0, w⟩ : View.Piece (Elt Ideal) S8x1024 .f32)] j = w j :=
  canon_on (s := S8x1024) inb_S8x1024_S8x1024_0_0 w [] j j (fun a => by fin_cases a <;> simp)

theorem zero_row (j : S8x1024.Idx) : k0_pay4 (F := Ideal) j = (0 : EReal) := by
  unfold k0_pay4
  pointwise

/-- What a point adds to the gradient of the norm's weights. -/
def addedNorm (c : Dev nD) (t : Fin cfg0.N) (d : Fin 1024) : EReal :=
  ∑ r : Fin 128, normed m c t r d * (xBlk m c t (ix2 r d) * scaleOf (fun n => xBlk m c t (ix2 r n)))

theorem addNorm (c : Dev nD) (t : Fin cfg0.N) (z : FVec Ideal S8x5632 .f32) (hz : z = found m c t) (y : FVec Ideal S1x1024 .f32) (d : Fin 1024) :
    k0_pay23 (F := Ideal) (k0_pay14 (made m c t) z (cBlk m c t)) (wBlk m c t) (xBlk m c t) y (ix2 0 d) = y (ix2 0 d) + addedNorm m c t d := by
  unfold addedNorm normed scaleOf width small
  simp only [← reach_of m c t z hz]
  unfold k0_pay23 k0_pay22 k0_pay21 k0_pay20 k0_pay18
  pointwise

theorem norm_first (c : Dev nD) (t : Fin cfg0.N) (h0 : t.val % 128 = 0) (o : Fin 8) (d : Fin 1024) :
    (outsAt0 m c t.val t.isLt).2.2.2.2.1 (ix2 o d) = 0 + if o.val = 0 then addedNorm m c t d else 0 := by
  have hf := found_first m c t h0
  rw [outsAt0_A m c t h0]
  frame_out
  by_cases ho : o.val = 0
  · obtain rfl : o = 0 := Fin.ext ho
    rw [if_pos ho]
    refine (canon_on _ _ _ _ (ix2 (0 : Fin 1) d) (fun a => by fin_cases a <;> simp)).trans ?_
    refine (addNorm m c t _ hf _ d).trans ?_
    refine congrArg (· + _) ((loaded_at _ _ _ _).trans ?_)
    exact (canon_norm _ _).trans (zero_row _)
  · rw [if_neg ho, add_zero]
    refine (canon_off _ _ _ _ 0 ?_).trans ?_
    · simp
      omega
    exact (canon_norm _ _).trans (zero_row _)

theorem norm_next (c : Dev nD) (t : Fin cfg0.N) (h0 : ¬ t.val % 128 = 0) (o : Fin 8) (d : Fin 1024) : (outsAt0 m c t.val t.isLt).2.2.2.2.1 (ix2 o d)
    = (outsAt0 m c (t.val - 1) (by omega)).2.2.2.2.1 (ix2 o d) + if o.val = 0 then addedNorm m c t d else 0 := by
  have hf : (outsAt0 m c (t.val - 1) (by omega)).2.2.2.2.2 = found m c t := by
    funext i
    unfold found
    rw [if_neg h0]
  rw [outsAt0_B m c t h0]
  frame_out
  by_cases ho : o.val = 0
  · obtain rfl : o = 0 := Fin.ext ho
    rw [if_pos ho]
    refine (View.read_writes_cons_unit_of_mem _ _ _ _ _ _ (ix2 (0 : Fin 1) d) rfl (fun a => by fin_cases a <;> simp)).trans ?_
    simp only [read_unread_whole]
    refine (addNorm m c t _ hf _ d).trans ?_
    pointwise
  · rw [if_neg ho, add_zero]
    refine (unset _ _ _ _ _ _ 0 ?_).trans ?_
    · simp
      omega
    rw [View.writes_nil]
    exact congrFun ((hs0_13 t).read_unread _) _

end Cert.FfnIdeal.Point
-- ==== Proof.FfnReads.lean ====
module

public import proofs.«01_k».proof.Proof.FfnSums
public import proofs.«01_k».proof.Proof.Gen.FfnRefIdeal.Read
public import Idealize.ShloMosaic.Lib.StableHlo.RunRead

/-! # What the channel mixer's backward kernel reads

  Grid point `t` reads the rows from `128 (127 - t)` on. -/

@[expose] public section

set_option maxRecDepth 16384

noncomputable section

namespace Cert.FfnIdeal.Point

open Cert.FfnIdeal Cert.FfnIdeal.Gen Idealize.ShloMosaic Idealize.ShloMosaic.TcCoe Idealize.SL.Sem
open Idealize.ShloMosaic.Pipeline (Dat)
open Cert.RowNorm
open Cert.FfnRefIdeal.Read (val_main_v15 val_main_v42)

variable (m : (ℓ : Loc nD τ sig) → Buf (Elt Ideal) ℓ)

/-- The row of the whole array that is row `r` of grid point `t`'s blocks. -/
def row (t : Fin cfg0.N) (r : Fin 128) : Fin 16384 := ⟨128 * (127 - t.val) + r.val, by have := r.isLt; omega⟩

/-- The arguments, at their shapes. -/
abbrev xs (c : Dev nD) : (⟨S16384x1024, .f32⟩ : BufTy).Contents (Elt Ideal) := m ((c : Thread nD τ).loc main_arg0)
abbrev nw (c : Dev nD) : (⟨S1x1024, .f32⟩ : BufTy).Contents (Elt Ideal) := m ((c : Thread nD τ).loc main_arg1)
abbrev wu (c : Dev nD) : (⟨S1024x5632, .f32⟩ : BufTy).Contents (Elt Ideal) := m ((c : Thread nD τ).loc main_arg2)
abbrev wc (c : Dev nD) : (⟨S3x5632, .f32⟩ : BufTy).Contents (Elt Ideal) := m ((c : Thread nD τ).loc main_arg3)
abbrev bc (c : Dev nD) : (⟨S1x5632, .f32⟩ : BufTy).Contents (Elt Ideal) := m ((c : Thread nD τ).loc main_arg4)
abbrev wd (c : Dev nD) : (⟨S2816x1024, .f32⟩ : BufTy).Contents (Elt Ideal) := m ((c : Thread nD τ).loc main_arg5)
abbrev dx (c : Dev nD) : (⟨S16384x1024, .f32⟩ : BufTy).Contents (Elt Ideal) := m ((c : Thread nD τ).loc main_arg6)

theorem idx0 : ∀ t : Fin cfg0.N, win0_0.index t = ![127 - t.val, 0] := (by decide +kernel : ∀ t : Fin grid0.N, win0_0.index t = ![127 - t.val, 0])
theorem idx1 : ∀ t : Fin cfg0.N, win0_1.index t = ![0, 0] := (by decide +kernel : ∀ t : Fin grid0.N, win0_1.index t = ![0, 0])
theorem idx2 : ∀ t : Fin cfg0.N, win0_2.index t = ![127 - t.val, 0] := (by decide +kernel : ∀ t : Fin grid0.N, win0_2.index t = ![127 - t.val, 0])
theorem idx3 : ∀ t : Fin cfg0.N, win0_3.index t = ![127 - t.val, 0] := (by decide +kernel : ∀ t : Fin grid0.N, win0_3.index t = ![127 - t.val, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![127 - t.val, 0] := (by decide +kernel : ∀ t : Fin grid0.N, win0_6.index t = ![127 - t.val, 0])
theorem idx7 : ∀ t : Fin cfg0.N, win0_7.index t = ![0, 0] := (by decide +kernel : ∀ t : Fin grid0.N, win0_7.index t = ![0, 0])
theorem idx8 : ∀ t : Fin cfg0.N, win0_8.index t = ![127 - t.val, 0] := (by decide +kernel : ∀ t : Fin grid0.N, win0_8.index t = ![127 - t.val, 0])

theorem read0 (c : Dev nD) (t : Fin cfg0.N) (r : Fin 128) (k : Fin 1024) : gBlk m c t (ix2 r k) = dx m c (ix2 (row t r) k) := by
  unfold gBlk
  blk_simp [iblk]
  entry_read
  pointwise
  blk_ext [idx0 t, row]

theorem read1 (c : Dev nD) (t : Fin cfg0.N) (d : Fin 1024) (k : Fin 2816) : dnBlk m c t (ix2 d k) = wd m c (ix2 k d) := by
  unfold dnBlk
  blk_simp [iblk]
  entry_read
  pointwise
  blk_ext [idx1 t]

/-- The values the call takes from the forward lines are the reference's. -/
theorem saved_up (c : Dev nD) : V m c main_v12 = val_main_v15 (F := Ideal) (xs m c) (nw m c) (wu m c) := by
  unfold V
  after_reads_simp
  rfl

theorem saved_u (c : Dev nD) : V m c main_v36 = val_main_v42 (F := Ideal) (xs m c) (nw m c) (wu m c) (wc m c) (bc m c) := by
  unfold V
  after_reads_simp
  rfl

theorem read2 (c : Dev nD) (t : Fin cfg0.N) (r : Fin 128) (n : Fin 5632) :
    upBlk m c t (ix2 r n) = val_main_v15 (F := Ideal) (xs m c) (nw m c) (wu m c) (ix2 (row t r) n) := by
  rw [← saved_up]
  unfold upBlk
  blk_simp [iblk]
  blk_ext [idx2 t, row]

theorem read3 (c : Dev nD) (t : Fin cfg0.N) (r : Fin 128) (n : Fin 5632) :
    uBlk m c t (ix2 r n) = val_main_v42 (F := Ideal) (xs m c) (nw m c) (wu m c) (wc m c) (bc m c) (ix2 (row t r) n) := by
  rw [← saved_u]
  unfold uBlk
  blk_simp [iblk]
  blk_ext [idx3 t, row]

theorem read4 (c : Dev nD) (t : Fin cfg0.N) (o : Fin 3) (n : Fin 5632) : cBlk m c t (ix2 (⟨o.val, by omega⟩ : Fin 8) n) = wc m c (ix2 o n) := by
  have e : ((View.whole main_v41).slice (win0_4.rect t)).emb (ix2 (⟨o.val, by omega⟩ : Fin 8) n) = ix2 (⟨o.val, by omega⟩ : Fin 8) n := by blk_ext [idx4 t]
  unfold cBlk
  blk_simp [iblk]
  rw [e]
  entry_read
  pointwise

theorem read5 (c : Dev nD) (t : Fin cfg0.N) (k : Fin 5632) (d : Fin 1024) : wBlk m c t (ix2 k d) = wu m c (ix2 d k) := by
  unfold wBlk
  blk_simp [iblk]
  entry_read
  pointwise
  blk_ext [idx5 t]

theorem read6 (c : Dev nD) (t : Fin cfg0.N) (r : Fin 128) (k : Fin 1024) : xBlk m c t (ix2 r k) = xs m c (ix2 (row t r) k) := by
  unfold xBlk
  blk_simp [iblk]
  entry_read
  pointwise
  blk_ext [idx6 t, row]

theorem read7 (c : Dev nD) (t : Fin cfg0.N) (k : Fin 1024) : nBlk m c t (ix2 0 k) = nw m c (ix2 0 k) := by
  unfold nBlk
  blk_simp [iblk]
  entry_read
  pointwise
  blk_ext [idx7 t]

theorem read8 (c : Dev nD) (t : Fin cfg0.N) (r : Fin 128) (k : Fin 1024) : pBlk m c t (ix2 r k) = dx m c (ix2 (row t r) k) := by
  unfold pBlk
  blk_simp [iblk]
  entry_read
  pointwise
  blk_ext [idx8 t, row]

end Cert.FfnIdeal.Point
-- ==== Proof.FfnOut.lean ====
module

public import proofs.«01_k».proof.Proof.FfnReads

/-! # The arrays the channel mixer's backward kernel leaves

  The rows a point finds are the first of the point before it, so that over the whole arrays each row sees the two after it. -/

@[expose] public section

set_option maxRecDepth 16384

noncomputable section

namespace Cert.FfnIdeal.Point

open Cert.FfnIdeal Cert.FfnIdeal.Gen Idealize.ShloMosaic Idealize.ShloMosaic.TcCoe Idealize.SL.Sem
open Idealize.ShloMosaic.Pipeline (Dat)
open Cert.RowNorm
open Cert.FfnRefIdeal.Read (val_main_v15 val_main_v42)

variable (m : (ℓ : Loc nD τ sig) → Buf (Elt Ideal) ℓ)

/-- The convolution's argument and its values. -/
abbrev upOf (c : Dev nD) (q : Fin 16384) (n : Fin 5632) : EReal := val_main_v15 (F := Ideal) (xs m c) (nw m c) (wu m c) (ix2 q n)
abbrev mixedOf (c : Dev nD) (q : Fin 16384) (n : Fin 5632) : EReal := val_main_v42 (F := Ideal) (xs m c) (nw m c) (wu m c) (wc m c) (bc m c) (ix2 q n)

/-- The gradient of the convolution's values, and the same with zeros after the arrays' end. -/
def gatesAt (c : Dev nD) (q : Fin 16384) (n : Fin 5632) : EReal :=
  gateGrad (fun k => ∑ d : Fin 1024, dx m c (ix2 q d) * wd m c (ix2 k d)) (mixedOf m c q) n
def gatesOn (c : Dev nD) (j : Nat) (n : Fin 5632) : EReal := if h : j < 16384 then gatesAt m c ⟨j, h⟩ n else 0

theorem gates_row (c : Dev nD) (t : Fin cfg0.N) (r : Fin 128) (n : Fin 5632) : gates m c t r n = gatesAt m c (row t r) n := by
  unfold gates gatesAt
  simp only [read0, read1, read3]

theorem gatesOn_row (c : Dev nD) (t : Fin cfg0.N) (r : Fin 128) (n : Fin 5632) :
    gatesAt m c (row t r) n = gatesOn m c (128 * (127 - t.val) + r.val) n := by
  have h : 128 * (127 - t.val) + r.val < 16384 := (row t r).isLt
  unfold gatesOn
  rw [dif_pos h]
  rfl

theorem found_row (c : Dev nD) (t : Fin cfg0.N) (o : Fin 8) (n : Fin 5632) :
    found m c t (ix2 o n) = gatesOn m c (128 * (127 - t.val) + (128 + o.val)) n := by
  have ht : t.val < 128 := t.isLt
  unfold found
  by_cases h0 : t.val % 128 = 0
  · rw [if_pos h0]
    unfold gatesOn
    rw [dif_neg (by omega)]
  · rw [if_neg h0]
    refine (left_at m c ⟨t.val - 1, by omega⟩ o n).trans ?_
    rw [gates_row, gatesOn_row]
    refine congrArg (fun j => gatesOn m c j n) ?_
    show 128 * (127 - (t.val - 1)) + o.val = 128 * (127 - t.val) + (128 + o.val)
    omega

theorem reach_row (c : Dev nD) (t : Fin cfg0.N) (j : Fin 136) (n : Fin 5632) : reach m c t j n = gatesOn m c (128 * (127 - t.val) + j.val) n := by
  unfold reach
  by_cases h : j.val < 128
  · rw [dif_pos h, gates_row, gatesOn_row]
  · rw [dif_neg h, found_row]
    exact congrArg (fun j => gatesOn m c (_ + j) n) (by show 128 + (j.val - 128) = j.val; omega)

/-- The gradient of the convolution's argument. -/
def argsAt (c : Dev nD) (q : Fin 16384) (n : Fin 5632) : EReal := wc m c (ix2 0 n) * gatesOn m c (q.val + 2) n
  + wc m c (ix2 1 n) * gatesOn m c (q.val + 1) n + wc m c (ix2 2 n) * gatesAt m c q n

theorem args_row (c : Dev nD) (t : Fin cfg0.N) (r : Fin 128) (n : Fin 5632) : args m c t r n = argsAt m c (row t r) n := by
  unfold args argsAt
  rw [reach_row, reach_row, gates_row, ← read4 m c t 0 n, ← read4 m c t 1 n, ← read4 m c t 2 n]
  rfl

/-- The gradient that reaches the normed rows, and the rows' own. -/
def normedAt (c : Dev nD) (q : Fin 16384) (d : Fin 1024) : EReal := ∑ k : Fin 5632, argsAt m c q k * wu m c (ix2 d k)
def rowsAt (c : Dev nD) (q : Fin 16384) (d : Fin 1024) : EReal :=
  dx m c (ix2 q d) + rowGrad (fun n => xs m c (ix2 q n)) (fun n => normedAt m c q n) (fun n => nw m c (ix2 0 n)) d

theorem normed_row (c : Dev nD) (t : Fin cfg0.N) (r : Fin 128) (d : Fin 1024) : normed m c t r d = normedAt m c (row t r) d := by
  unfold normed normedAt
  simp only [args_row, read5]

theorem idx9 : ∀ t : Fin cfg0.N, win0_9.index t = ![127 - t.val, 0] := (by decide +kernel : ∀ t : Fin grid0.N, win0_9.index t = ![127 - t.val, 0])
theorem idx11 : ∀ t : Fin cfg0.N, win0_11.index t = ![127 - t.val, 0] := (by decide +kernel : ∀ t : Fin grid0.N, win0_11.index t = ![127 - t.val, 0])
theorem idx12 : ∀ t : Fin cfg0.N, win0_12.index t = ![127 - t.val, 0] := (by decide +kernel : ∀ t : Fin grid0.N, win0_12.index t = ![127 - t.val, 0])

theorem out9 (c : Dev nD) : (dats m 0 c).arrAt 9 cfg0.N = fun i => argsAt m c (i 0) (i 1) := by
  refine (dats m 0 c).arrAt_eq_of_covers 9 _ (by decide +kernel) fun t hf y => ?_
  have e : ((View.whole main_v44_0).slice (win0_9.rect t)).emb y = ix2 (row t (y 0)) (y 1) := by blk_ext [idx9 t, row]
  blk_simp
  rw [after0_9, e]
  obtain ⟨r, n, rfl⟩ : ∃ (r : Fin 128) (n : Fin 5632), y = ix2 r n := ⟨y 0, y 1, ValueIdx.eq_ix2 y⟩
  exact (args_at m c t r n).trans (args_row m c t r n)

theorem out11 (c : Dev nD) : (dats m 0 c).arrAt 11 cfg0.N = fun i => rowsAt m c (i 0) (i 1) := by
  refine (dats m 0 c).arrAt_eq_of_covers 11 _ (by decide +kernel) fun t hf y => ?_
  have e : ((View.whole main_v44_2).slice (win0_11.rect t)).emb y = ix2 (row t (y 0)) (y 1) := by blk_ext [idx11 t, row]
  blk_simp
  rw [after0_11, e]
  obtain ⟨r, d, rfl⟩ : ∃ (r : Fin 128) (d : Fin 1024), y = ix2 r d := ⟨y 0, y 1, ValueIdx.eq_ix2 y⟩
  refine (rows_at m c t r d).trans ?_
  simp only [read6, read7, read8, normed_row]
  rfl

theorem out12 (c : Dev nD) : (dats m 0 c).arrAt 12 cfg0.N = fun i => rowsAt m c (i 0) (i 1) := by
  refine (dats m 0 c).arrAt_eq_of_covers 12 _ (by decide +kernel) fun t hf y => ?_
  have e : ((View.whole main_v44_3).slice (win0_12.rect t)).emb y = ix2 (row t (y 0)) (y 1) := by blk_ext [idx12 t, row]
  blk_simp
  rw [after0_12, e]
  obtain ⟨r, d, rfl⟩ : ∃ (r : Fin 128) (d : Fin 1024), y = ix2 r d := ⟨y 0, y 1, ValueIdx.eq_ix2 y⟩
  refine (rounded_at m c t r d).trans ?_
  simp only [read6, read7, read8, normed_row]
  rfl

/-- The last grid point, which writes the accumulated arrays out. -/
def last : Fin cfg0.N := ⟨127, by decide⟩

theorem sum_rows (f : Fin 16384 → EReal) : ∑ t : Fin cfg0.N, ∑ r : Fin 128, f (row t r) = ∑ q : Fin 16384, f q := by
  refine (Equiv.sum_comp (Fin.revPerm (n := 128)) (fun t : Fin 128 => ∑ r : Fin 128, f (row t r))).symm.trans ?_
  refine Fin.sum_mul_add_congr (S := 128) (n := 128) (fun s k hl => congrArg f (Fin.ext ?_))
  show 128 * (127 - (128 - (s.val + 1))) + k.val = s.val * 128 + k.val
  omega

/-- A row's part of the gradients of the convolution's weights and bias. -/
def share (c : Dev nD) (o : Fin 8) (n : Fin 5632) (q : Fin 16384) : EReal :=
  if o.val < 3 then gatesOn m c (q.val + (2 - o.val)) n * upOf m c q n else if o.val = 3 then gatesAt m c q n else 0

theorem added_rows (c : Dev nD) (t : Fin cfg0.N) (o : Fin 8) (n : Fin 5632) : added m c t o n = ∑ r : Fin 128, share m c o n (row t r) := by
  unfold added share
  by_cases h3 : o.val < 3
  · simp only [if_pos h3, reach_row, read2]
    exact Finset.sum_congr rfl fun r _ => congrArg (fun j => gatesOn m c j n * _) (Nat.add_assoc _ _ _).symm
  · by_cases h : o.val = 3
    · simp only [if_neg h3, if_pos h, gates_row]
    · simp only [if_neg h3, if_neg h, Finset.sum_const_zero]

theorem out10 (c : Dev nD) : (dats m 0 c).arrAt 10 cfg0.N = fun i => ∑ q : Fin 16384, share m c (i 0) (i 1) q := by
  refine (dats m 0 c).arrAt_eq_of_after_last 10 last (by decide +kernel) _ fun i => ?_
  rw [after0_10]
  refine (Pipeline.eq_sum_fin_of_reset_step_apply_last (fun n h => (outsAt0 m c n h).2.1) 128 (fun _ => 0)
    (fun t i => ∑ r : Fin 128, share m c (i 0) (i 1) (row t r)) (fun t h0 i => ?_) (fun t h0 i => ?_) (le_of_eq N_0) last rfl i).trans ?_
  · obtain ⟨o, n, rfl⟩ : ∃ (o : Fin 8) (n : Fin 5632), i = ix2 o n := ⟨i 0, i 1, ValueIdx.eq_ix2 i⟩
    exact (acc_first m c t h0 o n).trans (congrArg (0 + ·) (added_rows m c t o n))
  · obtain ⟨o, n, rfl⟩ : ∃ (o : Fin 8) (n : Fin 5632), i = ix2 o n := ⟨i 0, i 1, ValueIdx.eq_ix2 i⟩
    exact (acc_next m c t h0 o n).trans (congrArg (_ + ·) (added_rows m c t o n))
  · exact (zero_add _).trans (sum_rows (share m c (i 0) (i 1)))

/-- A row's part of the gradient of the norm's weights. -/
def normShare (c : Dev nD) (o : Fin 8) (d : Fin 1024) (q : Fin 16384) : EReal :=
  if o.val = 0 then normedAt m c q d * (xs m c (ix2 q d) * scaleOf (fun n => xs m c (ix2 q n))) else 0

theorem normed_rows (c : Dev nD) (t : Fin cfg0.N) (o : Fin 8) (d : Fin 1024) :
    (if o.val = 0 then addedNorm m c t d else 0) = ∑ r : Fin 128, normShare m c o d (row t r) := by
  unfold addedNorm normShare
  by_cases h : o.val = 0
  · simp only [if_pos h, normed_row, read6]
  · simp only [if_neg h, Finset.sum_const_zero]

theorem out13 (c : Dev nD) : (dats m 0 c).arrAt 13 cfg0.N = fun i => ∑ q : Fin 16384, normShare m c (i 0) (i 1) q := by
  refine (dats m 0 c).arrAt_eq_of_after_last 13 last (by decide +kernel) _ fun i => ?_
  rw [after0_13]
  refine (Pipeline.eq_sum_fin_of_reset_step_apply_last (fun n h => (outsAt0 m c n h).2.2.2.2.1) 128 (fun _ => 0)
    (fun t i => ∑ r : Fin 128, normShare m c (i 0) (i 1) (row t r)) (fun t h0 i => ?_) (fun t h0 i => ?_) (le_of_eq N_0) last rfl i).trans ?_
  · obtain ⟨o, d, rfl⟩ : ∃ (o : Fin 8) (d : Fin 1024), i = ix2 o d := ⟨i 0, i 1, ValueIdx.eq_ix2 i⟩
    exact (norm_first m c t h0 o d).trans (congrArg (0 + ·) (normed_rows m c t o d))
  · obtain ⟨o, d, rfl⟩ : ∃ (o : Fin 8) (d : Fin 1024), i = ix2 o d := ⟨i 0, i 1, ValueIdx.eq_ix2 i⟩
    exact (norm_next m c t h0 o d).trans (congrArg (_ + ·) (normed_rows m c t o d))
  · exact (zero_add _).trans (sum_rows (normShare m c (i 0) (i 1)))

end Cert.FfnIdeal.Point

end
-- ==== Proof.FfnRefRead.lean ====
module

public import proofs.«01_k».proof.Proof.RmsMath
public import proofs.«01_k».proof.Proof.ConvReal
public import proofs.«01_k».proof.Proof.Gen.FfnRefIdeal.Read
public import Idealize.ShloMosaic.Lib.Pointwise

/-! # The reference's gradients of the channel mixer

  Each result, read at an entry: the gradient of the gated convolution's values, then what it leaves for the convolution's argument, its
  weights and bias, and the norm before it. -/

@[expose] public section

set_option maxRecDepth 16384

noncomputable section

namespace Cert.FfnRefIdeal.Point

open Cert.FfnRefIdeal Cert.FfnRefIdeal.Read Idealize.ShloMosaic Idealize.ShloMosaic.TcCoe Idealize.SL.Sem
open Cert.RowNorm Cert.Sigmoid
open Cert.ShortConv (siluGradRef)

variable (x0 : (⟨S16384x1024, .f32⟩ : BufTy).Contents (Elt Ideal)) (x1 : (⟨S1x1024, .f32⟩ : BufTy).Contents (Elt Ideal))
  (x2 : (⟨S1024x5632, .f32⟩ : BufTy).Contents (Elt Ideal)) (x3 : (⟨S3x5632, .f32⟩ : BufTy).Contents (Elt Ideal))
  (x4 : (⟨S1x5632, .f32⟩ : BufTy).Contents (Elt Ideal)) (x5 : (⟨S2816x1024, .f32⟩ : BufTy).Contents (Elt Ideal))
  (x6 : (⟨S16384x1024, .f32⟩ : BufTy).Contents (Elt Ideal))

/-- The convolution's argument and its values. -/
abbrev up : Fin 16384 → Fin 5632 → EReal := fun q n => val_main_v15 (F := Ideal) x0 x1 x2 (ix2 q n)
abbrev mixed : Fin 16384 → Fin 5632 → EReal := fun q n => val_main_v42 (F := Ideal) x0 x1 x2 x3 x4 (ix2 q n)

/-- The cotangent of the gated values. -/
def sent (q : Fin 16384) (k : Fin 2816) : EReal := ∑ d : Fin 1024, x6 (ix2 q d) * x5 (ix2 k d)

/-- The gradient of a value of the convolution, as the reference computes it. -/
def gateGradRef (a : Fin 2816 → EReal) (u : Fin 5632 → EReal) (n : Fin 5632) : EReal :=
  if h : n.val < 2816 then siluGradRef (u n) (a ⟨n.val, h⟩ * u ⟨n.val + 2816, by omega⟩)
  else u ⟨n.val - 2816, by omega⟩ * sigmoid (u ⟨n.val - 2816, by omega⟩) * a ⟨n.val - 2816, by omega⟩

/-- The gradient of the convolution's values. -/
def gateOut (q : Fin 16384) (n : Fin 5632) : EReal := gateGradRef (sent x5 x6 q) (mixed x0 x1 x2 x3 x4 q) n

theorem one_word : Ideal.ofBits .f32 0x3F800000#32 = (1 : EReal) := by
  simp [Ideal.ofBits, Ideal.ieee, -EReal.coe_mul]
  norm_num

theorem sent_at (q : Fin 16384) (k : Fin 2816) : val_main_v48 (F := Ideal) x5 x6 (ix2 q k) = sent x5 x6 q k := by
  unfold sent
  pointwise [val_main_v48]

theorem gate_at (q : Fin 16384) (k : Fin 2816) : val_main_v43 (F := Ideal) x0 x1 x2 x3 x4 (ix2 q k) = mixed x0 x1 x2 x3 x4 q ⟨k.val, by omega⟩ := by
  pointwise [val_main_v43]

theorem value_at (q : Fin 16384) (k : Fin 2816) :
    val_main_v45 (F := Ideal) x0 x1 x2 x3 x4 (ix2 q k) = mixed x0 x1 x2 x3 x4 q ⟨k.val + 2816, by omega⟩ := by
  pointwise [val_main_v45]
  exact congrArg (fun n => val_main_v42 (F := Ideal) x0 x1 x2 x3 x4 (ix2 q n)) (Fin.ext (Nat.add_comm _ _))

theorem sigmoid_at (q : Fin 16384) (k : Fin 2816) :
    val_main_v44_2 (F := Ideal) x0 x1 x2 x3 x4 (ix2 q k) = sigmoid (mixed x0 x1 x2 x3 x4 q ⟨k.val, by omega⟩) := by
  rw [← gate_at]
  pointwise [val_main_call0_v0, val_main_call0_v1, val_main_call0_cst, val_main_call0_v2, val_main_call0_v3, val_main_call0_cst_0,
    val_main_call0_v4, val_main_v44_2]
  rfl

theorem slope_at (q : Fin 16384) (k : Fin 2816) : val_main_v44_1 (F := Ideal) x0 x1 x2 x3 x4 (ix2 q k)
    = sigmoid (mixed x0 x1 x2 x3 x4 q ⟨k.val, by omega⟩) * (1 - sigmoid (mixed x0 x1 x2 x3 x4 q ⟨k.val, by omega⟩)) := by
  pointwise [val_main_v44_1, val_main_call0_v7, val_main_call0_v6, val_main_call0_cst_1]
  rw [sigmoid_at]

theorem gateOut_at (q : Fin 16384) (n : Fin 5632) : val_main_v54 (F := Ideal) x0 x1 x2 x3 x4 x5 x6 (ix2 q n) = gateOut x0 x1 x2 x3 x4 x5 x6 q n := by
  unfold gateOut gateGradRef siluGradRef
  pointwise [val_main_v49, val_main_v50, val_main_v51, val_main_v52, val_main_v53, val_main_v54, val_main_cst_10, val_main_cst_11,
    val_main_call1_v0, val_main_call1_v1, val_main_call1_v2, val_main_v44_0]
  simp only [gate_at, value_at, sigmoid_at, slope_at, sent_at]
  by_cases h : n.val < 2816
  · rw [dif_pos h, dif_pos h, dif_neg (by omega), zero_add]
  · rw [dif_neg h, dif_neg h, dif_pos (by omega), add_zero]

/-- The same, zero after the arrays' end. -/
def gateOutAt (j : Nat) (n : Fin 5632) : EReal := if h : j < 16384 then gateOut x0 x1 x2 x3 x4 x5 x6 ⟨j, h⟩ n else 0

theorem tap (a : EReal) (j : Nat) (n : Fin 5632) {P : Prop} [Decidable P] (f : P → EReal) (hP : P ↔ j < 16384)
    (hf : ∀ h : P, f h = a * gateOut x0 x1 x2 x3 x4 x5 x6 ⟨j, hP.mp h⟩ n) :
    (if h : P then f h else 0) = a * gateOutAt x0 x1 x2 x3 x4 x5 x6 j n := by
  unfold gateOutAt
  by_cases h : P
  · rw [dif_pos h, dif_pos (hP.mp h), hf]
  · rw [dif_neg h, dif_neg (fun e => h (hP.mpr e)), mul_zero]

/-- The gradient of the convolution's argument. -/
def argOut (q : Fin 16384) (n : Fin 5632) : EReal := x3 (ix2 2 n) * gateOut x0 x1 x2 x3 x4 x5 x6 q n
  + x3 (ix2 1 n) * gateOutAt x0 x1 x2 x3 x4 x5 x6 (q.val + 1) n + x3 (ix2 0 n) * gateOutAt x0 x1 x2 x3 x4 x5 x6 (q.val + 2) n

theorem argOut_at (q : Fin 16384) (n : Fin 5632) : val_main_v85 (F := Ideal) x0 x1 x2 x3 x4 x5 x6 (ix2 q n) = argOut x0 x1 x2 x3 x4 x5 x6 q n := by
  unfold argOut
  pointwise [val_main_v16, val_main_v25, val_main_v33, val_main_v57, val_main_v58, val_main_v62, val_main_cst_14, val_main_v64,
    val_main_v66, val_main_v67, val_main_v71, val_main_cst_17, val_main_v73, val_main_v74,
    val_main_v77, val_main_v78, val_main_v82, val_main_cst_20, val_main_v84, val_main_v85]
  refine congrArg₂ (· + ·) (congrArg₂ (· + ·) ?_ ?_) ?_
  · rw [gateOut_at]
  · refine tap x0 x1 x2 x3 x4 x5 x6 _ (q.val + 1) n _ (by omega) fun h => ?_
    rw [gateOut_at]
    exact congrArg (fun r => _ * gateOut x0 x1 x2 x3 x4 x5 x6 r n) (Fin.ext (by show 2 + q.val - 1 = q.val + 1; omega))
  · refine tap x0 x1 x2 x3 x4 x5 x6 _ (q.val + 2) n _ (by omega) fun h => ?_
    rw [gateOut_at]
    exact congrArg (fun r => _ * gateOut x0 x1 x2 x3 x4 x5 x6 r n) (Fin.ext (by show 2 + q.val = q.val + 2; omega))

theorem result0_at (q : Fin 16384) (n : Fin 5632) : val_main_v109 (F := Ideal) x0 x1 x2 x3 x4 x5 x6 (ix2 q n) = argOut x0 x1 x2 x3 x4 x5 x6 q n :=
  argOut_at x0 x1 x2 x3 x4 x5 x6 q n

/-- The convolution's argument as weight `o` sees it from row `q`: rows before the first are zero. -/
def past (o : Nat) (q : Fin 16384) (n : Fin 5632) : EReal :=
  if h : 2 ≤ q.val + o ∧ q.val + o - 2 < 16384 then up x0 x1 x2 ⟨q.val + o - 2, h.2⟩ n else 0

theorem past_of (o : Nat) (q : Fin 16384) (n : Fin 5632) {P : Prop} [Decidable P] (f : ¬ P → EReal) (hP : P ↔ ¬ (2 ≤ q.val + o ∧ q.val + o - 2 < 16384))
    (hf : ∀ h : ¬ P, f h = up x0 x1 x2 ⟨q.val + o - 2, (not_not.mp fun e => h (hP.mpr e)).2⟩ n) : (if h : P then 0 else f h) = past x0 x1 x2 o q n := by
  unfold past
  by_cases h : P
  · rw [dif_pos h, dif_neg (hP.mp h)]
  · rw [dif_neg h, dif_pos (not_not.mp fun e => h (hP.mpr e)), hf]

theorem past0_at (q : Fin 16384) (n : Fin 5632) : val_main_v20 (F := Ideal) x0 x1 x2 (ix2 q n) = past x0 x1 x2 0 q n := by
  pointwise [val_main_cst_3, val_main_v17, val_main_v18, val_main_v20]
  refine past_of x0 x1 x2 0 q n _ (by omega) fun h => ?_
  exact congrArg (fun r => up x0 x1 x2 r n) (Fin.ext (by show q.val - 2 = q.val + 0 - 2; omega))

theorem past1_at (q : Fin 16384) (n : Fin 5632) : val_main_v29 (F := Ideal) x0 x1 x2 (ix2 q n) = past x0 x1 x2 1 q n := by
  pointwise [val_main_cst_6, val_main_v26, val_main_v27, val_main_v29]
  refine past_of x0 x1 x2 1 q n _ (by omega) fun h => ?_
  exact congrArg (fun r => up x0 x1 x2 r n) (Fin.ext (by show 1 + q.val - 2 = q.val + 1 - 2; omega))

theorem past2_at (q : Fin 16384) (n : Fin 5632) : val_main_v37 (F := Ideal) x0 x1 x2 (ix2 q n) = past x0 x1 x2 2 q n := by
  pointwise [val_main_cst_8, val_main_v34, val_main_v35, val_main_v37]
  unfold past
  rw [dif_pos (by omega)]
  rfl

/-- A weight's gradient, and the bias's. -/
def weightGrad (o : Nat) (n : Fin 5632) : EReal := ∑ q, gateOut x0 x1 x2 x3 x4 x5 x6 q n * past x0 x1 x2 o q n
def biasGrad (n : Fin 5632) : EReal := ∑ q, gateOut x0 x1 x2 x3 x4 x5 x6 q n

theorem pick (o : Nat) (s : Nat → EReal) (z b : EReal) :
    (if h : o < 4 then (if h : o < 3 then (((if h : 2 ≤ o ∧ o - 2 < 1 then s 2 else 0) + if h : 1 ≤ o ∧ o - 1 < 1 then s 1 else 0)
        + if h : o < 1 then s 0 else 0) else b) else z)
      = if o < 3 then s o else if o = 3 then b else z := by
  by_cases h : o < 4
  · interval_cases o <;> simp
  · rw [dif_neg h, if_neg (by omega), if_neg (by omega)]

theorem result1_at (o : Fin 8) (n : Fin 5632) : val_main_v112 (F := Ideal) x0 x1 x2 x3 x4 x5 x6 (ix2 o n)
    = if o.val < 3 then weightGrad x0 x1 x2 x3 x4 x5 x6 o.val n else if o.val = 3 then biasGrad x0 x1 x2 x3 x4 x5 x6 n else 0 := by
  pointwise [val_main_v55, val_main_cst_12, val_main_v56, val_main_v59, val_main_v60, val_main_cst_13, val_main_v61, val_main_v65, val_main_cst_15,
    val_main_v68, val_main_v69, val_main_cst_16, val_main_v70, val_main_v75, val_main_cst_18, val_main_v76,
    val_main_v79, val_main_v80, val_main_cst_19, val_main_v81, val_main_v86, val_main_cst_21, val_main_v87,
    val_main_v110, val_main_v111, val_main_cst_26, val_main_v112]
  simp only [gateOut_at, past0_at, past1_at, past2_at]
  exact pick o.val (fun p => weightGrad x0 x1 x2 x3 x4 x5 x6 p n) 0 (biasGrad x0 x1 x2 x3 x4 x5 x6 n)

/-- The cotangent of the normalised rows. -/
def hidden (q : Fin 16384) (d : Fin 1024) : EReal := ∑ k : Fin 5632, argOut x0 x1 x2 x3 x4 x5 x6 q k * x2 (ix2 d k)

/-- The gradient of a row, with the gradient that reaches it past the norm. -/
def rowTotal (q : Fin 16384) (d : Fin 1024) : EReal :=
  x6 (ix2 q d) + rowGradRef (fun n => x0 (ix2 q n)) (fun n => hidden x0 x1 x2 x3 x4 x5 x6 q n) (fun n => x1 (ix2 0 n)) d

/-- The gradient of a weight of the norm. -/
def weightTotal (d : Fin 1024) : EReal := ∑ q : Fin 16384, x0 (ix2 q d) * scaleOf (fun n => x0 (ix2 q n)) * hidden x0 x1 x2 x3 x4 x5 x6 q d

theorem hidden_at (q : Fin 16384) (d : Fin 1024) : val_main_v88 (F := Ideal) x0 x1 x2 x3 x4 x5 x6 (ix2 q d) = hidden x0 x1 x2 x3 x4 x5 x6 q d := by
  unfold hidden
  simp only [← argOut_at]
  pointwise [val_main_v88]

theorem scale_at (q : Fin 16384) : val_main_v7 (F := Ideal) x0 (ix2 q 0) = scaleOf (fun n => x0 (ix2 q n)) := by
  unfold scaleOf width small
  pointwise [val_main_v0, val_main_v1, val_main_cst, val_main_v2, val_main_cst_0, val_main_v3, val_main_v4, val_main_cst_1, val_main_v5, val_main_v6, val_main_v7]

theorem slopeOf_at (q : Fin 16384) : val_main_v101 (F := Ideal) x0 x1 x2 x3 x4 x5 x6 (ix2 q 0)
    = slopeOf (fun n => x0 (ix2 q n)) (fun n => hidden x0 x1 x2 x3 x4 x5 x6 q n) (fun n => x1 (ix2 0 n)) := by
  unfold slopeOf
  simp only [← hidden_at, ← scale_at]
  unfold width small
  pointwise [val_main_v0, val_main_v1, val_main_cst, val_main_v2, val_main_cst_0, val_main_v3, val_main_v4, val_main_cst_1, val_main_v5, val_main_v6, val_main_v8,
    val_main_cst_2, val_main_v9, val_main_v10, val_main_v92, val_main_v93, val_main_v94, val_main_cst_23, val_main_v95, val_main_v96, val_main_v99, val_main_cst_24,
    val_main_v100, val_main_v101]

theorem result2_at (q : Fin 16384) (d : Fin 1024) : val_main_v108 (F := Ideal) x0 x1 x2 x3 x4 x5 x6 (ix2 q d) = rowTotal x0 x1 x2 x3 x4 x5 x6 q d := by
  unfold rowTotal rowGradRef
  simp only [← slopeOf_at]
  simp only [← hidden_at, ← scale_at]
  pointwise [val_main_v92, val_main_v93, val_main_v97, val_main_v98, val_main_cst_25, val_main_v102, val_main_v103, val_main_v104, val_main_v105, val_main_v106,
    val_main_v107, val_main_v108]
  simp only [Fin.sum_univ_one]

theorem result3_at (q : Fin 16384) (d : Fin 1024) : val_main_v113 (F := Ideal) x0 x1 x2 x3 x4 x5 x6 (ix2 q d) = rowTotal x0 x1 x2 x3 x4 x5 x6 q d :=
  result2_at x0 x1 x2 x3 x4 x5 x6 q d

theorem weight_at (d : Fin 1024) : val_main_v91 (F := Ideal) x0 x1 x2 x3 x4 x5 x6 (ix2 0 d) = weightTotal x0 x1 x2 x3 x4 x5 x6 d := by
  unfold weightTotal
  simp only [← hidden_at, ← scale_at]
  pointwise [val_main_v11, val_main_v12, val_main_v89, val_main_cst_22, val_main_v90, val_main_v91]

theorem result4_at (o : Fin 8) (d : Fin 1024) : val_main_v115 (F := Ideal) x0 x1 x2 x3 x4 x5 x6 (ix2 o d)
    = if o.val = 0 then weightTotal x0 x1 x2 x3 x4 x5 x6 d else 0 := by
  unfold val_main_v115
  by_cases h : o.val = 0
  · rw [if_pos h]
    refine (concatenate_apply_piece 0 _ _ (ix2 o d) 0 (by simp) S1x1024 _ rfl rfl 0 rfl (ix2 0 d) ?_ (by simp [h])).trans (weight_at x0 x1 x2 x3 x4 x5 x6 d)
    intro b hb
    fin_cases b
    · exact absurd rfl hb
    · rfl
  · rw [if_neg h]
    refine (concatenate_apply_piece 0 _ _ (ix2 o d) 1 (by simp) S7x1024 _ rfl rfl 1 rfl (ix2 ⟨o.val - 1, by omega⟩ d) ?_ ?_).trans ?_
    · intro b hb
      fin_cases b
      · exact absurd rfl hb
      · rfl
    · show 1 + (o.val - 1) = o.val
      omega
    · pointwise [val_main_v114, val_main_cst_27]

end Cert.FfnRefIdeal.Point

end
-- ==== Proof.FfnReal.lean ====
module

public import proofs.«01_k».proof.Proof.FfnTile
public import proofs.«01_k».proof.Proof.FfnRefRead

/-! # The channel mixer over the reals

  The reference's intermediate arrays are real where its arguments are, and on reals both forms of the gates' gradient agree. -/

@[expose] public section

set_option maxRecDepth 16384

noncomputable section

namespace Cert.FfnRefIdeal.Point

open Cert.FfnRefIdeal Cert.FfnRefIdeal.Read Idealize.ShloMosaic Idealize.ShloMosaic.TcCoe Idealize.SL.Sem
open Cert.RowNorm Cert.Sigmoid Cert.Attention
open Cert.ShortConv (siluGradRef sigmoid_real silu_real siluGrad)

/-- A row's scale is real. -/
theorem scale_real (f : Fin 1024 → ℝ) : ∃ y : ℝ, scaleOf (fun n => (f n : EReal)) = (y : EReal) := by
  obtain ⟨e, he, hE⟩ := small_real
  have hs : 0 < (∑ n, f n * f n) / 1024 + e := add_pos_of_nonneg_of_pos (div_nonneg (Finset.sum_nonneg fun n _ => mul_self_nonneg _) (by norm_num)) he
  have h1024 : (1024 : ℝ) ≠ 0 := by norm_num
  refine ⟨(Real.sqrt ((∑ n, f n * f n) / 1024 + e))⁻¹, ?_⟩
  have hS : Ideal.div (∑ n, (f n : EReal) * (f n : EReal)) width + small = (((∑ n, f n * f n) / 1024 + e : ℝ) : EReal) := by
    rw [hE, width_real]
    simp only [← EReal.coe_mul, ← coe_sum]
    rw [div_real h1024, EReal.coe_add]
  unfold scaleOf
  rw [hS, Ideal.rsqrt_coe, if_neg hs.not_gt, if_neg hs.ne']

theorem sum_real {N : Nat} (f g : Fin N → EReal) (hf : ∀ n, ∃ y : ℝ, f n = (y : EReal)) (hg : ∀ n, ∃ y : ℝ, g n = (y : EReal)) :
    ∃ y : ℝ, ∑ n, f n * g n = (y : EReal) := by
  choose a ha using hf
  choose b hb using hg
  refine ⟨∑ n, a n * b n, ?_⟩
  simp only [ha, hb, ← EReal.coe_mul, ← coe_sum]

theorem mul_real {a b : EReal} (ha : ∃ y : ℝ, a = (y : EReal)) (hb : ∃ y : ℝ, b = (y : EReal)) : ∃ y : ℝ, a * b = (y : EReal) := by
  obtain ⟨x, rfl⟩ := ha
  obtain ⟨y, rfl⟩ := hb
  exact ⟨x * y, (EReal.coe_mul x y).symm⟩

theorem add_real {a b : EReal} (ha : ∃ y : ℝ, a = (y : EReal)) (hb : ∃ y : ℝ, b = (y : EReal)) : ∃ y : ℝ, a + b = (y : EReal) := by
  obtain ⟨x, rfl⟩ := ha
  obtain ⟨y, rfl⟩ := hb
  exact ⟨x + y, (EReal.coe_add x y).symm⟩

/-- The kernel's form of the gates' gradient, and the reference's. -/
theorem gateGrad_real (a : Fin 2816 → EReal) (u : Fin 5632 → EReal) (ha : ∀ n, ∃ y : ℝ, a n = (y : EReal)) (hu : ∀ n, ∃ y : ℝ, u n = (y : EReal))
    (n : Fin 5632) : Cert.FfnIdeal.Point.gateGrad a u n = gateGradRef a u n := by
  choose a' ha using ha
  choose u' hu using hu
  unfold Cert.FfnIdeal.Point.gateGrad gateGradRef
  by_cases h : n.val < 2816
  · rw [dif_pos h, dif_pos h, ← mul_assoc]
    simp only [ha, hu, ← EReal.coe_mul]
    exact silu_real _ _
  · rw [dif_neg h, dif_neg h, mul_comm]

theorem gateGradRef_real (a : Fin 2816 → EReal) (u : Fin 5632 → EReal) (ha : ∀ n, ∃ y : ℝ, a n = (y : EReal)) (hu : ∀ n, ∃ y : ℝ, u n = (y : EReal))
    (n : Fin 5632) : ∃ y : ℝ, gateGradRef a u n = (y : EReal) := by
  have hs : ∀ k, ∃ y : ℝ, sigmoid (u k) = (y : EReal) := fun k => by
    obtain ⟨y, hy⟩ := hu k
    exact ⟨_, hy ▸ sigmoid_real y⟩
  have h1 : ∀ k, ∃ y : ℝ, 1 - sigmoid (u k) = (y : EReal) := fun k => by
    obtain ⟨y, hy⟩ := hs k
    exact ⟨1 - y, by rw [hy, EReal.coe_sub, EReal.coe_one]⟩
  unfold gateGradRef
  by_cases h : n.val < 2816
  · rw [dif_pos h]
    exact add_real (mul_real (mul_real (ha _) (hu _)) (hs _)) (mul_real (mul_real (hu _) (mul_real (ha _) (hu _))) (mul_real (hs _) (h1 _)))
  · rw [dif_neg h]
    exact mul_real (mul_real (hu _) (hs _)) (ha _)

variable {x0 : (⟨S16384x1024, .f32⟩ : BufTy).Contents (Elt Ideal)} {x1 : (⟨S1x1024, .f32⟩ : BufTy).Contents (Elt Ideal)}
  {x2 : (⟨S1024x5632, .f32⟩ : BufTy).Contents (Elt Ideal)} {x3 : (⟨S3x5632, .f32⟩ : BufTy).Contents (Elt Ideal)}
  {x4 : (⟨S1x5632, .f32⟩ : BufTy).Contents (Elt Ideal)} {x5 : (⟨S2816x1024, .f32⟩ : BufTy).Contents (Elt Ideal)}
  {x6 : (⟨S16384x1024, .f32⟩ : BufTy).Contents (Elt Ideal)}
  (h0 : ∀ i, ∃ y : ℝ, x0 i = (y : EReal)) (h1 : ∀ i, ∃ y : ℝ, x1 i = (y : EReal)) (h2 : ∀ i, ∃ y : ℝ, x2 i = (y : EReal))
  (h3 : ∀ i, ∃ y : ℝ, x3 i = (y : EReal)) (h4 : ∀ i, ∃ y : ℝ, x4 i = (y : EReal)) (h5 : ∀ i, ∃ y : ℝ, x5 i = (y : EReal))
  (h6 : ∀ i, ∃ y : ℝ, x6 i = (y : EReal))

theorem mixed_at (q : Fin 16384) (n : Fin 5632) : mixed x0 x1 x2 x3 x4 q n = x3 (ix2 0 n) * past x0 x1 x2 0 q n + x3 (ix2 1 n) * past x0 x1 x2 1 q n
    + x3 (ix2 2 n) * past x0 x1 x2 2 q n + x4 (ix2 0 n) := by
  unfold mixed
  pointwise [val_main_v16, val_main_v21, val_main_v22, val_main_cst_5, val_main_v23, val_main_v24, val_main_v25, val_main_v30, val_main_v31, val_main_v32,
    val_main_v33, val_main_v38, val_main_v39, val_main_v40, val_main_v41, val_main_v42]
  rw [past0_at, past1_at, past2_at]

include h0 h1 h2

theorem up_real (q : Fin 16384) (n : Fin 5632) : ∃ y : ℝ, up x0 x1 x2 q n = (y : EReal) := by
  have e : up x0 x1 x2 q n = ∑ d : Fin 1024, (x0 (ix2 q d) * val_main_v7 (F := Ideal) x0 (ix2 q 0) * x1 (ix2 0 d)) * x2 (ix2 d n) := by
    unfold up
    pointwise [val_main_v15, val_main_v14, val_main_v13, val_main_v12, val_main_v11]
  rw [e, scale_at]
  have hs : ∃ y : ℝ, scaleOf (fun n => x0 (ix2 q n)) = (y : EReal) := by
    choose f hf using h0
    simp only [hf]
    exact scale_real _
  exact sum_real _ _ (fun d => mul_real (mul_real (h0 _) hs) (h1 _)) (fun d => h2 _)

theorem past_real (o : Nat) (q : Fin 16384) (n : Fin 5632) : ∃ y : ℝ, past x0 x1 x2 o q n = (y : EReal) := by
  unfold past
  split
  · exact up_real h0 h1 h2 _ _
  · exact ⟨0, rfl⟩

include h3 h4

theorem mixed_real (q : Fin 16384) (n : Fin 5632) : ∃ y : ℝ, mixed x0 x1 x2 x3 x4 q n = (y : EReal) := by
  rw [mixed_at]
  exact add_real (add_real (add_real (mul_real (h3 _) (past_real h0 h1 h2 _ _ _)) (mul_real (h3 _) (past_real h0 h1 h2 _ _ _)))
    (mul_real (h3 _) (past_real h0 h1 h2 _ _ _))) (h4 _)

include h5 h6

theorem gateOut_eq (q : Fin 16384) (n : Fin 5632) :
    Cert.FfnIdeal.Point.gateGrad (sent x5 x6 q) (mixed x0 x1 x2 x3 x4 q) n = gateOut x0 x1 x2 x3 x4 x5 x6 q n :=
  gateGrad_real _ _ (fun k => sum_real _ _ (fun d => h6 _) (fun d => h5 _)) (mixed_real h0 h1 h2 h3 h4 q) n

theorem gateOut_real (q : Fin 16384) (n : Fin 5632) : ∃ y : ℝ, gateOut x0 x1 x2 x3 x4 x5 x6 q n = (y : EReal) :=
  gateGradRef_real _ _ (fun k => sum_real _ _ (fun d => h6 _) (fun d => h5 _)) (mixed_real h0 h1 h2 h3 h4 q) n

theorem gateOutAt_real (j : Nat) (n : Fin 5632) : ∃ y : ℝ, gateOutAt x0 x1 x2 x3 x4 x5 x6 j n = (y : EReal) := by
  unfold gateOutAt
  split
  · exact gateOut_real h0 h1 h2 h3 h4 h5 h6 _ _
  · exact ⟨0, rfl⟩

theorem hidden_real (q : Fin 16384) (d : Fin 1024) : ∃ y : ℝ, hidden x0 x1 x2 x3 x4 x5 x6 q d = (y : EReal) :=
  sum_real _ _ (fun k => add_real (add_real (mul_real (h3 _) (gateOut_real h0 h1 h2 h3 h4 h5 h6 _ _)) (mul_real (h3 _) (gateOutAt_real h0 h1 h2 h3 h4 h5 h6 _ _)))
    (mul_real (h3 _) (gateOutAt_real h0 h1 h2 h3 h4 h5 h6 _ _))) (fun k => h2 _)

end Cert.FfnRefIdeal.Point

end
-- ==== Proof.FfnFinite.lean ====
module

public import proofs.«01_k».proof.Defs
public import proofs.«01_k».proof.Proof.AttFinite

/-! # The channel mixer's finite arguments are real

  The precondition, read at an index of each argument. -/

@[expose] public section

set_option maxRecDepth 16384

noncomputable section

namespace Cert.FfnFinite

open Idealize.ShloMosaic Cert.Pre_finite_ffn Cert.AttFinite

theorem pre_facts : Cert.Pre_finite_ffn.Facts := by constructor <;> decide

/-- Every entry of the seven arguments is a real number. -/
theorem real_entries (x0 : FVec Ideal S16384x1024 .f32) (x1 : FVec Ideal S1x1024 .f32) (x2 : FVec Ideal S1024x5632 .f32) (x3 : FVec Ideal S3x5632 .f32)
    (x4 : FVec Ideal S1x5632 .f32) (x5 : FVec Ideal S2816x1024 .f32) (x6 : FVec Ideal S16384x1024 .f32) (j)
    (h : @Cert.Pre_finite_ffn.fn pre_facts Ideal _ x0 x1 x2 x3 x4 x5 x6 j = 1#1) :
    (∀ i, ∃ y : ℝ, x0 i = (y : EReal)) ∧ (∀ i, ∃ y : ℝ, x1 i = (y : EReal)) ∧ (∀ i, ∃ y : ℝ, x2 i = (y : EReal)) ∧ (∀ i, ∃ y : ℝ, x3 i = (y : EReal))
      ∧ (∀ i, ∃ y : ℝ, x4 i = (y : EReal)) ∧ (∀ i, ∃ y : ℝ, x5 i = (y : EReal)) ∧ (∀ i, ∃ y : ℝ, x6 i = (y : EReal)) := by
  have : Subsingleton S_.Idx := ⟨fun a b => by funext i; exact i.elim0⟩
  unfold Cert.Pre_finite_ffn.fn Cert.Pre_finite_ffn.fn_part1 at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_lt _ (Host.reduce_andi_all _ _ _ _ j h0 i), fun i => real_of_lt _ (Host.reduce_andi_all _ _ _ _ j h1 i),
    fun i => real_of_lt _ (Host.reduce_andi_all _ _ _ _ j h2 i), fun i => real_of_lt _ (Host.reduce_andi_all _ _ _ _ j h3 i),
    fun i => real_of_lt _ (Host.reduce_andi_all _ _ _ _ j h4 i), fun i => real_of_lt _ (Host.reduce_andi_all _ _ _ _ j h5 i),
    fun i => real_of_lt _ (Host.reduce_andi_all _ _ _ _ j h6 i)⟩

end Cert.FfnFinite

end
-- ==== Proof.FfnEq.lean ====
module

public import proofs.«01_k».proof.Proof.FfnOut
public import proofs.«01_k».proof.Proof.FfnReal
public import proofs.«01_k».proof.Proof.FfnFinite
public import proofs.«01_k».proof.Proof.ConvRefReal
public import proofs.«01_k».proof.Proof.Gen.FfnIdeal.Value
public import proofs.«01_k».proof.Proof.Gen.FfnRefIdeal.Run

/-! # Kernel and reference agree: the channel mixer's gradients

  The call's arrays against the reference's, entry by entry. -/

@[expose] public section

set_option maxRecDepth 16384

noncomputable section

namespace Cert.FfnIdeal.Point

open Cert.FfnIdeal Cert.FfnIdeal.Gen Idealize.ShloMosaic Idealize.ShloMosaic.TcCoe Idealize.SL.Sem
open Idealize.ShloMosaic.Pipeline (Dat)
open Cert.RowNorm

open Cert.FfnRefIdeal.Read (val_main_v108 val_main_v108_eq val_main_v109 val_main_v109_eq val_main_v112 val_main_v112_eq val_main_v113 val_main_v113_eq
  val_main_v115 val_main_v115_eq)
open Cert.FfnRefIdeal.Point (up past gateOut gateOutAt argOut weightGrad biasGrad rowTotal weightTotal gateOut_eq hidden_real)

variable (m : (ℓ : Loc nD τ sig) → Buf (Elt Ideal) ℓ)

/-- Every argument's entries are real numbers. -/
structure Real (c : Dev nD) : Prop where
  h0 : ∀ i, ∃ y : ℝ, xs m c i = (y : EReal)
  h1 : ∀ i, ∃ y : ℝ, nw m c i = (y : EReal)
  h2 : ∀ i, ∃ y : ℝ, wu m c i = (y : EReal)
  h3 : ∀ i, ∃ y : ℝ, wc m c i = (y : EReal)
  h4 : ∀ i, ∃ y : ℝ, bc m c i = (y : EReal)
  h5 : ∀ i, ∃ y : ℝ, wd m c i = (y : EReal)
  h6 : ∀ i, ∃ y : ℝ, dx m c i = (y : EReal)

theorem real_of_pre (h : @Cert.Pre_FfnIdeal_finite_ffn Cert.FfnFinite.pre_facts m) (c : Dev nD) : Real m c := by
  obtain ⟨h0, h1, h2, h3, h4, h5, h6⟩ := Cert.FfnFinite.real_entries _ _ _ _ _ _ _ _ (congrFun (h c) (fun a => a.elim0))
  exact ⟨h0, h1, h2, h3, h4, h5, h6⟩

variable {m}

theorem gates_eq {c : Dev nD} (R : Real m c) (q : Fin 16384) (n : Fin 5632) :
    gatesAt m c q n = gateOut (xs m c) (nw m c) (wu m c) (wc m c) (bc m c) (wd m c) (dx m c) q n :=
  gateOut_eq R.h0 R.h1 R.h2 R.h3 R.h4 R.h5 R.h6 q n

theorem gatesOn_eq {c : Dev nD} (R : Real m c) (j : Nat) (n : Fin 5632) :
    gatesOn m c j n = gateOutAt (xs m c) (nw m c) (wu m c) (wc m c) (bc m c) (wd m c) (dx m c) j n := by
  unfold gatesOn gateOutAt
  by_cases h : j < 16384
  · rw [dif_pos h, dif_pos h, gates_eq R]
  · rw [dif_neg h, dif_neg h]

theorem args_eq {c : Dev nD} (R : Real m c) (q : Fin 16384) (n : Fin 5632) :
    argsAt m c q n = argOut (xs m c) (nw m c) (wu m c) (wc m c) (bc m c) (wd m c) (dx m c) q n := by
  unfold argsAt argOut
  rw [gatesOn_eq R, gatesOn_eq R, gates_eq R]
  abel

theorem normed_eq {c : Dev nD} (R : Real m c) (q : Fin 16384) (d : Fin 1024) :
    normedAt m c q d = Cert.FfnRefIdeal.Point.hidden (xs m c) (nw m c) (wu m c) (wc m c) (bc m c) (wd m c) (dx m c) q d := by
  unfold normedAt Cert.FfnRefIdeal.Point.hidden
  simp only [args_eq R]

theorem row_eq {c : Dev nD} (R : Real m c) (q : Fin 16384) (d : Fin 1024) :
    rowsAt m c q d = rowTotal (xs m c) (nw m c) (wu m c) (wc m c) (bc m c) (wd m c) (dx m c) q d := by
  unfold rowsAt rowTotal
  simp only [normed_eq R]
  choose f hf using R.h0
  choose w hw using R.h1
  choose h hh using hidden_real R.h0 R.h1 R.h2 R.h3 R.h4 R.h5 R.h6
  simp only [hh, hf, hw]
  rw [row_real]

theorem result0_eq {c : Dev nD} (R : Real m c) : (dats m 0 c).arrAt 9 cfg0.N
    = val_main_v109 (F := Ideal) (xs m c) (nw m c) (wu m c) (wc m c) (bc m c) (wd m c) (dx m c) := by
  rw [out9 m c]
  funext i
  obtain ⟨r, n, rfl⟩ : ∃ (r : Fin 16384) (n : Fin 5632), i = ix2 r n := ⟨i 0, i 1, ValueIdx.eq_ix2 i⟩
  exact (args_eq R r n).trans (Cert.FfnRefIdeal.Point.result0_at _ _ _ _ _ _ _ r n).symm

/-- The convolution's argument at a row, zero past the end. -/
def upAt (c : Dev nD) (n : Fin 5632) (j : Nat) : EReal := if h : j < 16384 then upOf m c ⟨j, h⟩ n else 0

theorem result1_eq {c : Dev nD} (R : Real m c) : (dats m 0 c).arrAt 10 cfg0.N
    = val_main_v112 (F := Ideal) (xs m c) (nw m c) (wu m c) (wc m c) (bc m c) (wd m c) (dx m c) := by
  rw [out10 m c]
  funext i
  obtain ⟨o, n, rfl⟩ : ∃ (o : Fin 8) (n : Fin 5632), i = ix2 o n := ⟨i 0, i 1, ValueIdx.eq_ix2 i⟩
  refine Eq.trans ?_ (Cert.FfnRefIdeal.Point.result1_at _ _ _ _ _ _ _ o n).symm
  show ∑ q : Fin 16384, share m c o n q = _
  unfold share
  by_cases h3 : o.val < 3
  · simp only [if_pos h3, gatesOn_eq R]
    have e := Cert.ConvRefIdeal.Point.shifted 16384 (2 - o.val) (by omega)
      (fun j => gateOutAt (xs m c) (nw m c) (wu m c) (wc m c) (bc m c) (wd m c) (dx m c) j n) (upAt (m := m) c n) (fun j hj => dif_neg (by omega))
    refine Eq.trans ?_ (e.trans ?_)
    · refine Finset.sum_congr rfl fun r _ => ?_
      exact congrArg (_ * ·) (by unfold upAt; rw [dif_pos r.isLt])
    · refine Finset.sum_congr rfl fun x _ => ?_
      have hx := x.isLt
      unfold past
      by_cases h : 2 - o.val ≤ x.val
      · rw [if_pos h, dif_pos (by omega)]
        refine congrArg₂ (· * ·) (dif_pos hx) ((dif_pos (by omega)).trans ?_)
        refine congrArg (fun r => upOf m c r n) (Fin.ext ?_)
        show x.val - (2 - o.val) = x.val + o.val - 2
        omega
      · rw [if_neg h, dif_neg (by omega), mul_zero]
  · by_cases h : o.val = 3
    · simp only [if_neg h3, if_pos h, gates_eq R]
      rfl
    · simp only [if_neg h3, if_neg h, Finset.sum_const_zero]

theorem result2_eq {c : Dev nD} (R : Real m c) : (dats m 0 c).arrAt 11 cfg0.N
    = val_main_v108 (F := Ideal) (xs m c) (nw m c) (wu m c) (wc m c) (bc m c) (wd m c) (dx m c) := by
  rw [out11 m c]
  funext i
  obtain ⟨r, d, rfl⟩ : ∃ (r : Fin 16384) (d : Fin 1024), i = ix2 r d := ⟨i 0, i 1, ValueIdx.eq_ix2 i⟩
  exact (row_eq R r d).trans (Cert.FfnRefIdeal.Point.result2_at _ _ _ _ _ _ _ r d).symm

theorem result3_eq {c : Dev nD} (R : Real m c) : (dats m 0 c).arrAt 12 cfg0.N
    = val_main_v113 (F := Ideal) (xs m c) (nw m c) (wu m c) (wc m c) (bc m c) (wd m c) (dx m c) := by
  rw [out12 m c]
  funext i
  obtain ⟨r, d, rfl⟩ : ∃ (r : Fin 16384) (d : Fin 1024), i = ix2 r d := ⟨i 0, i 1, ValueIdx.eq_ix2 i⟩
  exact (row_eq R r d).trans (Cert.FfnRefIdeal.Point.result3_at _ _ _ _ _ _ _ r d).symm

theorem result4_eq {c : Dev nD} (R : Real m c) : (dats m 0 c).arrAt 13 cfg0.N
    = val_main_v115 (F := Ideal) (xs m c) (nw m c) (wu m c) (wc m c) (bc m c) (wd m c) (dx m c) := by
  rw [out13 m c]
  funext i
  obtain ⟨o, d, rfl⟩ : ∃ (o : Fin 8) (d : Fin 1024), i = ix2 o d := ⟨i 0, i 1, ValueIdx.eq_ix2 i⟩
  refine Eq.trans ?_ (Cert.FfnRefIdeal.Point.result4_at _ _ _ _ _ _ _ o d).symm
  show ∑ q : Fin 16384, normShare m c o d q = _
  unfold normShare weightTotal
  by_cases h : o.val = 0
  · simp only [if_pos h, normed_eq R]
    exact Finset.sum_congr rfl fun q _ => mul_comm _ _
  · simp only [if_neg h, Finset.sum_const_zero]

set_option maxHeartbeats 2000000 in
/-- The kernel computes the reference's gradients of the convolution's argument, weights and bias, of the rows, twice, and of the norm's
weights, from memories that agree on finite arguments. -/
theorem agree : @Cert.algebraic_FfnIdeal_FfnRefIdeal_pre_finite_ffn Cert.FfnIdeal.Gen.facts Cert.FfnRefIdeal.Gen.facts Cert.FfnFinite.pre_facts := by
  intro m g m' g' hpre hargs
  refine ⟨fun c => (dats m 0 c).arrAt 9 cfg0.N, fun c => (dats m 0 c).arrAt 10 cfg0.N, fun c => (dats m 0 c).arrAt 11 cfg0.N,
    fun c => (dats m 0 c).arrAt 12 cfg0.N, fun c => (dats m 0 c).arrAt 13 cfg0.N, ?_, ?_⟩
  · exact (θ_run _ _ _).mono (fun r h c => h c) (Cert.FfnIdeal.Value.run_blocks (F := Ideal) m g)
  · refine (θ_run _ _ _).mono (fun r h c => ?_) (Cert.FfnRefIdeal.Value.run (F := Ideal) m' g')
    obtain ⟨h0, h1, h2, h3, h4, hk⟩ := h c
    obtain ⟨a0, a1, a2, a3, a4, a5, a6⟩ := hargs c
    have R := real_of_pre m hpre c
    have same : ∀ {T : Type} (v : (⟨S16384x1024, .f32⟩ : BufTy).Contents (Elt Ideal) → (⟨S1x1024, .f32⟩ : BufTy).Contents (Elt Ideal)
        → (⟨S1024x5632, .f32⟩ : BufTy).Contents (Elt Ideal) → (⟨S3x5632, .f32⟩ : BufTy).Contents (Elt Ideal)
        → (⟨S1x5632, .f32⟩ : BufTy).Contents (Elt Ideal) → (⟨S2816x1024, .f32⟩ : BufTy).Contents (Elt Ideal)
        → (⟨S16384x1024, .f32⟩ : BufTy).Contents (Elt Ideal) → T),
        v (m' (c.tc.loc Cert.FfnRefIdeal.main_arg0)) (m' (c.tc.loc Cert.FfnRefIdeal.main_arg1)) (m' (c.tc.loc Cert.FfnRefIdeal.main_arg2))
          (m' (c.tc.loc Cert.FfnRefIdeal.main_arg3)) (m' (c.tc.loc Cert.FfnRefIdeal.main_arg4)) (m' (c.tc.loc Cert.FfnRefIdeal.main_arg5))
          (m' (c.tc.loc Cert.FfnRefIdeal.main_arg6)) = v (xs m c) (nw m c) (wu m c) (wc m c) (bc m c) (wd m c) (dx m c) := by
      intro T v
      rw [a0, a1, a2, a3, a4, a5, a6]
    refine ⟨(h0.trans (val_main_v109_eq _)).trans ?_, (h1.trans (val_main_v112_eq _)).trans ?_, (h2.trans (val_main_v108_eq _)).trans ?_,
      (h3.trans (val_main_v113_eq _)).trans ?_, (h4.trans (val_main_v115_eq _)).trans ?_, hk⟩
    · exact (same (val_main_v109 (F := Ideal))).trans (result0_eq R).symm
    · exact (same (val_main_v112 (F := Ideal))).trans (result1_eq R).symm
    · exact (same (val_main_v108 (F := Ideal))).trans (result2_eq R).symm
    · exact (same (val_main_v113 (F := Ideal))).trans (result3_eq R).symm
    · exact (same (val_main_v115 (F := Ideal))).trans (result4_eq R).symm

end Cert.FfnIdeal.Point

end
-- ==== Proof.LossRefRead.lean ====
module

public import proofs.«01_k».proof.Proof.FfnReal
public import proofs.«01_k».proof.Proof.Gen.LossRefIdeal.Read
public import Idealize.ShloMosaic.Lib.Pointwise

/-! # The reference's loss and last norm's gradient

  Each result, read at an entry. The convolution's values are those of the channel mixer's reference. -/

@[expose] public section

set_option maxRecDepth 16384

noncomputable section

namespace Cert.LossRefIdeal.Point

open Cert.LossRefIdeal Cert.LossRefIdeal.Read Idealize.ShloMosaic Idealize.ShloMosaic.TcCoe Idealize.SL.Sem
open Cert.RowNorm Cert.Sigmoid
open Cert.FfnRefIdeal.Point (mixed)

variable (x0 : (⟨S16384x1024, .f32⟩ : BufTy).Contents (Elt Ideal)) (x1 : (⟨S1x1024, .f32⟩ : BufTy).Contents (Elt Ideal))
  (x2 : (⟨S1024x5632, .f32⟩ : BufTy).Contents (Elt Ideal)) (x3 : (⟨S3x5632, .f32⟩ : BufTy).Contents (Elt Ideal))
  (x4 : (⟨S1x5632, .f32⟩ : BufTy).Contents (Elt Ideal)) (x5 : (⟨S2816x1024, .f32⟩ : BufTy).Contents (Elt Ideal))
  (x6 : (⟨S1x1024, .f32⟩ : BufTy).Contents (Elt Ideal)) (x7 : (⟨S16384x1024, .f32⟩ : BufTy).Contents (Elt Ideal))

/-- The gated values: the first half of `u` gates the second. -/
def gated (u : Fin 5632 → EReal) (k : Fin 2816) : EReal := u ⟨k.val, by omega⟩ * sigmoid (u ⟨k.val, by omega⟩) * u ⟨k.val + 2816, by omega⟩

/-- The channel mixer's rows. -/
def out (q : Fin 16384) (d : Fin 1024) : EReal := x0 (ix2 q d) + ∑ k : Fin 2816, gated (mixed x0 x1 x2 x3 x4 q) k * x5 (ix2 k d)

/-- A row's error: the normed row `f`, weighted by `w`, less the target `g`. -/
def errOf (f w g : Fin 1024 → EReal) (d : Fin 1024) : EReal := f d * scaleOf f * w d - g d

/-- The error of a row of the channel mixer. -/
def err (q : Fin 16384) (d : Fin 1024) : EReal := errOf (out x0 x1 x2 x3 x4 x5 q) (fun d => x6 (ix2 0 d)) (fun d => x7 (ix2 q d)) d

/-- One half. -/
def half : EReal := Ideal.ofBits .f32 0x3F000000#32

/-- The cotangent of a normed row's entry, from the error there. -/
def cot (e : EReal) : EReal := Ideal.div (half * Ideal.ofBits .f32 0x3F800000#32) width * (Ideal.ofBits .f32 0x40000000#32 * e)

/-- A row's mean square error. -/
def meanSquare (e : Fin 1024 → EReal) : EReal := Ideal.div (∑ d, e d * e d) width

theorem mixed_at (q : Fin 16384) (n : Fin 5632) : val_main_v36 (F := Ideal) x0 x1 x2 x3 x4 (ix2 q n) = mixed x0 x1 x2 x3 x4 q n := rfl

theorem gate_at (q : Fin 16384) (k : Fin 2816) : val_main_v37 (F := Ideal) x0 x1 x2 x3 x4 (ix2 q k) = mixed x0 x1 x2 x3 x4 q ⟨k.val, by omega⟩ := by
  rw [← mixed_at]
  pointwise [val_main_v37]

theorem value_at (q : Fin 16384) (k : Fin 2816) :
    val_main_v39 (F := Ideal) x0 x1 x2 x3 x4 (ix2 q k) = mixed x0 x1 x2 x3 x4 q ⟨k.val + 2816, by omega⟩ := by
  rw [← mixed_at]
  pointwise [val_main_v39]
  exact congrArg (fun n => val_main_v36 (F := Ideal) x0 x1 x2 x3 x4 (ix2 q n)) (Fin.ext (Nat.add_comm _ _))

theorem sigmoid_at (q : Fin 16384) (k : Fin 2816) :
    val_main_call0_v5 (F := Ideal) x0 x1 x2 x3 x4 (ix2 q k) = sigmoid (mixed x0 x1 x2 x3 x4 q ⟨k.val, by omega⟩) := by
  rw [← gate_at]
  pointwise [val_main_call0_v0, val_main_call0_v1, val_main_call0_cst, val_main_call0_v2, val_main_call0_v3, val_main_call0_cst_0,
    val_main_call0_v4, val_main_call0_v5]
  rfl

theorem gated_at (q : Fin 16384) (k : Fin 2816) :
    val_main_v40 (F := Ideal) x0 x1 x2 x3 x4 (ix2 q k) = gated (mixed x0 x1 x2 x3 x4 q) k := by
  unfold gated
  rw [← sigmoid_at, ← gate_at, ← value_at]
  pointwise [val_main_v38, val_main_v40]

theorem out_at (q : Fin 16384) (d : Fin 1024) : val_main_v42 (F := Ideal) x0 x1 x2 x3 x4 x5 (ix2 q d) = out x0 x1 x2 x3 x4 x5 q d := by
  unfold out
  simp only [← gated_at]
  pointwise [val_main_v41, val_main_v42]

theorem scale_at (q : Fin 16384) : val_main_v50 (F := Ideal) x0 x1 x2 x3 x4 x5 (ix2 q 0) = scaleOf (out x0 x1 x2 x3 x4 x5 q) := by
  unfold scaleOf width small
  simp only [← out_at]
  pointwise [val_main_v43, val_main_v44, val_main_cst_6, val_main_v45, val_main_cst_7, val_main_v46, val_main_v47, val_main_cst_8, val_main_v48, val_main_v49,
    val_main_v50]

theorem err_at (q : Fin 16384) (d : Fin 1024) : val_main_v58 (F := Ideal) x0 x1 x2 x3 x4 x5 x6 x7 (ix2 q d) = err x0 x1 x2 x3 x4 x5 x6 x7 q d := by
  unfold err errOf
  rw [← scale_at, ← out_at]
  pointwise [val_main_v54, val_main_v55, val_main_v56, val_main_v57, val_main_v58]

theorem cot_at (q : Fin 16384) (d : Fin 1024) :
    val_main_v72 (F := Ideal) x0 x1 x2 x3 x4 x5 x6 x7 (ix2 q d) = cot (err x0 x1 x2 x3 x4 x5 x6 x7 q d) := by
  unfold cot width half
  rw [← err_at]
  pointwise [val_main_cst_10, val_main_v60, val_main_v61, val_main_cst_15, val_main_cst_16, val_main_v67, val_main_v68, val_main_cst_17, val_main_v69,
    val_main_v70, val_main_v71, val_main_v72]

/-- The gradient of a row. -/
def rowTotal (q : Fin 16384) (d : Fin 1024) : EReal :=
  rowGradRef (out x0 x1 x2 x3 x4 x5 q) (fun d => cot (err x0 x1 x2 x3 x4 x5 x6 x7 q d)) (fun d => x6 (ix2 0 d)) d

/-- The gradient of a weight of the norm. -/
def weightTotal (d : Fin 1024) : EReal :=
  ∑ q : Fin 16384, out x0 x1 x2 x3 x4 x5 q d * scaleOf (out x0 x1 x2 x3 x4 x5 q) * cot (err x0 x1 x2 x3 x4 x5 x6 x7 q d)

/-- The loss. -/
def loss : EReal := half * ∑ q : Fin 16384, meanSquare (err x0 x1 x2 x3 x4 x5 x6 x7 q)

theorem slope_at (q : Fin 16384) : val_main_v86 (F := Ideal) x0 x1 x2 x3 x4 x5 x6 x7 (ix1 q)
    = slopeOf (out x0 x1 x2 x3 x4 x5 q) (fun d => cot (err x0 x1 x2 x3 x4 x5 x6 x7 q d)) (fun d => x6 (ix2 0 d)) := by
  unfold slopeOf
  simp only [← cot_at, ← scale_at, ← out_at]
  unfold width small
  pointwise [val_main_v43, val_main_v44, val_main_cst_6, val_main_v45, val_main_cst_7, val_main_v46, val_main_v47, val_main_cst_8, val_main_v48, val_main_v49,
    val_main_v51, val_main_cst_9, val_main_v52, val_main_v53, val_main_v76, val_main_v77, val_main_v78, val_main_cst_19, val_main_v79, val_main_v80,
    val_main_v83, val_main_cst_20, val_main_v84, val_main_v85, val_main_cst_21, val_main_v86]
  simp only [Fin.sum_univ_one]

theorem result0_at (q : Fin 16384) (d : Fin 1024) : val_main_v91 (F := Ideal) x0 x1 x2 x3 x4 x5 x6 x7 (ix2 q d) = rowTotal x0 x1 x2 x3 x4 x5 x6 x7 q d := by
  unfold rowTotal rowGradRef
  simp only [← slope_at]
  simp only [← cot_at, ← scale_at, ← out_at]
  pointwise [val_main_v76, val_main_v77, val_main_v81, val_main_v82, val_main_v87, val_main_v88, val_main_v89, val_main_v90, val_main_v91]

theorem result1_at (q : Fin 16384) (d : Fin 1024) : val_main_v92 (F := Ideal) x0 x1 x2 x3 x4 x5 x6 x7 (ix2 q d) = rowTotal x0 x1 x2 x3 x4 x5 x6 x7 q d :=
  result0_at x0 x1 x2 x3 x4 x5 x6 x7 q d

theorem weight_at (d : Fin 1024) : val_main_v75 (F := Ideal) x0 x1 x2 x3 x4 x5 x6 x7 (ix2 0 d) = weightTotal x0 x1 x2 x3 x4 x5 x6 x7 d := by
  unfold weightTotal
  simp only [← cot_at, ← scale_at, ← out_at]
  pointwise [val_main_v54, val_main_v55, val_main_v73, val_main_cst_18, val_main_v74, val_main_v75]

theorem loss_at (d : Fin 1024) : val_main_v93 (F := Ideal) x0 x1 x2 x3 x4 x5 x6 x7 (ix2 0 d) = loss x0 x1 x2 x3 x4 x5 x6 x7 := by
  unfold loss meanSquare half width
  simp only [← err_at]
  pointwise [val_main_v59, val_main_cst_11, val_main_v62, val_main_cst_12, val_main_v63, val_main_v64, val_main_cst_13, val_main_v65, val_main_cst_14,
    val_main_v66, val_main_v93]

theorem result2_at (o : Fin 8) (d : Fin 1024) : val_main_v96 (F := Ideal) x0 x1 x2 x3 x4 x5 x6 x7 (ix2 o d)
    = if o.val = 0 then weightTotal x0 x1 x2 x3 x4 x5 x6 x7 d else if o.val = 1 then loss x0 x1 x2 x3 x4 x5 x6 x7 else 0 := by
  rw [← weight_at, ← loss_at _ _ _ _ _ _ _ _ d]
  pointwise [val_main_v94, val_main_cst_22, val_main_v95, val_main_v96]
  obtain ⟨o, h8⟩ := o
  by_cases h : o < 2
  · interval_cases o <;> simp
  · simp [h, show ¬ o = 0 by omega, show ¬ o = 1 by omega]

end Cert.LossRefIdeal.Point

end
-- ==== Proof.LossTile.lean ====
module

public import proofs.«01_k».proof.Proof.FfnSums
public import proofs.«01_k».proof.Proof.LossRefRead
public import proofs.«01_k».proof.Proof.Gen.LossIdeal.Value
public import Idealize.ShloMosaic.Lib.WritesUnit
public import Idealize.ShloMosaic.Lib.Pipeline.ReadBack

/-! # What a grid point of the loss writes

  The channel mixer's rows of one point, their error, and what it adds to the loss and to the last norm's gradient. -/

@[expose] public section

set_option maxRecDepth 16384

noncomputable section

namespace Cert.LossIdeal.Point

open Cert.LossIdeal Cert.LossIdeal.Gen Idealize.ShloMosaic Idealize.ShloMosaic.TcCoe Idealize.SL.Sem
open Idealize.ShloMosaic.Pipeline (Dat)
open Cert.RowNorm Cert.Sigmoid
open Cert.LossRefIdeal.Point (gated errOf half meanSquare)

/-- One over the row's width. -/
def share : EReal := Ideal.ofBits .f32 0x3A800000#32

theorem mixer_at (a : FVec Ideal S128x5632 .f32) (b : FVec Ideal S1x5632 .f32) (x : FVec Ideal S128x1024 .f32) (w : FVec Ideal S2816x1024 .bf16)
    (r : Fin 128) (d : Fin 1024) : k0_pay8 (F := Ideal) a b x w (ix2 r d)
      = x (ix2 r d) + ∑ k : Fin 2816, gated (fun n => a (ix2 r n) + b (ix2 0 n)) k * w (ix2 k d) := by
  unfold gated
  unfold_payloads
  pointwise [half_tanh]
  simp only [Nat.add_comm 2816]

variable (a : FVec Ideal S128x5632 .f32) (b : FVec Ideal S1x5632 .f32) (x : FVec Ideal S128x1024 .f32) (w : FVec Ideal S2816x1024 .bf16)
  (n g : FVec Ideal S1x1024 .f32) (y : FVec Ideal S128x1024 .f32)

theorem scale_at (r : Fin 128) : k0_pay9 (F := Ideal) a b x w (ix2 r 0) = scaleOf (fun d => k0_pay8 (F := Ideal) a b x w (ix2 r d)) := by
  unfold scaleOf width small
  unfold k0_pay9
  pointwise

theorem normal_at (r : Fin 128) (d : Fin 1024) : k0_pay10 (F := Ideal) a b x w (ix2 r d)
    = k0_pay8 (F := Ideal) a b x w (ix2 r d) * scaleOf (fun d => k0_pay8 (F := Ideal) a b x w (ix2 r d)) := by
  rw [← scale_at]
  unfold k0_pay10
  pointwise

theorem error_at (r : Fin 128) (d : Fin 1024) : k0_pay11 (F := Ideal) a b x w n y (ix2 r d)
    = errOf (fun d => k0_pay8 (F := Ideal) a b x w (ix2 r d)) (fun d => n (ix2 0 d)) (fun d => y (ix2 r d)) d := by
  unfold errOf
  rw [← normal_at]
  unfold k0_pay11
  pointwise

theorem grad_at (e : FVec Ideal S128x1024 .f32) (r : Fin 128) (d : Fin 1024) : k0_pay16 (F := Ideal) (k0_pay9 a b x w) (k0_pay10 a b x w) n e (ix2 r d)
    = rowGrad (fun d => k0_pay8 (F := Ideal) a b x w (ix2 r d)) (fun d => e (ix2 r d) * share) (fun d => n (ix2 0 d)) d := by
  unfold rowGrad share width
  simp only [← normal_at]
  rw [← scale_at]
  unfold k0_pay16 k0_pay13
  pointwise

theorem weight_at (e z : FVec Ideal S128x1024 .f32) (d : Fin 1024) :
    k0_pay14 (F := Ideal) z e g (ix2 0 d) = g (ix2 0 d) + ∑ r : Fin 128, e (ix2 r d) * share * z (ix2 r d) := by
  unfold share k0_pay14 k0_pay13
  pointwise

theorem loss_at (d : Fin 1024) : k0_pay15 (F := Ideal) (k0_pay12 a b x w n y) g (ix2 0 d)
    = g (ix2 0 d) + half * ∑ r : Fin 128, meanSquare (fun d => k0_pay11 (F := Ideal) a b x w n y (ix2 r d)) := by
  unfold half meanSquare width
  unfold k0_pay15 k0_pay12
  pointwise

/-- A row of the block, or of the eight rows before it. -/
def extended (z : FVec Ideal S8x5632 .f32) (x : Fin 128 → Fin 5632 → EReal) (j : Fin 136) (n : Fin 5632) : EReal :=
  if h : j.val < 8 then z (ix2 (⟨j.val, h⟩ : Fin 8) n) else x ⟨j.val - 8, by omega⟩ n

theorem taps_at (h : FVec Ideal S128x1024 .bf16) (u : FVec Ideal S1024x5632 .bf16) (z c : FVec Ideal S8x5632 .f32) (r : Fin 128) (n : Fin 5632) :
    k0_pay5 (F := Ideal) h u z c (ix2 r n) = c (ix2 0 n) * extended z (fun r n => ∑ d : Fin 1024, h (ix2 r d) * u (ix2 d n)) ⟨r.val + 6, by omega⟩ n
      + c (ix2 1 n) * extended z (fun r n => ∑ d : Fin 1024, h (ix2 r d) * u (ix2 d n)) ⟨r.val + 7, by omega⟩ n
      + c (ix2 2 n) * extended z (fun r n => ∑ d : Fin 1024, h (ix2 r d) * u (ix2 d n)) ⟨r.val + 8, by omega⟩ n := by
  have e2 : (r.val + 8 + 136 - 2) % 136 = r.val + 6 := by omega
  have e1 : (r.val + 8 + 136 - 1) % 136 = r.val + 7 := by omega
  have e0 : ¬ r.val + 8 < 8 := by omega
  unfold extended
  unfold_payloads
  pointwise
  simp only [Nat.add_comm 8, e1, e2, e0, dite_false, Nat.add_sub_cancel]

theorem kept_at (h : FVec Ideal S128x1024 .bf16) (u : FVec Ideal S1024x5632 .bf16) (o : Fin 8) (n : Fin 5632) :
    k0_pay4 (F := Ideal) h u (ix2 o n) = ∑ d : Fin 1024, h (ix2 (⟨120 + o.val, by omega⟩ : Fin 128) d) * u (ix2 d n) := by
  unfold_payloads
  pointwise

theorem round_at (v : FVec Ideal S128x1 .f32) (z e : FVec Ideal S128x1024 .f32) (i : S128x1024.Idx) :
    k0_pay17 (F := Ideal) v z n e i = k0_pay16 (F := Ideal) v z n e i := by
  unfold k0_pay17
  pointwise

end Cert.LossIdeal.Point

end
-- ==== Proof.LossSums.lean ====
module

public import proofs.«01_k».proof.Proof.LossTile

/-! # What a grid point of the loss writes, from its blocks

  The rows it carries to the next point, its rows' gradient, and the two rows it adds up. -/

@[expose] public section

set_option maxRecDepth 16384

noncomputable section

namespace Cert.LossIdeal.Point

open Cert.LossIdeal Cert.LossIdeal.Gen Idealize.ShloMosaic Idealize.ShloMosaic.TcCoe Idealize.SL.Sem
open Idealize.ShloMosaic.Pipeline (Dat)
open Cert.RowNorm
open Cert.FfnIdeal.Point (canon_off canon_on)
open Cert.LossRefIdeal.Point (gated errOf half meanSquare)

variable (m : (ℓ : Loc nD τ sig) → Buf (Elt Ideal) ℓ)

/-- A grid point's blocks, at their shapes: the normed rows, the first weights, the convolution's weights and bias, the second weights,
the rows, the targets and the last norm's weights. -/
abbrev hBlk (c : Dev nD) (t : Fin cfg0.N) : S128x1024.Idx → EReal := iblk m c 0 t
abbrev uBlk (c : Dev nD) (t : Fin cfg0.N) : S1024x5632.Idx → EReal := iblk m c 1 t
abbrev cBlk (c : Dev nD) (t : Fin cfg0.N) : S8x5632.Idx → EReal := iblk m c 2 t
abbrev bBlk (c : Dev nD) (t : Fin cfg0.N) : S1x5632.Idx → EReal := iblk m c 3 t
abbrev dBlk (c : Dev nD) (t : Fin cfg0.N) : S2816x1024.Idx → EReal := iblk m c 4 t
abbrev xBlk (c : Dev nD) (t : Fin cfg0.N) : S128x1024.Idx → EReal := iblk m c 5 t
abbrev gBlk (c : Dev nD) (t : Fin cfg0.N) : S128x1024.Idx → EReal := iblk m c 6 t
abbrev nBlk (c : Dev nD) (t : Fin cfg0.N) : S1x1024.Idx → EReal := iblk m c 7 t

/-- The convolution's argument in a point's rows. -/
def ups (c : Dev nD) (t : Fin cfg0.N) (r : Fin 128) (n : Fin 5632) : EReal := ∑ d : Fin 1024, hBlk m c t (ix2 r d) * uBlk m c t (ix2 d n)

/-- What a point finds of the point before it. -/
def found (c : Dev nD) (t : Fin cfg0.N) : S8x5632.Idx → EReal :=
  fun i => if t.val % 128 = 0 then 0 else (outsAt0 m c (t.val - 1) (by omega)).2.2.2.2.2.2 i

/-- The convolution's values, the channel mixer's rows and their error. -/
def mixes (c : Dev nD) (t : Fin cfg0.N) (r : Fin 128) (n : Fin 5632) : EReal :=
  cBlk m c t (ix2 0 n) * extended (found m c t) (ups m c t) ⟨r.val + 6, by omega⟩ n
    + cBlk m c t (ix2 1 n) * extended (found m c t) (ups m c t) ⟨r.val + 7, by omega⟩ n
    + cBlk m c t (ix2 2 n) * extended (found m c t) (ups m c t) ⟨r.val + 8, by omega⟩ n + bBlk m c t (ix2 0 n)
def outs (c : Dev nD) (t : Fin cfg0.N) (r : Fin 128) (d : Fin 1024) : EReal :=
  xBlk m c t (ix2 r d) + ∑ k : Fin 2816, gated (mixes m c t r) k * dBlk m c t (ix2 k d)
def errs (c : Dev nD) (t : Fin cfg0.N) (r : Fin 128) (d : Fin 1024) : EReal :=
  errOf (outs m c t r) (fun d => nBlk m c t (ix2 0 d)) (fun d => gBlk m c t (ix2 r d)) d

/-- The convolution, as a point computes it over the rows `z` before its own. -/
abbrev taps (c : Dev nD) (t : Fin cfg0.N) (z : FVec Ideal S8x5632 .f32) : FVec Ideal S128x5632 .f32 :=
  k0_pay5 (iblk m c 0 t) (iblk m c 1 t) z (iblk m c 2 t)

theorem outs_of (c : Dev nD) (t : Fin cfg0.N) (z : FVec Ideal S8x5632 .f32) (hz : z = found m c t) (r : Fin 128) (d : Fin 1024) :
    k0_pay8 (F := Ideal) (taps m c t z) (iblk m c 3 t) (iblk m c 5 t) (iblk m c 4 t) (ix2 r d) = outs m c t r d := by
  rw [mixer_at, hz]
  simp only [taps_at]
  rfl

theorem errs_of (c : Dev nD) (t : Fin cfg0.N) (z : FVec Ideal S8x5632 .f32) (hz : z = found m c t) (r : Fin 128) (d : Fin 1024) :
    k0_pay11 (F := Ideal) (taps m c t z) (iblk m c 3 t) (iblk m c 5 t) (iblk m c 4 t) (iblk m c 7 t) (iblk m c 6 t) (ix2 r d) = errs m c t r d := by
  rw [error_at]
  simp only [outs_of m c t z hz]
  rfl

/-- The gradient of the rows. -/
def rows (c : Dev nD) (t : Fin cfg0.N) (r : Fin 128) (d : Fin 1024) : EReal :=
  rowGrad (outs m c t r) (fun d => errs m c t r d * share) (fun d => nBlk m c t (ix2 0 d)) d

theorem rows_of (c : Dev nD) (t : Fin cfg0.N) (z : FVec Ideal S8x5632 .f32) (hz : z = found m c t) (r : Fin 128) (d : Fin 1024) :
    k0_pay16 (F := Ideal) (k0_pay9 (taps m c t z) (iblk m c 3 t) (iblk m c 5 t) (iblk m c 4 t))
      (k0_pay10 (taps m c t z) (iblk m c 3 t) (iblk m c 5 t) (iblk m c 4 t)) (iblk m c 7 t)
      (k0_pay11 (taps m c t z) (iblk m c 3 t) (iblk m c 5 t) (iblk m c 4 t) (iblk m c 7 t) (iblk m c 6 t)) (ix2 r d) = rows m c t r d := by
  rw [grad_at]
  simp only [outs_of m c t z hz, errs_of m c t z hz]
  rfl

theorem found_first (c : Dev nD) (t : Fin cfg0.N) (h0 : t.val % 128 = 0) : (k0_pay2 : FVec Ideal S8x5632 .f32) = found m c t := by
  funext i
  unfold found
  rw [if_pos h0]
  unfold k0_pay2
  pointwise

theorem found_next (c : Dev nD) (t : Fin cfg0.N) (h0 : ¬ t.val % 128 = 0) : (outsAt0 m c (t.val - 1) (by omega)).2.2.2.2.2.2 = found m c t := by
  funext i
  unfold found
  rw [if_neg h0]

theorem left_at (c : Dev nD) (t : Fin cfg0.N) (o : Fin 8) (n : Fin 5632) :
    (outsAt0 m c t.val t.isLt).2.2.2.2.2.2 (ix2 o n) = ups m c t ⟨120 + o.val, by omega⟩ n := by
  by_cases h0 : t.val % 128 = 0
  · rw [outsAt0_A m c t h0]
    frame_out
    exact kept_at _ _ o n
  · rw [outsAt0_B m c t h0]
    frame_out
    exact kept_at _ _ o n

theorem rows_at (c : Dev nD) (t : Fin cfg0.N) (r : Fin 128) (d : Fin 1024) : (outsAt0 m c t.val t.isLt).2.2.1 (ix2 r d) = rows m c t r d := by
  by_cases h0 : t.val % 128 = 0
  · rw [outsAt0_A m c t h0]
    frame_out
    exact rows_of m c t _ (found_first m c t h0) r d
  · rw [outsAt0_B m c t h0]
    frame_out
    refine rows_of m c t _ ?_ r d
    funext i
    rw [← found_next m c t h0, read_unread_whole]

theorem rounded_at (c : Dev nD) (t : Fin cfg0.N) (r : Fin 128) (d : Fin 1024) : (outsAt0 m c t.val t.isLt).2.2.2.1 (ix2 r d) = rows m c t r d := by
  by_cases h0 : t.val % 128 = 0
  · rw [outsAt0_A m c t h0]
    frame_out
    exact (round_at _ _ _ _ _).trans (rows_of m c t _ (found_first m c t h0) r d)
  · rw [outsAt0_B m c t h0]
    frame_out
    refine (round_at _ _ _ _ _).trans (rows_of m c t _ ?_ r d)
    funext i
    rw [← found_next m c t h0, read_unread_whole]

/-- What a point adds to the last norm's gradient (row 0) and to the loss (row 1). -/
def added (c : Dev nD) (t : Fin cfg0.N) (o : Fin 8) (d : Fin 1024) : EReal :=
  if o.val = 0 then ∑ r : Fin 128, errs m c t r d * share * (outs m c t r d * scaleOf (outs m c t r))
  else if o.val = 1 then half * ∑ r : Fin 128, meanSquare (errs m c t r) else 0

theorem add0 (c : Dev nD) (t : Fin cfg0.N) (z : FVec Ideal S8x5632 .f32) (hz : z = found m c t) (y : FVec Ideal S1x1024 .f32) (d : Fin 1024) :
    k0_pay14 (F := Ideal) (k0_pay10 (taps m c t z) (iblk m c 3 t) (iblk m c 5 t) (iblk m c 4 t))
      (k0_pay11 (taps m c t z) (iblk m c 3 t) (iblk m c 5 t) (iblk m c 4 t) (iblk m c 7 t) (iblk m c 6 t)) y (ix2 0 d)
      = y (ix2 0 d) + added m c t 0 d := by
  rw [weight_at]
  simp only [normal_at, outs_of m c t z hz, errs_of m c t z hz]
  rfl

theorem add1 (c : Dev nD) (t : Fin cfg0.N) (z : FVec Ideal S8x5632 .f32) (hz : z = found m c t) (y : FVec Ideal S1x1024 .f32) (d : Fin 1024) :
    k0_pay15 (F := Ideal) (k0_pay12 (taps m c t z) (iblk m c 3 t) (iblk m c 5 t) (iblk m c 4 t) (iblk m c 7 t) (iblk m c 6 t)) y (ix2 0 d)
      = y (ix2 0 d) + added m c t 1 d := by
  rw [loss_at]
  simp only [errs_of m c t z hz]
  rfl

theorem zero_fill (j : S8x1024.Idx) : k0_pay1 (F := Ideal) j = (0 : EReal) := by
  unfold k0_pay1
  pointwise

theorem canon_whole (w : S8x1024.Idx → Elt Ideal .f32) (j : S8x1024.Idx) :
    View.canon [(⟨Rect.unit ![0, 0] ![8, 1024] inb_S8x1024_S8x1024_0_0, w⟩ : View.Piece (Elt Ideal) S8x1024 .f32)] j = w j :=
  canon_on (s := S8x1024) inb_S8x1024_S8x1024_0_0 w [] j j (fun a => by fin_cases a <;> simp)

theorem loaded_at {s : Shape} {κ : Kind} {sp : Space} (v : View sig κ sp s .f32) (L : List (View.Piece (Elt Ideal) s .f32)) (B : LoadRect s) (j : B.shape.Idx) :
    v.readCov L B j = View.canon L (B.idx j) := congrFun (View.readCov_eq_canon' v L B) j

theorem sum_first (c : Dev nD) (t : Fin cfg0.N) (h0 : t.val % 128 = 0) (o : Fin 8) (d : Fin 1024) :
    (outsAt0 m c t.val t.isLt).2.2.2.2.2.1 (ix2 o d) = 0 + added m c t o d := by
  have hf := found_first m c t h0
  rw [outsAt0_A m c t h0]
  frame_out
  obtain ⟨o, h8⟩ := o
  by_cases ho : o < 2
  · interval_cases o
    all_goals
      repeat first
        | (refine (canon_off _ _ _ _ 0 ?_).trans ?_
           · solve | (clear * -; simp; done))
        | fail
      refine (canon_on _ _ _ _ (ix2 (0 : Fin 1) d) ?_).trans ?_
      · intro a; fin_cases a <;> simp
      first
        | (with_reducible show k0_pay14 _ _ _ _ = _
           refine (add0 m c t _ hf _ d).trans ?_)
        | (with_reducible show k0_pay15 _ _ _ = _
           refine (add1 m c t _ hf _ d).trans ?_)
        | fail
      refine congrArg (· + _) ((loaded_at _ _ _ _).trans ?_)
      refine (congrArg (View.canon _) (?_ : _ = ix2 (⟨_, h8⟩ : Fin 8) d)).trans ?_
      · funext a; fin_cases a <;> exact Fin.ext (by simp)
      repeat first
        | (refine (canon_off _ _ _ _ 0 ?_).trans ?_
           · solve | (clear * -; simp; done))
        | fail
      exact (canon_whole _ _).trans (zero_fill _)
  · have e : added m c t ⟨o, h8⟩ d = 0 := (if_neg (by show ¬ o = 0; omega)).trans (if_neg (by show ¬ o = 1; omega))
    rw [e, add_zero]
    repeat first
      | (refine (canon_off _ _ _ _ 0 ?_).trans ?_
         · solve | (clear * - ho; simp; omega))
      | fail
    exact (canon_whole _ _).trans (zero_fill _)

theorem sum_next (c : Dev nD) (t : Fin cfg0.N) (h0 : ¬ t.val % 128 = 0) (o : Fin 8) (d : Fin 1024) : (outsAt0 m c t.val t.isLt).2.2.2.2.2.1 (ix2 o d)
    = (outsAt0 m c (t.val - 1) (by omega)).2.2.2.2.2.1 (ix2 o d) + added m c t o d := by
  have hf := found_next m c t h0
  rw [outsAt0_B m c t h0]
  frame_out
  obtain ⟨o, h8⟩ := o
  by_cases ho : o < 2
  · interval_cases o
    all_goals
      repeat first
        | (refine (View.read_writes_cons_unit_of_not_mem _ _ _ _ _ _ rfl 0 ?_).trans ?_
           · solve | (clear * -; simp; done))
        | fail
      refine (View.read_writes_cons_unit_of_mem _ _ _ _ _ _ (ix2 (0 : Fin 1) d) rfl ?_).trans ?_
      · intro a; fin_cases a <;> simp
      try simp only [read_unread_whole]
      first
        | (with_reducible show k0_pay14 _ _ _ _ = _
           refine (add0 m c t _ hf _ d).trans ?_)
        | (with_reducible show k0_pay15 _ _ _ = _
           refine (add1 m c t _ hf _ d).trans ?_)
        | fail
      pointwise
  · have e : added m c t ⟨o, h8⟩ d = 0 := (if_neg (by show ¬ o = 0; omega)).trans (if_neg (by show ¬ o = 1; omega))
    rw [e, add_zero]
    repeat first
      | (refine (View.read_writes_cons_unit_of_not_mem _ _ _ _ _ _ rfl 0 ?_).trans ?_
         · solve | (clear * - ho; simp; omega))
      | fail
    rw [View.writes_nil]
    exact congrFun ((hs0_13 t).read_unread _) _

end Cert.LossIdeal.Point

end
-- ==== Proof.LossReads.lean ====
module

public import proofs.«01_k».proof.Proof.LossSums
public import Idealize.ShloMosaic.Lib.StableHlo.RunRead

/-! # What the loss's kernel reads

  Grid point `t` reads the rows from `128 t` on. -/

@[expose] public section

set_option maxRecDepth 16384

noncomputable section

namespace Cert.LossIdeal.Point

open Cert.LossIdeal Cert.LossIdeal.Gen Idealize.ShloMosaic Idealize.ShloMosaic.TcCoe Idealize.SL.Sem
open Idealize.ShloMosaic.Pipeline (Dat)
open Cert.RowNorm
open Cert.LossRefIdeal.Read (val_main_v11)

variable (m : (ℓ : Loc nD τ sig) → Buf (Elt Ideal) ℓ)

/-- The row of the whole array that is row `r` of grid point `t`'s blocks. -/
def row (t : Fin cfg0.N) (r : Fin 128) : Fin 16384 := ⟨128 * t.val + r.val, by have h : t.val < 128 := t.isLt; have := r.isLt; omega⟩

/-- The arguments, at their shapes. -/
abbrev xs (c : Dev nD) : (⟨S16384x1024, .f32⟩ : BufTy).Contents (Elt Ideal) := m ((c : Thread nD τ).loc main_arg0)
abbrev nw (c : Dev nD) : (⟨S1x1024, .f32⟩ : BufTy).Contents (Elt Ideal) := m ((c : Thread nD τ).loc main_arg1)
abbrev wu (c : Dev nD) : (⟨S1024x5632, .f32⟩ : BufTy).Contents (Elt Ideal) := m ((c : Thread nD τ).loc main_arg2)
abbrev wc (c : Dev nD) : (⟨S3x5632, .f32⟩ : BufTy).Contents (Elt Ideal) := m ((c : Thread nD τ).loc main_arg3)
abbrev bc (c : Dev nD) : (⟨S1x5632, .f32⟩ : BufTy).Contents (Elt Ideal) := m ((c : Thread nD τ).loc main_arg4)
abbrev wd (c : Dev nD) : (⟨S2816x1024, .f32⟩ : BufTy).Contents (Elt Ideal) := m ((c : Thread nD τ).loc main_arg5)
abbrev lw (c : Dev nD) : (⟨S1x1024, .f32⟩ : BufTy).Contents (Elt Ideal) := m ((c : Thread nD τ).loc main_arg6)
abbrev gs (c : Dev nD) : (⟨S16384x1024, .f32⟩ : BufTy).Contents (Elt Ideal) := m ((c : Thread nD τ).loc main_arg7)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![0, 0] := (by decide +kernel : ∀ t : Fin grid0.N, win0_7.index t = ![0, 0])

/-- The normed rows the call takes are the reference's. -/
theorem saved (c : Dev nD) : (V m c main_v12 : S16384x1024.Idx → EReal) = val_main_v11 (F := Ideal) (xs m c) (nw m c) := by
  unfold V
  after_reads_simp
  rfl

theorem read0 (c : Dev nD) (t : Fin cfg0.N) (r : Fin 128) (k : Fin 1024) :
    hBlk m c t (ix2 r k) = val_main_v11 (F := Ideal) (xs m c) (nw m c) (ix2 (row t r) k) := by
  rw [← saved]
  unfold hBlk
  blk_simp [iblk]
  blk_ext [idx0 t, row]

theorem read1 (c : Dev nD) (t : Fin cfg0.N) (d : Fin 1024) (n : Fin 5632) : uBlk m c t (ix2 d n) = wu m c (ix2 d n) := by
  unfold uBlk
  blk_simp [iblk]
  entry_read
  pointwise
  blk_ext [idx1 t]

theorem read2 (c : Dev nD) (t : Fin cfg0.N) (o : Fin 3) (n : Fin 5632) : cBlk m c t (ix2 (⟨o.val, by omega⟩ : Fin 8) n) = wc m c (ix2 o n) := by
  have e : ((View.whole main_v15).slice (win0_2.rect t)).emb (ix2 (⟨o.val, by omega⟩ : Fin 8) n) = ix2 (⟨o.val, by omega⟩ : Fin 8) n := by blk_ext [idx2 t]
  unfold cBlk
  blk_simp [iblk]
  rw [e]
  entry_read
  pointwise

theorem read3 (c : Dev nD) (t : Fin cfg0.N) (n : Fin 5632) : bBlk m c t (ix2 0 n) = bc m c (ix2 0 n) := by
  unfold bBlk
  blk_simp [iblk]
  entry_read
  pointwise
  blk_ext [idx3 t]

theorem read4 (c : Dev nD) (t : Fin cfg0.N) (k : Fin 2816) (d : Fin 1024) : dBlk m c t (ix2 k d) = wd m c (ix2 k d) := by
  unfold dBlk
  blk_simp [iblk]
  entry_read
  pointwise
  blk_ext [idx4 t]

theorem read5 (c : Dev nD) (t : Fin cfg0.N) (r : Fin 128) (d : Fin 1024) : xBlk m c t (ix2 r d) = xs m c (ix2 (row t r) d) := by
  unfold xBlk
  blk_simp [iblk]
  entry_read
  pointwise
  blk_ext [idx5 t, row]

theorem read6 (c : Dev nD) (t : Fin cfg0.N) (r : Fin 128) (d : Fin 1024) : gBlk m c t (ix2 r d) = gs m c (ix2 (row t r) d) := by
  unfold gBlk
  blk_simp [iblk]
  entry_read
  pointwise
  blk_ext [idx6 t, row]

theorem read7 (c : Dev nD) (t : Fin cfg0.N) (d : Fin 1024) : nBlk m c t (ix2 0 d) = lw m c (ix2 0 d) := by
  unfold nBlk
  blk_simp [iblk]
  entry_read
  pointwise
  blk_ext [idx7 t]

end Cert.LossIdeal.Point

end
-- ==== Proof.LossOut.lean ====
module

public import proofs.«01_k».proof.Proof.LossReads

/-! # The arrays the loss's kernel leaves

  The blocks, put together: the rows' gradient, and the rows added up over the grid points. -/

@[expose] public section

set_option maxRecDepth 16384

noncomputable section

namespace Cert.LossIdeal.Point

open Cert.LossIdeal Cert.LossIdeal.Gen Idealize.ShloMosaic Idealize.ShloMosaic.TcCoe Idealize.SL.Sem
open Idealize.ShloMosaic.Pipeline (Dat)
open Cert.RowNorm
open Cert.FfnRefIdeal.Point (up past mixed)
open Cert.LossRefIdeal.Point (gated errOf half meanSquare out err)
open Cert.LossRefIdeal.Read (val_main_v11 val_main_v12)

variable (m : (ℓ : Loc nD τ sig) → Buf (Elt Ideal) ℓ)

/-- The convolution's argument eight rows before `j`, zero before the arrays' start. -/
def upOn (c : Dev nD) (j : Nat) (n : Fin 5632) : EReal :=
  if h : 8 ≤ j ∧ j - 8 < 16384 then up (xs m c) (nw m c) (wu m c) ⟨j - 8, h.2⟩ n else 0

theorem up_sum (c : Dev nD) (q : Fin 16384) (n : Fin 5632) :
    up (xs m c) (nw m c) (wu m c) q n = ∑ d : Fin 1024, val_main_v11 (F := Ideal) (xs m c) (nw m c) (ix2 q d) * wu m c (ix2 d n) := by
  show val_main_v12 (F := Ideal) (xs m c) (nw m c) (wu m c) (ix2 q n) = _
  pointwise [val_main_v12]

theorem ups_row (c : Dev nD) (t : Fin cfg0.N) (r : Fin 128) (n : Fin 5632) : ups m c t r n = upOn m c (128 * t.val + (8 + r.val)) n := by
  have h : 128 * t.val + r.val < 16384 := (row t r).isLt
  unfold ups upOn
  rw [dif_pos ⟨by omega, by omega⟩, up_sum]
  simp only [read0, read1]
  have e : row t r = (⟨128 * t.val + (8 + r.val) - 8, by omega⟩ : Fin 16384) := Fin.ext (by show 128 * t.val + r.val = 128 * t.val + (8 + r.val) - 8; omega)
  rw [e]

theorem found_row (c : Dev nD) (t : Fin cfg0.N) (o : Fin 8) (n : Fin 5632) : found m c t (ix2 o n) = upOn m c (128 * t.val + o.val) n := by
  have ht : t.val < 128 := t.isLt
  unfold found
  by_cases h0 : t.val % 128 = 0
  · rw [if_pos h0]
    unfold upOn
    rw [dif_neg (by omega)]
  · rw [if_neg h0]
    refine (left_at m c ⟨t.val - 1, by omega⟩ o n).trans ?_
    rw [ups_row]
    refine congrArg (fun j => upOn m c j n) ?_
    show 128 * (t.val - 1) + (8 + (120 + o.val)) = 128 * t.val + o.val
    omega

theorem extended_row (c : Dev nD) (t : Fin cfg0.N) (j : Fin 136) (n : Fin 5632) :
    extended (found m c t) (ups m c t) j n = upOn m c (128 * t.val + j.val) n := by
  unfold extended
  by_cases h : j.val < 8
  · rw [dif_pos h, found_row]
  · rw [dif_neg h, ups_row]
    exact congrArg (fun j => upOn m c (_ + j) n) (by show 8 + (j.val - 8) = j.val; omega)

theorem tap_row (c : Dev nD) (t : Fin cfg0.N) (o : Fin 3) (r : Fin 128) (n : Fin 5632) :
    extended (found m c t) (ups m c t) ⟨r.val + (6 + o.val), by omega⟩ n = past (xs m c) (nw m c) (wu m c) o.val (row t r) n := by
  rw [extended_row]
  unfold upOn past
  have e : (row t r).val = 128 * t.val + r.val := rfl
  by_cases h : 2 ≤ (row t r).val + o.val ∧ (row t r).val + o.val - 2 < 16384
  · rw [dif_pos h, dif_pos ⟨by show 8 ≤ 128 * t.val + (r.val + (6 + o.val)); omega, by show 128 * t.val + (r.val + (6 + o.val)) - 8 < 16384; omega⟩]
    exact congrArg (fun q => up (xs m c) (nw m c) (wu m c) q n)
      (Fin.ext (by show 128 * t.val + (r.val + (6 + o.val)) - 8 = (row t r).val + o.val - 2; omega))
  · rw [dif_neg h, dif_neg]
    intro h'
    have h1 : 8 ≤ 128 * t.val + (r.val + (6 + o.val)) := h'.1
    have h2 : 128 * t.val + (r.val + (6 + o.val)) - 8 < 16384 := h'.2
    omega

theorem mixes_row (c : Dev nD) (t : Fin cfg0.N) (r : Fin 128) (n : Fin 5632) :
    mixes m c t r n = mixed (xs m c) (nw m c) (wu m c) (wc m c) (bc m c) (row t r) n := by
  rw [Cert.FfnRefIdeal.Point.mixed_at]
  unfold mixes
  have e0 := tap_row m c t 0 r n
  have e1 := tap_row m c t 1 r n
  have e2 := tap_row m c t 2 r n
  rw [← read2 m c t 0 n, ← read2 m c t 1 n, ← read2 m c t 2 n, ← read3 m c t n]
  exact congrArg (· + _) (congrArg₂ (· + ·) (congrArg₂ (· + ·) (congrArg (_ * ·) e0) (congrArg (_ * ·) e1)) (congrArg (_ * ·) e2))

/-- The channel mixer's rows and their error, from the arguments. -/
abbrev outOf (c : Dev nD) : Fin 16384 → Fin 1024 → EReal := out (xs m c) (nw m c) (wu m c) (wc m c) (bc m c) (wd m c)
abbrev errOfRow (c : Dev nD) : Fin 16384 → Fin 1024 → EReal := err (xs m c) (nw m c) (wu m c) (wc m c) (bc m c) (wd m c) (lw m c) (gs m c)

theorem outs_row (c : Dev nD) (t : Fin cfg0.N) (r : Fin 128) (d : Fin 1024) : outs m c t r d = outOf m c (row t r) d := by
  have e : mixes m c t r = mixed (xs m c) (nw m c) (wu m c) (wc m c) (bc m c) (row t r) := funext fun n => mixes_row m c t r n
  unfold outs outOf out
  simp only [e, read4, read5]

theorem errs_row (c : Dev nD) (t : Fin cfg0.N) (r : Fin 128) (d : Fin 1024) : errs m c t r d = errOfRow m c (row t r) d := by
  have e : outs m c t r = outOf m c (row t r) := funext fun d => outs_row m c t r d
  unfold errs errOfRow err
  simp only [e, read6, read7]

/-- The gradient of the rows. -/
def rowsAt (c : Dev nD) (q : Fin 16384) (d : Fin 1024) : EReal :=
  rowGrad (outOf m c q) (fun d => errOfRow m c q d * share) (fun d => lw m c (ix2 0 d)) d

theorem rows_row (c : Dev nD) (t : Fin cfg0.N) (r : Fin 128) (d : Fin 1024) : rows m c t r d = rowsAt m c (row t r) d := by
  have e : outs m c t r = outOf m c (row t r) := funext fun d => outs_row m c t r d
  unfold rows rowsAt
  simp only [e, errs_row, read7]

theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])

theorem out10 (c : Dev nD) : (dats m 0 c).arrAt 10 cfg0.N = fun i => rowsAt m c (i 0) (i 1) := by
  refine (dats m 0 c).arrAt_eq_of_covers 10 _ (by decide +kernel) fun t hf y => ?_
  have e : ((View.whole main_v17_2).slice (win0_10.rect t)).emb y = ix2 (row t (y 0)) (y 1) := by blk_ext [idx10 t, row]
  blk_simp
  rw [after0_10, e]
  obtain ⟨r, d, rfl⟩ : ∃ (r : Fin 128) (d : Fin 1024), y = ix2 r d := ⟨y 0, y 1, ValueIdx.eq_ix2 y⟩
  exact (rows_at m c t r d).trans (rows_row m c t r d)

theorem out11 (c : Dev nD) : (dats m 0 c).arrAt 11 cfg0.N = fun i => rowsAt m c (i 0) (i 1) := by
  refine (dats m 0 c).arrAt_eq_of_covers 11 _ (by decide +kernel) fun t hf y => ?_
  have e : ((View.whole main_v17_3).slice (win0_11.rect t)).emb y = ix2 (row t (y 0)) (y 1) := by blk_ext [idx11 t, row]
  blk_simp
  rw [after0_11, e]
  obtain ⟨r, d, rfl⟩ : ∃ (r : Fin 128) (d : Fin 1024), y = ix2 r d := ⟨y 0, y 1, ValueIdx.eq_ix2 y⟩
  exact (rounded_at m c t r d).trans (rows_row m c t r d)

/-- The last grid point, which writes the two rows out. -/
def last : Fin cfg0.N := ⟨127, by decide⟩

theorem out13 (c : Dev nD) : (dats m 0 c).arrAt 13 cfg0.N = fun i => ∑ t : Fin cfg0.N, added m c t (i 0) (i 1) := by
  refine (dats m 0 c).arrAt_eq_of_after_last 13 last (by decide +kernel) _ fun i => ?_
  rw [after0_13]
  refine (Pipeline.eq_sum_fin_of_reset_step_apply_last (fun n h => (outsAt0 m c n h).2.2.2.2.2.1) 128 (fun _ => 0)
    (fun t i => added m c t (i 0) (i 1)) (fun t h0 i => ?_) (fun t h0 i => ?_) (le_of_eq N_0) last rfl i).trans ?_
  · obtain ⟨o, d, rfl⟩ : ∃ (o : Fin 8) (d : Fin 1024), i = ix2 o d := ⟨i 0, i 1, ValueIdx.eq_ix2 i⟩
    exact sum_first m c t h0 o d
  · obtain ⟨o, d, rfl⟩ : ∃ (o : Fin 8) (d : Fin 1024), i = ix2 o d := ⟨i 0, i 1, ValueIdx.eq_ix2 i⟩
    exact sum_next m c t h0 o d
  · exact zero_add _

theorem sum_rows (f : Fin 16384 → EReal) : ∑ t : Fin cfg0.N, ∑ r : Fin 128, f (row t r) = ∑ q : Fin 16384, f q := by
  refine Fin.sum_mul_add_congr (S := 128) (n := 128) (fun s k hl => congrArg f (Fin.ext ?_))
  show 128 * s.val + k.val = s.val * 128 + k.val
  omega

end Cert.LossIdeal.Point

end
-- ==== Proof.LossFinite.lean ====
module

public import proofs.«01_k».proof.Defs
public import proofs.«01_k».proof.Proof.AttFinite

/-! # The loss's finite arguments are real

  The precondition, read at an index of each argument. -/

@[expose] public section

set_option maxRecDepth 16384

noncomputable section

namespace Cert.LossFinite

open Idealize.ShloMosaic Cert.Pre_finite_loss Cert.AttFinite

theorem pre_facts : Cert.Pre_finite_loss.Facts := by constructor <;> decide

/-- Every entry of the eight arguments is a real number. -/
theorem real_entries (x0 : FVec Ideal S16384x1024 .f32) (x1 : FVec Ideal S1x1024 .f32) (x2 : FVec Ideal S1024x5632 .f32) (x3 : FVec Ideal S3x5632 .f32)
    (x4 : FVec Ideal S1x5632 .f32) (x5 : FVec Ideal S2816x1024 .f32) (x6 : FVec Ideal S1x1024 .f32) (x7 : FVec Ideal S16384x1024 .f32) (j)
    (h : @Cert.Pre_finite_loss.fn pre_facts Ideal _ x0 x1 x2 x3 x4 x5 x6 x7 j = 1#1) :
    (∀ i, ∃ y : ℝ, x0 i = (y : EReal)) ∧ (∀ i, ∃ y : ℝ, x1 i = (y : EReal)) ∧ (∀ i, ∃ y : ℝ, x2 i = (y : EReal)) ∧ (∀ i, ∃ y : ℝ, x3 i = (y : EReal))
      ∧ (∀ i, ∃ y : ℝ, x4 i = (y : EReal)) ∧ (∀ i, ∃ y : ℝ, x5 i = (y : EReal)) ∧ (∀ i, ∃ y : ℝ, x6 i = (y : EReal))
      ∧ (∀ i, ∃ y : ℝ, x7 i = (y : EReal)) := by
  have : Subsingleton S_.Idx := ⟨fun a b => by funext i; exact i.elim0⟩
  unfold Cert.Pre_finite_loss.fn Cert.Pre_finite_loss.fn_part1 at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_lt _ (Host.reduce_andi_all _ _ _ _ j h0 i), fun i => real_of_lt _ (Host.reduce_andi_all _ _ _ _ j h1 i),
    fun i => real_of_lt _ (Host.reduce_andi_all _ _ _ _ j h2 i), fun i => real_of_lt _ (Host.reduce_andi_all _ _ _ _ j h3 i),
    fun i => real_of_lt _ (Host.reduce_andi_all _ _ _ _ j h4 i), fun i => real_of_lt _ (Host.reduce_andi_all _ _ _ _ j h5 i),
    fun i => real_of_lt _ (Host.reduce_andi_all _ _ _ _ j h6 i),
    fun i => real_of_lt _ (Host.reduce_andi_all _ _ _ _ j h7 i)⟩

end Cert.LossFinite

end
-- ==== Proof.LossEq.lean ====
module

public import proofs.«01_k».proof.Proof.LossOut
public import proofs.«01_k».proof.Proof.LossFinite
public import proofs.«01_k».proof.Proof.Gen.LossRefIdeal.Run

/-! # The loss and the last norm's gradient

  The kernel's rows and sums are the reference's, on finite arguments. -/

@[expose] public section

set_option maxRecDepth 16384

noncomputable section

namespace Cert.LossIdeal.Point

open Cert.LossIdeal Cert.LossIdeal.Gen Idealize.ShloMosaic Idealize.ShloMosaic.TcCoe Idealize.SL.Sem
open Idealize.ShloMosaic.Pipeline (Dat)
open Cert.RowNorm
open Cert.Attention Cert.Sigmoid
open Cert.FfnRefIdeal.Point (mixed mixed_real mul_real add_real sum_real scale_real)
open Cert.LossRefIdeal.Point (gated errOf half meanSquare out err cot rowTotal weightTotal loss)
open Cert.LossRefIdeal.Read (val_main_v91 val_main_v91_eq val_main_v92 val_main_v92_eq val_main_v96 val_main_v96_eq)

theorem half_real : half = ((1 / 2 : ℝ) : EReal) := by
  simp [half, Ideal.ofBits, Ideal.ieee, -EReal.coe_mul]
  norm_num

theorem share_real : share = ((1 / 1024 : ℝ) : EReal) := by
  simp [share, Ideal.ofBits, Ideal.ieee, -EReal.coe_mul]
  norm_num

theorem two_word : Ideal.ofBits .f32 0x40000000#32 = ((2 : ℝ) : EReal) := by
  simp [Ideal.ofBits, Ideal.ieee, -EReal.coe_mul]
  norm_num

theorem cot_real (y : ℝ) : cot (y : EReal) = (y : EReal) * share := by
  have h1024 : (1024 : ℝ) ≠ 0 := by norm_num
  unfold cot
  rw [half_real, Cert.FfnRefIdeal.Point.one_word, mul_one, width_real, div_real h1024, two_word, share_real, ← EReal.coe_mul, ← EReal.coe_mul, ← EReal.coe_mul]
  exact congrArg _ (by ring)

theorem gated_real (u : Fin 5632 → EReal) (hu : ∀ n, ∃ y : ℝ, u n = (y : EReal)) (k : Fin 2816) : ∃ y : ℝ, gated u k = (y : EReal) := by
  have hs : ∀ n, ∃ y : ℝ, sigmoid (u n) = (y : EReal) := fun n => by
    obtain ⟨y, hy⟩ := hu n
    exact ⟨_, hy ▸ Cert.ShortConv.sigmoid_real y⟩
  exact mul_real (mul_real (hu _) (hs _)) (hu _)

theorem errOf_real (f w g : Fin 1024 → EReal) (hf : ∀ d, ∃ y : ℝ, f d = (y : EReal)) (hw : ∀ d, ∃ y : ℝ, w d = (y : EReal))
    (hg : ∀ d, ∃ y : ℝ, g d = (y : EReal)) (d : Fin 1024) : ∃ y : ℝ, errOf f w g d = (y : EReal) := by
  have hs : ∃ y : ℝ, scaleOf f = (y : EReal) := by
    choose a ha using hf
    rw [show f = fun n => (a n : EReal) from funext ha]
    exact scale_real a
  obtain ⟨a, ha⟩ := mul_real (mul_real (hf d) hs) (hw d)
  obtain ⟨b, hb⟩ := hg d
  unfold errOf
  exact ⟨a - b, by rw [ha, hb, EReal.coe_sub]⟩

theorem meanSquare_real (e : Fin 1024 → EReal) (he : ∀ d, ∃ y : ℝ, e d = (y : EReal)) : ∃ y : ℝ, meanSquare e = (y : EReal) := by
  obtain ⟨s, hs⟩ := sum_real e e he he
  have h1024 : (1024 : ℝ) ≠ 0 := by norm_num
  unfold meanSquare
  exact ⟨s / 1024, by rw [hs, width_real, div_real h1024]⟩

/-- Halving the points' sums one by one, or their sum. -/
theorem half_sums (f : Fin 128 → Fin 128 → EReal) (hf : ∀ t r, ∃ y : ℝ, f t r = (y : EReal)) :
    ∑ t : Fin 128, half * ∑ r : Fin 128, f t r = half * ∑ t : Fin 128, ∑ r : Fin 128, f t r := by
  choose a ha using hf
  simp only [ha, half_real, ← coe_sum, ← EReal.coe_mul]
  exact congrArg _ (Finset.mul_sum _ _ _).symm

variable (m : (ℓ : Loc nD τ sig) → Buf (Elt Ideal) ℓ)

/-- Every argument's entries are real numbers. -/
structure Real (c : Dev nD) : Prop where
  h0 : ∀ i, ∃ y : ℝ, xs m c i = (y : EReal)
  h1 : ∀ i, ∃ y : ℝ, nw m c i = (y : EReal)
  h2 : ∀ i, ∃ y : ℝ, wu m c i = (y : EReal)
  h3 : ∀ i, ∃ y : ℝ, wc m c i = (y : EReal)
  h4 : ∀ i, ∃ y : ℝ, bc m c i = (y : EReal)
  h5 : ∀ i, ∃ y : ℝ, wd m c i = (y : EReal)
  h6 : ∀ i, ∃ y : ℝ, lw m c i = (y : EReal)
  h7 : ∀ i, ∃ y : ℝ, gs m c i = (y : EReal)

theorem real_of_pre (h : @Cert.Pre_LossIdeal_finite_loss Cert.LossFinite.pre_facts m) (c : Dev nD) : Real m c := by
  obtain ⟨h0, h1, h2, h3, h4, h5, h6, h7⟩ := Cert.LossFinite.real_entries _ _ _ _ _ _ _ _ _ (congrFun (h c) (fun a => a.elim0))
  exact ⟨h0, h1, h2, h3, h4, h5, h6, h7⟩

variable {m}

theorem out_real {c : Dev nD} (R : Real m c) (q : Fin 16384) (d : Fin 1024) : ∃ y : ℝ, outOf m c q d = (y : EReal) :=
  add_real (R.h0 _) (sum_real _ _ (fun k => gated_real _ (mixed_real R.h0 R.h1 R.h2 R.h3 R.h4 q) k) (fun k => R.h5 _))

theorem err_real {c : Dev nD} (R : Real m c) (q : Fin 16384) (d : Fin 1024) : ∃ y : ℝ, errOfRow m c q d = (y : EReal) :=
  errOf_real _ _ _ (out_real R q) (fun d => R.h6 _) (fun d => R.h7 _) d

theorem cot_eq {c : Dev nD} (R : Real m c) (q : Fin 16384) (d : Fin 1024) : cot (errOfRow m c q d) = errOfRow m c q d * share := by
  obtain ⟨y, hy⟩ := err_real R q d
  rw [hy, cot_real]

theorem row_eq {c : Dev nD} (R : Real m c) (q : Fin 16384) (d : Fin 1024) : rowsAt m c q d = rowTotal (xs m c) (nw m c) (wu m c) (wc m c) (bc m c) (wd m c) (lw m c) (gs m c) q d := by
  have hc : ∀ d, ∃ y : ℝ, errOfRow m c q d * share = (y : EReal) := fun d => mul_real (err_real R q d) ⟨_, share_real⟩
  have hr : rowTotal (xs m c) (nw m c) (wu m c) (wc m c) (bc m c) (wd m c) (lw m c) (gs m c) q d = rowGradRef (outOf m c q) (fun d => errOfRow m c q d * share) (fun d => lw m c (ix2 0 d)) d := by
    unfold rowTotal
    exact congrArg (fun h => rowGradRef (outOf m c q) h (fun d => lw m c (ix2 0 d)) d) (funext fun d => cot_eq R q d)
  rw [hr]
  unfold rowsAt
  choose f hf using out_real R q
  choose h hh using hc
  choose w hw using R.h6
  rw [show outOf m c q = fun n => (f n : EReal) from funext hf, show (fun d => errOfRow m c q d * share) = fun n => (h n : EReal) from funext hh]
  simp only [hw]
  exact row_real f h _ d

theorem result0_eq {c : Dev nD} (R : Real m c) : (dats m 0 c).arrAt 10 cfg0.N = val_main_v91 (F := Ideal) (xs m c) (nw m c) (wu m c) (wc m c) (bc m c) (wd m c) (lw m c) (gs m c) := by
  rw [out10 m c]
  funext i
  obtain ⟨r, d, rfl⟩ : ∃ (r : Fin 16384) (d : Fin 1024), i = ix2 r d := ⟨i 0, i 1, ValueIdx.eq_ix2 i⟩
  exact (row_eq R r d).trans (Cert.LossRefIdeal.Point.result0_at _ _ _ _ _ _ _ _ r d).symm

theorem result1_eq {c : Dev nD} (R : Real m c) : (dats m 0 c).arrAt 11 cfg0.N = val_main_v92 (F := Ideal) (xs m c) (nw m c) (wu m c) (wc m c) (bc m c) (wd m c) (lw m c) (gs m c) := by
  rw [out11 m c]
  funext i
  obtain ⟨r, d, rfl⟩ : ∃ (r : Fin 16384) (d : Fin 1024), i = ix2 r d := ⟨i 0, i 1, ValueIdx.eq_ix2 i⟩
  exact (row_eq R r d).trans (Cert.LossRefIdeal.Point.result1_at _ _ _ _ _ _ _ _ r d).symm

theorem weight_eq {c : Dev nD} (R : Real m c) (d : Fin 1024) : ∑ t : Fin cfg0.N, added m c t 0 d = weightTotal (xs m c) (nw m c) (wu m c) (wc m c) (bc m c) (wd m c) (lw m c) (gs m c) d := by
  have e : ∀ t : Fin cfg0.N, added m c t 0 d = ∑ r : Fin 128, (fun q => outOf m c q d * scaleOf (outOf m c q) * cot (errOfRow m c q d)) (row t r) := fun t => by
    refine (if_pos rfl).trans (Finset.sum_congr rfl fun r _ => ?_)
    have eo : outs m c t r = outOf m c (row t r) := funext fun d => outs_row m c t r d
    rw [errs_row, eo]
    exact (mul_comm _ _).trans (congrArg (_ * ·) (cot_eq R _ _).symm)
  simp only [e]
  exact sum_rows fun q => outOf m c q d * scaleOf (outOf m c q) * cot (errOfRow m c q d)

theorem loss_eq {c : Dev nD} (R : Real m c) (d : Fin 1024) : ∑ t : Fin cfg0.N, added m c t 1 d = loss (xs m c) (nw m c) (wu m c) (wc m c) (bc m c) (wd m c) (lw m c) (gs m c) := by
  have e : ∀ t : Fin cfg0.N, added m c t 1 d = half * ∑ r : Fin 128, meanSquare (errOfRow m c (row t r)) := fun t => by
    refine ((if_neg (by decide)).trans (if_pos rfl)).trans (congrArg (half * ·) (Finset.sum_congr rfl fun r _ => ?_))
    exact congrArg meanSquare (funext fun d => errs_row m c t r d)
  simp only [e]
  refine (half_sums (fun t r => meanSquare (errOfRow m c (row t r))) fun t r => meanSquare_real _ (err_real R _)).trans ?_
  exact congrArg (half * ·) (sum_rows fun q => meanSquare (errOfRow m c q))

theorem result2_eq {c : Dev nD} (R : Real m c) : (dats m 0 c).arrAt 13 cfg0.N = val_main_v96 (F := Ideal) (xs m c) (nw m c) (wu m c) (wc m c) (bc m c) (wd m c) (lw m c) (gs m c) := by
  rw [out13 m c]
  funext i
  obtain ⟨o, d, rfl⟩ : ∃ (o : Fin 8) (d : Fin 1024), i = ix2 o d := ⟨i 0, i 1, ValueIdx.eq_ix2 i⟩
  refine Eq.trans ?_ (Cert.LossRefIdeal.Point.result2_at _ _ _ _ _ _ _ _ o d).symm
  show ∑ t : Fin cfg0.N, added m c t o d = _
  by_cases h0 : o.val = 0
  · obtain rfl : o = 0 := Fin.ext h0
    rw [if_pos h0]
    exact weight_eq R d
  · rw [if_neg h0]
    by_cases h1 : o.val = 1
    · obtain rfl : o = 1 := Fin.ext h1
      rw [if_pos h1]
      exact loss_eq R d
    · rw [if_neg h1]
      unfold added
      simp only [if_neg h0, if_neg h1, Finset.sum_const_zero]

set_option maxHeartbeats 2000000 in
/-- The kernel computes the reference's gradient of the rows, twice, of the last norm's weights, and the loss, from memories that agree on
finite arguments. -/
theorem agree : @Cert.algebraic_LossIdeal_LossRefIdeal_pre_finite_loss Cert.LossIdeal.Gen.facts Cert.LossRefIdeal.Gen.facts Cert.LossFinite.pre_facts := by
  intro m g m' g' hpre hargs
  refine ⟨fun c => (dats m 0 c).arrAt 10 cfg0.N, fun c => (dats m 0 c).arrAt 11 cfg0.N, fun c => (dats m 0 c).arrAt 13 cfg0.N, ?_, ?_⟩
  · refine (θ_run _ _ _).mono (fun r h c => ?_) (Cert.LossIdeal.Value.run_blocks (F := Ideal) m g)
    obtain ⟨_, _, h2, h3, _, h5, hk⟩ := h c
    exact ⟨h2, h3, h5, hk⟩
  · refine (θ_run _ _ _).mono (fun r h c => ?_) (Cert.LossRefIdeal.Value.run (F := Ideal) m' g')
    obtain ⟨h0, h1, h2, hk⟩ := h c
    obtain ⟨a0, a1, a2, a3, a4, a5, a6, a7⟩ := hargs c
    have R := real_of_pre m hpre c
    have same : ∀ {T : Type} (v : (⟨S16384x1024, .f32⟩ : BufTy).Contents (Elt Ideal)
        → (⟨S1x1024, .f32⟩ : BufTy).Contents (Elt Ideal)
        → (⟨S1024x5632, .f32⟩ : BufTy).Contents (Elt Ideal)
        → (⟨S3x5632, .f32⟩ : BufTy).Contents (Elt Ideal)
        → (⟨S1x5632, .f32⟩ : BufTy).Contents (Elt Ideal)
        → (⟨S2816x1024, .f32⟩ : BufTy).Contents (Elt Ideal)
        → (⟨S1x1024, .f32⟩ : BufTy).Contents (Elt Ideal)
        → (⟨S16384x1024, .f32⟩ : BufTy).Contents (Elt Ideal) → T),
        v (m' (c.tc.loc Cert.LossRefIdeal.main_arg0)) (m' (c.tc.loc Cert.LossRefIdeal.main_arg1)) (m' (c.tc.loc Cert.LossRefIdeal.main_arg2)) (m' (c.tc.loc Cert.LossRefIdeal.main_arg3))
          (m' (c.tc.loc Cert.LossRefIdeal.main_arg4)) (m' (c.tc.loc Cert.LossRefIdeal.main_arg5)) (m' (c.tc.loc Cert.LossRefIdeal.main_arg6)) (m' (c.tc.loc Cert.LossRefIdeal.main_arg7)) = v (xs m c) (nw m c) (wu m c) (wc m c) (bc m c) (wd m c) (lw m c) (gs m c) := by
      intro T v
      rw [a0, a1, a2, a3, a4, a5, a6, a7]
    refine ⟨(h0.trans (val_main_v91_eq _)).trans ?_, (h1.trans (val_main_v92_eq _)).trans ?_, (h2.trans (val_main_v96_eq _)).trans ?_, hk⟩
    · exact (same (val_main_v91 (F := Ideal))).trans (result0_eq R).symm
    · exact (same (val_main_v92 (F := Ideal))).trans (result1_eq R).symm
    · exact (same (val_main_v96 (F := Ideal))).trans (result2_eq R).symm

end Cert.LossIdeal.Point

end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Read
public import proofs.«01_k».proof.Proof.Gen.Dq
public import proofs.«01_k».proof.Proof.Gen.Dq.Skeleton
public import proofs.«01_k».proof.Proof.Gen.Dq.Launch
public import proofs.«01_k».proof.Proof.Gen.Dq.Points
public import proofs.«01_k».proof.Proof.Gen.Dq.Frame
public import proofs.«01_k».proof.Proof.Gen.DqIdeal
public import proofs.«01_k».proof.Proof.Gen.DqIdeal.Skeleton
public import proofs.«01_k».proof.Proof.Gen.DqIdeal.Launch
public import proofs.«01_k».proof.Proof.Gen.DqIdeal.Points
public import proofs.«01_k».proof.Proof.Gen.DqIdeal.Frame
public import proofs.«01_k».proof.Proof.Gen.DqIdeal.Value
public import proofs.«01_k».proof.Proof.Gen.DqRefIdeal
public import proofs.«01_k».proof.Proof.Gen.DqRefIdeal.Read
public import proofs.«01_k».proof.Proof.Gen.Dkv
public import proofs.«01_k».proof.Proof.Gen.Dkv.Skeleton
public import proofs.«01_k».proof.Proof.Gen.Dkv.Launch
public import proofs.«01_k».proof.Proof.Gen.Dkv.Points
public import proofs.«01_k».proof.Proof.Gen.Dkv.Frame
public import proofs.«01_k».proof.Proof.Gen.DkvIdeal
public import proofs.«01_k».proof.Proof.Gen.DkvIdeal.Skeleton
public import proofs.«01_k».proof.Proof.Gen.DkvIdeal.Launch
public import proofs.«01_k».proof.Proof.Gen.DkvIdeal.Points
public import proofs.«01_k».proof.Proof.Gen.DkvIdeal.Frame
public import proofs.«01_k».proof.Proof.Gen.DkvIdeal.Value
public import proofs.«01_k».proof.Proof.Gen.DkvRefIdeal
public import proofs.«01_k».proof.Proof.Gen.DkvRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Read
public import proofs.«01_k».proof.Proof.Gen.Rms
public import proofs.«01_k».proof.Proof.Gen.Rms.Skeleton
public import proofs.«01_k».proof.Proof.Gen.Rms.Launch
public import proofs.«01_k».proof.Proof.Gen.Rms.Points
public import proofs.«01_k».proof.Proof.Gen.Rms.Frame
public import proofs.«01_k».proof.Proof.Gen.RmsIdeal
public import proofs.«01_k».proof.Proof.Gen.RmsIdeal.Skeleton
public import proofs.«01_k».proof.Proof.Gen.RmsIdeal.Launch
public import proofs.«01_k».proof.Proof.Gen.RmsIdeal.Points
public import proofs.«01_k».proof.Proof.Gen.RmsIdeal.Frame
public import proofs.«01_k».proof.Proof.Gen.RmsIdeal.Value
public import proofs.«01_k».proof.Proof.Gen.RmsRefIdeal
public import proofs.«01_k».proof.Proof.Gen.RmsRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Read
public import proofs.«01_k».proof.Proof.MergeEq
public import proofs.«01_k».proof.Proof.DqEq
public import proofs.«01_k».proof.Proof.DkvEq
public import proofs.«01_k».proof.Proof.ConvEq
public import proofs.«01_k».proof.Proof.RmsEq
public import proofs.«01_k».proof.Proof.FfnEq
public import proofs.«01_k».proof.Proof.LossEq
public import proofs.«01_k».proof.Proof.Gen.Pre_finite_arguments
public import proofs.«01_k».proof.Proof.Gen.Pre_finite_conv
public import proofs.«01_k».proof.Proof.Gen.Pre_finite_norm
public import proofs.«01_k».proof.Proof.Gen.Pre_finite_ffn
public import proofs.«01_k».proof.Proof.Gen.Pre_finite_loss
public import proofs.«01_k».proof.Proof.Gen.On_gate_columns
public import Idealize.ShloMosaic.Adequacy
public import Idealize.ShloMosaic.Init

@[expose] public section

noncomputable section

-- The claims also say that every semaphore counter ends at zero; the frames show that too.

namespace Cert.Proof

open Idealize.ShloMosaic Idealize.SL.Sem

/-- The merge's reference is host operations alone: its arguments are written by none, and it has no semaphore. -/
theorem frame_merge_ref : @Cert.quiescent_MergeRefIdeal Cert.MergeRefIdeal.Gen.facts := fun m ρ _ =>
  (θ_run Cert.MergeRefIdeal.defs _ _).mono
    (fun r h => ⟨fun c => (h c).2.2.2.2.2.2, sem_eq_zero_of_no_sems (by decide) r.2⟩) (Cert.MergeRefIdeal.Value.run (F := Ideal) m ρ)

/-- The query gradients' reference is host operations alone: its arguments are written by none, and it has no semaphore. -/
theorem frame_dq_ref : @Cert.quiescent_DqRefIdeal Cert.DqRefIdeal.Gen.facts := fun m ρ _ =>
  (θ_run Cert.DqRefIdeal.defs _ _).mono
    (fun r h => ⟨fun c => (h c).2, sem_eq_zero_of_no_sems (by decide) r.2⟩) (Cert.DqRefIdeal.Value.run (F := Ideal) m ρ)

/-- The key and value gradients' reference is host operations alone: its arguments are written by none, and it has no semaphore. -/
theorem frame_dkv_ref : @Cert.quiescent_DkvRefIdeal Cert.DkvRefIdeal.Gen.facts := fun m ρ _ =>
  (θ_run Cert.DkvRefIdeal.defs _ _).mono
    (fun r h => ⟨fun c => (h c).2, sem_eq_zero_of_no_sems (by decide) r.2⟩) (Cert.DkvRefIdeal.Value.run (F := Ideal) m ρ)

/-- The short convolution's reference is host operations alone: its arguments are written by none, and it has no semaphore. -/
theorem frame_conv_ref : @Cert.quiescent_ConvRefIdeal Cert.ConvRefIdeal.Gen.facts := fun m ρ _ =>
  (θ_run Cert.ConvRefIdeal.defs _ _).mono
    (fun r h => ⟨fun c => (h c).2.2, sem_eq_zero_of_no_sems (by decide) r.2⟩) (Cert.ConvRefIdeal.Value.run (F := Ideal) m ρ)

/-- The input norm's reference is host operations alone: its arguments are written by none, and it has no semaphore. -/
theorem frame_rms_ref : @Cert.quiescent_RmsRefIdeal Cert.RmsRefIdeal.Gen.facts := fun m ρ _ =>
  (θ_run Cert.RmsRefIdeal.defs _ _).mono
    (fun r h => ⟨fun c => (h c).2.2.2, sem_eq_zero_of_no_sems (by decide) r.2⟩) (Cert.RmsRefIdeal.Value.run (F := Ideal) m ρ)

/-- The channel mixer's reference is host operations alone: its arguments are written by none, and it has no semaphore. -/
theorem frame_ffn_ref : @Cert.quiescent_FfnRefIdeal Cert.FfnRefIdeal.Gen.facts := fun m ρ _ =>
  (θ_run Cert.FfnRefIdeal.defs _ _).mono
    (fun r h => ⟨fun c => (h c).2.2.2.2.2, sem_eq_zero_of_no_sems (by decide) r.2⟩) (Cert.FfnRefIdeal.Value.run (F := Ideal) m ρ)

/-- The loss's reference is host operations alone: its arguments are written by none, and it has no semaphore. -/
theorem frame_loss_ref : @Cert.quiescent_LossRefIdeal Cert.LossRefIdeal.Gen.facts := fun m ρ _ =>
  (θ_run Cert.LossRefIdeal.defs _ _).mono
    (fun r h => ⟨fun c => (h c).2.2.2, sem_eq_zero_of_no_sems (by decide) r.2⟩) (Cert.LossRefIdeal.Value.run (F := Ideal) m ρ)

theorem claim : Cert.Claim := ⟨Cert.Merge.Gen.facts, Cert.MergeIdeal.Gen.facts, Cert.MergeRefIdeal.Gen.facts, Cert.Dq.Gen.facts, Cert.DqIdeal.Gen.facts, Cert.DqRefIdeal.Gen.facts, Cert.Dkv.Gen.facts, Cert.DkvIdeal.Gen.facts, Cert.DkvRefIdeal.Gen.facts, Cert.Conv.Gen.facts, Cert.ConvIdeal.Gen.facts, Cert.ConvRefIdeal.Gen.facts, Cert.Rms.Gen.facts, Cert.RmsIdeal.Gen.facts, Cert.RmsRefIdeal.Gen.facts, Cert.Ffn.Gen.facts, Cert.FfnIdeal.Gen.facts, Cert.FfnRefIdeal.Gen.facts, Cert.Loss.Gen.facts, Cert.LossIdeal.Gen.facts, Cert.LossRefIdeal.Gen.facts, Cert.AttFinite.pre_facts, Cert.ConvFinite.pre_facts, Cert.RmsFinite.pre_facts, Cert.FfnFinite.pre_facts, Cert.LossFinite.pre_facts, Cert.MergeIdeal.Point.mask_facts,
  fun m ρ _ => Cert.Merge.Gen.frame m ρ,
  fun m ρ _ => Cert.MergeIdeal.Gen.frame m ρ,
  frame_merge_ref,
  fun m ρ _ => Cert.Dq.Gen.frame m ρ,
  fun m ρ _ => Cert.DqIdeal.Gen.frame m ρ,
  fun m ρ _ => Cert.DqIdeal.Gen.frame m ρ,
  frame_dq_ref,
  fun m ρ _ => frame_dq_ref m ρ trivial,
  fun m ρ _ => Cert.Dkv.Gen.frame m ρ,
  fun m ρ _ => Cert.DkvIdeal.Gen.frame m ρ,
  fun m ρ _ => Cert.DkvIdeal.Gen.frame m ρ,
  frame_dkv_ref,
  fun m ρ _ => frame_dkv_ref m ρ trivial,
  fun m ρ _ => Cert.Conv.Gen.frame m ρ,
  fun m ρ _ => Cert.ConvIdeal.Gen.frame m ρ,
  fun m ρ _ => Cert.ConvIdeal.Gen.frame m ρ,
  frame_conv_ref,
  fun m ρ _ => frame_conv_ref m ρ trivial,
  fun m ρ _ => Cert.Rms.Gen.frame m ρ,
  fun m ρ _ => Cert.RmsIdeal.Gen.frame m ρ,
  fun m ρ _ => Cert.RmsIdeal.Gen.frame m ρ,
  frame_rms_ref,
  fun m ρ _ => frame_rms_ref m ρ trivial,
  fun m ρ _ => Cert.Ffn.Gen.frame m ρ,
  fun m ρ _ => Cert.FfnIdeal.Gen.frame m ρ,
  fun m ρ _ => Cert.FfnIdeal.Gen.frame m ρ,
  frame_ffn_ref,
  fun m ρ _ => frame_ffn_ref m ρ trivial,
  fun m ρ _ => Cert.Loss.Gen.frame m ρ,
  fun m ρ _ => Cert.LossIdeal.Gen.frame m ρ,
  fun m ρ _ => Cert.LossIdeal.Gen.frame m ρ,
  frame_loss_ref,
  fun m ρ _ => frame_loss_ref m ρ trivial,
  trivial,
  Cert.MergeIdeal.Point.agree,
  trivial,
  Cert.DqIdeal.Point.agree,
  trivial,
  Cert.DkvIdeal.Point.agree,
  trivial,
  Cert.ConvIdeal.Point.agree,
  trivial,
  Cert.RmsIdeal.Point.agree,
  trivial,
  Cert.FfnIdeal.Point.agree,
  trivial,
  Cert.LossIdeal.Point.agree⟩

end Cert.Proof

end
